-- ==== Defs.lean ====
def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_RefDecIdeal (m : (ℓ : Loc Cert.RefDecIdeal.nD Cert.RefDecIdeal.τ Cert.RefDecIdeal.sig) → Buf (Elt Ideal) ℓ) : Prop :=
  True

def Pre_Enc (m : (ℓ : Loc Cert.Enc.nD Cert.Enc.τ Cert.Enc.sig) → Buf (Elt Bits) ℓ) : Prop :=
  True

def Pre_EncIdeal (m : (ℓ : Loc Cert.EncIdeal.nD Cert.EncIdeal.τ Cert.EncIdeal.sig) → Buf (Elt Ideal) ℓ) : Prop :=
  True

def Pre_RefEncIdeal (m : (ℓ : Loc Cert.RefEncIdeal.nD Cert.RefEncIdeal.τ Cert.RefEncIdeal.sig) → Buf (Elt Ideal) ℓ) : Prop :=
  True

def Pre_Vq (m : (ℓ : Loc Cert.Vq.nD Cert.Vq.τ Cert.Vq.sig) → Buf (Elt Bits) ℓ) : Prop :=
  True

def Pre_VqIdeal (m : (ℓ : Loc Cert.VqIdeal.nD Cert.VqIdeal.τ Cert.VqIdeal.sig) → Buf (Elt Ideal) ℓ) : Prop :=
  True

def Pre_VqIdeal_finite [hPre_finite : Cert.Pre_finite.Facts] (m : (ℓ : Loc Cert.VqIdeal.nD Cert.VqIdeal.τ Cert.VqIdeal.sig) → Buf (Elt Ideal) ℓ) : Prop :=
  ∀ c : Dev Cert.VqIdeal.nD,
    (Cert.Pre_finite.fn (F := Ideal) (m ((c.tc : Thread Cert.VqIdeal.nD Cert.VqIdeal.τ).loc Cert.VqIdeal.main_arg0)) (m ((c.tc : Thread Cert.VqIdeal.nD Cert.VqIdeal.τ).loc Cert.VqIdeal.main_arg1))) = (fun _ => 1#1)

def Pre_RefVqIdeal (m : (ℓ : Loc Cert.RefVqIdeal.nD Cert.RefVqIdeal.τ Cert.RefVqIdeal.sig) → Buf (Elt Ideal) ℓ) : Prop :=
  True

def Pre_RefVqIdeal_finite [hPre_finite : Cert.Pre_finite.Facts] (m : (ℓ : Loc Cert.RefVqIdeal.nD Cert.RefVqIdeal.τ Cert.RefVqIdeal.sig) → Buf (Elt Ideal) ℓ) : Prop :=
  ∀ c : Dev Cert.RefVqIdeal.nD,
    (Cert.Pre_finite.fn (F := Ideal) (m ((c.tc : Thread Cert.RefVqIdeal.nD Cert.RefVqIdeal.τ).loc Cert.RefVqIdeal.main_arg0)) (m ((c.tc : Thread Cert.RefVqIdeal.nD Cert.RefVqIdeal.τ).loc Cert.RefVqIdeal.main_arg1))) = (fun _ => 1#1)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4)
      ∧ r.2.mem ((c.tc : Thread Cert.Dec.nD Cert.Dec.τ).loc Cert.Dec.main_arg5) = m ((c.tc : Thread Cert.Dec.nD Cert.Dec.τ).loc Cert.Dec.main_arg5)
      ∧ r.2.mem ((c.tc : Thread Cert.Dec.nD Cert.Dec.τ).loc Cert.Dec.main_arg6) = m ((c.tc : Thread Cert.Dec.nD Cert.Dec.τ).loc Cert.Dec.main_arg6)
      ∧ r.2.mem ((c.tc : Thread Cert.Dec.nD Cert.Dec.τ).loc Cert.Dec.main_arg7) = m ((c.tc : Thread Cert.Dec.nD Cert.Dec.τ).loc Cert.Dec.main_arg7)
      ∧ r.2.mem ((c.tc : Thread Cert.Dec.nD Cert.Dec.τ).loc Cert.Dec.main_arg8) = m ((c.tc : Thread Cert.Dec.nD Cert.Dec.τ).loc Cert.Dec.main_arg8)
      ∧ r.2.mem ((c.tc : Thread Cert.Dec.nD Cert.Dec.τ).loc Cert.Dec.main_arg9) = m ((c.tc : Thread Cert.Dec.nD Cert.Dec.τ).loc Cert.Dec.main_arg9)
      ∧ r.2.mem ((c.tc : Thread Cert.Dec.nD Cert.Dec.τ).loc Cert.Dec.main_arg10) = m ((c.tc : Thread Cert.Dec.nD Cert.Dec.τ).loc Cert.Dec.main_arg10))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
      ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
      ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
      ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
      ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
      ∧ r.2.mem ((c.tc : Thread Cert.DecIdeal.nD Cert.DecIdeal.τ).loc Cert.DecIdeal.main_arg9) = m ((c.tc : Thread Cert.DecIdeal.nD Cert.DecIdeal.τ).loc Cert.DecIdeal.main_arg9)
      ∧ r.2.mem ((c.tc : Thread Cert.DecIdeal.nD Cert.DecIdeal.τ).loc Cert.DecIdeal.main_arg10) = m ((c.tc : Thread Cert.DecIdeal.nD Cert.DecIdeal.τ).loc Cert.DecIdeal.main_arg10))
      ∧ r.2.sem = fun _ => 0)

def quiescent_RefDecIdeal [hRefDecIdeal : Cert.RefDecIdeal.Facts] : Prop :=
  ∀ (m : (ℓ : Loc Cert.RefDecIdeal.nD Cert.RefDecIdeal.τ Cert.RefDecIdeal.sig) → Buf (Elt Ideal) ℓ) (g : Dev Cert.RefDecIdeal.nD → PrngReg), Pre_RefDecIdeal m →
    θ_run (Cert.RefDecIdeal.defs (F := Ideal)) (onTc (τ := Cert.RefDecIdeal.τ) (Cert.RefDecIdeal.main (F := Ideal))) ⟨m, fun _ => 0, g⟩ (fun r => (∀ c : Dev Cert.RefDecIdeal.nD,
      r.2.mem ((c.tc : Thread Cert.RefDecIdeal.nD Cert.RefDecIdeal.τ).loc Cert.RefDecIdeal.main_arg0) = m ((c.tc : Thread Cert.RefDecIdeal.nD Cert.RefDecIdeal.τ).loc Cert.RefDecIdeal.main_arg0)
      ∧ r.2.mem ((c.tc : Thread Cert.RefDecIdeal.nD Cert.RefDecIdeal.τ).loc Cert.RefDecIdeal.main_arg1) = m ((c.tc : Thread Cert.RefDecIdeal.nD Cert.RefDecIdeal.τ).loc Cert.RefDecIdeal.main_arg1)
      ∧ r.2.mem ((c.tc : Thread Cert.RefDecIdeal.nD Cert.RefDecIdeal.τ).loc Cert.RefDecIdeal.main_arg2) = m ((c.tc : Thread Cert.RefDecIdeal.nD Cert.RefDecIdeal.τ).loc Cert.RefDecIdeal.main_arg2)
      ∧ r.2.mem ((c.tc : Thread Cert.RefDecIdeal.nD Cert.RefDecIdeal.τ).loc Cert.RefDecIdeal.main_arg3) = m ((c.tc : Thread Cert.RefDecIdeal.nD Cert.RefDecIdeal.τ).loc Cert.RefDecIdeal.main_arg3)
      ∧ r.2.mem ((c.tc : Thread Cert.RefDecIdeal.nD Cert.RefDecIdeal.τ).loc Cert.RefDecIdeal.main_arg4) = m ((c.tc : Thread Cert.RefDecIdeal.nD Cert.RefDecIdeal.τ).loc Cert.RefDecIdeal.main_arg4)
      ∧ r.2.mem ((c.tc : Thread Cert.RefDecIdeal.nD Cert.RefDecIdeal.τ).loc Cert.RefDecIdeal.main_arg5) = m ((c.tc : Thread Cert.RefDecIdeal.nD Cert.RefDecIdeal.τ).loc Cert.RefDecIdeal.main_arg5)
      ∧ r.2.mem ((c.tc : Thread Cert.RefDecIdeal.nD Cert.RefDecIdeal.τ).loc Cert.RefDecIdeal.main_arg6) = m ((c.tc : Thread Cert.RefDecIdeal.nD Cert.RefDecIdeal.τ).loc Cert.RefDecIdeal.main_arg6)
      ∧ r.2.mem ((c.tc : Thread Cert.RefDecIdeal.nD Cert.RefDecIdeal.τ).loc Cert.RefDecIdeal.main_arg7) = m ((c.tc : Thread Cert.RefDecIdeal.nD Cert.RefDecIdeal.τ).loc Cert.RefDecIdeal.main_arg7)
      ∧ r.2.mem ((c.tc : Thread Cert.RefDecIdeal.nD Cert.RefDecIdeal.τ).loc Cert.RefDecIdeal.main_arg8) = m ((c.tc : Thread Cert.RefDecIdeal.nD Cert.RefDecIdeal.τ).loc Cert.RefDecIdeal.main_arg8)
      ∧ r.2.mem ((c.tc : Thread Cert.RefDecIdeal.nD Cert.RefDecIdeal.τ).loc Cert.RefDecIdeal.main_arg9) = m ((c.tc : Thread Cert.RefDecIdeal.nD Cert.RefDecIdeal.τ).loc Cert.RefDecIdeal.main_arg9)
      ∧ r.2.mem ((c.tc : Thread Cert.RefDecIdeal.nD Cert.RefDecIdeal.τ).loc Cert.RefDecIdeal.main_arg10) = m ((c.tc : Thread Cert.RefDecIdeal.nD Cert.RefDecIdeal.τ).loc Cert.RefDecIdeal.main_arg10))
      ∧ r.2.sem = fun _ => 0)

def quiescent_Enc [hEnc : Cert.Enc.Facts] : Prop :=
  ∀ (m : (ℓ : Loc Cert.Enc.nD Cert.Enc.τ Cert.Enc.sig) → Buf (Elt Bits) ℓ) (g : Dev Cert.Enc.nD → PrngReg), Pre_Enc m →
    θ_run (Cert.Enc.defs (F := Bits)) (onTc (τ := Cert.Enc.τ) (Cert.Enc.main (F := Bits))) ⟨m, fun _ => 0, g⟩ (fun r => (∀ c : Dev Cert.Enc.nD,
      r.2.mem ((c.tc : Thread Cert.Enc.nD Cert.Enc.τ).loc Cert.Enc.main_arg0) = m ((c.tc : Thread Cert.Enc.nD Cert.Enc.τ).loc Cert.Enc.main_arg0)
      ∧ r.2.mem ((c.tc : Thread Cert.Enc.nD Cert.Enc.τ).loc Cert.Enc.main_arg1) = m ((c.tc : Thread Cert.Enc.nD Cert.Enc.τ).loc Cert.Enc.main_arg1)
      ∧ r.2.mem ((c.tc : Thread Cert.Enc.nD Cert.Enc.τ).loc Cert.Enc.main_arg2) = m ((c.tc : Thread Cert.Enc.nD Cert.Enc.τ).loc Cert.Enc.main_arg2)
      ∧ r.2.mem ((c.tc : Thread Cert.Enc.nD Cert.Enc.τ).loc Cert.Enc.main_arg3) = m ((c.tc : Thread Cert.Enc.nD Cert.Enc.τ).loc Cert.Enc.main_arg3)
      ∧ r.2.mem ((c.tc : Thread Cert.Enc.nD Cert.Enc.τ).loc Cert.Enc.main_arg4) = m ((c.tc : Thread Cert.Enc.nD Cert.Enc.τ).loc Cert.Enc.main_arg4)
      ∧ r.2.mem ((c.tc : Thread Cert.Enc.nD Cert.Enc.τ).loc Cert.Enc.main_arg5) = m ((c.tc : Thread Cert.Enc.nD Cert.Enc.τ).loc Cert.Enc.main_arg5)
      ∧ r.2.mem ((c.tc : Thread Cert.Enc.nD Cert.Enc.τ).loc Cert.Enc.main_arg6) = m ((c.tc : Thread Cert.Enc.nD Cert.Enc.τ).loc Cert.Enc.main_arg6)
      ∧ r.2.mem ((c.tc : Thread Cert.Enc.nD Cert.Enc.τ).loc Cert.Enc.main_arg7) = m ((c.tc : Thread Cert.Enc.nD Cert.Enc.τ).loc Cert.Enc.main_arg7)
      ∧ r.2.mem ((c.tc : Thread Cert.Enc.nD Cert.Enc.τ).loc Cert.Enc.main_arg8) = m ((c.tc : Thread Cert.Enc.nD Cert.Enc.τ).loc Cert.Enc.main_arg8)
      ∧ r.2.mem ((c.tc : Thread Cert.Enc.nD Cert.Enc.τ).loc Cert.Enc.main_arg9) = m ((c.tc : Thread Cert.Enc.nD Cert.Enc.τ).loc Cert.Enc.main_arg9)
      ∧ r.2.mem ((c.tc : Thread Cert.Enc.nD Cert.Enc.τ).loc Cert.Enc.main_arg10) = m ((c.tc : Thread Cert.Enc.nD Cert.Enc.τ).loc Cert.Enc.main_arg10)
      ∧ r.2.mem ((c.tc : Thread Cert.Enc.nD Cert.Enc.τ).loc Cert.Enc.main_arg11) = m ((c.tc : Thread Cert.Enc.nD Cert.Enc.τ).loc Cert.Enc.main_arg11)
      ∧ r.2.mem ((c.tc : Thread Cert.Enc.nD Cert.Enc.τ).loc Cert.Enc.main_arg12) = m ((c.tc : Thread Cert.Enc.nD Cert.Enc.τ).loc Cert.Enc.main_arg12))
      ∧ r.2.sem = fun _ => 0)

def quiescent_EncIdeal [hEncIdeal : Cert.EncIdeal.Facts] : Prop :=
  ∀ (m : (ℓ : Loc Cert.EncIdeal.nD Cert.EncIdeal.τ Cert.EncIdeal.sig) → Buf (Elt Ideal) ℓ) (g : Dev Cert.EncIdeal.nD → PrngReg), Pre_EncIdeal m →
    θ_run (Cert.EncIdeal.defs (F := Ideal)) (onTc (τ := Cert.EncIdeal.τ) (Cert.EncIdeal.main (F := Ideal))) ⟨m, fun _ => 0, g⟩ (fun r => (∀ c : Dev Cert.EncIdeal.nD,
      r.2.mem ((c.tc : Thread Cert.EncIdeal.nD Cert.EncIdeal.τ).loc Cert.EncIdeal.main_arg0) = m ((c.tc : Thread Cert.EncIdeal.nD Cert.EncIdeal.τ).loc Cert.EncIdeal.main_arg0)
      ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
      ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
      ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
      ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
      ∧ r.2.mem ((c.tc : Thread Cert.EncIdeal.nD Cert.EncIdeal.τ).loc Cert.EncIdeal.main_arg5) = m ((c.tc : Thread Cert.EncIdeal.nD Cert.EncIdeal.τ).loc Cert.EncIdeal.main_arg5)
      ∧ r.2.mem ((c.tc : Thread Cert.EncIdeal.nD Cert.EncIdeal.τ).loc Cert.EncIdeal.main_arg6) = m ((c.tc : Thread Cert.EncIdeal.nD Cert.EncIdeal.τ).loc Cert.EncIdeal.main_arg6)
      ∧ r.2.mem ((c.tc : Thread Cert.EncIdeal.nD Cert.EncIdeal.τ).loc Cert.EncIdeal.main_arg7) = m ((c.tc : Thread Cert.EncIdeal.nD Cert.EncIdeal.τ).loc Cert.EncIdeal.main_arg7)
      ∧ r.2.mem ((c.tc : Thread Cert.EncIdeal.nD Cert.EncIdeal.τ).loc Cert.EncIdeal.main_arg8) = m ((c.tc : Thread Cert.EncIdeal.nD Cert.EncIdeal.τ).loc Cert.EncIdeal.main_arg8)
      ∧ r.2.mem ((c.tc : Thread Cert.EncIdeal.nD Cert.EncIdeal.τ).loc Cert.EncIdeal.main_arg9) = m ((c.tc : Thread Cert.EncIdeal.nD Cert.EncIdeal.τ).loc Cert.EncIdeal.main_arg9)
      ∧ r.2.mem ((c.tc : Thread Cert.EncIdeal.nD Cert.EncIdeal.τ).loc Cert.EncIdeal.main_arg10) = m ((c.tc : Thread Cert.EncIdeal.nD Cert.EncIdeal.τ).loc Cert.EncIdeal.main_arg10)
      ∧ r.2.mem ((c.tc : Thread Cert.EncIdeal.nD Cert.EncIdeal.τ).loc Cert.EncIdeal.main_arg11) = m ((c.tc : Thread Cert.EncIdeal.nD Cert.EncIdeal.τ).loc Cert.EncIdeal.main_arg11)
      ∧ r.2.mem ((c.tc : Thread Cert.EncIdeal.nD Cert.EncIdeal.τ).loc Cert.EncIdeal.main_arg12) = m ((c.tc : Thread Cert.EncIdeal.nD Cert.EncIdeal.τ).loc Cert.EncIdeal.main_arg12))
      ∧ r.2.sem = fun _ => 0)

def quiescent_RefEncIdeal [hRefEncIdeal : Cert.RefEncIdeal.Facts] : Prop :=
  ∀ (m : (ℓ : Loc Cert.RefEncIdeal.nD Cert.RefEncIdeal.τ Cert.RefEncIdeal.sig) → Buf (Elt Ideal) ℓ) (g : Dev Cert.RefEncIdeal.nD → PrngReg), Pre_RefEncIdeal m →
    θ_run (Cert.RefEncIdeal.defs (F := Ideal)) (onTc (τ := Cert.RefEncIdeal.τ) (Cert.RefEncIdeal.main (F := Ideal))) ⟨m, fun _ => 0, g⟩ (fun r => (∀ c : Dev Cert.RefEncIdeal.nD,
      r.2.mem ((c.tc : Thread Cert.RefEncIdeal.nD Cert.RefEncIdeal.τ).loc Cert.RefEncIdeal.main_arg0) = m ((c.tc : Thread Cert.RefEncIdeal.nD Cert.RefEncIdeal.τ).loc Cert.RefEncIdeal.main_arg0)
      ∧ r.2.mem ((c.tc : Thread Cert.RefEncIdeal.nD Cert.RefEncIdeal.τ).loc Cert.RefEncIdeal.main_arg1) = m ((c.tc : Thread Cert.RefEncIdeal.nD Cert.RefEncIdeal.τ).loc Cert.RefEncIdeal.main_arg1)
      ∧ r.2.mem ((c.tc : Thread Cert.RefEncIdeal.nD Cert.RefEncIdeal.τ).loc Cert.RefEncIdeal.main_arg2) = m ((c.tc : Thread Cert.RefEncIdeal.nD Cert.RefEncIdeal.τ).loc Cert.RefEncIdeal.main_arg2)
      ∧ r.2.mem ((c.tc : Thread Cert.RefEncIdeal.nD Cert.RefEncIdeal.τ).loc Cert.RefEncIdeal.main_arg3) = m ((c.tc : Thread Cert.RefEncIdeal.nD Cert.RefEncIdeal.τ).loc Cert.RefEncIdeal.main_arg3)
      ∧ r.2.mem ((c.tc : Thread Cert.RefEncIdeal.nD Cert.RefEncIdeal.τ).loc Cert.RefEncIdeal.main_arg4) = m ((c.tc : Thread Cert.RefEncIdeal.nD Cert.RefEncIdeal.τ).loc Cert.RefEncIdeal.main_arg4)
      ∧ r.2.mem ((c.tc : Thread Cert.RefEncIdeal.nD Cert.RefEncIdeal.τ).loc Cert.RefEncIdeal.main_arg5) = m ((c.tc : Thread Cert.RefEncIdeal.nD Cert.RefEncIdeal.τ).loc Cert.RefEncIdeal.main_arg5)
      ∧ r.2.mem ((c.tc : Thread Cert.RefEncIdeal.nD Cert.RefEncIdeal.τ).loc Cert.RefEncIdeal.main_arg6) = m ((c.tc : Thread Cert.RefEncIdeal.nD Cert.RefEncIdeal.τ).loc Cert.RefEncIdeal.main_arg6)
      ∧ r.2.mem ((c.tc : Thread Cert.RefEncIdeal.nD Cert.RefEncIdeal.τ).loc Cert.RefEncIdeal.main_arg7) = m ((c.tc : Thread Cert.RefEncIdeal.nD Cert.RefEncIdeal.τ).loc Cert.RefEncIdeal.main_arg7)
      ∧ r.2.mem ((c.tc : Thread Cert.RefEncIdeal.nD Cert.RefEncIdeal.τ).loc Cert.RefEncIdeal.main_arg8) = m ((c.tc : Thread Cert.RefEncIdeal.nD Cert.RefEncIdeal.τ).loc Cert.RefEncIdeal.main_arg8)
      ∧ r.2.mem ((c.tc : Thread Cert.RefEncIdeal.nD Cert.RefEncIdeal.τ).loc Cert.RefEncIdeal.main_arg9) = m ((c.tc : Thread Cert.RefEncIdeal.nD Cert.RefEncIdeal.τ).loc Cert.RefEncIdeal.main_arg9)
      ∧ r.2.mem ((c.tc : Thread Cert.RefEncIdeal.nD Cert.RefEncIdeal.τ).loc Cert.RefEncIdeal.main_arg10) = m ((c.tc : Thread Cert.RefEncIdeal.nD Cert.RefEncIdeal.τ).loc Cert.RefEncIdeal.main_arg10)
      ∧ r.2.mem ((c.tc : Thread Cert.RefEncIdeal.nD Cert.RefEncIdeal.τ).loc Cert.RefEncIdeal.main_arg11) = m ((c.tc : Thread Cert.RefEncIdeal.nD Cert.RefEncIdeal.τ).loc Cert.RefEncIdeal.main_arg11)
      ∧ r.2.mem ((c.tc : Thread Cert.RefEncIdeal.nD Cert.RefEncIdeal.τ).loc Cert.RefEncIdeal.main_arg12) = m ((c.tc : Thread Cert.RefEncIdeal.nD Cert.RefEncIdeal.τ).loc Cert.RefEncIdeal.main_arg12))
      ∧ r.2.sem = fun _ => 0)

def quiescent_Vq [hVq : Cert.Vq.Facts] : Prop :=
  ∀ (m : (ℓ : Loc Cert.Vq.nD Cert.Vq.τ Cert.Vq.sig) → Buf (Elt Bits) ℓ) (g : Dev Cert.Vq.nD → PrngReg), Pre_Vq m →
    θ_run (Cert.Vq.defs (F := Bits)) (onTc (τ := Cert.Vq.τ) (Cert.Vq.main (F := Bits))) ⟨m, fun _ => 0, g⟩ (fun r => (∀ c : Dev Cert.Vq.nD,
      r.2.mem ((c.tc : Thread Cert.Vq.nD Cert.Vq.τ).loc Cert.Vq.main_arg0) = m ((c.tc : Thread Cert.Vq.nD Cert.Vq.τ).loc Cert.Vq.main_arg0)
      ∧ r.2.mem ((c.tc : Thread Cert.Vq.nD Cert.Vq.τ).loc Cert.Vq.main_arg1) = m ((c.tc : Thread Cert.Vq.nD Cert.Vq.τ).loc Cert.Vq.main_arg1))
      ∧ r.2.sem = fun _ => 0)

def quiescent_VqIdeal [hVqIdeal : Cert.VqIdeal.Facts] : Prop :=
  ∀ (m : (ℓ : Loc Cert.VqIdeal.nD Cert.VqIdeal.τ Cert.VqIdeal.sig) → Buf (Elt Ideal) ℓ) (g : Dev Cert.VqIdeal.nD → PrngReg), Pre_VqIdeal m →
    θ_run (Cert.VqIdeal.defs (F := Ideal)) (onTc (τ := Cert.VqIdeal.τ) (Cert.VqIdeal.main (F := Ideal))) ⟨m, fun _ => 0, g⟩ (fun r => (∀ c : Dev Cert.VqIdeal.nD,
      r.2.mem ((c.tc : Thread Cert.VqIdeal.nD Cert.VqIdeal.τ).loc Cert.VqIdeal.main_arg0) = m ((c.tc : Thread Cert.VqIdeal.nD Cert.VqIdeal.τ).loc Cert.VqIdeal.main_arg0)
      ∧ r.2.mem ((c.tc : Thread Cert.VqIdeal.nD Cert.VqIdeal.τ).loc Cert.VqIdeal.main_arg1) = m ((c.tc : Thread Cert.VqIdeal.nD Cert.VqIdeal.τ).loc Cert.VqIdeal.main_arg1))
      ∧ r.2.sem = fun _ => 0)

def quiescent_VqIdeal_pre_finite [hVqIdeal : Cert.VqIdeal.Facts] [hPre_finite : Cert.Pre_finite.Facts] : Prop :=
  ∀ (m : (ℓ : Loc Cert.VqIdeal.nD Cert.VqIdeal.τ Cert.VqIdeal.sig) → Buf (Elt Ideal) ℓ) (g : Dev Cert.VqIdeal.nD → PrngReg), Pre_VqIdeal_finite m →
    θ_run (Cert.VqIdeal.defs (F := Ideal)) (onTc (τ := Cert.VqIdeal.τ) (Cert.VqIdeal.main (F := Ideal))) ⟨m, fun _ => 0, g⟩ (fun r => (∀ c : Dev Cert.VqIdeal.nD,
      r.2.mem ((c.tc : Thread Cert.VqIdeal.nD Cert.VqIdeal.τ).loc Cert.VqIdeal.main_arg0) = m ((c.tc : Thread Cert.VqIdeal.nD Cert.VqIdeal.τ).loc Cert.VqIdeal.main_arg0)
      ∧ r.2.mem ((c.tc : Thread Cert.VqIdeal.nD Cert.VqIdeal.τ).loc Cert.VqIdeal.main_arg1) = m ((c.tc : Thread Cert.VqIdeal.nD Cert.VqIdeal.τ).loc Cert.VqIdeal.main_arg1))
      ∧ r.2.sem = fun _ => 0)

def quiescent_RefVqIdeal [hRefVqIdeal : Cert.RefVqIdeal.Facts] : Prop :=
  ∀ (m : (ℓ : Loc Cert.RefVqIdeal.nD Cert.RefVqIdeal.τ Cert.RefVqIdeal.sig) → Buf (Elt Ideal) ℓ) (g : Dev Cert.RefVqIdeal.nD → PrngReg), Pre_RefVqIdeal m →
    θ_run (Cert.RefVqIdeal.defs (F := Ideal)) (onTc (τ := Cert.RefVqIdeal.τ) (Cert.RefVqIdeal.main (F := Ideal))) ⟨m, fun _ => 0, g⟩ (fun r => (∀ c : Dev Cert.RefVqIdeal.nD,
      r.2.mem ((c.tc : Thread Cert.RefVqIdeal.nD Cert.RefVqIdeal.τ).loc Cert.RefVqIdeal.main_arg0) = m ((c.tc : Thread Cert.RefVqIdeal.nD Cert.RefVqIdeal.τ).loc Cert.RefVqIdeal.main_arg0)
      ∧ r.2.mem ((c.tc : Thread Cert.RefVqIdeal.nD Cert.RefVqIdeal.τ).loc Cert.RefVqIdeal.main_arg1) = m ((c.tc : Thread Cert.RefVqIdeal.nD Cert.RefVqIdeal.τ).loc Cert.RefVqIdeal.main_arg1))
      ∧ r.2.sem = fun _ => 0)

def quiescent_RefVqIdeal_pre_finite [hRefVqIdeal : Cert.RefVqIdeal.Facts] [hPre_finite : Cert.Pre_finite.Facts] : Prop :=
  ∀ (m : (ℓ : Loc Cert.RefVqIdeal.nD Cert.RefVqIdeal.τ Cert.RefVqIdeal.sig) → Buf (Elt Ideal) ℓ) (g : Dev Cert.RefVqIdeal.nD → PrngReg), Pre_RefVqIdeal_finite m →
    θ_run (Cert.RefVqIdeal.defs (F := Ideal)) (onTc (τ := Cert.RefVqIdeal.τ) (Cert.RefVqIdeal.main (F := Ideal))) ⟨m, fun _ => 0, g⟩ (fun r => (∀ c : Dev Cert.RefVqIdeal.nD,
      r.2.mem ((c.tc : Thread Cert.RefVqIdeal.nD Cert.RefVqIdeal.τ).loc Cert.RefVqIdeal.main_arg0) = m ((c.tc : Thread Cert.RefVqIdeal.nD Cert.RefVqIdeal.τ).loc Cert.RefVqIdeal.main_arg0)
      ∧ r.2.mem ((c.tc : Thread Cert.RefVqIdeal.nD Cert.RefVqIdeal.τ).loc Cert.RefVqIdeal.main_arg1) = m ((c.tc : Thread Cert.RefVqIdeal.nD Cert.RefVqIdeal.τ).loc Cert.RefVqIdeal.main_arg1))
      ∧ r.2.sem = fun _ => 0)

def preserves_Dec_DecIdeal : Prop :=
  True

def algebraic_DecIdeal_RefDecIdeal [hDecIdeal : Cert.DecIdeal.Facts] [hRefDecIdeal : Cert.RefDecIdeal.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.RefDecIdeal.nD Cert.RefDecIdeal.τ Cert.RefDecIdeal.sig) → Buf (Elt Ideal) ℓ) (g' : Dev Cert.RefDecIdeal.nD → PrngReg), Pre_DecIdeal m →
    (∀ c : Dev Cert.DecIdeal.nD,
      m' ((c.tc : Thread Cert.RefDecIdeal.nD Cert.RefDecIdeal.τ).loc Cert.RefDecIdeal.main_arg0) = m ((c.tc : Thread Cert.DecIdeal.nD Cert.DecIdeal.τ).loc Cert.DecIdeal.main_arg0)
      ∧ m' ((c.tc : Thread Cert.RefDecIdeal.nD Cert.RefDecIdeal.τ).loc Cert.RefDecIdeal.main_arg1) = m ((c.tc : Thread Cert.DecIdeal.nD Cert.DecIdeal.τ).loc Cert.DecIdeal.main_arg1)
      ∧ m' ((c.tc : Thread Cert.RefDecIdeal.nD Cert.RefDecIdeal.τ).loc Cert.RefDecIdeal.main_arg2) = m ((c.tc : Thread Cert.DecIdeal.nD Cert.DecIdeal.τ).loc Cert.DecIdeal.main_arg2)
      ∧ m' ((c.tc : Thread Cert.RefDecIdeal.nD Cert.RefDecIdeal.τ).loc Cert.RefDecIdeal.main_arg3) = m ((c.tc : Thread Cert.DecIdeal.nD Cert.DecIdeal.τ).loc Cert.DecIdeal.main_arg3)
      ∧ m' ((c.tc : Thread Cert.RefDecIdeal.nD Cert.RefDecIdeal.τ).loc Cert.RefDecIdeal.main_arg4) = m ((c.tc : Thread Cert.DecIdeal.nD Cert.DecIdeal.τ).loc Cert.DecIdeal.main_arg4)
      ∧ m' ((c.tc : Thread Cert.RefDecIdeal.nD Cert.RefDecIdeal.τ).loc Cert.RefDecIdeal.main_arg5) = m ((c.tc : Thread Cert.DecIdeal.nD Cert.DecIdeal.τ).loc Cert.DecIdeal.main_arg5)
      ∧ m' ((c.tc : Thread Cert.RefDecIdeal.nD Cert.RefDecIdeal.τ).loc Cert.RefDecIdeal.main_arg6) = m ((c.tc : Thread Cert.DecIdeal.nD Cert.DecIdeal.τ).loc Cert.DecIdeal.main_arg6)
      ∧ m' ((c.tc : Thread Cert.RefDecIdeal.nD Cert.RefDecIdeal.τ).loc Cert.RefDecIdeal.main_arg7) = m ((c.tc : Thread Cert.DecIdeal.nD Cert.DecIdeal.τ).loc Cert.DecIdeal.main_arg7)
      ∧ m' ((c.tc : Thread Cert.RefDecIdeal.nD Cert.RefDecIdeal.τ).loc Cert.RefDecIdeal.main_arg8) = m ((c.tc : Thread Cert.DecIdeal.nD Cert.DecIdeal.τ).loc Cert.DecIdeal.main_arg8)
      ∧ m' ((c.tc : Thread Cert.RefDecIdeal.nD Cert.RefDecIdeal.τ).loc Cert.RefDecIdeal.main_arg9) = m ((c.tc : Thread Cert.DecIdeal.nD Cert.DecIdeal.τ).loc Cert.DecIdeal.main_arg9)
      ∧ m' ((c.tc : Thread Cert.RefDecIdeal.nD Cert.RefDecIdeal.τ).loc Cert.RefDecIdeal.main_arg10) = m ((c.tc : Thread Cert.DecIdeal.nD Cert.DecIdeal.τ).loc Cert.DecIdeal.main_arg10)) →
    ∃ (v0 : (c : Dev Cert.DecIdeal.nD) → Buf (Elt Ideal) ((c.tc : Thread Cert.DecIdeal.nD Cert.DecIdeal.τ).loc Cert.DecIdeal.main_v75)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v75) = v0 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
          ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
          ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
          ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
          ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
          ∧ r.2.mem ((c.tc : Thread Cert.DecIdeal.nD Cert.DecIdeal.τ).loc Cert.DecIdeal.main_arg8) = m ((c.tc : Thread Cert.DecIdeal.nD Cert.DecIdeal.τ).loc Cert.DecIdeal.main_arg8)
          ∧ r.2.mem ((c.tc : Thread Cert.DecIdeal.nD Cert.DecIdeal.τ).loc Cert.DecIdeal.main_arg9) = m ((c.tc : Thread Cert.DecIdeal.nD Cert.DecIdeal.τ).loc Cert.DecIdeal.main_arg9)
          ∧ r.2.mem ((c.tc : Thread Cert.DecIdeal.nD Cert.DecIdeal.τ).loc Cert.DecIdeal.main_arg10) = m ((c.tc : Thread Cert.DecIdeal.nD Cert.DecIdeal.τ).loc Cert.DecIdeal.main_arg10))
      ∧ θ_run (Cert.RefDecIdeal.defs (F := Ideal)) (onTc (τ := Cert.RefDecIdeal.τ) (Cert.RefDecIdeal.main (F := Ideal))) ⟨m', fun _ => 0, g'⟩ (fun r => ∀ c : Dev Cert.RefDecIdeal.nD,
          r.2.mem ((c.tc : Thread Cert.RefDecIdeal.nD Cert.RefDecIdeal.τ).loc Cert.RefDecIdeal.main_v95) = v0 c
          ∧ r.2.mem ((c.tc : Thread Cert.RefDecIdeal.nD Cert.RefDecIdeal.τ).loc Cert.RefDecIdeal.main_arg0) = m' ((c.tc : Thread Cert.RefDecIdeal.nD Cert.RefDecIdeal.τ).loc Cert.RefDecIdeal.main_arg0)
          ∧ r.2.mem ((c.tc : Thread Cert.RefDecIdeal.nD Cert.RefDecIdeal.τ).loc Cert.RefDecIdeal.main_arg1) = m' ((c.tc : Thread Cert.RefDecIdeal.nD Cert.RefDecIdeal.τ).loc Cert.RefDecIdeal.main_arg1)
          ∧ r.2.mem ((c.tc : Thread Cert.RefDecIdeal.nD Cert.RefDecIdeal.τ).loc Cert.RefDecIdeal.main_arg2) = m' ((c.tc : Thread Cert.RefDecIdeal.nD Cert.RefDecIdeal.τ).loc Cert.RefDecIdeal.main_arg2)
          ∧ r.2.mem ((c.tc : Thread Cert.RefDecIdeal.nD Cert.RefDecIdeal.τ).loc Cert.RefDecIdeal.main_arg3) = m' ((c.tc : Thread Cert.RefDecIdeal.nD Cert.RefDecIdeal.τ).loc Cert.RefDecIdeal.main_arg3)
          ∧ r.2.mem ((c.tc : Thread Cert.RefDecIdeal.nD Cert.RefDecIdeal.τ).loc Cert.RefDecIdeal.main_arg4) = m' ((c.tc : Thread Cert.RefDecIdeal.nD Cert.RefDecIdeal.τ).loc Cert.RefDecIdeal.main_arg4)
          ∧ r.2.mem ((c.tc : Thread Cert.RefDecIdeal.nD Cert.RefDecIdeal.τ).loc Cert.RefDecIdeal.main_arg5) = m' ((c.tc : Thread Cert.RefDecIdeal.nD Cert.RefDecIdeal.τ).loc Cert.RefDecIdeal.main_arg5)
          ∧ r.2.mem ((c.tc : Thread Cert.RefDecIdeal.nD Cert.RefDecIdeal.τ).loc Cert.RefDecIdeal.main_arg6) = m' ((c.tc : Thread Cert.RefDecIdeal.nD Cert.RefDecIdeal.τ).loc Cert.RefDecIdeal.main_arg6)
          ∧ r.2.mem ((c.tc : Thread Cert.RefDecIdeal.nD Cert.RefDecIdeal.τ).loc Cert.RefDecIdeal.main_arg7) = m' ((c.tc : Thread Cert.RefDecIdeal.nD Cert.RefDecIdeal.τ).loc Cert.RefDecIdeal.main_arg7)
          ∧ r.2.mem ((c.tc : Thread Cert.RefDecIdeal.nD Cert.RefDecIdeal.τ).loc Cert.RefDecIdeal.main_arg8) = m' ((c.tc : Thread Cert.RefDecIdeal.nD Cert.RefDecIdeal.τ).loc Cert.RefDecIdeal.main_arg8)
          ∧ r.2.mem ((c.tc : Thread Cert.RefDecIdeal.nD Cert.RefDecIdeal.τ).loc Cert.RefDecIdeal.main_arg9) = m' ((c.tc : Thread Cert.RefDecIdeal.nD Cert.RefDecIdeal.τ).loc Cert.RefDecIdeal.main_arg9)
          ∧ r.2.mem ((c.tc : Thread Cert.RefDecIdeal.nD Cert.RefDecIdeal.τ).loc Cert.RefDecIdeal.main_arg10) = m' ((c.tc : Thread Cert.RefDecIdeal.nD Cert.RefDecIdeal.τ).loc Cert.RefDecIdeal.main_arg10))

def preserves_Enc_EncIdeal : Prop :=
  True

def algebraic_EncIdeal_RefEncIdeal [hEncIdeal : Cert.EncIdeal.Facts] [hRefEncIdeal : Cert.RefEncIdeal.Facts] : Prop :=
  ∀ (m : (ℓ : Loc Cert.EncIdeal.nD Cert.EncIdeal.τ Cert.EncIdeal.sig) → Buf (Elt Ideal) ℓ) (g : Dev Cert.EncIdeal.nD → PrngReg)
    (m' : (ℓ : Loc Cert.RefEncIdeal.nD Cert.RefEncIdeal.τ Cert.RefEncIdeal.sig) → Buf (Elt Ideal) ℓ) (g' : Dev Cert.RefEncIdeal.nD → PrngReg), Pre_EncIdeal m →
    (∀ c : Dev Cert.EncIdeal.nD,
      m' ((c.tc : Thread Cert.RefEncIdeal.nD Cert.RefEncIdeal.τ).loc Cert.RefEncIdeal.main_arg0) = m ((c.tc : Thread Cert.EncIdeal.nD Cert.EncIdeal.τ).loc Cert.EncIdeal.main_arg0)
      ∧ m' ((c.tc : Thread Cert.RefEncIdeal.nD Cert.RefEncIdeal.τ).loc Cert.RefEncIdeal.main_arg1) = m ((c.tc : Thread Cert.EncIdeal.nD Cert.EncIdeal.τ).loc Cert.EncIdeal.main_arg1)
      ∧ m' ((c.tc : Thread Cert.RefEncIdeal.nD Cert.RefEncIdeal.τ).loc Cert.RefEncIdeal.main_arg2) = m ((c.tc : Thread Cert.EncIdeal.nD Cert.EncIdeal.τ).loc Cert.EncIdeal.main_arg2)
      ∧ m' ((c.tc : Thread Cert.RefEncIdeal.nD Cert.RefEncIdeal.τ).loc Cert.RefEncIdeal.main_arg3) = m ((c.tc : Thread Cert.EncIdeal.nD Cert.EncIdeal.τ).loc Cert.EncIdeal.main_arg3)
      ∧ m' ((c.tc : Thread Cert.RefEncIdeal.nD Cert.RefEncIdeal.τ).loc Cert.RefEncIdeal.main_arg4) = m ((c.tc : Thread Cert.EncIdeal.nD Cert.EncIdeal.τ).loc Cert.EncIdeal.main_arg4)
      ∧ m' ((c.tc : Thread Cert.RefEncIdeal.nD Cert.RefEncIdeal.τ).loc Cert.RefEncIdeal.main_arg5) = m ((c.tc : Thread Cert.EncIdeal.nD Cert.EncIdeal.τ).loc Cert.EncIdeal.main_arg5)
      ∧ m' ((c.tc : Thread Cert.RefEncIdeal.nD Cert.RefEncIdeal.τ).loc Cert.RefEncIdeal.main_arg6) = m ((c.tc : Thread Cert.EncIdeal.nD Cert.EncIdeal.τ).loc Cert.EncIdeal.main_arg6)
      ∧ m' ((c.tc : Thread Cert.RefEncIdeal.nD Cert.RefEncIdeal.τ).loc Cert.RefEncIdeal.main_arg7) = m ((c.tc : Thread Cert.EncIdeal.nD Cert.EncIdeal.τ).loc Cert.EncIdeal.main_arg7)
      ∧ m' ((c.tc : Thread Cert.RefEncIdeal.nD Cert.RefEncIdeal.τ).loc Cert.RefEncIdeal.main_arg8) = m ((c.tc : Thread Cert.EncIdeal.nD Cert.EncIdeal.τ).loc Cert.EncIdeal.main_arg8)
      ∧ m' ((c.tc : Thread Cert.RefEncIdeal.nD Cert.RefEncIdeal.τ).loc Cert.RefEncIdeal.main_arg9) = m ((c.tc : Thread Cert.EncIdeal.nD Cert.EncIdeal.τ).loc Cert.EncIdeal.main_arg9)
      ∧ m' ((c.tc : Thread Cert.RefEncIdeal.nD Cert.RefEncIdeal.τ).loc Cert.RefEncIdeal.main_arg10) = m ((c.tc : Thread Cert.EncIdeal.nD Cert.EncIdeal.τ).loc Cert.EncIdeal.main_arg10)
      ∧ m' ((c.tc : Thread Cert.RefEncIdeal.nD Cert.RefEncIdeal.τ).loc Cert.RefEncIdeal.main_arg11) = m ((c.tc : Thread Cert.EncIdeal.nD Cert.EncIdeal.τ).loc Cert.EncIdeal.main_arg11)
      ∧ m' ((c.tc : Thread Cert.RefEncIdeal.nD Cert.RefEncIdeal.τ).loc Cert.RefEncIdeal.main_arg12) = m ((c.tc : Thread Cert.EncIdeal.nD Cert.EncIdeal.τ).loc Cert.EncIdeal.main_arg12)) →
    ∃ (v0 : (c : Dev Cert.EncIdeal.nD) → Buf (Elt Ideal) ((c.tc : Thread Cert.EncIdeal.nD Cert.EncIdeal.τ).loc Cert.EncIdeal.main_v84)),
      θ_run (Cert.EncIdeal.defs (F := Ideal)) (onTc (τ := Cert.EncIdeal.τ) (Cert.EncIdeal.main (F := Ideal))) ⟨m, fun _ => 0, g⟩ (fun r => ∀ c : Dev Cert.EncIdeal.nD,
          r.2.mem ((c.tc : Thread Cert.EncIdeal.nD Cert.EncIdeal.τ).loc Cert.EncIdeal.main_v84) = v0 c
          ∧ r.2.mem ((c.tc : Thread Cert.EncIdeal.nD Cert.EncIdeal.τ).loc Cert.EncIdeal.main_arg0) = m ((c.tc : Thread Cert.EncIdeal.nD Cert.EncIdeal.τ).loc Cert.EncIdeal.main_arg0)
          ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
          ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
          ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
          ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
          ∧ r.2.mem ((c.tc : Thread Cert.EncIdeal.nD Cert.EncIdeal.τ).loc Cert.EncIdeal.main_arg5) = m ((c.tc : Thread Cert.EncIdeal.nD Cert.EncIdeal.τ).loc Cert.EncIdeal.main_arg5)
          ∧ r.2.mem ((c.tc : Thread Cert.EncIdeal.nD Cert.EncIdeal.τ).loc Cert.EncIdeal.main_arg6) = m ((c.tc : Thread Cert.EncIdeal.nD Cert.EncIdeal.τ).loc Cert.EncIdeal.main_arg6)
          ∧ r.2.mem ((c.tc : Thread Cert.EncIdeal.nD Cert.EncIdeal.τ).loc Cert.EncIdeal.main_arg7) = m ((c.tc : Thread Cert.EncIdeal.nD Cert.EncIdeal.τ).loc Cert.EncIdeal.main_arg7)
          ∧ r.2.mem ((c.tc : Thread Cert.EncIdeal.nD Cert.EncIdeal.τ).loc Cert.EncIdeal.main_arg8) = m ((c.tc : Thread Cert.EncIdeal.nD Cert.EncIdeal.τ).loc Cert.EncIdeal.main_arg8)
          ∧ r.2.mem ((c.tc : Thread Cert.EncIdeal.nD Cert.EncIdeal.τ).loc Cert.EncIdeal.main_arg9) = m ((c.tc : Thread Cert.EncIdeal.nD Cert.EncIdeal.τ).loc Cert.EncIdeal.main_arg9)
          ∧ r.2.mem ((c.tc : Thread Cert.EncIdeal.nD Cert.EncIdeal.τ).loc Cert.EncIdeal.main_arg10) = m ((c.tc : Thread Cert.EncIdeal.nD Cert.EncIdeal.τ).loc Cert.EncIdeal.main_arg10)
          ∧ r.2.mem ((c.tc : Thread Cert.EncIdeal.nD Cert.EncIdeal.τ).loc Cert.EncIdeal.main_arg11) = m ((c.tc : Thread Cert.EncIdeal.nD Cert.EncIdeal.τ).loc Cert.EncIdeal.main_arg11)
          ∧ r.2.mem ((c.tc : Thread Cert.EncIdeal.nD Cert.EncIdeal.τ).loc Cert.EncIdeal.main_arg12) = m ((c.tc : Thread Cert.EncIdeal.nD Cert.EncIdeal.τ).loc Cert.EncIdeal.main_arg12))
      ∧ θ_run (Cert.RefEncIdeal.defs (F := Ideal)) (onTc (τ := Cert.RefEncIdeal.τ) (Cert.RefEncIdeal.main (F := Ideal))) ⟨m', fun _ => 0, g'⟩ (fun r => ∀ c : Dev Cert.RefEncIdeal.nD,
          r.2.mem ((c.tc : Thread Cert.RefEncIdeal.nD Cert.RefEncIdeal.τ).loc Cert.RefEncIdeal.main_v99) = v0 c
          ∧ r.2.mem ((c.tc : Thread Cert.RefEncIdeal.nD Cert.RefEncIdeal.τ).loc Cert.RefEncIdeal.main_arg0) = m' ((c.tc : Thread Cert.RefEncIdeal.nD Cert.RefEncIdeal.τ).loc Cert.RefEncIdeal.main_arg0)
          ∧ r.2.mem ((c.tc : Thread Cert.RefEncIdeal.nD Cert.RefEncIdeal.τ).loc Cert.RefEncIdeal.main_arg1) = m' ((c.tc : Thread Cert.RefEncIdeal.nD Cert.RefEncIdeal.τ).loc Cert.RefEncIdeal.main_arg1)
          ∧ r.2.mem ((c.tc : Thread Cert.RefEncIdeal.nD Cert.RefEncIdeal.τ).loc Cert.RefEncIdeal.main_arg2) = m' ((c.tc : Thread Cert.RefEncIdeal.nD Cert.RefEncIdeal.τ).loc Cert.RefEncIdeal.main_arg2)
          ∧ r.2.mem ((c.tc : Thread Cert.RefEncIdeal.nD Cert.RefEncIdeal.τ).loc Cert.RefEncIdeal.main_arg3) = m' ((c.tc : Thread Cert.RefEncIdeal.nD Cert.RefEncIdeal.τ).loc Cert.RefEncIdeal.main_arg3)
          ∧ r.2.mem ((c.tc : Thread Cert.RefEncIdeal.nD Cert.RefEncIdeal.τ).loc Cert.RefEncIdeal.main_arg4) = m' ((c.tc : Thread Cert.RefEncIdeal.nD Cert.RefEncIdeal.τ).loc Cert.RefEncIdeal.main_arg4)
          ∧ r.2.mem ((c.tc : Thread Cert.RefEncIdeal.nD Cert.RefEncIdeal.τ).loc Cert.RefEncIdeal.main_arg5) = m' ((c.tc : Thread Cert.RefEncIdeal.nD Cert.RefEncIdeal.τ).loc Cert.RefEncIdeal.main_arg5)
          ∧ r.2.mem ((c.tc : Thread Cert.RefEncIdeal.nD Cert.RefEncIdeal.τ).loc Cert.RefEncIdeal.main_arg6) = m' ((c.tc : Thread Cert.RefEncIdeal.nD Cert.RefEncIdeal.τ).loc Cert.RefEncIdeal.main_arg6)
          ∧ r.2.mem ((c.tc : Thread Cert.RefEncIdeal.nD Cert.RefEncIdeal.τ).loc Cert.RefEncIdeal.main_arg7) = m' ((c.tc : Thread Cert.RefEncIdeal.nD Cert.RefEncIdeal.τ).loc Cert.RefEncIdeal.main_arg7)
          ∧ r.2.mem ((c.tc : Thread Cert.RefEncIdeal.nD Cert.RefEncIdeal.τ).loc Cert.RefEncIdeal.main_arg8) = m' ((c.tc : Thread Cert.RefEncIdeal.nD Cert.RefEncIdeal.τ).loc Cert.RefEncIdeal.main_arg8)
          ∧ r.2.mem ((c.tc : Thread Cert.RefEncIdeal.nD Cert.RefEncIdeal.τ).loc Cert.RefEncIdeal.main_arg9) = m' ((c.tc : Thread Cert.RefEncIdeal.nD Cert.RefEncIdeal.τ).loc Cert.RefEncIdeal.main_arg9)
          ∧ r.2.mem ((c.tc : Thread Cert.RefEncIdeal.nD Cert.RefEncIdeal.τ).loc Cert.RefEncIdeal.main_arg10) = m' ((c.tc : Thread Cert.RefEncIdeal.nD Cert.RefEncIdeal.τ).loc Cert.RefEncIdeal.main_arg10)
          ∧ r.2.mem ((c.tc : Thread Cert.RefEncIdeal.nD Cert.RefEncIdeal.τ).loc Cert.RefEncIdeal.main_arg11) = m' ((c.tc : Thread Cert.RefEncIdeal.nD Cert.RefEncIdeal.τ).loc Cert.RefEncIdeal.main_arg11)
          ∧ r.2.mem ((c.tc : Thread Cert.RefEncIdeal.nD Cert.RefEncIdeal.τ).loc Cert.RefEncIdeal.main_arg12) = m' ((c.tc : Thread Cert.RefEncIdeal.nD Cert.RefEncIdeal.τ).loc Cert.RefEncIdeal.main_arg12))

def preserves_Vq_VqIdeal : Prop :=
  True

def algebraic_VqIdeal_RefVqIdeal_pre_finite [hVqIdeal : Cert.VqIdeal.Facts] [hRefVqIdeal : Cert.RefVqIdeal.Facts] [hPre_finite : Cert.Pre_finite.Facts] : Prop :=
  ∀ (m : (ℓ : Loc Cert.VqIdeal.nD Cert.VqIdeal.τ Cert.VqIdeal.sig) → Buf (Elt Ideal) ℓ) (g : Dev Cert.VqIdeal.nD → PrngReg)
    (m' : (ℓ : Loc Cert.RefVqIdeal.nD Cert.RefVqIdeal.τ Cert.RefVqIdeal.sig) → Buf (Elt Ideal) ℓ) (g' : Dev Cert.RefVqIdeal.nD → PrngReg), Pre_VqIdeal_finite m →
    (∀ c : Dev Cert.VqIdeal.nD,
      m' ((c.tc : Thread Cert.RefVqIdeal.nD Cert.RefVqIdeal.τ).loc Cert.RefVqIdeal.main_arg0) = m ((c.tc : Thread Cert.VqIdeal.nD Cert.VqIdeal.τ).loc Cert.VqIdeal.main_arg0)
      ∧ m' ((c.tc : Thread Cert.RefVqIdeal.nD Cert.RefVqIdeal.τ).loc Cert.RefVqIdeal.main_arg1) = m ((c.tc : Thread Cert.VqIdeal.nD Cert.VqIdeal.τ).loc Cert.VqIdeal.main_arg1)) →
    ∃ (v0 : (c : Dev Cert.VqIdeal.nD) → Buf (Elt Ideal) ((c.tc : Thread Cert.VqIdeal.nD Cert.VqIdeal.τ).loc Cert.VqIdeal.main_v5_0)) (v1 : (c : Dev Cert.VqIdeal.nD) → Buf (Elt Ideal) ((c.tc : Thread Cert.VqIdeal.nD Cert.VqIdeal.τ).loc Cert.VqIdeal.main_v5_1)),
      θ_run (Cert.VqIdeal.defs (F := Ideal)) (onTc (τ := Cert.VqIdeal.τ) (Cert.VqIdeal.main (F := Ideal))) ⟨m, fun _ => 0, g⟩ (fun r => ∀ c : Dev Cert.VqIdeal.nD,
          r.2.mem ((c.tc : Thread Cert.VqIdeal.nD Cert.VqIdeal.τ).loc Cert.VqIdeal.main_v5_0) = v0 c
          ∧ r.2.mem ((c.tc : Thread Cert.VqIdeal.nD Cert.VqIdeal.τ).loc Cert.VqIdeal.main_v5_1) = v1 c
          ∧ r.2.mem ((c.tc : Thread Cert.VqIdeal.nD Cert.VqIdeal.τ).loc Cert.VqIdeal.main_arg0) = m ((c.tc : Thread Cert.VqIdeal.nD Cert.VqIdeal.τ).loc Cert.VqIdeal.main_arg0)
          ∧ r.2.mem ((c.tc : Thread Cert.VqIdeal.nD Cert.VqIdeal.τ).loc Cert.VqIdeal.main_arg1) = m ((c.tc : Thread Cert.VqIdeal.nD Cert.VqIdeal.τ).loc Cert.VqIdeal.main_arg1))
      ∧ θ_run (Cert.RefVqIdeal.defs (F := Ideal)) (onTc (τ := Cert.RefVqIdeal.τ) (Cert.RefVqIdeal.main (F := Ideal))) ⟨m', fun _ => 0, g'⟩ (fun r => ∀ c : Dev Cert.RefVqIdeal.nD,
          r.2.mem ((c.tc : Thread Cert.RefVqIdeal.nD Cert.RefVqIdeal.τ).loc Cert.RefVqIdeal.main_v23) = v0 c
          ∧ r.2.mem ((c.tc : Thread Cert.RefVqIdeal.nD Cert.RefVqIdeal.τ).loc Cert.RefVqIdeal.main_v24) = v1 c
          ∧ r.2.mem ((c.tc : Thread Cert.RefVqIdeal.nD Cert.RefVqIdeal.τ).loc Cert.RefVqIdeal.main_arg0) = m' ((c.tc : Thread Cert.RefVqIdeal.nD Cert.RefVqIdeal.τ).loc Cert.RefVqIdeal.main_arg0)
          ∧ r.2.mem ((c.tc : Thread Cert.RefVqIdeal.nD Cert.RefVqIdeal.τ).loc Cert.RefVqIdeal.main_arg1) = m' ((c.tc : Thread Cert.RefVqIdeal.nD Cert.RefVqIdeal.τ).loc Cert.RefVqIdeal.main_arg1))

def Claim : Prop :=
  ∃ (hDec : Cert.Dec.Facts) (hDecIdeal : Cert.DecIdeal.Facts) (hRefDecIdeal : Cert.RefDecIdeal.Facts) (hEnc : Cert.Enc.Facts) (hEncIdeal : Cert.EncIdeal.Facts) (hRefEncIdeal : Cert.RefEncIdeal.Facts) (hVq : Cert.Vq.Facts) (hVqIdeal : Cert.VqIdeal.Facts) (hRefVqIdeal : Cert.RefVqIdeal.Facts) (hPre_finite : Cert.Pre_finite.Facts),
    quiescent_Dec (hDec := hDec)
    ∧ quiescent_DecIdeal (hDecIdeal := hDecIdeal)
    ∧ quiescent_RefDecIdeal (hRefDecIdeal := hRefDecIdeal)
    ∧ quiescent_Enc (hEnc := hEnc)
    ∧ quiescent_EncIdeal (hEncIdeal := hEncIdeal)
    ∧ quiescent_RefEncIdeal (hRefEncIdeal := hRefEncIdeal)
    ∧ quiescent_Vq (hVq := hVq)
    ∧ quiescent_VqIdeal (hVqIdeal := hVqIdeal)
    ∧ quiescent_VqIdeal_pre_finite (hVqIdeal := hVqIdeal) (hPre_finite := hPre_finite)
    ∧ quiescent_RefVqIdeal (hRefVqIdeal := hRefVqIdeal)
    ∧ quiescent_RefVqIdeal_pre_finite (hRefVqIdeal := hRefVqIdeal) (hPre_finite := hPre_finite)
    ∧ preserves_Dec_DecIdeal
    ∧ algebraic_DecIdeal_RefDecIdeal (hDecIdeal := hDecIdeal) (hRefDecIdeal := hRefDecIdeal)
    ∧ preserves_Enc_EncIdeal
    ∧ algebraic_EncIdeal_RefEncIdeal (hEncIdeal := hEncIdeal) (hRefEncIdeal := hRefEncIdeal)
    ∧ preserves_Vq_VqIdeal
    ∧ algebraic_VqIdeal_RefVqIdeal_pre_finite (hVqIdeal := hVqIdeal) (hRefVqIdeal := hRefVqIdeal) (hPre_finite := hPre_finite)
-- ==== Pre_finite.lean ====
abbrev S8x64x2048 : Shape := ⟨3, ![8, 64, 2048]⟩
abbrev S512x64 : Shape := ⟨2, ![512, 64]⟩
abbrev S_ : Shape := ⟨0, ![]⟩

class Facts : Prop where
  bcast_S_S8x64x2048 : S_.BroadcastsInDim S8x64x2048 (![] : Fin 0 → Fin S8x64x2048.rank)

variable [Facts]

def fn {F : FTy → Type} [FloatOps F] (main_arg0 : FVec F S8x64x2048 .f32) (main_arg1 : FVec F S512x64 .f32) : IVec S8x64x2048 1 :=
  let main_v0 : FVec F S8x64x2048 .f32 := Host.absf main_arg0
  let main_cst : FVec F S_ .f32 := constant S_ .f32 0x7F800000#32
  let main_v1 : FVec F S8x64x2048 .f32 := broadcastInDim S8x64x2048 ![] bcast_S_S8x64x2048 main_cst
  let main_v2 : IVec S8x64x2048 1 := cmpf .olt main_v0 main_v1
  main_v2
-- ==== Dec.lean ====
abbrev S8x64x2048 : Shape := ⟨3, ![8, 64, 2048]⟩
abbrev S64x256x1 : Shape := ⟨3, ![64, 256, 1]⟩
abbrev S256 : Shape := ⟨1, ![256]⟩
abbrev S256x256x3 : Shape := ⟨3, ![256, 256, 3]⟩
abbrev S256x256x4 : Shape := ⟨3, ![256, 256, 4]⟩
abbrev S256x128x4 : Shape := ⟨3, ![256, 128, 4]⟩
abbrev S128 : Shape := ⟨1, ![128]⟩
abbrev S128x2x4 : Shape := ⟨3, ![128, 2, 4]⟩
abbrev S2 : Shape := ⟨1, ![2]⟩
abbrev S3x256x256 : Shape := ⟨3, ![3, 256, 256]⟩
abbrev S4x256x256 : Shape := ⟨3, ![4, 256, 256]⟩
abbrev S4x128x256 : Shape := ⟨3, ![4, 128, 256]⟩
abbrev S4x2x128 : Shape := ⟨3, ![4, 2, 128]⟩
abbrev S256x1 : Shape := ⟨2, ![256, 1]⟩
abbrev S1x256x256 : Shape := ⟨3, ![1, 256, 256]⟩
abbrev S256x256 : Shape := ⟨2, ![256, 256]⟩
abbrev S128x1 : Shape := ⟨2, ![128, 1]⟩
abbrev S1x128x256 : Shape := ⟨3, ![1, 128, 256]⟩
abbrev S128x256 : Shape := ⟨2, ![128, 256]⟩
abbrev S128x512 : Shape := ⟨2, ![128, 512]⟩
abbrev S2x1 : Shape := ⟨2, ![2, 1]⟩
abbrev S1x2x128 : Shape := ⟨3, ![1, 2, 128]⟩
abbrev S2x128 : Shape := ⟨2, ![2, 128]⟩
abbrev S64x256 : Shape := ⟨2, ![64, 256]⟩
abbrev S256x64 : Shape := ⟨2, ![256, 64]⟩
abbrev S8x16x2048 : Shape := ⟨3, ![8, 16, 2048]⟩
abbrev S1x64x2048 : Shape := ⟨3, ![1, 64, 2048]⟩
abbrev S1x16x2048 : Shape := ⟨3, ![1, 16, 2048]⟩
abbrev S256x2304 : Shape := ⟨2, ![256, 2304]⟩
abbrev S512x2304 : Shape := ⟨2, ![512, 2304]⟩
abbrev S64x2048 : Shape := ⟨2, ![64, 2048]⟩
abbrev S256x2048 : Shape := ⟨2, ![256, 2048]⟩
abbrev S512x1 : Shape := ⟨2, ![512, 1]⟩
abbrev S128x2048 : Shape := ⟨2, ![128, 2048]⟩
abbrev S512x2048 : Shape := ⟨2, ![512, 2048]⟩
abbrev S128x2304 : Shape := ⟨2, ![128, 2304]⟩
abbrev S2x2048 : Shape := ⟨2, ![2, 2048]⟩
abbrev S16x2048 : Shape := ⟨2, ![16, 2048]⟩

abbrev nBuf : Space → Nat
  | .hbm => 87
  | .vmem => 54
  | .smem => 0
  | _ => 0

abbrev bufTy : (tb : Table) → Fin (tcTables nBuf tb) → BufTy
  | .hbm, ⟨0, _⟩ => ⟨S8x64x2048, .f32⟩
  | .hbm, ⟨1, _⟩ => ⟨S64x256x1, .f32⟩
  | .hbm, ⟨2, _⟩ => ⟨S256, .f32⟩
  | .hbm, ⟨3, _⟩ => ⟨S256x256x3, .f32⟩
  | .hbm, ⟨4, _⟩ => ⟨S256, .f32⟩
  | .hbm, ⟨5, _⟩ => ⟨S256x256x4, .f32⟩
  | .hbm, ⟨6, _⟩ => ⟨S256, .f32⟩
  | .hbm, ⟨7, _⟩ => ⟨S256x128x4, .f32⟩
  | .hbm, ⟨8, _⟩ => ⟨S128, .f32⟩
  | .hbm, ⟨9, _⟩ => ⟨S128x2x4, .f32⟩
  | .hbm, ⟨10, _⟩ => ⟨S2, .f32⟩
  | .hbm, ⟨11, _⟩ => ⟨S3x256x256, .f32⟩
  | .hbm, ⟨12, _⟩ => ⟨S4x256x256, .f32⟩
  | .hbm, ⟨13, _⟩ => ⟨S4x128x256, .f32⟩
  | .hbm, ⟨14, _⟩ => ⟨S4x2x128, .f32⟩
  | .hbm, ⟨15, _⟩ => ⟨S256x1, .f32⟩
  | .hbm, ⟨16, _⟩ => ⟨S1x256x256, .f32⟩
  | .hbm, ⟨17, _⟩ => ⟨S256x256, .f32⟩
  | .hbm, ⟨18, _⟩ => ⟨S1x256x256, .f32⟩
  | .hbm, ⟨19, _⟩ => ⟨S256x256, .f32⟩
  | .hbm, ⟨20, _⟩ => ⟨S1x256x256, .f32⟩
  | .hbm, ⟨21, _⟩ => ⟨S256x256, .f32⟩
  | .hbm, ⟨22, _⟩ => ⟨S256x1, .f32⟩
  | .hbm, ⟨23, _⟩ => ⟨S1x256x256, .f32⟩
  | .hbm, ⟨24, _⟩ => ⟨S256x256, .f32⟩
  | .hbm, ⟨25, _⟩ => ⟨S1x256x256, .f32⟩
  | .hbm, ⟨26, _⟩ => ⟨S256x256, .f32⟩
  | .hbm, ⟨27, _⟩ => ⟨S1x256x256, .f32⟩
  | .hbm, ⟨28, _⟩ => ⟨S256x256, .f32⟩
  | .hbm, ⟨29, _⟩ => ⟨S1x256x256, .f32⟩
  | .hbm, ⟨30, _⟩ => ⟨S256x256, .f32⟩
  | .hbm, ⟨31, _⟩ => ⟨S128x1, .f32⟩
  | .hbm, ⟨32, _⟩ => ⟨S1x128x256, .f32⟩
  | .hbm, ⟨33, _⟩ => ⟨S128x256, .f32⟩
  | .hbm, ⟨34, _⟩ => ⟨S1x128x256, .f32⟩
  | .hbm, ⟨35, _⟩ => ⟨S128x256, .f32⟩
  | .hbm, ⟨36, _⟩ => ⟨S1x128x256, .f32⟩
  | .hbm, ⟨37, _⟩ => ⟨S128x256, .f32⟩
  | .hbm, ⟨38, _⟩ => ⟨S1x128x256, .f32⟩
  | .hbm, ⟨39, _⟩ => ⟨S128x256, .f32⟩
  | .hbm, ⟨40, _⟩ => ⟨S128x512, .f32⟩
  | .hbm, ⟨41, _⟩ => ⟨S1x128x256, .f32⟩
  | .hbm, ⟨42, _⟩ => ⟨S128x256, .f32⟩
  | .hbm, ⟨43, _⟩ => ⟨S1x128x256, .f32⟩
  | .hbm, ⟨44, _⟩ => ⟨S128x256, .f32⟩
  | .hbm, ⟨45, _⟩ => ⟨S128x512, .f32⟩
  | .hbm, ⟨46, _⟩ => ⟨S1x128x256, .f32⟩
  | .hbm, ⟨47, _⟩ => ⟨S128x256, .f32⟩
  | .hbm, ⟨48, _⟩ => ⟨S1x128x256, .f32⟩
  | .hbm, ⟨49, _⟩ => ⟨S128x256, .f32⟩
  | .hbm, ⟨50, _⟩ => ⟨S2x1, .f32⟩
  | .hbm, ⟨51, _⟩ => ⟨S1x2x128, .f32⟩
  | .hbm, ⟨52, _⟩ => ⟨S2x128, .f32⟩
  | .hbm, ⟨53, _⟩ => ⟨S1x2x128, .f32⟩
  | .hbm, ⟨54, _⟩ => ⟨S2x128, .f32⟩
  | .hbm, ⟨55, _⟩ => ⟨S1x2x128, .f32⟩
  | .hbm, ⟨56, _⟩ => ⟨S2x128, .f32⟩
  | .hbm, ⟨57, _⟩ => ⟨S1x2x128, .f32⟩
  | .hbm, ⟨58, _⟩ => ⟨S2x128, .f32⟩
  | .hbm, ⟨59, _⟩ => ⟨S1x2x128, .f32⟩
  | .hbm, ⟨60, _⟩ => ⟨S2x128, .f32⟩
  | .hbm, ⟨61, _⟩ => ⟨S1x2x128, .f32⟩
  | .hbm, ⟨62, _⟩ => ⟨S2x128, .f32⟩
  | .hbm, ⟨63, _⟩ => ⟨S1x2x128, .f32⟩
  | .hbm, ⟨64, _⟩ => ⟨S2x128, .f32⟩
  | .hbm, ⟨65, _⟩ => ⟨S1x2x128, .f32⟩
  | .hbm, ⟨66, _⟩ => ⟨S2x128, .f32⟩
  | .hbm, ⟨67, _⟩ => ⟨S1x2x128, .f32⟩
  | .hbm, ⟨68, _⟩ => ⟨S2x128, .f32⟩
  | .hbm, ⟨69, _⟩ => ⟨S1x2x128, .f32⟩
  | .hbm, ⟨70, _⟩ => ⟨S2x128, .f32⟩
  | .hbm, ⟨71, _⟩ => ⟨S1x2x128, .f32⟩
  | .hbm, ⟨72, _⟩ => ⟨S2x128, .f32⟩
  | .hbm, ⟨73, _⟩ => ⟨S1x2x128, .f32⟩
  | .hbm, ⟨74, _⟩ => ⟨S2x128, .f32⟩
  | .hbm, ⟨75, _⟩ => ⟨S1x2x128, .f32⟩
  | .hbm, ⟨76, _⟩ => ⟨S2x128, .f32⟩
  | .hbm, ⟨77, _⟩ => ⟨S1x2x128, .f32⟩
  | .hbm, ⟨78, _⟩ => ⟨S2x128, .f32⟩
  | .hbm, ⟨79, _⟩ => ⟨S1x2x128, .f32⟩
  | .hbm, ⟨80, _⟩ => ⟨S2x128, .f32⟩
  | .hbm, ⟨81, _⟩ => ⟨S1x2x128, .f32⟩
  | .hbm, ⟨82, _⟩ => ⟨S2x128, .f32⟩
  | .hbm, ⟨83, _⟩ => ⟨S64x256, .f32⟩
  | .hbm, ⟨84, _⟩ => ⟨S256x64, .f32⟩
  | .hbm, ⟨85, _⟩ => ⟨S256x1, .f32⟩
  | .hbm, ⟨86, _⟩ => ⟨S8x16x2048, .f32⟩
  | .local _ .vmem, ⟨0, _⟩ => ⟨S1x64x2048, .f32⟩
  | .local _ .vmem, ⟨1, _⟩ => ⟨S1x64x2048, .f32⟩
  | .local _ .vmem, ⟨2, _⟩ => ⟨S256x1, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x1, .f32⟩
  | .local _ .vmem, ⟨7, _⟩ => ⟨S256x256, .f32⟩
  | .local _ .vmem, ⟨8, _⟩ => ⟨S256x256, .f32⟩
  | .local _ .vmem, ⟨9, _⟩ => ⟨S256x1, .f32⟩
  | .local _ .vmem, ⟨10, _⟩ => ⟨S256x256, .f32⟩
  | .local _ .vmem, ⟨11, _⟩ => ⟨S256x256, .f32⟩
  | .local _ .vmem, ⟨12, _⟩ => ⟨S128x1, .f32⟩
  | .local _ .vmem, ⟨13, _⟩ => ⟨S128x256, .f32⟩
  | .local _ .vmem, ⟨14, _⟩ => ⟨S128x256, .f32⟩
  | .local _ .vmem, ⟨15, _⟩ => ⟨S128x1, .f32⟩
  | .local _ .vmem, ⟨16, _⟩ => ⟨S128x512, .f32⟩
  | .local _ .vmem, ⟨17, _⟩ => ⟨S128x1, .f32⟩
  | .local _ .vmem, ⟨18, _⟩ => ⟨S128x512, .f32⟩
  | .local _ .vmem, ⟨19, _⟩ => ⟨S128x1, .f32⟩
  | .local _ .vmem, ⟨20, _⟩ => ⟨S128x256, .f32⟩
  | .local _ .vmem, ⟨21, _⟩ => ⟨S128x256, .f32⟩
  | .local _ .vmem, ⟨22, _⟩ => ⟨S2x1, .f32⟩
  | .local _ .vmem, ⟨23, _⟩ => ⟨S2x128, .f32⟩
  | .local _ .vmem, ⟨24, _⟩ => ⟨S2x128, .f32⟩
  | .local _ .vmem, ⟨25, _⟩ => ⟨S2x1, .f32⟩
  | .local _ .vmem, ⟨26, _⟩ => ⟨S2x128, .f32⟩
  | .local _ .vmem, ⟨27, _⟩ => ⟨S2x128, .f32⟩
  | .local _ .vmem, ⟨28, _⟩ => ⟨S2x1, .f32⟩
  | .local _ .vmem, ⟨29, _⟩ => ⟨S2x128, .f32⟩
  | .local _ .vmem, ⟨30, _⟩ => ⟨S2x128, .f32⟩
  | .local _ .vmem, ⟨31, _⟩ => ⟨S2x1, .f32⟩
  | .local _ .vmem, ⟨32, _⟩ => ⟨S2x128, .f32⟩
  | .local _ .vmem, ⟨33, _⟩ => ⟨S2x128, .f32⟩
  | .local _ .vmem, ⟨34, _⟩ => ⟨S2x1, .f32⟩
  | .local _ .vmem, ⟨35, _⟩ => ⟨S2x128, .f32⟩
  | .local _ .vmem, ⟨36, _⟩ => ⟨S2x128, .f32⟩
  | .local _ .vmem, ⟨37, _⟩ => ⟨S2x1, .f32⟩
  | .local _ .vmem, ⟨38, _⟩ => ⟨S2x128, .f32⟩
  | .local _ .vmem, ⟨39, _⟩ => ⟨S2x128, .f32⟩
  | .local _ .vmem, ⟨40, _⟩ => ⟨S2x1, .f32⟩
  | .local _ .vmem, ⟨41, _⟩ => ⟨S2x128, .f32⟩
  | .local _ .vmem, ⟨42, _⟩ => ⟨S2x128, .f32⟩
  | .local _ .vmem, ⟨43, _⟩ => ⟨S2x1, .f32⟩
  | .local _ .vmem, ⟨44, _⟩ => ⟨S2x128, .f32⟩
  | .local _ .vmem, ⟨45, _⟩ => ⟨S2x128, .f32⟩
  | .local _ .vmem, ⟨46, _⟩ => ⟨S256x64, .f32⟩
  | .local _ .vmem, ⟨47, _⟩ => ⟨S256x1, .f32⟩
  | .local _ .vmem, ⟨48, _⟩ => ⟨S1x16x2048, .f32⟩
  | .local _ .vmem, ⟨49, _⟩ => ⟨S1x16x2048, .f32⟩
  | .local _ .vmem, ⟨50, _⟩ => ⟨S256x2304, .f32⟩
  | .local _ .vmem, ⟨51, _⟩ => ⟨S256x2304, .f32⟩
  | .local _ .vmem, ⟨52, _⟩ => ⟨S512x2304, .f32⟩
  | .local _ .vmem, ⟨53, _⟩ => ⟨S512x2304, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg33_0 : Ref sig .tc := ⟨.vmem, 34, rfl⟩
abbrev cc0_stg34_0 : Ref sig .tc := ⟨.vmem, 35, rfl⟩
abbrev cc0_stg35_0 : Ref sig .tc := ⟨.vmem, 36, rfl⟩
abbrev cc0_stg36_0 : Ref sig .tc := ⟨.vmem, 37, rfl⟩
abbrev cc0_stg37_0 : Ref sig .tc := ⟨.vmem, 38, rfl⟩
abbrev cc0_stg38_0 : Ref sig .tc := ⟨.vmem, 39, rfl⟩
abbrev cc0_stg39_0 : Ref sig .tc := ⟨.vmem, 40, rfl⟩
abbrev cc0_stg40_0 : Ref sig .tc := ⟨.vmem, 41, rfl⟩
abbrev cc0_stg41_0 : Ref sig .tc := ⟨.vmem, 42, rfl⟩
abbrev cc0_stg42_0 : Ref sig .tc := ⟨.vmem, 43, rfl⟩
abbrev cc0_stg43_0 : Ref sig .tc := ⟨.vmem, 44, rfl⟩
abbrev cc0_stg44_0 : Ref sig .tc := ⟨.vmem, 45, rfl⟩
abbrev cc0_stg45_0 : Ref sig .tc := ⟨.vmem, 46, rfl⟩
abbrev cc0_stg46_0 : Ref sig .tc := ⟨.vmem, 47, rfl⟩
abbrev cc0_stg47_0 : Ref sig .tc := ⟨.vmem, 48, rfl⟩
abbrev cc0_stg47_1 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_scratch3 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem33_0 : DmaSem sig := 34
abbrev cc0_sem34_0 : DmaSem sig := 35
abbrev cc0_sem35_0 : DmaSem sig := 36
abbrev cc0_sem36_0 : DmaSem sig := 37
abbrev cc0_sem37_0 : DmaSem sig := 38
abbrev cc0_sem38_0 : DmaSem sig := 39
abbrev cc0_sem39_0 : DmaSem sig := 40
abbrev cc0_sem40_0 : DmaSem sig := 41
abbrev cc0_sem41_0 : DmaSem sig := 42
abbrev cc0_sem42_0 : DmaSem sig := 43
abbrev cc0_sem43_0 : DmaSem sig := 44
abbrev cc0_sem44_0 : DmaSem sig := 45
abbrev cc0_sem45_0 : DmaSem sig := 46
abbrev cc0_sem46_0 : DmaSem sig := 47
abbrev cc0_sem47_0 : DmaSem sig := 48
abbrev cc0_sem47_1 : DmaSem sig := 49

abbrev nD : Nat := 1
abbrev τ : Topo := Topo.v7x

variable {F : FTy → Type} [FloatOps F]

abbrev grid0 : Pipeline.Grid := ⟨1, ![8], ![false]⟩

def k0_off1 : Fin 3 → Nat :=
  let c0_91 : Index := 0#32
  let c0_92 : Index := 0#32
  let c0_i32 : BitVec 32 := 0#32
  let c2048_i32 : BitVec 32 := 2048#32
  let v92 : BitVec 32 := Scalar.muli c0_i32 c2048_i32
  let v93 : Index := Scalar.indexCast v92
  ![0, 0, v93.toNat]
def k0_off2 : Fin 2 → Nat :=
  let c0_96 : Index := 0#32
  let c0_i32 : BitVec 32 := 0#32
  let c2048_i32_95 : BitVec 32 := 2048#32
  let v104 : BitVec 32 := Scalar.muli c0_i32 c2048_i32_95
  let c128_i32 : BitVec 32 := 128#32
  let v105 : BitVec 32 := Scalar.addi v104 c128_i32
  let v106 : Index := Scalar.indexCast v105
  ![0, v106.toNat]
def k0_off3 : Fin 2 → Nat :=
  let c0_103 : Index := 0#32
  let c0_i32_101 : BitVec 32 := 0#32
  let c2048_i32_102 : BitVec 32 := 2048#32
  let v118 : BitVec 32 := Scalar.muli c0_i32_101 c2048_i32_102
  let v119 : Index := Scalar.indexCast v118
  ![0, v119.toNat]
def k0_off4 : Fin 2 → Nat :=
  let c0_129 : Index := 0#32
  let c0_i32_120 : BitVec 32 := 0#32
  let c2048_i32_121 : BitVec 32 := 2048#32
  let v153 : BitVec 32 := Scalar.muli c0_i32_120 c2048_i32_121
  let c128_i32_128 : BitVec 32 := 128#32
  let v170 : BitVec 32 := Scalar.addi v153 c128_i32_128
  let v171 : Index := Scalar.indexCast v170
  ![0, v171.toNat]
def k0_off5 : Fin 2 → Nat :=
  let c256 : Index := 256#32
  let c0_i32_120 : BitVec 32 := 0#32
  let c2048_i32_121 : BitVec 32 := 2048#32
  let v153 : BitVec 32 := Scalar.muli c0_i32_120 c2048_i32_121
  let c128_i32_136 : BitVec 32 := 128#32
  let v191 : BitVec 32 := Scalar.addi v153 c128_i32_136
  let v192 : Index := Scalar.indexCast v191
  ![256, v192.toNat]
def k0_off6 : Fin 2 → Nat :=
  let c0_146 : Index := 0#32
  let c0_i32_144 : BitVec 32 := 0#32
  let c2048_i32_145 : BitVec 32 := 2048#32
  let v204 : BitVec 32 := Scalar.muli c0_i32_144 c2048_i32_145
  let v205 : Index := Scalar.indexCast v204
  ![0, v205.toNat]
def k0_off7 : Fin 2 → Nat :=
  let c256_148 : Index := 256#32
  let c0_i32_144 : BitVec 32 := 0#32
  let c2048_i32_145 : BitVec 32 := 2048#32
  let v204 : BitVec 32 := Scalar.muli c0_i32_144 c2048_i32_145
  let v209 : Index := Scalar.indexCast v204
  ![256, v209.toNat]
def k0_off8 : Fin 2 → Nat :=
  let c0_153 : Index := 0#32
  let c0_i32_144 : BitVec 32 := 0#32
  let c2048_i32_145 : BitVec 32 := 2048#32
  let v204 : BitVec 32 := Scalar.muli c0_i32_144 c2048_i32_145
  let c128_i32_152 : BitVec 32 := 128#32
  let v221 : BitVec 32 := Scalar.addi v204 c128_i32_152
  let v222 : Index := Scalar.indexCast v221
  ![0, v222.toNat]
def k0_off9 : Fin 2 → Nat :=
  let c0_154 : Index := 0#32
  let c0_i32_144 : BitVec 32 := 0#32
  let c2048_i32_145 : BitVec 32 := 2048#32
  let v204 : BitVec 32 := Scalar.muli c0_i32_144 c2048_i32_145
  let v226 : Index := Scalar.indexCast v204
  ![0, v226.toNat]
def k0_off10 : Fin 2 → Nat :=
  let c128 : Index := 128#32
  let c0_i32_144 : BitVec 32 := 0#32
  let c2048_i32_145 : BitVec 32 := 2048#32
  let v204 : BitVec 32 := Scalar.muli c0_i32_144 c2048_i32_145
  let c128_i32_158 : BitVec 32 := 128#32
  let v237 : BitVec 32 := Scalar.addi v204 c128_i32_158
  let v238 : Index := Scalar.indexCast v237
  ![128, v238.toNat]
def k0_off11 : Fin 2 → Nat :=
  let c256_164 : Index := 256#32
  let c0_i32_144 : BitVec 32 := 0#32
  let c2048_i32_145 : BitVec 32 := 2048#32
  let v204 : BitVec 32 := Scalar.muli c0_i32_144 c2048_i32_145
  let c128_i32_163 : BitVec 32 := 128#32
  let v253 : BitVec 32 := Scalar.addi v204 c128_i32_163
  let v254 : Index := Scalar.indexCast v253
  ![256, v254.toNat]
def k0_off12 : Fin 2 → Nat :=
  let c384 : Index := 384#32
  let c0_i32_144 : BitVec 32 := 0#32
  let c2048_i32_145 : BitVec 32 := 2048#32
  let v204 : BitVec 32 := Scalar.muli c0_i32_144 c2048_i32_145
  let c128_i32_171 : BitVec 32 := 128#32
  let v274 : BitVec 32 := Scalar.addi v204 c128_i32_171
  let v275 : Index := Scalar.indexCast v274
  ![384, v275.toNat]
def k0_off13 : Fin 2 → Nat :=
  let c0_182 : Index := 0#32
  let c0_i32_180 : BitVec 32 := 0#32
  let c2048_i32_181 : BitVec 32 := 2048#32
  let v287 : BitVec 32 := Scalar.muli c0_i32_180 c2048_i32_181
  let v288 : Index := Scalar.indexCast v287
  ![0, v288.toNat]
def k0_off14 : Fin 2 → Nat :=
  let c384_184 : Index := 384#32
  let c0_i32_180 : BitVec 32 := 0#32
  let c2048_i32_181 : BitVec 32 := 2048#32
  let v287 : BitVec 32 := Scalar.muli c0_i32_180 c2048_i32_181
  let v292 : Index := Scalar.indexCast v287
  ![384, v292.toNat]
def k0_off15 : Fin 2 → Nat :=
  let c0_189 : Index := 0#32
  let c0_i32_180 : BitVec 32 := 0#32
  let c2048_i32_181 : BitVec 32 := 2048#32
  let v287 : BitVec 32 := Scalar.muli c0_i32_180 c2048_i32_181
  let c0_i32_186 : BitVec 32 := 0#32
  let v299 : BitVec 32 := Scalar.addi v287 c0_i32_186
  let v302 : Index := Scalar.indexCast v299
  ![0, v302.toNat]
def k0_off16 : Fin 2 → Nat :=
  let c128_190 : Index := 128#32
  let c0_i32_180 : BitVec 32 := 0#32
  let c2048_i32_181 : BitVec 32 := 2048#32
  let v287 : BitVec 32 := Scalar.muli c0_i32_180 c2048_i32_181
  let v304 : Index := Scalar.indexCast v287
  ![128, v304.toNat]
def k0_off17 : Fin 2 → Nat :=
  let c2 : Index := 2#32
  let c0_i32_180 : BitVec 32 := 0#32
  let c2048_i32_181 : BitVec 32 := 2048#32
  let v287 : BitVec 32 := Scalar.muli c0_i32_180 c2048_i32_181
  let c0_i32_194 : BitVec 32 := 0#32
  let v315 : BitVec 32 := Scalar.addi v287 c0_i32_194
  let v318 : Index := Scalar.indexCast v315
  ![2, v318.toNat]
def k0_off18 : Fin 2 → Nat :=
  let c4 : Index := 4#32
  let c0_i32_180 : BitVec 32 := 0#32
  let c2048_i32_181 : BitVec 32 := 2048#32
  let v287 : BitVec 32 := Scalar.muli c0_i32_180 c2048_i32_181
  let c0_i32_201 : BitVec 32 := 0#32
  let v331 : BitVec 32 := Scalar.addi v287 c0_i32_201
  let v334 : Index := Scalar.indexCast v331
  ![4, v334.toNat]
def k0_off19 : Fin 2 → Nat :=
  let c256_204 : Index := 256#32
  let c0_i32_180 : BitVec 32 := 0#32
  let c2048_i32_181 : BitVec 32 := 2048#32
  let v287 : BitVec 32 := Scalar.muli c0_i32_180 c2048_i32_181
  let v336 : Index := Scalar.indexCast v287
  ![256, v336.toNat]
def k0_off20 : Fin 2 → Nat :=
  let c6 : Index := 6#32
  let c0_i32_180 : BitVec 32 := 0#32
  let c2048_i32_181 : BitVec 32 := 2048#32
  let v287 : BitVec 32 := Scalar.muli c0_i32_180 c2048_i32_181
  let c0_i32_208 : BitVec 32 := 0#32
  let v347 : BitVec 32 := Scalar.addi v287 c0_i32_208
  let v350 : Index := Scalar.indexCast v347
  ![6, v350.toNat]
def k0_off21 : Fin 2 → Nat :=
  let c8 : Index := 8#32
  let c0_i32_180 : BitVec 32 := 0#32
  let c2048_i32_181 : BitVec 32 := 2048#32
  let v287 : BitVec 32 := Scalar.muli c0_i32_180 c2048_i32_181
  let c0_i32_215 : BitVec 32 := 0#32
  let v363 : BitVec 32 := Scalar.addi v287 c0_i32_215
  let v366 : Index := Scalar.indexCast v363
  ![8, v366.toNat]
def k0_off22 : Fin 2 → Nat :=
  let c10 : Index := 10#32
  let c0_i32_180 : BitVec 32 := 0#32
  let c2048_i32_181 : BitVec 32 := 2048#32
  let v287 : BitVec 32 := Scalar.muli c0_i32_180 c2048_i32_181
  let c0_i32_222 : BitVec 32 := 0#32
  let v379 : BitVec 32 := Scalar.addi v287 c0_i32_222
  let v382 : Index := Scalar.indexCast v379
  ![10, v382.toNat]
def k0_off23 : Fin 2 → Nat :=
  let c12 : Index := 12#32
  let c0_i32_180 : BitVec 32 := 0#32
  let c2048_i32_181 : BitVec 32 := 2048#32
  let v287 : BitVec 32 := Scalar.muli c0_i32_180 c2048_i32_181
  let c0_i32_229 : BitVec 32 := 0#32
  let v395 : BitVec 32 := Scalar.addi v287 c0_i32_229
  let v398 : Index := Scalar.indexCast v395
  ![12, v398.toNat]
def k0_off24 : Fin 2 → Nat :=
  let c14 : Index := 14#32
  let c0_i32_180 : BitVec 32 := 0#32
  let c2048_i32_181 : BitVec 32 := 2048#32
  let v287 : BitVec 32 := Scalar.muli c0_i32_180 c2048_i32_181
  let c0_i32_236 : BitVec 32 := 0#32
  let v411 : BitVec 32 := Scalar.addi v287 c0_i32_236
  let v414 : Index := Scalar.indexCast v411
  ![14, v414.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_45 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_47 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S2x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S2x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S2x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S2x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S2x1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S2x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S2x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S2x1 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S2x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S2x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S2x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S2x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S2x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S2x1 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S2x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S2x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S2x1 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S2x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S2x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]

abbrev stage0_45 : Fin 1 → Memref sig .tc .vmem S256x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false]

abbrev stage0_46 : Fin 1 → Memref sig .tc .vmem S256x1 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false]

abbrev stage0_47 : Fin 2 → Memref sig .tc .vmem S1x16x2048 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]
-- ==== RefDecIdeal.lean ====
abbrev S8x64x2048 : Shape := ⟨3, ![8, 64, 2048]⟩
abbrev S64x256x1 : Shape := ⟨3, ![64, 256, 1]⟩
abbrev S256 : Shape := ⟨1, ![256]⟩
abbrev S256x256x3 : Shape := ⟨3, ![256, 256, 3]⟩
abbrev S256x256x4 : Shape := ⟨3, ![256, 256, 4]⟩
abbrev S256x128x4 : Shape := ⟨3, ![256, 128, 4]⟩
abbrev S128 : Shape := ⟨1, ![128]⟩
abbrev S128x2x4 : Shape := ⟨3, ![128, 2, 4]⟩
abbrev S2 : Shape := ⟨1, ![2]⟩
abbrev S64x8x2048 : Shape := ⟨3, ![64, 8, 2048]⟩
abbrev S_ : Shape := ⟨0, ![]⟩
abbrev S64x256 : Shape := ⟨2, ![64, 256]⟩
abbrev S256x8x2048 : Shape := ⟨3, ![256, 8, 2048]⟩
abbrev S256x8x2050 : Shape := ⟨3, ![256, 8, 2050]⟩
abbrev S256x256x1 : Shape := ⟨3, ![256, 256, 1]⟩
abbrev S256x256 : Shape := ⟨2, ![256, 256]⟩
abbrev S256x8x4099 : Shape := ⟨3, ![256, 8, 4099]⟩
abbrev S256x8x4096 : Shape := ⟨3, ![256, 8, 4096]⟩
abbrev S256x8x8195 : Shape := ⟨3, ![256, 8, 8195]⟩
abbrev S256x128x1 : Shape := ⟨3, ![256, 128, 1]⟩
abbrev S256x128 : Shape := ⟨2, ![256, 128]⟩
abbrev S256x8x8192 : Shape := ⟨3, ![256, 8, 8192]⟩
abbrev S128x8x8192 : Shape := ⟨3, ![128, 8, 8192]⟩
abbrev S128x8x16387 : Shape := ⟨3, ![128, 8, 16387]⟩
abbrev S128x2x1 : Shape := ⟨3, ![128, 2, 1]⟩
abbrev S128x2 : Shape := ⟨2, ![128, 2]⟩
abbrev S128x8x16384 : Shape := ⟨3, ![128, 8, 16384]⟩
abbrev S2x8x16384 : Shape := ⟨3, ![2, 8, 16384]⟩
abbrev S2x8x2048x8 : Shape := ⟨4, ![2, 8, 2048, 8]⟩
abbrev S8x8x2x2048 : Shape := ⟨4, ![8, 8, 2, 2048]⟩
abbrev S8x16x2048 : Shape := ⟨3, ![8, 16, 2048]⟩

abbrev nBuf : Space → Nat
  | .hbm => 140
  | .vmem => 0
  | .smem => 0
  | _ => 0

abbrev hbmTy0_0 (i : Nat) : BufTy := match i % 128 with
  | 0 => ⟨S8x64x2048, .f32⟩
  | 1 => ⟨S64x256x1, .f32⟩
  | 2 => ⟨S256, .f32⟩
  | 3 => ⟨S256x256x3, .f32⟩
  | 4 => ⟨S256, .f32⟩
  | 5 => ⟨S256x256x4, .f32⟩
  | 6 => ⟨S256, .f32⟩
  | 7 => ⟨S256x128x4, .f32⟩
  | 8 => ⟨S128, .f32⟩
  | 9 => ⟨S128x2x4, .f32⟩
  | 10 => ⟨S2, .f32⟩
  | 11 => ⟨S64x8x2048, .f32⟩
  | 12 => ⟨S_, .f32⟩
  | 13 => ⟨S64x8x2048, .f32⟩
  | 14 => ⟨S64x256, .f32⟩
  | 15 => ⟨S256x8x2048, .f32⟩
  | 16 => ⟨S256x8x2048, .f32⟩
  | 17 => ⟨S256x8x2048, .f32⟩
  | 18 => ⟨S_, .f32⟩
  | 19 => ⟨S_, .f32⟩
  | 20 => ⟨S256x8x2048, .f32⟩
  | 21 => ⟨S256x8x2048, .i1⟩
  | 22 => ⟨S_, .f32⟩
  | 23 => ⟨S256x8x2048, .f32⟩
  | 24 => ⟨S256x8x2048, .f32⟩
  | 25 => ⟨S256x8x2048, .f32⟩
  | 26 => ⟨S_, .f32⟩
  | 27 => ⟨S256x8x2050, .f32⟩
  | 28 => ⟨S256x256x1, .f32⟩
  | 29 => ⟨S256x256, .f32⟩
  | 30 => ⟨S256x256x1, .f32⟩
  | 31 => ⟨S256x256, .f32⟩
  | 32 => ⟨S256x256x1, .f32⟩
  | 33 => ⟨S256x256, .f32⟩
  | 34 => ⟨S256x8x2048, .f32⟩
  | 35 => ⟨S256x8x2048, .f32⟩
  | 36 => ⟨S256x8x2048, .f32⟩
  | 37 => ⟨S256x8x2048, .f32⟩
  | 38 => ⟨S256x8x2048, .f32⟩
  | 39 => ⟨S256x8x2048, .f32⟩
  | 40 => ⟨S256x8x2048, .f32⟩
  | 41 => ⟨S256x8x2048, .f32⟩
  | 42 => ⟨S256x8x2048, .f32⟩
  | 43 => ⟨S256x8x2048, .f32⟩
  | 44 => ⟨S_, .f32⟩
  | 45 => ⟨S_, .f32⟩
  | 46 => ⟨S256x8x2048, .f32⟩
  | 47 => ⟨S256x8x2048, .i1⟩
  | 48 => ⟨S_, .f32⟩
  | 49 => ⟨S256x8x2048, .f32⟩
  | 50 => ⟨S256x8x2048, .f32⟩
  | 51 => ⟨S256x8x2048, .f32⟩
  | 52 => ⟨S_, .f32⟩
  | 53 => ⟨S256x8x4099, .f32⟩
  | 54 => ⟨S256x256x1, .f32⟩
  | 55 => ⟨S256x256, .f32⟩
  | 56 => ⟨S256x256x1, .f32⟩
  | 57 => ⟨S256x256, .f32⟩
  | 58 => ⟨S256x256x1, .f32⟩
  | 59 => ⟨S256x256, .f32⟩
  | 60 => ⟨S256x256x1, .f32⟩
  | 61 => ⟨S256x256, .f32⟩
  | 62 => ⟨S256x8x4096, .f32⟩
  | 63 => ⟨S256x8x4096, .f32⟩
  | 64 => ⟨S256x8x4096, .f32⟩
  | 65 => ⟨S256x8x4096, .f32⟩
  | 66 => ⟨S256x8x4096, .f32⟩
  | 67 => ⟨S256x8x4096, .f32⟩
  | 68 => ⟨S256x8x4096, .f32⟩
  | 69 => ⟨S256x8x4096, .f32⟩
  | 70 => ⟨S256x8x4096, .f32⟩
  | 71 => ⟨S256x8x4096, .f32⟩
  | 72 => ⟨S256x8x4096, .f32⟩
  | 73 => ⟨S256x8x4096, .f32⟩
  | 74 => ⟨S256x8x4096, .f32⟩
  | 75 => ⟨S_, .f32⟩
  | 76 => ⟨S_, .f32⟩
  | 77 => ⟨S256x8x4096, .f32⟩
  | 78 => ⟨S256x8x4096, .i1⟩
  | 79 => ⟨S_, .f32⟩
  | 80 => ⟨S256x8x4096, .f32⟩
  | 81 => ⟨S256x8x4096, .f32⟩
  | 82 => ⟨S256x8x4096, .f32⟩
  | 83 => ⟨S_, .f32⟩
  | 84 => ⟨S256x8x8195, .f32⟩
  | 85 => ⟨S256x128x1, .f32⟩
  | 86 => ⟨S256x128, .f32⟩
  | 87 => ⟨S256x128x1, .f32⟩
  | 88 => ⟨S256x128, .f32⟩
  | 89 => ⟨S256x128x1, .f32⟩
  | 90 => ⟨S256x128, .f32⟩
  | 91 => ⟨S256x128x1, .f32⟩
  | 92 => ⟨S256x128, .f32⟩
  | 93 => ⟨S256x8x8192, .f32⟩
  | 94 => ⟨S128x8x8192, .f32⟩
  | 95 => ⟨S256x8x8192, .f32⟩
  | 96 => ⟨S128x8x8192, .f32⟩
  | 97 => ⟨S256x8x8192, .f32⟩
  | 98 => ⟨S128x8x8192, .f32⟩
  | 99 => ⟨S256x8x8192, .f32⟩
  | 100 => ⟨S128x8x8192, .f32⟩
  | 101 => ⟨S128x8x8192, .f32⟩
  | 102 => ⟨S128x8x8192, .f32⟩
  | 103 => ⟨S128x8x8192, .f32⟩
  | 104 => ⟨S128x8x8192, .f32⟩
  | 105 => ⟨S128x8x8192, .f32⟩
  | 106 => ⟨S_, .f32⟩
  | 107 => ⟨S_, .f32⟩
  | 108 => ⟨S128x8x8192, .f32⟩
  | 109 => ⟨S128x8x8192, .i1⟩
  | 110 => ⟨S_, .f32⟩
  | 111 => ⟨S128x8x8192, .f32⟩
  | 112 => ⟨S128x8x8192, .f32⟩
  | 113 => ⟨S128x8x8192, .f32⟩
  | 114 => ⟨S_, .f32⟩
  | 115 => ⟨S128x8x16387, .f32⟩
  | 116 => ⟨S128x2x1, .f32⟩
  | 117 => ⟨S128x2, .f32⟩
  | 118 => ⟨S128x2x1, .f32⟩
  | 119 => ⟨S128x2, .f32⟩
  | 120 => ⟨S128x2x1, .f32⟩
  | 121 => ⟨S128x2, .f32⟩
  | 122 => ⟨S128x2x1, .f32⟩
  | 123 => ⟨S128x2, .f32⟩
  | 124 => ⟨S128x8x16384, .f32⟩
  | 125 => ⟨S2x8x16384, .f32⟩
  | 126 => ⟨S128x8x16384, .f32⟩
  | 127 => ⟨S2x8x16384, .f32⟩
  | _ => ⟨S8x64x2048, .f32⟩

abbrev hbmTy0_1 (i : Nat) : BufTy := match i % 128 with
  | 0 => ⟨S128x8x16384, .f32⟩
  | 1 => ⟨S2x8x16384, .f32⟩
  | 2 => ⟨S128x8x16384, .f32⟩
  | 3 => ⟨S2x8x16384, .f32⟩
  | 4 => ⟨S2x8x16384, .f32⟩
  | 5 => ⟨S2x8x16384, .f32⟩
  | 6 => ⟨S2x8x16384, .f32⟩
  | 7 => ⟨S2x8x16384, .f32⟩
  | 8 => ⟨S2x8x16384, .f32⟩
  | 9 => ⟨S2x8x2048x8, .f32⟩
  | 10 => ⟨S8x8x2x2048, .f32⟩
  | 11 => ⟨S8x16x2048, .f32⟩
  | _ => ⟨S8x64x2048, .f32⟩

abbrev hbmTy (i : Nat) : BufTy := match i / 128 with
  | 0 => hbmTy0_0 i
  | 1 => hbmTy0_1 i
  | _ => ⟨S8x64x2048, .f32⟩

abbrev bufTy : (tb : Table) → Fin (tcTables nBuf tb) → BufTy
  | .hbm, ⟨i, _⟩ => hbmTy i
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v47 : Ref sig .tc := ⟨.hbm, 82, rfl⟩
abbrev main_cst_5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_6 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v70 : Ref sig .tc := ⟨.hbm, 113, rfl⟩
abbrev main_cst_7 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩

abbrev nD : Nat := 1
abbrev τ : Topo := Topo.v7x

variable {F : FTy → Type} [FloatOps F]
-- ==== Enc.lean ====
abbrev S8x2x16384 : Shape := ⟨3, ![8, 2, 16384]⟩
abbrev S128x2x4 : Shape := ⟨3, ![128, 2, 4]⟩
abbrev S128 : Shape := ⟨1, ![128]⟩
abbrev S256x128x4 : Shape := ⟨3, ![256, 128, 4]⟩
abbrev S256 : Shape := ⟨1, ![256]⟩
abbrev S256x256x4 : Shape := ⟨3, ![256, 256, 4]⟩
abbrev S256x256x3 : Shape := ⟨3, ![256, 256, 3]⟩
abbrev S64x256x1 : Shape := ⟨3, ![64, 256, 1]⟩
abbrev S64 : Shape := ⟨1, ![64]⟩
abbrev S64x64x1 : Shape := ⟨3, ![64, 64, 1]⟩
abbrev S8x2x2048x8 : Shape := ⟨4, ![8, 2, 2048, 8]⟩
abbrev S8x8x2x2048 : Shape := ⟨4, ![8, 8, 2, 2048]⟩
abbrev S8x16x2048 : Shape := ⟨3, ![8, 16, 2048]⟩
abbrev S4x128x2 : Shape := ⟨3, ![4, 128, 2]⟩
abbrev S4x256x128 : Shape := ⟨3, ![4, 256, 128]⟩
abbrev S4x256x256 : Shape := ⟨3, ![4, 256, 256]⟩
abbrev S3x256x256 : Shape := ⟨3, ![3, 256, 256]⟩
abbrev S128x1 : Shape := ⟨2, ![128, 1]⟩
abbrev S1x128x2 : Shape := ⟨3, ![1, 128, 2]⟩
abbrev S128x2 : Shape := ⟨2, ![128, 2]⟩
abbrev S128x6 : Shape := ⟨2, ![128, 6]⟩
abbrev S128x8 : Shape := ⟨2, ![128, 8]⟩
abbrev S256x1 : Shape := ⟨2, ![256, 1]⟩
abbrev S1x256x128 : Shape := ⟨3, ![1, 256, 128]⟩
abbrev S256x128 : Shape := ⟨2, ![256, 128]⟩
abbrev S256x384 : Shape := ⟨2, ![256, 384]⟩
abbrev S1x256x256 : Shape := ⟨3, ![1, 256, 256]⟩
abbrev S256x256 : Shape := ⟨2, ![256, 256]⟩
abbrev S256x512 : Shape := ⟨2, ![256, 512]⟩
abbrev S64x256 : Shape := ⟨2, ![64, 256]⟩
abbrev S64x1 : Shape := ⟨2, ![64, 1]⟩
abbrev S64x64 : Shape := ⟨2, ![64, 64]⟩
abbrev S8x64x2048 : Shape := ⟨3, ![8, 64, 2048]⟩
abbrev S1x16x2048 : Shape := ⟨3, ![1, 16, 2048]⟩
abbrev S1x64x2048 : Shape := ⟨3, ![1, 64, 2048]⟩
abbrev S16x2304 : Shape := ⟨2, ![16, 2304]⟩
abbrev S512x2304 : Shape := ⟨2, ![512, 2304]⟩
abbrev S256x2304 : Shape := ⟨2, ![256, 2304]⟩
abbrev S16x2048 : Shape := ⟨2, ![16, 2048]⟩
abbrev S16x1 : Shape := ⟨2, ![16, 1]⟩
abbrev S6x2304 : Shape := ⟨2, ![6, 2304]⟩
abbrev S6x2048 : Shape := ⟨2, ![6, 2048]⟩
abbrev S128x2048 : Shape := ⟨2, ![128, 2048]⟩
abbrev S2x2304 : Shape := ⟨2, ![2, 2304]⟩
abbrev S2x2048 : Shape := ⟨2, ![2, 2048]⟩
abbrev S8x2304 : Shape := ⟨2, ![8, 2304]⟩
abbrev S8x2048 : Shape := ⟨2, ![8, 2048]⟩
abbrev S512x1 : Shape := ⟨2, ![512, 1]⟩
abbrev S384x2304 : Shape := ⟨2, ![384, 2304]⟩
abbrev S384x2048 : Shape := ⟨2, ![384, 2048]⟩
abbrev S256x2048 : Shape := ⟨2, ![256, 2048]⟩
abbrev S128x2304 : Shape := ⟨2, ![128, 2304]⟩
abbrev S512x2048 : Shape := ⟨2, ![512, 2048]⟩
abbrev S64x2048 : Shape := ⟨2, ![64, 2048]⟩

abbrev nBuf : Space → Nat
  | .hbm => 98
  | .vmem => 37
  | .smem => 0
  | _ => 0

abbrev bufTy : (tb : Table) → Fin (tcTables nBuf tb) → BufTy
  | .hbm, ⟨0, _⟩ => ⟨S8x2x16384, .f32⟩
  | .hbm, ⟨1, _⟩ => ⟨S128x2x4, .f32⟩
  | .hbm, ⟨2, _⟩ => ⟨S128, .f32⟩
  | .hbm, ⟨3, _⟩ => ⟨S256x128x4, .f32⟩
  | .hbm, ⟨4, _⟩ => ⟨S256, .f32⟩
  | .hbm, ⟨5, _⟩ => ⟨S256x256x4, .f32⟩
  | .hbm, ⟨6, _⟩ => ⟨S256, .f32⟩
  | .hbm, ⟨7, _⟩ => ⟨S256x256x3, .f32⟩
  | .hbm, ⟨8, _⟩ => ⟨S256, .f32⟩
  | .hbm, ⟨9, _⟩ => ⟨S64x256x1, .f32⟩
  | .hbm, ⟨10, _⟩ => ⟨S64, .f32⟩
  | .hbm, ⟨11, _⟩ => ⟨S64x64x1, .f32⟩
  | .hbm, ⟨12, _⟩ => ⟨S64, .f32⟩
  | .hbm, ⟨13, _⟩ => ⟨S8x2x2048x8, .f32⟩
  | .hbm, ⟨14, _⟩ => ⟨S8x8x2x2048, .f32⟩
  | .hbm, ⟨15, _⟩ => ⟨S8x16x2048, .f32⟩
  | .hbm, ⟨16, _⟩ => ⟨S4x128x2, .f32⟩
  | .hbm, ⟨17, _⟩ => ⟨S4x256x128, .f32⟩
  | .hbm, ⟨18, _⟩ => ⟨S4x256x256, .f32⟩
  | .hbm, ⟨19, _⟩ => ⟨S3x256x256, .f32⟩
  | .hbm, ⟨20, _⟩ => ⟨S128x1, .f32⟩
  | .hbm, ⟨21, _⟩ => ⟨S1x128x2, .f32⟩
  | .hbm, ⟨22, _⟩ => ⟨S128x2, .f32⟩
  | .hbm, ⟨23, _⟩ => ⟨S1x128x2, .f32⟩
  | .hbm, ⟨24, _⟩ => ⟨S128x2, .f32⟩
  | .hbm, ⟨25, _⟩ => ⟨S1x128x2, .f32⟩
  | .hbm, ⟨26, _⟩ => ⟨S128x2, .f32⟩
  | .hbm, ⟨27, _⟩ => ⟨S128x6, .f32⟩
  | .hbm, ⟨28, _⟩ => ⟨S1x128x2, .f32⟩
  | .hbm, ⟨29, _⟩ => ⟨S128x2, .f32⟩
  | .hbm, ⟨30, _⟩ => ⟨S1x128x2, .f32⟩
  | .hbm, ⟨31, _⟩ => ⟨S128x2, .f32⟩
  | .hbm, ⟨32, _⟩ => ⟨S1x128x2, .f32⟩
  | .hbm, ⟨33, _⟩ => ⟨S128x2, .f32⟩
  | .hbm, ⟨34, _⟩ => ⟨S1x128x2, .f32⟩
  | .hbm, ⟨35, _⟩ => ⟨S128x2, .f32⟩
  | .hbm, ⟨36, _⟩ => ⟨S1x128x2, .f32⟩
  | .hbm, ⟨37, _⟩ => ⟨S128x2, .f32⟩
  | .hbm, ⟨38, _⟩ => ⟨S128x8, .f32⟩
  | .hbm, ⟨39, _⟩ => ⟨S1x128x2, .f32⟩
  | .hbm, ⟨40, _⟩ => ⟨S128x2, .f32⟩
  | .hbm, ⟨41, _⟩ => ⟨S1x128x2, .f32⟩
  | .hbm, ⟨42, _⟩ => ⟨S128x2, .f32⟩
  | .hbm, ⟨43, _⟩ => ⟨S1x128x2, .f32⟩
  | .hbm, ⟨44, _⟩ => ⟨S128x2, .f32⟩
  | .hbm, ⟨45, _⟩ => ⟨S1x128x2, .f32⟩
  | .hbm, ⟨46, _⟩ => ⟨S128x2, .f32⟩
  | .hbm, ⟨47, _⟩ => ⟨S128x8, .f32⟩
  | .hbm, ⟨48, _⟩ => ⟨S1x128x2, .f32⟩
  | .hbm, ⟨49, _⟩ => ⟨S128x2, .f32⟩
  | .hbm, ⟨50, _⟩ => ⟨S1x128x2, .f32⟩
  | .hbm, ⟨51, _⟩ => ⟨S128x2, .f32⟩
  | .hbm, ⟨52, _⟩ => ⟨S1x128x2, .f32⟩
  | .hbm, ⟨53, _⟩ => ⟨S128x2, .f32⟩
  | .hbm, ⟨54, _⟩ => ⟨S128x6, .f32⟩
  | .hbm, ⟨55, _⟩ => ⟨S1x128x2, .f32⟩
  | .hbm, ⟨56, _⟩ => ⟨S128x2, .f32⟩
  | .hbm, ⟨57, _⟩ => ⟨S256x1, .f32⟩
  | .hbm, ⟨58, _⟩ => ⟨S1x256x128, .f32⟩
  | .hbm, ⟨59, _⟩ => ⟨S256x128, .f32⟩
  | .hbm, ⟨60, _⟩ => ⟨S1x256x128, .f32⟩
  | .hbm, ⟨61, _⟩ => ⟨S256x128, .f32⟩
  | .hbm, ⟨62, _⟩ => ⟨S1x256x128, .f32⟩
  | .hbm, ⟨63, _⟩ => ⟨S256x128, .f32⟩
  | .hbm, ⟨64, _⟩ => ⟨S256x384, .f32⟩
  | .hbm, ⟨65, _⟩ => ⟨S1x256x128, .f32⟩
  | .hbm, ⟨66, _⟩ => ⟨S256x128, .f32⟩
  | .hbm, ⟨67, _⟩ => ⟨S1x256x128, .f32⟩
  | .hbm, ⟨68, _⟩ => ⟨S256x128, .f32⟩
  | .hbm, ⟨69, _⟩ => ⟨S1x256x128, .f32⟩
  | .hbm, ⟨70, _⟩ => ⟨S256x128, .f32⟩
  | .hbm, ⟨71, _⟩ => ⟨S1x256x128, .f32⟩
  | .hbm, ⟨72, _⟩ => ⟨S256x128, .f32⟩
  | .hbm, ⟨73, _⟩ => ⟨S256x384, .f32⟩
  | .hbm, ⟨74, _⟩ => ⟨S1x256x128, .f32⟩
  | .hbm, ⟨75, _⟩ => ⟨S256x128, .f32⟩
  | .hbm, ⟨76, _⟩ => ⟨S256x1, .f32⟩
  | .hbm, ⟨77, _⟩ => ⟨S1x256x256, .f32⟩
  | .hbm, ⟨78, _⟩ => ⟨S256x256, .f32⟩
  | .hbm, ⟨79, _⟩ => ⟨S1x256x256, .f32⟩
  | .hbm, ⟨80, _⟩ => ⟨S256x256, .f32⟩
  | .hbm, ⟨81, _⟩ => ⟨S256x512, .f32⟩
  | .hbm, ⟨82, _⟩ => ⟨S1x256x256, .f32⟩
  | .hbm, ⟨83, _⟩ => ⟨S256x256, .f32⟩
  | .hbm, ⟨84, _⟩ => ⟨S1x256x256, .f32⟩
  | .hbm, ⟨85, _⟩ => ⟨S256x256, .f32⟩
  | .hbm, ⟨86, _⟩ => ⟨S256x1, .f32⟩
  | .hbm, ⟨87, _⟩ => ⟨S1x256x256, .f32⟩
  | .hbm, ⟨88, _⟩ => ⟨S256x256, .f32⟩
  | .hbm, ⟨89, _⟩ => ⟨S1x256x256, .f32⟩
  | .hbm, ⟨90, _⟩ => ⟨S256x256, .f32⟩
  | .hbm, ⟨91, _⟩ => ⟨S1x256x256, .f32⟩
  | .hbm, ⟨92, _⟩ => ⟨S256x256, .f32⟩
  | .hbm, ⟨93, _⟩ => ⟨S64x256, .f32⟩
  | .hbm, ⟨94, _⟩ => ⟨S64x1, .f32⟩
  | .hbm, ⟨95, _⟩ => ⟨S64x64, .f32⟩
  | .hbm, ⟨96, _⟩ => ⟨S64x1, .f32⟩
  | .hbm, ⟨97, _⟩ => ⟨S8x64x2048, .f32⟩
  | .local _ .vmem, ⟨0, _⟩ => ⟨S1x16x2048, .f32⟩
  | .local _ .vmem, ⟨1, _⟩ => ⟨S1x16x2048, .f32⟩
  | .local _ .vmem, ⟨2, _⟩ => ⟨S128x1, .f32⟩
  | .local _ .vmem, ⟨3, _⟩ => ⟨S128x6, .f32⟩
  | .local _ .vmem, ⟨4, _⟩ => ⟨S128x2, .f32⟩
  | .local _ .vmem, ⟨5, _⟩ => ⟨S128x1, .f32⟩
  | .local _ .vmem, ⟨6, _⟩ => ⟨S128x8, .f32⟩
  | .local _ .vmem, ⟨7, _⟩ => ⟨S128x1, .f32⟩
  | .local _ .vmem, ⟨8, _⟩ => ⟨S128x8, .f32⟩
  | .local _ .vmem, ⟨9, _⟩ => ⟨S128x1, .f32⟩
  | .local _ .vmem, ⟨10, _⟩ => ⟨S128x6, .f32⟩
  | .local _ .vmem, ⟨11, _⟩ => ⟨S128x2, .f32⟩
  | .local _ .vmem, ⟨12, _⟩ => ⟨S256x1, .f32⟩
  | .local _ .vmem, ⟨13, _⟩ => ⟨S256x384, .f32⟩
  | .local _ .vmem, ⟨14, _⟩ => ⟨S256x128, .f32⟩
  | .local _ .vmem, ⟨15, _⟩ => ⟨S256x1, .f32⟩
  | .local _ .vmem, ⟨16, _⟩ => ⟨S256x384, .f32⟩
  | .local _ .vmem, ⟨17, _⟩ => ⟨S256x128, .f32⟩
  | .local _ .vmem, ⟨18, _⟩ => ⟨S256x1, .f32⟩
  | .local _ .vmem, ⟨19, _⟩ => ⟨S256x512, .f32⟩
  | .local _ .vmem, ⟨20, _⟩ => ⟨S256x256, .f32⟩
  | .local _ .vmem, ⟨21, _⟩ => ⟨S256x256, .f32⟩
  | .local _ .vmem, ⟨22, _⟩ => ⟨S256x1, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S64x256, .f32⟩
  | .local _ .vmem, ⟨27, _⟩ => ⟨S64x1, .f32⟩
  | .local _ .vmem, ⟨28, _⟩ => ⟨S64x64, .f32⟩
  | .local _ .vmem, ⟨29, _⟩ => ⟨S64x1, .f32⟩
  | .local _ .vmem, ⟨30, _⟩ => ⟨S1x64x2048, .f32⟩
  | .local _ .vmem, ⟨31, _⟩ => ⟨S1x64x2048, .f32⟩
  | .local _ .vmem, ⟨32, _⟩ => ⟨S16x2304, .f32⟩
  | .local _ .vmem, ⟨33, _⟩ => ⟨S512x2304, .f32⟩
  | .local _ .vmem, ⟨34, _⟩ => ⟨S512x2304, .f32⟩
  | .local _ .vmem, ⟨35, _⟩ => ⟨S256x2304, .f32⟩
  | .local _ .vmem, ⟨36, _⟩ => ⟨S256x2304, .f32⟩
  | _, _ => ⟨S8x2x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg29_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem29_1 : DmaSem sig := 31

abbrev nD : Nat := 1
abbrev τ : Topo := Topo.v7x

variable {F : FTy → Type} [FloatOps F]

abbrev grid0 : Pipeline.Grid := ⟨1, ![8], ![false]⟩

def k0_off1 : Fin 2 → Nat :=
  let c0_62 : Index := 0#32
  let c0_i32 : BitVec 32 := 0#32
  let c2048_i32 : BitVec 32 := 2048#32
  let v69 : BitVec 32 := Scalar.muli c0_i32 c2048_i32
  let v70 : Index := Scalar.indexCast v69
  ![0, v70.toNat]
def k0_off2 : Fin 2 → Nat :=
  let c14 : Index := 14#32
  let c0_i32 : BitVec 32 := 0#32
  let c2048_i32 : BitVec 32 := 2048#32
  let v69 : BitVec 32 := Scalar.muli c0_i32 c2048_i32
  let v74 : Index := Scalar.indexCast v69
  ![14, v74.toNat]
def k0_off3 : Fin 2 → Nat :=
  let c0_67 : Index := 0#32
  let c0_i32 : BitVec 32 := 0#32
  let c2048_i32 : BitVec 32 := 2048#32
  let v69 : BitVec 32 := Scalar.muli c0_i32 c2048_i32
  let c128_i32 : BitVec 32 := 128#32
  let v86 : BitVec 32 := Scalar.addi v69 c128_i32
  let v87 : Index := Scalar.indexCast v86
  ![0, v87.toNat]
def k0_off4 : Fin 2 → Nat :=
  let c2 : Index := 2#32
  let c0_i32 : BitVec 32 := 0#32
  let c2048_i32 : BitVec 32 := 2048#32
  let v69 : BitVec 32 := Scalar.muli c0_i32 c2048_i32
  let v91 : Index := Scalar.indexCast v69
  ![2, v91.toNat]
def k0_off5 : Fin 2 → Nat :=
  let c128_72 : Index := 128#32
  let c0_i32 : BitVec 32 := 0#32
  let c2048_i32 : BitVec 32 := 2048#32
  let v69 : BitVec 32 := Scalar.muli c0_i32 c2048_i32
  let c128_i32_71 : BitVec 32 := 128#32
  let v102 : BitVec 32 := Scalar.addi v69 c128_i32_71
  let v103 : Index := Scalar.indexCast v102
  ![128, v103.toNat]
def k0_off6 : Fin 2 → Nat :=
  let c6 : Index := 6#32
  let c0_i32 : BitVec 32 := 0#32
  let c2048_i32 : BitVec 32 := 2048#32
  let v69 : BitVec 32 := Scalar.muli c0_i32 c2048_i32
  let v107 : Index := Scalar.indexCast v69
  ![6, v107.toNat]
def k0_off7 : Fin 2 → Nat :=
  let c256 : Index := 256#32
  let c0_i32 : BitVec 32 := 0#32
  let c2048_i32 : BitVec 32 := 2048#32
  let v69 : BitVec 32 := Scalar.muli c0_i32 c2048_i32
  let c128_i32_76 : BitVec 32 := 128#32
  let v118 : BitVec 32 := Scalar.addi v69 c128_i32_76
  let v119 : Index := Scalar.indexCast v118
  ![256, v119.toNat]
def k0_off8 : Fin 2 → Nat :=
  let c10 : Index := 10#32
  let c0_i32 : BitVec 32 := 0#32
  let c2048_i32 : BitVec 32 := 2048#32
  let v69 : BitVec 32 := Scalar.muli c0_i32 c2048_i32
  let v123 : Index := Scalar.indexCast v69
  ![10, v123.toNat]
def k0_off9 : Fin 2 → Nat :=
  let c0_78 : Index := 0#32
  let c0_i32 : BitVec 32 := 0#32
  let c2048_i32 : BitVec 32 := 2048#32
  let v69 : BitVec 32 := Scalar.muli c0_i32 c2048_i32
  let v127 : Index := Scalar.indexCast v69
  ![0, v127.toNat]
def k0_off10 : Fin 2 → Nat :=
  let c384 : Index := 384#32
  let c0_i32 : BitVec 32 := 0#32
  let c2048_i32 : BitVec 32 := 2048#32
  let v69 : BitVec 32 := Scalar.muli c0_i32 c2048_i32
  let c128_i32_82 : BitVec 32 := 128#32
  let v139 : BitVec 32 := Scalar.addi v69 c128_i32_82
  let v140 : Index := Scalar.indexCast v139
  ![384, v140.toNat]
def k0_off11 : Fin 2 → Nat :=
  let c0_91 : Index := 0#32
  let c0_i32_89 : BitVec 32 := 0#32
  let c2048_i32_90 : BitVec 32 := 2048#32
  let v152 : BitVec 32 := Scalar.muli c0_i32_89 c2048_i32_90
  let v153 : Index := Scalar.indexCast v152
  ![0, v153.toNat]
def k0_off12 : Fin 2 → Nat :=
  let c384_93 : Index := 384#32
  let c0_i32_89 : BitVec 32 := 0#32
  let c2048_i32_90 : BitVec 32 := 2048#32
  let v152 : BitVec 32 := Scalar.muli c0_i32_89 c2048_i32_90
  let v157 : Index := Scalar.indexCast v152
  ![384, v157.toNat]
def k0_off13 : Fin 2 → Nat :=
  let c0_98 : Index := 0#32
  let c0_i32_89 : BitVec 32 := 0#32
  let c2048_i32_90 : BitVec 32 := 2048#32
  let v152 : BitVec 32 := Scalar.muli c0_i32_89 c2048_i32_90
  let c128_i32_97 : BitVec 32 := 128#32
  let v169 : BitVec 32 := Scalar.addi v152 c128_i32_97
  let v170 : Index := Scalar.indexCast v169
  ![0, v170.toNat]
def k0_off14 : Fin 2 → Nat :=
  let c128_99 : Index := 128#32
  let c0_i32_89 : BitVec 32 := 0#32
  let c2048_i32_90 : BitVec 32 := 2048#32
  let v152 : BitVec 32 := Scalar.muli c0_i32_89 c2048_i32_90
  let v174 : Index := Scalar.indexCast v152
  ![128, v174.toNat]
def k0_off15 : Fin 2 → Nat :=
  let c0_101 : Index := 0#32
  let c0_i32_89 : BitVec 32 := 0#32
  let c2048_i32_90 : BitVec 32 := 2048#32
  let v152 : BitVec 32 := Scalar.muli c0_i32_89 c2048_i32_90
  let v178 : Index := Scalar.indexCast v152
  ![0, v178.toNat]
def k0_off16 : Fin 2 → Nat :=
  let c256_106 : Index := 256#32
  let c0_i32_89 : BitVec 32 := 0#32
  let c2048_i32_90 : BitVec 32 := 2048#32
  let v152 : BitVec 32 := Scalar.muli c0_i32_89 c2048_i32_90
  let c128_i32_105 : BitVec 32 := 128#32
  let v190 : BitVec 32 := Scalar.addi v152 c128_i32_105
  let v191 : Index := Scalar.indexCast v190
  ![256, v191.toNat]
def k0_off17 : Fin 2 → Nat :=
  let c0_116 : Index := 0#32
  let c0_i32_114 : BitVec 32 := 0#32
  let c2048_i32_115 : BitVec 32 := 2048#32
  let v203 : BitVec 32 := Scalar.muli c0_i32_114 c2048_i32_115
  let v204 : Index := Scalar.indexCast v203
  ![0, v204.toNat]
def k0_off18 : Fin 2 → Nat :=
  let c256_118 : Index := 256#32
  let c0_i32_114 : BitVec 32 := 0#32
  let c2048_i32_115 : BitVec 32 := 2048#32
  let v203 : BitVec 32 := Scalar.muli c0_i32_114 c2048_i32_115
  let v208 : Index := Scalar.indexCast v203
  ![256, v208.toNat]
def k0_off19 : Fin 2 → Nat :=
  let c0_120 : Index := 0#32
  let c0_i32_114 : BitVec 32 := 0#32
  let c2048_i32_115 : BitVec 32 := 2048#32
  let v203 : BitVec 32 := Scalar.muli c0_i32_114 c2048_i32_115
  let v213 : Index := Scalar.indexCast v203
  ![0, v213.toNat]
def k0_off20 : Fin 2 → Nat :=
  let c0_125 : Index := 0#32
  let c0_i32_114 : BitVec 32 := 0#32
  let c2048_i32_115 : BitVec 32 := 2048#32
  let v203 : BitVec 32 := Scalar.muli c0_i32_114 c2048_i32_115
  let c128_i32_124 : BitVec 32 := 128#32
  let v225 : BitVec 32 := Scalar.addi v203 c128_i32_124
  let v226 : Index := Scalar.indexCast v225
  ![0, v226.toNat]
def k0_off21 : Fin 2 → Nat :=
  let c0_135 : Index := 0#32
  let c0_i32_133 : BitVec 32 := 0#32
  let c2048_i32_134 : BitVec 32 := 2048#32
  let v238 : BitVec 32 := Scalar.muli c0_i32_133 c2048_i32_134
  let v239 : Index := Scalar.indexCast v238
  ![0, v239.toNat]
def k0_off22 : Fin 3 → Nat :=
  let c0_161 : Index := 0#32
  let c0_162 : Index := 0#32
  let c0_i32_152 : BitVec 32 := 0#32
  let c2048_i32_160 : BitVec 32 := 2048#32
  let v288 : BitVec 32 := Scalar.muli c0_i32_152 c2048_i32_160
  let v289 : Index := Scalar.indexCast v288
  ![0, 0, v289.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S64x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S64x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S1x64x2048 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== RefEncIdeal.lean ====
abbrev S8x2x16384 : Shape := ⟨3, ![8, 2, 16384]⟩
abbrev S128x2x4 : Shape := ⟨3, ![128, 2, 4]⟩
abbrev S128 : Shape := ⟨1, ![128]⟩
abbrev S256x128x4 : Shape := ⟨3, ![256, 128, 4]⟩
abbrev S256 : Shape := ⟨1, ![256]⟩
abbrev S256x256x4 : Shape := ⟨3, ![256, 256, 4]⟩
abbrev S256x256x3 : Shape := ⟨3, ![256, 256, 3]⟩
abbrev S64x256x1 : Shape := ⟨3, ![64, 256, 1]⟩
abbrev S64 : Shape := ⟨1, ![64]⟩
abbrev S64x64x1 : Shape := ⟨3, ![64, 64, 1]⟩
abbrev S2x8x16384 : Shape := ⟨3, ![2, 8, 16384]⟩
abbrev S_ : Shape := ⟨0, ![]⟩
abbrev S2x8x16386 : Shape := ⟨3, ![2, 8, 16386]⟩
abbrev S128x2x1 : Shape := ⟨3, ![128, 2, 1]⟩
abbrev S128x2 : Shape := ⟨2, ![128, 2]⟩
abbrev S2x8x8192 : Shape := ⟨3, ![2, 8, 8192]⟩
abbrev S128x8x8192 : Shape := ⟨3, ![128, 8, 8192]⟩
abbrev S128x8x8194 : Shape := ⟨3, ![128, 8, 8194]⟩
abbrev S256x128x1 : Shape := ⟨3, ![256, 128, 1]⟩
abbrev S256x128 : Shape := ⟨2, ![256, 128]⟩
abbrev S128x8x4096 : Shape := ⟨3, ![128, 8, 4096]⟩
abbrev S256x8x4096 : Shape := ⟨3, ![256, 8, 4096]⟩
abbrev S256x8x4098 : Shape := ⟨3, ![256, 8, 4098]⟩
abbrev S256x256x1 : Shape := ⟨3, ![256, 256, 1]⟩
abbrev S256x256 : Shape := ⟨2, ![256, 256]⟩
abbrev S256x8x2048 : Shape := ⟨3, ![256, 8, 2048]⟩
abbrev S256x8x2050 : Shape := ⟨3, ![256, 8, 2050]⟩
abbrev S64x256 : Shape := ⟨2, ![64, 256]⟩
abbrev S64x8x2048 : Shape := ⟨3, ![64, 8, 2048]⟩
abbrev S64x64 : Shape := ⟨2, ![64, 64]⟩
abbrev S8x64x2048 : Shape := ⟨3, ![8, 64, 2048]⟩

abbrev nBuf : Space → Nat
  | .hbm => 160
  | .vmem => 0
  | .smem => 0
  | _ => 0

abbrev hbmTy0_0 (i : Nat) : BufTy := match i % 128 with
  | 0 => ⟨S8x2x16384, .f32⟩
  | 1 => ⟨S128x2x4, .f32⟩
  | 2 => ⟨S128, .f32⟩
  | 3 => ⟨S256x128x4, .f32⟩
  | 4 => ⟨S256, .f32⟩
  | 5 => ⟨S256x256x4, .f32⟩
  | 6 => ⟨S256, .f32⟩
  | 7 => ⟨S256x256x3, .f32⟩
  | 8 => ⟨S256, .f32⟩
  | 9 => ⟨S64x256x1, .f32⟩
  | 10 => ⟨S64, .f32⟩
  | 11 => ⟨S64x64x1, .f32⟩
  | 12 => ⟨S64, .f32⟩
  | 13 => ⟨S2x8x16384, .f32⟩
  | 14 => ⟨S_, .i32⟩
  | 15 => ⟨S_, .f32⟩
  | 16 => ⟨S2x8x16386, .f32⟩
  | 17 => ⟨S128x2x1, .f32⟩
  | 18 => ⟨S128x2, .f32⟩
  | 19 => ⟨S128x2x1, .f32⟩
  | 20 => ⟨S128x2, .f32⟩
  | 21 => ⟨S128x2x1, .f32⟩
  | 22 => ⟨S128x2, .f32⟩
  | 23 => ⟨S128x2x1, .f32⟩
  | 24 => ⟨S128x2, .f32⟩
  | 25 => ⟨S2x8x8192, .f32⟩
  | 26 => ⟨S128x8x8192, .f32⟩
  | 27 => ⟨S2x8x8192, .f32⟩
  | 28 => ⟨S128x8x8192, .f32⟩
  | 29 => ⟨S2x8x8192, .f32⟩
  | 30 => ⟨S128x8x8192, .f32⟩
  | 31 => ⟨S2x8x8192, .f32⟩
  | 32 => ⟨S128x8x8192, .f32⟩
  | 33 => ⟨S128x8x8192, .f32⟩
  | 34 => ⟨S128x8x8192, .f32⟩
  | 35 => ⟨S128x8x8192, .f32⟩
  | 36 => ⟨S128x8x8192, .f32⟩
  | 37 => ⟨S128x8x8192, .f32⟩
  | 38 => ⟨S_, .f32⟩
  | 39 => ⟨S_, .f32⟩
  | 40 => ⟨S128x8x8192, .f32⟩
  | 41 => ⟨S128x8x8192, .i1⟩
  | 42 => ⟨S_, .f32⟩
  | 43 => ⟨S128x8x8192, .f32⟩
  | 44 => ⟨S128x8x8192, .f32⟩
  | 45 => ⟨S128x8x8192, .f32⟩
  | 46 => ⟨S_, .i32⟩
  | 47 => ⟨S_, .f32⟩
  | 48 => ⟨S128x8x8194, .f32⟩
  | 49 => ⟨S256x128x1, .f32⟩
  | 50 => ⟨S256x128, .f32⟩
  | 51 => ⟨S256x128x1, .f32⟩
  | 52 => ⟨S256x128, .f32⟩
  | 53 => ⟨S256x128x1, .f32⟩
  | 54 => ⟨S256x128, .f32⟩
  | 55 => ⟨S256x128x1, .f32⟩
  | 56 => ⟨S256x128, .f32⟩
  | 57 => ⟨S128x8x4096, .f32⟩
  | 58 => ⟨S256x8x4096, .f32⟩
  | 59 => ⟨S128x8x4096, .f32⟩
  | 60 => ⟨S256x8x4096, .f32⟩
  | 61 => ⟨S128x8x4096, .f32⟩
  | 62 => ⟨S256x8x4096, .f32⟩
  | 63 => ⟨S128x8x4096, .f32⟩
  | 64 => ⟨S256x8x4096, .f32⟩
  | 65 => ⟨S256x8x4096, .f32⟩
  | 66 => ⟨S256x8x4096, .f32⟩
  | 67 => ⟨S256x8x4096, .f32⟩
  | 68 => ⟨S256x8x4096, .f32⟩
  | 69 => ⟨S256x8x4096, .f32⟩
  | 70 => ⟨S_, .f32⟩
  | 71 => ⟨S_, .f32⟩
  | 72 => ⟨S256x8x4096, .f32⟩
  | 73 => ⟨S256x8x4096, .i1⟩
  | 74 => ⟨S_, .f32⟩
  | 75 => ⟨S256x8x4096, .f32⟩
  | 76 => ⟨S256x8x4096, .f32⟩
  | 77 => ⟨S256x8x4096, .f32⟩
  | 78 => ⟨S_, .i32⟩
  | 79 => ⟨S_, .f32⟩
  | 80 => ⟨S256x8x4098, .f32⟩
  | 81 => ⟨S256x256x1, .f32⟩
  | 82 => ⟨S256x256, .f32⟩
  | 83 => ⟨S256x256x1, .f32⟩
  | 84 => ⟨S256x256, .f32⟩
  | 85 => ⟨S256x256x1, .f32⟩
  | 86 => ⟨S256x256, .f32⟩
  | 87 => ⟨S256x256x1, .f32⟩
  | 88 => ⟨S256x256, .f32⟩
  | 89 => ⟨S256x8x2048, .f32⟩
  | 90 => ⟨S256x8x2048, .f32⟩
  | 91 => ⟨S256x8x2048, .f32⟩
  | 92 => ⟨S256x8x2048, .f32⟩
  | 93 => ⟨S256x8x2048, .f32⟩
  | 94 => ⟨S256x8x2048, .f32⟩
  | 95 => ⟨S256x8x2048, .f32⟩
  | 96 => ⟨S256x8x2048, .f32⟩
  | 97 => ⟨S256x8x2048, .f32⟩
  | 98 => ⟨S256x8x2048, .f32⟩
  | 99 => ⟨S256x8x2048, .f32⟩
  | 100 => ⟨S256x8x2048, .f32⟩
  | 101 => ⟨S256x8x2048, .f32⟩
  | 102 => ⟨S_, .f32⟩
  | 103 => ⟨S_, .f32⟩
  | 104 => ⟨S256x8x2048, .f32⟩
  | 105 => ⟨S256x8x2048, .i1⟩
  | 106 => ⟨S_, .f32⟩
  | 107 => ⟨S256x8x2048, .f32⟩
  | 108 => ⟨S256x8x2048, .f32⟩
  | 109 => ⟨S256x8x2048, .f32⟩
  | 110 => ⟨S_, .i32⟩
  | 111 => ⟨S_, .f32⟩
  | 112 => ⟨S256x8x2050, .f32⟩
  | 113 => ⟨S256x256x1, .f32⟩
  | 114 => ⟨S256x256, .f32⟩
  | 115 => ⟨S256x256x1, .f32⟩
  | 116 => ⟨S256x256, .f32⟩
  | 117 => ⟨S256x256x1, .f32⟩
  | 118 => ⟨S256x256, .f32⟩
  | 119 => ⟨S256x8x2048, .f32⟩
  | 120 => ⟨S256x8x2048, .f32⟩
  | 121 => ⟨S256x8x2048, .f32⟩
  | 122 => ⟨S256x8x2048, .f32⟩
  | 123 => ⟨S256x8x2048, .f32⟩
  | 124 => ⟨S256x8x2048, .f32⟩
  | 125 => ⟨S256x8x2048, .f32⟩
  | 126 => ⟨S256x8x2048, .f32⟩
  | 127 => ⟨S256x8x2048, .f32⟩
  | _ => ⟨S8x2x16384, .f32⟩

abbrev hbmTy0_1 (i : Nat) : BufTy := match i % 128 with
  | 0 => ⟨S256x8x2048, .f32⟩
  | 1 => ⟨S_, .f32⟩
  | 2 => ⟨S_, .f32⟩
  | 3 => ⟨S256x8x2048, .f32⟩
  | 4 => ⟨S256x8x2048, .i1⟩
  | 5 => ⟨S_, .f32⟩
  | 6 => ⟨S256x8x2048, .f32⟩
  | 7 => ⟨S256x8x2048, .f32⟩
  | 8 => ⟨S256x8x2048, .f32⟩
  | 9 => ⟨S_, .i32⟩
  | 10 => ⟨S_, .f32⟩
  | 11 => ⟨S256x8x2048, .f32⟩
  | 12 => ⟨S64x256, .f32⟩
  | 13 => ⟨S64x8x2048, .f32⟩
  | 14 => ⟨S64x8x2048, .f32⟩
  | 15 => ⟨S64x8x2048, .f32⟩
  | 16 => ⟨S_, .f32⟩
  | 17 => ⟨S_, .f32⟩
  | 18 => ⟨S64x8x2048, .f32⟩
  | 19 => ⟨S64x8x2048, .i1⟩
  | 20 => ⟨S_, .f32⟩
  | 21 => ⟨S64x8x2048, .f32⟩
  | 22 => ⟨S64x8x2048, .f32⟩
  | 23 => ⟨S64x8x2048, .f32⟩
  | 24 => ⟨S_, .i32⟩
  | 25 => ⟨S_, .f32⟩
  | 26 => ⟨S64x8x2048, .f32⟩
  | 27 => ⟨S64x64, .f32⟩
  | 28 => ⟨S64x8x2048, .f32⟩
  | 29 => ⟨S64x8x2048, .f32⟩
  | 30 => ⟨S64x8x2048, .f32⟩
  | 31 => ⟨S8x64x2048, .f32⟩
  | _ => ⟨S8x2x16384, .f32⟩

abbrev hbmTy (i : Nat) : BufTy := match i / 128 with
  | 0 => hbmTy0_0 i
  | 1 => hbmTy0_1 i
  | _ => ⟨S8x2x16384, .f32⟩

abbrev bufTy : (tb : Table) → Fin (tcTables nBuf tb) → BufTy
  | .hbm, ⟨i, _⟩ => hbmTy i
  | _, _ => ⟨S8x2x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_c_0 : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_1 : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v46 : Ref sig .tc := ⟨.hbm, 77, rfl⟩
abbrev main_c_2 : Ref sig .tc := ⟨.hbm, 78, rfl⟩
abbrev main_call4_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_3 : Ref sig .tc := ⟨.hbm, 102, rfl⟩
abbrev main_call5_cst : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v69 : Ref sig .tc := ⟨.hbm, 109, rfl⟩
abbrev main_c_4 : Ref sig .tc := ⟨.hbm, 110, rfl⟩
abbrev main_call6_v0 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_5 : Ref sig .tc := ⟨.hbm, 129, rfl⟩
abbrev main_call7_cst : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_v87 : Ref sig .tc := ⟨.hbm, 136, rfl⟩
abbrev main_c_6 : Ref sig .tc := ⟨.hbm, 137, rfl⟩
abbrev main_call8_v0 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_7 : Ref sig .tc := ⟨.hbm, 144, rfl⟩
abbrev main_call9_cst : Ref sig .tc := ⟨.hbm, 145, rfl⟩
abbrev main_call9_v0 : Ref sig .tc := ⟨.hbm, 146, rfl⟩
abbrev main_call9_v1 : Ref sig .tc := ⟨.hbm, 147, rfl⟩
abbrev main_call9_v2 : Ref sig .tc := ⟨.hbm, 148, rfl⟩
abbrev main_call9_v3 : Ref sig .tc := ⟨.hbm, 149, rfl⟩
abbrev main_call9_v4 : Ref sig .tc := ⟨.hbm, 150, rfl⟩
abbrev main_v93 : Ref sig .tc := ⟨.hbm, 151, rfl⟩
abbrev main_c_8 : Ref sig .tc := ⟨.hbm, 152, rfl⟩
abbrev main_call10_v0 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩

abbrev nD : Nat := 1
abbrev τ : Topo := Topo.v7x

variable {F : FTy → Type} [FloatOps F]
-- ==== Vq.lean ====
abbrev S8x64x2048 : Shape := ⟨3, ![8, 64, 2048]⟩
abbrev S512x64 : Shape := ⟨2, ![512, 64]⟩
abbrev S16384x64 : Shape := ⟨2, ![16384, 64]⟩
abbrev S64x512 : Shape := ⟨2, ![64, 512]⟩
abbrev S_ : Shape := ⟨0, ![]⟩
abbrev S512 : Shape := ⟨1, ![512]⟩
abbrev S1x512 : Shape := ⟨2, ![1, 512]⟩
abbrev S8x1x128 : Shape := ⟨3, ![8, 1, 128]⟩
abbrev S2048x64 : Shape := ⟨2, ![2048, 64]⟩
abbrev S1x1x128 : Shape := ⟨3, ![1, 1, 128]⟩
abbrev S512x512 : Shape := ⟨2, ![512, 512]⟩
abbrev S512x1 : Shape := ⟨2, ![512, 1]⟩
abbrev S1x512x64 : Shape := ⟨3, ![1, 512, 64]⟩
abbrev S1 : Shape := ⟨1, ![1]⟩
abbrev S1x1x1 : Shape := ⟨3, ![1, 1, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x64x2048, .f32⟩
  | .hbm, ⟨1, _⟩ => ⟨S512x64, .f32⟩
  | .hbm, ⟨2, _⟩ => ⟨S16384x64, .f32⟩
  | .hbm, ⟨3, _⟩ => ⟨S64x512, .f32⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S1x512, .f32⟩
  | .hbm, ⟨8, _⟩ => ⟨S16384x64, .f32⟩
  | .hbm, ⟨9, _⟩ => ⟨S8x1x128, .f32⟩
  | .local _ .vmem, ⟨0, _⟩ => ⟨S2048x64, .f32⟩
  | .local _ .vmem, ⟨1, _⟩ => ⟨S2048x64, .f32⟩
  | .local _ .vmem, ⟨2, _⟩ => ⟨S64x512, .f32⟩
  | .local _ .vmem, ⟨3, _⟩ => ⟨S512x64, .f32⟩
  | .local _ .vmem, ⟨4, _⟩ => ⟨S1x512, .f32⟩
  | .local _ .vmem, ⟨5, _⟩ => ⟨S2048x64, .f32⟩
  | .local _ .vmem, ⟨6, _⟩ => ⟨S2048x64, .f32⟩
  | .local _ .vmem, ⟨7, _⟩ => ⟨S1x1x128, .f32⟩
  | .local _ .vmem, ⟨8, _⟩ => ⟨S1x1x128, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v9 : BitVec 32 := Scalar.muli arg7 c512_i32
  let v10 : Index := Scalar.indexCast v9
  let c0_9 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefVqIdeal.lean ====
abbrev S8x64x2048 : Shape := ⟨3, ![8, 64, 2048]⟩
abbrev S512x64 : Shape := ⟨2, ![512, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S512 : Shape := ⟨1, ![512]⟩
abbrev S1x512 : Shape := ⟨2, ![1, 512]⟩
abbrev S16384x512 : Shape := ⟨2, ![16384, 512]⟩
abbrev S64x512 : Shape := ⟨2, ![64, 512]⟩
abbrev S8x2048x64 : Shape := ⟨3, ![8, 2048, 64]⟩
abbrev S8 : Shape := ⟨1, ![8]⟩
abbrev S8x1x128 : Shape := ⟨3, ![8, 1, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S512x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S64x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x512, .i32⟩
  | .hbm, ⟨27, _⟩ => ⟨S16384x512, .i32⟩
  | .hbm, ⟨28, _⟩ => ⟨S16384x512, .i32⟩
  | .hbm, ⟨29, _⟩ => ⟨S16384x512, .i1⟩
  | .hbm, ⟨30, _⟩ => ⟨S16384x512, .f32⟩
  | .hbm, ⟨31, _⟩ => ⟨S16384x64, .f32⟩
  | .hbm, ⟨32, _⟩ => ⟨S16384x64, .f32⟩
  | .hbm, ⟨33, _⟩ => ⟨S16384x64, .f32⟩
  | .hbm, ⟨34, _⟩ => ⟨S8x2048x64, .f32⟩
  | .hbm, ⟨35, _⟩ => ⟨S_, .f32⟩
  | .hbm, ⟨36, _⟩ => ⟨S8, .f32⟩
  | .hbm, ⟨37, _⟩ => ⟨S16384x64, .f32⟩
  | .hbm, ⟨38, _⟩ => ⟨S16384x64, .f32⟩
  | .hbm, ⟨39, _⟩ => ⟨S8x1x128, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Proof.EncIdealBody.lean ====
module

public import proofs.«01_k».proof.Proof.Gen.EncIdeal.Frame
public import proofs.«01_k».proof.Proof.Gen.EncIdeal.Skeleton

@[expose] public section

set_option maxRecDepth 16384

noncomputable section

namespace Cert.EncIdeal.Hand

open Cert.EncIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The body run once, on whole staging buffers and on scratch holding anything at all: its operands
    come back as they were, its scratch at some contents, and its output at the pieces the run
    writes, which are the witness. -/
noncomputable def bodyRun (c : Dev nD) (i : grid0.Coords) (arg1 : Memref sig .tc .vmem S1x16x2048 .f32) (harg1 : arg1.IsWhole) (arg2 : Memref sig .tc .vmem S128x1 .f32) (harg2 : arg2.IsWhole) (arg3 : Memref sig .tc .vmem S128x6 .f32) (harg3 : arg3.IsWhole) (arg4 : Memref sig .tc .vmem S128x2 .f32) (harg4 : arg4.IsWhole) (arg5 : Memref sig .tc .vmem S128x1 .f32) (harg5 : arg5.IsWhole) (arg6 : Memref sig .tc .vmem S128x8 .f32) (harg6 : arg6.IsWhole) (arg7 : Memref sig .tc .vmem S128x1 .f32) (harg7 : arg7.IsWhole) (arg8 : Memref sig .tc .vmem S128x8 .f32) (harg8 : arg8.IsWhole) (arg9 : Memref sig .tc .vmem S128x1 .f32) (harg9 : arg9.IsWhole) (arg10 : Memref sig .tc .vmem S128x6 .f32) (harg10 : arg10.IsWhole) (arg11 : Memref sig .tc .vmem S128x2 .f32) (harg11 : arg11.IsWhole) (arg12 : Memref sig .tc .vmem S256x1 .f32) (harg12 : arg12.IsWhole) (arg13 : Memref sig .tc .vmem S256x384 .f32) (harg13 : arg13.IsWhole) (arg14 : Memref sig .tc .vmem S256x128 .f32) (harg14 : arg14.IsWhole) (arg15 : Memref sig .tc .vmem S256x1 .f32) (harg15 : arg15.IsWhole) (arg16 : Memref sig .tc .vmem S256x384 .f32) (harg16 : arg16.IsWhole) (arg17 : Memref sig .tc .vmem S256x128 .f32) (harg17 : arg17.IsWhole) (arg18 : Memref sig .tc .vmem S256x1 .f32) (harg18 : arg18.IsWhole) (arg19 : Memref sig .tc .vmem S256x512 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x1 .f32) (harg22 : arg22.IsWhole) (arg23 : Memref sig .tc .vmem S256x256 .f32) (harg23 : arg23.IsWhole) (arg24 : Memref sig .tc .vmem S256x256 .f32) (harg24 : arg24.IsWhole) (arg25 : Memref sig .tc .vmem S256x256 .f32) (harg25 : arg25.IsWhole) (arg26 : Memref sig .tc .vmem S64x256 .f32) (harg26 : arg26.IsWhole) (arg27 : Memref sig .tc .vmem S64x1 .f32) (harg27 : arg27.IsWhole) (arg28 : Memref sig .tc .vmem S64x64 .f32) (harg28 : arg28.IsWhole) (arg29 : Memref sig .tc .vmem S64x1 .f32) (harg29 : arg29.IsWhole) (arg30 : Memref sig .tc .vmem S1x64x2048 .f32) (harg30 : arg30.IsWhole) (arg31 : Memref sig .tc .vmem S16x2304 .f32) (harg31 : arg31.IsWhole) (arg32 : Memref sig .tc .vmem S512x2304 .f32) (harg32 : arg32.IsWhole) (arg33 : Memref sig .tc .vmem S512x2304 .f32) (harg33 : arg33.IsWhole) (arg34 : Memref sig .tc .vmem S256x2304 .f32) (harg34 : arg34.IsWhole) (arg35 : Memref sig .tc .vmem S256x2304 .f32) (harg35 : arg35.IsWhole)
    (x0 : Vec F S1x16x2048 .f32) (x1 : Vec F S128x1 .f32) (x2 : Vec F S128x6 .f32) (x3 : Vec F S128x2 .f32) (x4 : Vec F S128x1 .f32) (x5 : Vec F S128x8 .f32) (x6 : Vec F S128x1 .f32) (x7 : Vec F S128x8 .f32) (x8 : Vec F S128x1 .f32) (x9 : Vec F S128x6 .f32) (x10 : Vec F S128x2 .f32) (x11 : Vec F S256x1 .f32) (x12 : Vec F S256x384 .f32) (x13 : Vec F S256x128 .f32) (x14 : Vec F S256x1 .f32) (x15 : Vec F S256x384 .f32) (x16 : Vec F S256x128 .f32) (x17 : Vec F S256x1 .f32) (x18 : Vec F S256x512 .f32) (x19 : Vec F S256x256 .f32) (x20 : Vec F S256x256 .f32) (x21 : Vec F S256x1 .f32) (x22 : Vec F S256x256 .f32) (x23 : Vec F S256x256 .f32) (x24 : Vec F S256x256 .f32) (x25 : Vec F S64x256 .f32) (x26 : Vec F S64x1 .f32) (x27 : Vec F S64x64 .f32) (x28 : Vec F S64x1 .f32)
    (g0 : Buf (Elt F) (arg31.view.loc (c : Thread nD τ))) (g1 : Buf (Elt F) (arg32.view.loc (c : Thread nD τ))) (g2 : Buf (Elt F) (arg33.view.loc (c : Thread nD τ))) (g3 : Buf (Elt F) (arg34.view.loc (c : Thread nD τ))) (g4 : Buf (Elt F) (arg35.view.loc (c : Thread nD τ))) :
    { L : List (View.Piece (Elt F) S1x64x2048 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare x16
          ∗ owns (c : Thread nD τ) arg18 fullShare x17
          ∗ owns (c : Thread nD τ) arg19 fullShare x18
          ∗ owns (c : Thread nD τ) arg20 fullShare x19
          ∗ owns (c : Thread nD τ) arg21 fullShare x20
          ∗ owns (c : Thread nD τ) arg22 fullShare x21
          ∗ owns (c : Thread nD τ) arg23 fullShare x22
          ∗ owns (c : Thread nD τ) arg24 fullShare x23
          ∗ owns (c : Thread nD τ) arg25 fullShare x24
          ∗ owns (c : Thread nD τ) arg26 fullShare x25
          ∗ owns (c : Thread nD τ) arg27 fullShare x26
          ∗ owns (c : Thread nD τ) arg28 fullShare x27
          ∗ owns (c : Thread nD τ) arg29 fullShare x28
          ∗ (∃ d, owns (c : Thread nD τ) arg30 fullShare d)
          ∗ (arg31.view.loc (c : Thread nD τ) ↦[arg31.view.set]{fullShare} g0)
          ∗ (arg32.view.loc (c : Thread nD τ) ↦[arg32.view.set]{fullShare} g1)
          ∗ (arg33.view.loc (c : Thread nD τ) ↦[arg33.view.set]{fullShare} g2)
          ∗ (arg34.view.loc (c : Thread nD τ) ↦[arg34.view.set]{fullShare} g3)
          ∗ (arg35.view.loc (c : Thread nD τ) ↦[arg35.view.set]{fullShare} g4)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare x16
          ∗ owns (c : Thread nD τ) arg18 fullShare x17
          ∗ owns (c : Thread nD τ) arg19 fullShare x18
          ∗ owns (c : Thread nD τ) arg20 fullShare x19
          ∗ owns (c : Thread nD τ) arg21 fullShare x20
          ∗ owns (c : Thread nD τ) arg22 fullShare x21
          ∗ owns (c : Thread nD τ) arg23 fullShare x22
          ∗ owns (c : Thread nD τ) arg24 fullShare x23
          ∗ owns (c : Thread nD τ) arg25 fullShare x24
          ∗ owns (c : Thread nD τ) arg26 fullShare x25
          ∗ owns (c : Thread nD τ) arg27 fullShare x26
          ∗ owns (c : Thread nD τ) arg28 fullShare x27
          ∗ owns (c : Thread nD τ) arg29 fullShare x28
          ∗ (∃ f, arg30.view.loc (c : Thread nD τ) ↦[arg30.view.set]{fullShare} arg30.view.writes (Elt F) f L)
          ∗ (∃ f, arg31.view.loc (c : Thread nD τ) ↦[arg31.view.set]{fullShare} f)
          ∗ (∃ f, arg32.view.loc (c : Thread nD τ) ↦[arg32.view.set]{fullShare} f)
          ∗ (∃ f, arg33.view.loc (c : Thread nD τ) ↦[arg33.view.set]{fullShare} f)
          ∗ (∃ f, arg34.view.loc (c : Thread nD τ) ↦[arg34.view.set]{fullShare} f)
          ∗ (∃ f, arg35.view.loc (c : Thread nD τ) ↦[arg35.view.set]{fullShare} f)) -∗ K ⟨⟩))
        ⊢ wp frame (wpE (defs₀ (F := F)) Variants.none c none) E (cc0_enc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, fun E K => ?run⟩
  case run =>
    simp only [cc0_enc_body_eq_skeleton]; unfold cc0_enc_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%dO, %fO, -, HO⟩, S0, S1, S2, S3, S4, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28
    set_option sl_exec.squeezeSlice true in
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [HO]; · iexists _; iexact HO
    isplitl [S0]; · iexists _; iexact S0
    isplitl [S1]; · iexists _; iexact S1
    isplitl [S2]; · iexists _; iexact S2
    isplitl [S3]; · iexists _; iexact S3
    iexists _; iexact S4

end Cert.EncIdeal.Hand

end
-- ==== Proof.Arr.lean ====
/- Vectors of extended reals read as total functions of natural numbers, and what the operations of the kernels and of
   the references do to such functions. -/
module

public import Idealize.ShloMosaic.PureOps.Ideal.Laws
public import Idealize.ShloMosaic.Lib.ValueIdxCore
public import Idealize.ShloMosaic.Lib.MatmulPlain
public import Idealize.ShloMosaic.Lib.KernelVsHost
public import Idealize.ShloMosaic.Lib.Pipeline.Value
public import Idealize.ShloMosaic.Lib.VecWindow

@[expose] public section

noncomputable section

namespace PhaseConv

open Idealize.ShloMosaic Idealize.ShloMosaic.ValueIdx
open scoped BigOperators

/-- The shape of a vector of length `n`. -/
abbrev B1 (n : ℕ) : Shape := ⟨1, ![n]⟩
/-- The shape of a matrix. -/
abbrev B2 (a b : ℕ) : Shape := ⟨2, ![a, b]⟩
/-- The shape of an array with three axes. -/
abbrev B3 (a b c : ℕ) : Shape := ⟨3, ![a, b, c]⟩

/-- The vector `x` holds `A` at its own places. -/
def Is1 {n : ℕ} (x : (B1 n).Idx → EReal) (A : ℕ → EReal) : Prop := ∀ i, x i = A (i 0).val
/-- The matrix `x` holds `A` at its own places. -/
def Is2 {a b : ℕ} (x : (B2 a b).Idx → EReal) (A : ℕ → ℕ → EReal) : Prop := ∀ i, x i = A (i 0).val (i 1).val
/-- The three-axis array `x` holds `A` at its own places. -/
def Is3 {a b c : ℕ} (x : (B3 a b c).Idx → EReal) (A : ℕ → ℕ → ℕ → EReal) : Prop :=
  ∀ i, x i = A (i 0).val (i 1).val (i 2).val

/-- A vector as a function of naturals, zero outside. -/
def of1 {n : ℕ} (x : (B1 n).Idx → EReal) : ℕ → EReal := fun i => if h : i < n then x (ix1 ⟨i, h⟩) else 0
/-- A matrix as a function of naturals, zero outside. -/
def of2 {a b : ℕ} (x : (B2 a b).Idx → EReal) : ℕ → ℕ → EReal := fun i j =>
  if h : i < a ∧ j < b then x (ix2 ⟨i, h.1⟩ ⟨j, h.2⟩) else 0
/-- A three-axis array as a function of naturals, zero outside. -/
def of3 {a b c : ℕ} (x : (B3 a b c).Idx → EReal) : ℕ → ℕ → ℕ → EReal := fun i j k =>
  if h : i < a ∧ j < b ∧ k < c then x (ix3 ⟨i, h.1⟩ ⟨j, h.2.1⟩ ⟨k, h.2.2⟩) else 0

/-- A vector holds its own function. -/
theorem is1_of {n : ℕ} (x : (B1 n).Idx → EReal) : Is1 x (of1 x) := fun i => by
  have h : (i 0).val < n := (i 0).isLt
  unfold of1; rw [dif_pos h]; exact congrArg x (eq_ix1 i)
/-- A matrix holds its own function. -/
theorem is2_of {a b : ℕ} (x : (B2 a b).Idx → EReal) : Is2 x (of2 x) := fun i => by
  have h : (i 0).val < a ∧ (i 1).val < b := ⟨(i 0).isLt, (i 1).isLt⟩
  unfold of2; rw [dif_pos h]; exact congrArg x (eq_ix2 i)
/-- A three-axis array holds its own function. -/
theorem is3_of {a b c : ℕ} (x : (B3 a b c).Idx → EReal) : Is3 x (of3 x) := fun i => by
  have h : (i 0).val < a ∧ (i 1).val < b ∧ (i 2).val < c := ⟨(i 0).isLt, (i 1).isLt, (i 2).isLt⟩
  unfold of3; rw [dif_pos h]; exact congrArg x (eq_ix3 i)

/-- A matrix at a place given by its two coordinates. -/
theorem Is2.at {a b : ℕ} {x : (B2 a b).Idx → EReal} {A : ℕ → ℕ → EReal} (h : Is2 x A) {i j : ℕ} (hi : i < a) (hj : j < b) :
    x (ix2 ⟨i, hi⟩ ⟨j, hj⟩) = A i j := h _
/-- Two functions that agree inside the extents are held alike. -/
theorem Is2.congr {a b : ℕ} {x : (B2 a b).Idx → EReal} {A B : ℕ → ℕ → EReal} (h : Is2 x A)
    (e : ∀ i j, i < a → j < b → A i j = B i j) : Is2 x B := fun i => (h i).trans (e _ _ (i 0).isLt (i 1).isLt)
/-- Two functions that agree inside the extents are held alike. -/
theorem Is3.congr {a b c : ℕ} {x : (B3 a b c).Idx → EReal} {A B : ℕ → ℕ → ℕ → EReal} (h : Is3 x A)
    (e : ∀ i j k, i < a → j < b → k < c → A i j k = B i j k) : Is3 x B :=
  fun i => (h i).trans (e _ _ _ (i 0).isLt (i 1).isLt (i 2).isLt)
/-- Inside the extents a matrix's own function is the one it holds. -/
theorem Is2.of_eq {a b : ℕ} {x : (B2 a b).Idx → EReal} {A : ℕ → ℕ → EReal} (h : Is2 x A) {i j : ℕ} (hi : i < a) (hj : j < b) :
    of2 x i j = A i j := by unfold of2; rw [dif_pos ⟨hi, hj⟩]; exact h _

/-! ## The activation -/

/-- The leaky slope, the value of the literal both programs hold. -/
def slope : EReal := Ideal.ofBits .f32 0x3C23D70A#32

/-- The leaky rectifier. -/
def act (x : EReal) : EReal := if 0 ≤ x then x else slope * x

/-- What both programs compute for the rectifier at one place. -/
theorem select_act (x : EReal) :
    Scalar.select (FloatOps.cmpf (F := Ideal) (φ := .f32) .oge x (Ideal.ofBits .f32 0x00000000#32)) x (slope * x) = act x := by
  rw [Ideal.ofBits_zero_f32, Ideal.cmpf_def]
  unfold act Ideal.cmp
  by_cases h : (0 : EReal) ≤ x
  · simp [h, Scalar.select]
  · simp [h, Scalar.select]

/-! ## Operations on matrices -/

/-- A reshape to the same shape. -/
theorem is2_cast {a b : ℕ} {x : (B2 a b).Idx → EReal} {A : ℕ → ℕ → EReal} (hx : Is2 x A) (h : (B2 a b).ShapeCasts (B2 a b)) :
    Is2 (shapeCast (B2 a b) x h) A := fun i => (shapeCast_apply x h i i rfl).trans (hx i)

/-- A window of a matrix. -/
theorem is2_slice {a b h w : ℕ} {x : (B2 a b).Idx → EReal} {A : ℕ → ℕ → EReal} (hx : Is2 x A) (o1 o2 : ℕ)
    (hs : (B2 a b).Slices ![o1, o2] (B2 h w)) :
    Is2 (extractStridedSlice (B2 h w) ![o1, o2] x hs) (fun i j => A (o1 + i) (o2 + j)) := fun i => hx _

/-- The sum of two matrices. -/
theorem is2_add {a b : ℕ} {x y : FVec Ideal (B2 a b) .f32} {A B : ℕ → ℕ → EReal} (hx : Is2 x A) (hy : Is2 y B) :
    Is2 (addf x y) (fun i j => A i j + B i j) := fun i => by
  show (x i + y i : EReal) = _; rw [hx i, hy i]

/-- A column broadcast over the columns. -/
theorem is2_col {a b : ℕ} {x : (B2 a 1).Idx → EReal} {A : ℕ → ℕ → EReal} (hx : Is2 x A) (h : (B2 a 1).Broadcasts (B2 a b)) :
    Is2 (broadcastTo (B2 a b) x h) (fun i _ => A i 0) := fun i => by
  have h0 : (i 0).val < a := (i 0).isLt
  refine (broadcastTo_apply x h i (ix2 ⟨(i 0).val, h0⟩ 0) (fun d => ?_)).trans (hx _)
  match d with
  | ⟨0, _⟩ =>
    show (i 0).val = if a = 1 then 0 else (i 0).val
    split_ifs <;> omega
  | ⟨1, _⟩ => rfl

/-- A constant matrix. -/
theorem is2_zero {a b : ℕ} : Is2 (broadcast (B2 a b) (Scalar.ofBits (F := Ideal) .f32 0x00000000#32)) (fun _ _ => 0) :=
  fun _ => Ideal.ofBits_zero_f32

/-- The rectifier of a matrix, as the kernels compute it. -/
theorem is2_act {a b : ℕ} {x : FVec Ideal (B2 a b) .f32} {A : ℕ → ℕ → EReal} (hx : Is2 x A) :
    Is2 (select (cmpf .oge x (broadcast (B2 a b) (Scalar.ofBits (F := Ideal) .f32 0x00000000#32))) x
      (mulf (broadcast (B2 a b) (Scalar.ofBits (F := Ideal) .f32 0x3C23D70A#32)) x)) (fun i j => act (A i j)) := fun i => by
  refine (select_act (x i)).trans ?_
  rw [hx i]

/-- The sum over the first `K` naturals of a product. -/
def dotR (K : ℕ) (f g : ℕ → EReal) : EReal := ∑ k ∈ Finset.range K, f k * g k

/-- A sum over the numbers below `K` is one over a range. -/
theorem sum_fin_dotR (K : ℕ) (f g : ℕ → EReal) : (∑ k : Fin K, f k.val * g k.val) = dotR K f g :=
  Fin.sum_univ_eq_sum_range (fun k => f k * g k) K

/-- Two products that agree below `K` have the same sum. -/
theorem dotR_congr {K : ℕ} {f f' g g' : ℕ → EReal} (hf : ∀ k < K, f k = f' k) (hg : ∀ k < K, g k = g' k) :
    dotR K f g = dotR K f' g' :=
  Finset.sum_congr rfl fun k hk => by rw [hf k (Finset.mem_range.mp hk), hg k (Finset.mem_range.mp hk)]

/-- A sum over a range splits in two. -/
theorem dotR_add (K L : ℕ) (f g : ℕ → EReal) :
    dotR (K + L) f g = dotR K f g + dotR L (fun k => f (K + k)) (fun k => g (K + k)) :=
  Finset.sum_range_add (fun k => f k * g k) K L

/-- A product with zeros is zero. -/
theorem dotR_zero (K : ℕ) (f g : ℕ → EReal) (h : ∀ k < K, g k = 0) : dotR K f g = 0 :=
  Finset.sum_eq_zero fun k hk => by rw [h k (Finset.mem_range.mp hk), mul_zero]

/-- A product of two matrices onto zeros. -/
theorem is2_mat {M K N : ℕ} {d : DotDims (B2 M K) (B2 K N) (B2 M N)} (hd : d = DotDims.plain M K N)
    {prec : Option ContractPrecision} {x : FVec Ideal (B2 M K) .f32} {y : FVec Ideal (B2 K N) .f32} {A B : ℕ → ℕ → EReal}
    (hx : Is2 x A) (hy : Is2 y B) :
    Is2 (matmul d prec x y (constant (F := Ideal) (B2 M N) .f32 0x00000000#32))
      (fun i j => dotR K (A i) (fun k => B k j)) := fun i => by
  subst hd
  conv_lhs => rw [eq_ix2 i]
  refine (Ideal.matmul_plain_apply prec x y _ (i 0) (i 1)).trans ?_
  have e : (∑ k : Fin K, x (ix2 (i 0) k) * y (ix2 k (i 1)) : EReal) = dotR K (A (i 0).val) (fun k => B k (i 1).val) :=
    (Finset.sum_congr rfl fun k _ => by rw [hx, hy]; rfl).trans (sum_fin_dotR K _ _)
  exact (congrArg₂ (fun a b : EReal => a + b) Ideal.ofBits_zero_f32 e).trans (zero_add _)

/-! ## Windows read and written -/

/-- A load of a window of a buffer. -/
theorem is2_load {a b h w : ℕ} {sig : RefSig} {κ : Kind} {sp : Space}
    (v : View sig κ sp (B2 a b) .f32) (f : v.ty.Contents (Elt Ideal)) {A : ℕ → ℕ → EReal}
    (hx : Is2 (v.read (Elt Ideal) f) A) {off : Fin 2 → ℕ} (o1 o2 : ℕ) (ho : off = ![o1, o2])
    (inb : ∀ c, off c + (B2 h w).size c ≤ (B2 a b).size c) :
    Is2 (v.readAt (Elt Ideal) (Rect.unit (s := B2 a b) off (B2 h w).size inb).toLoadRect f)
      (fun i j => A (o1 + i) (o2 + j)) := fun i => by
  subst ho
  refine (hx _).trans ?_
  show A (o1 + 1 * (i 0).val) (o2 + 1 * (i 1).val) = _
  rw [Nat.one_mul, Nat.one_mul]

/-- A store of a window into a buffer: inside the window the stored matrix, elsewhere what was there. -/
theorem is2_put {a b h w : ℕ} {sig : RefSig} {κ : Kind} {sp : Space}
    (v : View sig κ sp (B2 a b) .f32) (f : v.ty.Contents (Elt Ideal)) (L : List (View.Piece (Elt Ideal) (B2 a b) .f32))
    {A W : ℕ → ℕ → EReal} (hx : Is2 (v.read (Elt Ideal) (v.writes (Elt Ideal) f L)) A)
    {off : Fin 2 → ℕ} (o1 o2 : ℕ) (ho : off = ![o1, o2])
    (inb : ∀ c, off c + (B2 h w).size c ≤ (B2 a b).size c) {y : (B2 h w).Idx → EReal} (hy : Is2 y W) :
    Is2 (v.read (Elt Ideal) (v.writes (Elt Ideal) f (⟨Rect.unit (s := B2 a b) off (B2 h w).size inb, y⟩ :: L)))
      (fun i j => if (o1 ≤ i ∧ i < o1 + h) ∧ (o2 ≤ j ∧ j < o2 + w) then W (i - o1) (j - o2) else A i j) := fun i => by
  subst ho
  refine (congrFun (View.read_writes_cons_put (off' := ![o1, o2]) v f inb y L rfl) i).trans ?_
  unfold VecWindow.put
  by_cases hc : (o1 ≤ (i 0).val ∧ (i 0).val < o1 + h) ∧ (o2 ≤ (i 1).val ∧ (i 1).val < o2 + w)
  · have hd : ∀ c : Fin 2, ![o1, o2] c ≤ (i c).val ∧ (i c).val < ![o1, o2] c + (B2 h w).size c := fun c =>
      match c with
      | ⟨0, _⟩ => hc.1
      | ⟨1, _⟩ => hc.2
    exact ((dif_pos hd).trans (hy _)).trans (if_pos hc).symm
  · have hd : ¬ ∀ c : Fin 2, ![o1, o2] c ≤ (i c).val ∧ (i c).val < ![o1, o2] c + (B2 h w).size c := fun hd => hc ⟨hd 0, hd 1⟩
    exact ((dif_neg hd).trans (hx i)).trans (if_neg hc).symm

end PhaseConv

end
-- ==== Proof.Spec.lean ====
/- The mathematics of the one-dimensional convolutions, on families of signals over all integers that vanish outside
   their extent. -/
module

public import proofs.«01_k».proof.Proof.Arr

@[expose] public section

noncomputable section

namespace PhaseConv

open scoped BigOperators

/-- A family of signals kept to the positions from zero to `N`, zero elsewhere. -/
def cut (N : ℕ) (f : ℕ → ℤ → EReal) : ℕ → ℤ → EReal := fun o s => if 0 ≤ s ∧ s < N then f o s else 0

/-- Inside its extent a kept signal is the signal. -/
theorem cut_in {N : ℕ} {f : ℕ → ℤ → EReal} {o : ℕ} {s : ℤ} (h0 : 0 ≤ s) (h1 : s < N) : cut N f o s = f o s := if_pos ⟨h0, h1⟩
/-- Outside its extent a kept signal is zero. -/
theorem cut_out {N : ℕ} {f : ℕ → ℤ → EReal} {o : ℕ} {s : ℤ} (h : s < 0 ∨ N ≤ s) : cut N f o s = 0 :=
  if_neg fun ⟨a, b⟩ => by omega

/-- Output channel `o` of one tap: the `C` input channels at position `s`, each times its weight. -/
def tap (C : ℕ) (w : ℕ → ℕ → EReal) (X : ℕ → ℤ → EReal) (o : ℕ) (s : ℤ) : EReal := dotR C (w o) (fun i => X i s)

/-- The sum of `m` taps at consecutive positions, the first at `z`. -/
def taps (C : ℕ) (w : ℕ → ℕ → ℕ → EReal) (X : ℕ → ℤ → EReal) (m o : ℕ) (z : ℤ) : EReal :=
  ∑ q ∈ Finset.range m, tap C (w q) X o (z + q)

/-- One tap. -/
theorem taps_one (C : ℕ) (w : ℕ → ℕ → ℕ → EReal) (X : ℕ → ℤ → EReal) (o : ℕ) (z : ℤ) :
    taps C w X 1 o z = tap C (w 0) X o z := by
  unfold taps; rw [Finset.sum_range_one]; congr 1; simp

/-- The sum of taps splits. -/
theorem taps_add (C : ℕ) (w : ℕ → ℕ → ℕ → EReal) (X : ℕ → ℤ → EReal) (m n o : ℕ) (z : ℤ) :
    taps C w X (m + n) o z = taps C w X m o z + taps C (fun q => w (m + q)) X n o (z + m) := by
  unfold taps; rw [Finset.sum_range_add]
  refine congrArg₂ (· + ·) rfl (Finset.sum_congr rfl fun q _ => ?_)
  congr 1; push_cast; ring

/-- A product with weights stacked tap by tap against rows stacked position by position is the sum of the taps. -/
theorem dotR_stack (C : ℕ) (w : ℕ → ℕ → ℕ → EReal) (X : ℕ → ℤ → EReal) (o : ℕ) (z : ℤ) : ∀ m : ℕ,
    dotR (m * C) (fun k => w (k / C) o (k % C)) (fun k => X (k % C) (z + ((k / C : ℕ) : ℤ))) = taps C w X m o z
  | 0 => by simp [dotR, taps]
  | m + 1 => by
    rw [Nat.succ_mul, dotR_add, dotR_stack C w X o z m, taps_add, taps_one]
    refine congrArg₂ (· + ·) rfl (dotR_congr (fun k hk => ?_) (fun k hk => ?_))
    · have hC : 0 < C := by omega
      show w ((m * C + k) / C) o ((m * C + k) % C) = w (m + 0) o k
      rw [Nat.mul_comm m C, Nat.mul_add_div hC, Nat.mul_add_mod, Nat.div_eq_of_lt hk, Nat.mod_eq_of_lt hk]
    · have hC : 0 < C := by omega
      show X ((m * C + k) % C) (z + (((m * C + k) / C : ℕ) : ℤ)) = X k (z + m)
      rw [Nat.mul_comm m C, Nat.mul_add_div hC, Nat.mul_add_mod, Nat.div_eq_of_lt hk, Nat.mod_eq_of_lt hk, Nat.add_zero]

/-- A scratch array of `R` rows holds the family `X` of `C` signals split into phases of stride `n`: row `r` is signal
    `r % C` at the positions with remainder `r / C`, one column per multiple of the stride, position zero at column 128,
    with one more column to each side. -/
def Sig (C R n : ℕ) (A : ℕ → ℕ → EReal) (X : ℕ → ℤ → EReal) : Prop :=
  ∀ r j, r < R → 127 ≤ j → j ≤ 2176 → A r j = X (r % C) (n * ((j : ℤ) - 128) + ((r / C : ℕ) : ℤ))

/-- A product of stacked weights with a window of whole phases of such an array is a sum of taps. -/
theorem Sig.dot {C R n : ℕ} {A : ℕ → ℕ → EReal} {X : ℕ → ℤ → EReal} (h : Sig C R n A X) {W : ℕ → EReal}
    {w : ℕ → ℕ → ℕ → EReal} {o K m q r0 c0 j : ℕ} {z : ℤ} (hC : 0 < C) (hK : K = m * C) (hW : ∀ k < K, W k = w (k / C) o (k % C))
    (hq : r0 = q * C) (hR : r0 + K ≤ R) (hc : 127 ≤ c0) (hc' : c0 ≤ 129) (hj : j < 2048)
    (hz : z = n * (((c0 + j : ℕ) : ℤ) - 128) + q) :
    dotR K W (fun k => A (r0 + k) (c0 + j)) = taps C w X m o z := by
  subst hK hq
  refine Eq.trans (dotR_congr hW fun k hk => ?_) (dotR_stack C w X o z m)
  rw [h (q * C + k) (c0 + j) (by omega) (by omega) (by omega), Nat.mul_comm q C, Nat.mul_add_div hC, Nat.mul_add_mod, hz]
  congr 1; push_cast; ring

/-- A convolution of `m` taps with stride `st` and `p` zeros before: weights `w o i k`, bias `b o`. -/
def conv (C m : ℕ) (st p : ℤ) (w : ℕ → ℕ → ℕ → EReal) (b : ℕ → EReal) (X : ℕ → ℤ → EReal) : ℕ → ℤ → EReal :=
  fun o s => taps C (fun k o i => w o i k) X m o (st * s - p) + b o

end PhaseConv

end
-- ==== Proof.HostArr.lean ====
/- What the host's operations do to arrays read as functions of natural numbers: the arrangement of weights, padding,
   strided slices, products and the rectifier. -/
module

public import proofs.«01_k».proof.Proof.Spec

@[expose] public section

noncomputable section

namespace PhaseConv

open Idealize.ShloMosaic Idealize.ShloMosaic.ValueIdx
open scoped BigOperators

/-! ## Weights -/

/-- A vector reshaped to a column. -/
theorem is2_colCast {n : ℕ} {x : (B1 n).Idx → EReal} {A : ℕ → EReal} (hx : Is1 x A) (h : (B1 n).ShapeCasts (B2 n 1)) :
    Is2 (shapeCast (B2 n 1) x h) (fun i _ => A i) := fun i => by
  refine (shapeCast_apply x h i (ix1 ⟨(i 0).val, (i 0).isLt⟩) ?_).trans (hx _)
  rw [Shape.rowMajor_val_one, Shape.rowMajor_val_two]
  have h1 : (i 1).val < 1 := (i 1).isLt
  show (i 0).val = (i 0).val * 1 + (i 1).val
  omega

/-- A three-axis array whose last axis has one entry, reshaped to a matrix. -/
theorem is2_drop3 {a b : ℕ} {x : (B3 a b 1).Idx → EReal} {A : ℕ → ℕ → ℕ → EReal} (hx : Is3 x A)
    (h : (B3 a b 1).ShapeCasts (B2 a b)) : Is2 (shapeCast (B2 a b) x h) (fun i j => A i j 0) := fun i => by
  refine (shapeCast_apply x h i (ix3 ⟨(i 0).val, (i 0).isLt⟩ ⟨(i 1).val, (i 1).isLt⟩ 0) ?_).trans (hx _)
  rw [Shape.rowMajor_val_three, Shape.rowMajor_val_two]
  show ((i 0).val * b + (i 1).val) * 1 + 0 = (i 0).val * b + (i 1).val
  omega

/-- A three-axis array whose first axis has one entry, reshaped to a matrix. -/
theorem is2_drop1 {a b : ℕ} {x : (B3 1 a b).Idx → EReal} {A : ℕ → ℕ → ℕ → EReal} (hx : Is3 x A)
    (h : (B3 1 a b).ShapeCasts (B2 a b)) : Is2 (shapeCast (B2 a b) x h) (fun i j => A 0 i j) := fun i => by
  refine (shapeCast_apply x h i (ix3 0 ⟨(i 0).val, (i 0).isLt⟩ ⟨(i 1).val, (i 1).isLt⟩) ?_).trans (hx _)
  rw [Shape.rowMajor_val_three, Shape.rowMajor_val_two]
  show (0 * a + (i 0).val) * b + (i 1).val = (i 0).val * b + (i 1).val
  rw [Nat.zero_mul, Nat.zero_add]

/-- A matrix reshaped to a three-axis array whose first axis has one entry. -/
theorem is3_lead {a b : ℕ} {x : (B2 a b).Idx → EReal} {A : ℕ → ℕ → EReal} (hx : Is2 x A)
    (h : (B2 a b).ShapeCasts (B3 1 a b)) : Is3 (shapeCast (B3 1 a b) x h) (fun _ i j => A i j) := fun i => by
  refine (shapeCast_apply x h i (ix2 ⟨(i 1).val, (i 1).isLt⟩ ⟨(i 2).val, (i 2).isLt⟩) ?_).trans (hx _)
  rw [Shape.rowMajor_val_three, Shape.rowMajor_val_two]
  have h0 : (i 0).val < 1 := (i 0).isLt
  have e : (i 0).val = 0 := by omega
  show (i 1).val * b + (i 2).val = ((i 0).val * a + (i 1).val) * b + (i 2).val
  rw [e]; ring

/-- A window of a three-axis array. -/
theorem is3_slice {a b c a' b' c' : ℕ} {x : (B3 a b c).Idx → EReal} {A : ℕ → ℕ → ℕ → EReal} (hx : Is3 x A) (o1 o2 o3 : ℕ)
    (hs : (B3 a b c).Slices ![o1, o2, o3] (B3 a' b' c')) :
    Is3 (extractStridedSlice (B3 a' b' c') ![o1, o2, o3] x hs) (fun i j k => A (o1 + i) (o2 + j) (o3 + k)) := fun i => hx _

/-- Every `st`-th entry of the last axis, from entry `o`. -/
theorem is3_stride {a b c c' : ℕ} {x : (B3 a b c).Idx → EReal} {A : ℕ → ℕ → ℕ → EReal} (hx : Is3 x A) (o st : ℕ)
    (hs : (B3 a b c).SlicesBy ![0, 0, o] ![1, 1, st] (B3 a b c')) :
    Is3 (Host.slice (B3 a b c') ![0, 0, o] ![1, 1, st] x hs) (fun i j k => A i j (o + st * k)) := fun i => by
  refine (hx _).trans ?_
  show A (0 + 1 * (i 0).val) (0 + 1 * (i 1).val) (o + st * (i 2).val) = _
  rw [Nat.zero_add, Nat.one_mul, Nat.zero_add, Nat.one_mul]

/-- The last axis moved to the front. -/
theorem is3_front {a b c : ℕ} {x : (B3 a b c).Idx → EReal} {A : ℕ → ℕ → ℕ → EReal} (hx : Is3 x A)
    (h : (B3 a b c).Transposes [2, 0, 1] (B3 c a b)) :
    Is3 (transpose (B3 c a b) [2, 0, 1] x h) (fun k i j => A i j k) := fun i =>
  (transpose_apply [2, 0, 1] x h i (ix3 ⟨(i 1).val, (i 1).isLt⟩ ⟨(i 2).val, (i 2).isLt⟩ ⟨(i 0).val, (i 0).isLt⟩) fun d =>
    match d with
    | ⟨0, _⟩ => rfl
    | ⟨1, _⟩ => rfl
    | ⟨2, _⟩ => rfl).trans (hx _)

/-- The axes of a three-axis array reversed. -/
theorem is3_rev {a b c : ℕ} {x : (B3 a b c).Idx → EReal} {A : ℕ → ℕ → ℕ → EReal} (hx : Is3 x A)
    (h : (B3 a b c).Transposes [2, 1, 0] (B3 c b a)) :
    Is3 (transpose (B3 c b a) [2, 1, 0] x h) (fun k j i => A i j k) := fun i =>
  (transpose_apply [2, 1, 0] x h i (ix3 ⟨(i 2).val, (i 2).isLt⟩ ⟨(i 1).val, (i 1).isLt⟩ ⟨(i 0).val, (i 0).isLt⟩) fun d =>
    match d with
    | ⟨0, _⟩ => rfl
    | ⟨1, _⟩ => rfl
    | ⟨2, _⟩ => rfl).trans (hx _)

/-- The first two axes exchanged. -/
theorem is3_swap {a b c : ℕ} {x : (B3 a b c).Idx → EReal} {A : ℕ → ℕ → ℕ → EReal} (hx : Is3 x A)
    (h : (B3 a b c).Transposes [1, 0, 2] (B3 b a c)) :
    Is3 (transpose (B3 b a c) [1, 0, 2] x h) (fun j i k => A i j k) := fun i =>
  (transpose_apply [1, 0, 2] x h i (ix3 ⟨(i 1).val, (i 1).isLt⟩ ⟨(i 0).val, (i 0).isLt⟩ ⟨(i 2).val, (i 2).isLt⟩) fun d =>
    match d with
    | ⟨0, _⟩ => rfl
    | ⟨1, _⟩ => rfl
    | ⟨2, _⟩ => rfl).trans (hx _)

/-- A matrix transposed. -/
theorem is2_tr {a b : ℕ} {x : (B2 a b).Idx → EReal} {A : ℕ → ℕ → EReal} (hx : Is2 x A)
    (h : (B2 a b).Transposes [1, 0] (B2 b a)) :
    Is2 (transpose (B2 b a) [1, 0] x h) (fun j i => A i j) := fun i =>
  (transpose_apply [1, 0] x h i (ix2 ⟨(i 1).val, (i 1).isLt⟩ ⟨(i 0).val, (i 0).isLt⟩) fun d =>
    match d with
    | ⟨0, _⟩ => rfl
    | ⟨1, _⟩ => rfl).trans (hx _)

/-- Matrices of `b` columns side by side: column `j` is column `j % b` of matrix `j / b`. -/
theorem is2_cat {a b t : ℕ} (xs : List ((s : Shape) × (s.Idx → EReal))) (h : Shape.Concatenates (xs.map (·.1)) (B2 a t) 1)
    (W : ℕ → ℕ → ℕ → EReal) (ht : t = xs.length * b)
    (hx : ∀ k (hk : k < xs.length), ∃ x : (B2 a b).Idx → EReal, xs[k] = ⟨B2 a b, x⟩ ∧ Is2 x (W k)) :
    Is2 (concatenate (B2 a t) 1 xs h) (fun i j => W (j / b) i (j % b)) := fun i => by
  have hj : (i 1).val < xs.length * b := ht ▸ (i 1).isLt
  have hb : 0 < b := Nat.pos_of_ne_zero fun e => by rw [e, Nat.mul_zero] at hj; omega
  have hk : (i 1).val / b < xs.length := Nat.div_lt_of_lt_mul (by rw [Nat.mul_comm]; exact hj)
  obtain ⟨x, hxk, hX⟩ := hx _ hk
  refine (concatenate_apply_piece (1 : Fin (B2 a t).rank) xs h i ((i 1).val / b) hk (B2 a b) x hxk rfl
    ((i 1).val / b * b) ?_ (ix2 ⟨(i 0).val, (i 0).isLt⟩ ⟨(i 1).val % b, Nat.mod_lt _ hb⟩) (fun d hd => ?_) ?_).trans (hX _)
  · have e : ((List.take ((i 1).val / b) xs).map (·.1)).map
        (fun s : Shape => if h : s.rank = (B2 a t).rank then s.size ((1 : Fin (B2 a t).rank).cast h.symm) else 0)
        = List.replicate ((i 1).val / b) b := by
      refine List.ext_getElem (by simp; omega) fun n h1 h2 => ?_
      have hn : n < xs.length := by simp at h1; omega
      obtain ⟨y, hy, _⟩ := hx n hn
      rw [List.getElem_map, List.getElem_map, List.getElem_take, hy, List.getElem_replicate]
      exact dif_pos rfl
    rw [e]; simp
  · match d, hd with
    | ⟨0, _⟩, _ => rfl
    | ⟨1, _⟩, hd => exact absurd rfl hd
  · show (i 1).val / b * b + (i 1).val % b = (i 1).val
    rw [Nat.mul_comm]; exact Nat.div_add_mod _ _

/-! ## The reference's operations -/

/-- The sum of two arrays. -/
theorem is3_add {a b c : ℕ} {x y : FVec Ideal (B3 a b c) .f32} {A B : ℕ → ℕ → ℕ → EReal} (hx : Is3 x A) (hy : Is3 y B) :
    Is3 (addf x y) (fun i j k => A i j k + B i j k) := fun i => by
  show (x i + y i : EReal) = _; rw [hx i, hy i]

/-- A vector broadcast along the first axis. -/
theorem is3_bias {a b c : ℕ} {x : (B1 a).Idx → EReal} {A : ℕ → EReal} (hx : Is1 x A)
    (h : (B1 a).BroadcastsInDim (B3 a b c) ![0]) :
    Is3 (broadcastInDim (B3 a b c) ![0] h x) (fun i _ _ => A i) := fun i => by
  have h0 : (i 0).val < a := (i 0).isLt
  refine (broadcastInDim_apply ![0] h x i (ix1 ⟨(i 0).val, h0⟩) (fun d => ?_)).trans (hx _)
  match d with
  | ⟨0, _⟩ =>
    show (i 0).val = if a = 1 then 0 else (i 0).val
    split_ifs <;> omega

/-- The rectifier of an array, from what each of its operations is at one place. -/
theorem is3_act {a b c : ℕ} {x z s : FVec Ideal (B3 a b c) .f32} {A : ℕ → ℕ → ℕ → EReal} (hx : Is3 x A)
    (hz : ∀ i, z i = (Ideal.ofBits .f32 0x00000000#32 : EReal)) (hs : ∀ i, s i = slope) :
    Is3 (select (cmpf .oge x z) x (mulf s x)) (fun i j k => act (A i j k)) := fun i => by
  show Scalar.select (FloatOps.cmpf (F := Ideal) (φ := .f32) .oge (x i) (z i)) (x i) ((s i * x i : EReal)) = _
  rw [hz i, hs i]
  refine (select_act (x i)).trans ?_
  rw [hx i]

/-- Signals padded on their axis with `lo` zeros before, `int` zeros between neighbours and zeros after. -/
theorem is3_pad {a b c c' lo hi int : ℕ} {x : (B3 a b c).Idx → EReal} {X : ℕ → ℕ → ℤ → EReal}
    (hx : Is3 x (fun i j k => X j i (k : ℤ))) {u : Shape} (v : u.Idx → EReal)
    (h : (B3 a b c).Pads ![0, 0, lo] ![0, 0, hi] ![0, 0, int] (B3 a b c')) (hu : 0 < u.numel) (hv : ∀ i, v i = 0) :
    Is3 (pad (B3 a b c') ![0, 0, lo] ![0, 0, hi] ![0, 0, int] x v h hu)
      (fun i j k => if ((k : ℤ) - lo) % ((int + 1 : ℕ) : ℤ) = 0 then cut c (X j) i (((k : ℤ) - lo) / ((int + 1 : ℕ) : ℤ)) else 0) :=
  fun i => by
  have hq : (0 : ℤ) < ((int + 1 : ℕ) : ℤ) := by positivity
  by_cases hc : lo ≤ (i 2).val ∧ ((i 2).val - lo) % (int + 1) = 0 ∧ ((i 2).val - lo) / (int + 1) < c
  · obtain ⟨h1, h2, h3⟩ := hc
    have e0 : (((i 2).val : ℤ) - lo) = (((i 2).val - lo : ℕ) : ℤ) := by omega
    have hin := pad_apply_of_inside ![0, 0, lo] ![0, 0, hi] ![0, 0, int] x v h hu i
      (ix3 ⟨(i 0).val, (i 0).isLt⟩ ⟨(i 1).val, (i 1).isLt⟩ ⟨((i 2).val - lo) / (int + 1), h3⟩) (fun d => by
        match d with
        | ⟨0, _⟩ => show (i 0).val = 0 + (i 0).val * (0 + 1); omega
        | ⟨1, _⟩ => show (i 1).val = 0 + (i 1).val * (0 + 1); omega
        | ⟨2, _⟩ =>
          show (i 2).val = lo + ((i 2).val - lo) / (int + 1) * (int + 1)
          have := Nat.div_add_mod ((i 2).val - lo) (int + 1)
          rw [h2, Nat.mul_comm] at this
          omega)
    refine hin.trans ((hx _).trans ?_)
    show X (i 1).val (i 0).val ((((i 2).val - lo) / (int + 1) : ℕ) : ℤ)
      = if (((i 2).val : ℤ) - lo) % ((int + 1 : ℕ) : ℤ) = 0 then
          cut c (X (i 1).val) (i 0).val ((((i 2).val : ℤ) - lo) / ((int + 1 : ℕ) : ℤ)) else 0
    rw [e0, ← Int.natCast_mod, ← Int.natCast_ediv, h2, Nat.cast_zero, if_pos rfl, cut_in (Int.natCast_nonneg _) (by exact_mod_cast h3)]
  · refine (pad_apply_of_not_inside ![0, 0, lo] ![0, 0, hi] ![0, 0, int] x v h hu i (2 : Fin 3) hc).trans
      ((hv _).trans (Eq.symm ?_))
    show (if (((i 2).val : ℤ) - lo) % ((int + 1 : ℕ) : ℤ) = 0 then cut c (X (i 1).val) (i 0).val ((((i 2).val : ℤ) - lo) / ((int + 1 : ℕ) : ℤ)) else 0) = 0
    split_ifs with hm
    · apply cut_out
      by_contra hn
      refine hc ⟨?_, ?_, ?_⟩
      · by_contra hl
        have : (((i 2).val : ℤ) - lo) / ((int + 1 : ℕ) : ℤ) < 0 := Int.ediv_neg_of_neg_of_pos (by omega) hq
        omega
      · have hl : lo ≤ (i 2).val := by
          by_contra hl
          have : (((i 2).val : ℤ) - lo) / ((int + 1 : ℕ) : ℤ) < 0 := Int.ediv_neg_of_neg_of_pos (by omega) hq
          omega
        have e0 : (((i 2).val : ℤ) - lo) = (((i 2).val - lo : ℕ) : ℤ) := by omega
        rw [e0, ← Int.natCast_mod] at hm
        exact_mod_cast hm
      · have hl : lo ≤ (i 2).val := by
          by_contra hl
          have : (((i 2).val : ℤ) - lo) / ((int + 1 : ℕ) : ℤ) < 0 := Int.ediv_neg_of_neg_of_pos (by omega) hq
          omega
        have e0 : (((i 2).val : ℤ) - lo) = (((i 2).val - lo : ℕ) : ℤ) := by omega
        rw [e0, ← Int.natCast_ediv] at hn
        have hn' : ¬ ((c : ℤ) ≤ ((((i 2).val - lo) / (int + 1) : ℕ) : ℤ)) := fun h => hn (Or.inr h)
        exact_mod_cast not_le.mp hn'
    · rfl

/-- Padding without zeros between neighbours. -/
theorem is3_pad1 {a b c c' lo hi : ℕ} {x : (B3 a b c).Idx → EReal} {X : ℕ → ℕ → ℤ → EReal}
    (hx : Is3 x (fun i j k => X j i (k : ℤ))) {u : Shape} (v : u.Idx → EReal)
    (h : (B3 a b c).Pads ![0, 0, lo] ![0, 0, hi] ![0, 0, 0] (B3 a b c')) (hu : 0 < u.numel) (hv : ∀ i, v i = 0) :
    Is3 (pad (B3 a b c') ![0, 0, lo] ![0, 0, hi] ![0, 0, 0] x v h hu) (fun i j k => cut c (X j) i ((k : ℤ) - lo)) :=
  (is3_pad hx v h hu hv).congr fun i j k _ _ _ => by
    show (if ((k : ℤ) - lo) % ((0 + 1 : ℕ) : ℤ) = 0 then cut c (X j) i (((k : ℤ) - lo) / ((0 + 1 : ℕ) : ℤ)) else 0) = _
    simp

/-- A product of a matrix of weights with an array of signals, from its sum at one place. -/
theorem is3_dot {O C b t : ℕ} {x : (B2 O C).Idx → EReal} {y : (B3 C b t).Idx → EReal} {z : (B3 O b t).Idx → EReal}
    {W : ℕ → ℕ → EReal} {A : ℕ → ℕ → ℕ → EReal} (hx : Is2 x W) (hy : Is3 y A)
    {l : (B3 O b t).Idx → Fin C → (B2 O C).Idx} {r : (B3 O b t).Idx → Fin C → (B3 C b t).Idx}
    (hz : ∀ i, z i = ∑ k : Fin C, x (l i k) * y (r i k))
    (hl : ∀ i k, (l i k 0).val = (i 0).val ∧ (l i k 1).val = k.val)
    (hr : ∀ i k, (r i k 0).val = k.val ∧ (r i k 1).val = (i 1).val ∧ (r i k 2).val = (i 2).val) :
    Is3 z (fun o j k => dotR C (W o) (fun c => A c j k)) := fun i => by
  refine (hz i).trans (Eq.trans (Finset.sum_congr rfl fun k _ => ?_) (sum_fin_dotR C _ _))
  rw [hx, hy, (hl i k).1, (hl i k).2, (hr i k).1, (hr i k).2.1, (hr i k).2.2]

/-- The same with the weights' axes exchanged. -/
theorem is3_dotT {O C b t : ℕ} {x : (B2 C O).Idx → EReal} {y : (B3 C b t).Idx → EReal} {z : (B3 O b t).Idx → EReal}
    {W : ℕ → ℕ → EReal} {A : ℕ → ℕ → ℕ → EReal} (hx : Is2 x W) (hy : Is3 y A)
    {l : (B3 O b t).Idx → Fin C → (B2 C O).Idx} {r : (B3 O b t).Idx → Fin C → (B3 C b t).Idx}
    (hz : ∀ i, z i = ∑ k : Fin C, x (l i k) * y (r i k))
    (hl : ∀ i k, (l i k 0).val = k.val ∧ (l i k 1).val = (i 0).val)
    (hr : ∀ i k, (r i k 0).val = k.val ∧ (r i k 1).val = (i 1).val ∧ (r i k 2).val = (i 2).val) :
    Is3 z (fun o j k => dotR C (fun c => W c o) (fun c => A c j k)) := fun i => by
  refine (hz i).trans (Eq.trans (Finset.sum_congr rfl fun k _ => ?_) (sum_fin_dotR C _ _))
  rw [hx, hy, (hl i k).1, (hl i k).2, (hr i k).1, (hr i k).2.1, (hr i k).2.2]

end PhaseConv

end
-- ==== Proof.Scratch.lean ====
/- Scratch arrays of the kernels: how the stores of one layer fill an array with the phases of its signals, and what a
   product with a window of such an array is. -/
module

public import proofs.«01_k».proof.Proof.HostArr

@[expose] public section

noncomputable section

namespace PhaseConv

open Idealize.ShloMosaic Idealize.ShloMosaic.ValueIdx
open scoped BigOperators

variable {sig : RefSig} {κ : Kind} {sp : Space}

/-- After the stores `L` the first `q` phases of the signals `X` stand in the array's data columns. -/
def Filled {R : ℕ} (v : View sig κ sp (B2 R 2304) .f32) (f : v.ty.Contents (Elt Ideal))
    (L : List (View.Piece (Elt Ideal) (B2 R 2304) .f32)) (C n q : ℕ) (X : ℕ → ℤ → EReal) : Prop :=
  ∃ A, Is2 (v.read (Elt Ideal) (v.writes (Elt Ideal) f L)) A ∧
    ∀ r j, r < q * C → 128 ≤ j → j < 2176 → A r j = X (r % C) (n * ((j : ℤ) - 128) + ((r / C : ℕ) : ℤ))

/-- After the stores `L` the array holds the phases of `X`, with its guard columns. -/
def Held {R : ℕ} (v : View sig κ sp (B2 R 2304) .f32) (f : v.ty.Contents (Elt Ideal))
    (L : List (View.Piece (Elt Ideal) (B2 R 2304) .f32)) (C n : ℕ) (X : ℕ → ℤ → EReal) : Prop :=
  ∃ A, Is2 (v.read (Elt Ideal) (v.writes (Elt Ideal) f L)) A ∧ Sig C R n A X

/-- Before any store nothing need stand. -/
theorem filled_nil {R : ℕ} (v : View sig κ sp (B2 R 2304) .f32) (f : v.ty.Contents (Elt Ideal)) (C n : ℕ) (X : ℕ → ℤ → EReal) :
    Filled v f [] C n 0 X := ⟨_, is2_of _, fun r j hr => by omega⟩

/-- A store of `m` more phases. -/
theorem Filled.put {R C n q m h o1 : ℕ} {v : View sig κ sp (B2 R 2304) .f32} {f : v.ty.Contents (Elt Ideal)}
    {L : List (View.Piece (Elt Ideal) (B2 R 2304) .f32)} {X : ℕ → ℤ → EReal} (hL : Filled v f L C n q X)
    {off : Fin 2 → ℕ} (ho : off = ![o1, 128]) (hC : 0 < C) (hq : o1 = q * C) (hm : h = m * C)
    (inb : ∀ c, off c + (B2 h 2048).size c ≤ (B2 R 2304).size c) {y : (B2 h 2048).Idx → EReal} {W : ℕ → ℕ → EReal}
    (hy : Is2 y W) (hW : ∀ i j, i < h → j < 2048 → W i j = X (i % C) (n * (j : ℤ) + ((q + i / C : ℕ) : ℤ))) :
    Filled v f (⟨Rect.unit (s := B2 R 2304) off (B2 h 2048).size inb, y⟩ :: L) C n (q + m) X := by
  obtain ⟨A, hA, hF⟩ := hL
  subst hq hm
  refine ⟨_, is2_put v f L hA (q * C) 128 ho inb hy, fun r j hr h1 h2 => ?_⟩
  rw [Nat.add_mul] at hr
  show (if (q * C ≤ r ∧ r < q * C + m * C) ∧ (128 ≤ j ∧ j < 128 + 2048) then W (r - q * C) (j - 128) else A r j) = _
  by_cases hq : q * C ≤ r
  · rw [if_pos ⟨⟨hq, hr⟩, h1, h2⟩, hW _ _ (by omega) (by omega)]
    obtain ⟨d, rfl⟩ := Nat.exists_eq_add_of_le hq
    rw [Nat.add_sub_cancel_left, Nat.mul_comm q C, Nat.mul_add_div hC, Nat.mul_add_mod, Nat.cast_sub h1]
    rfl
  · rw [if_neg (by omega)]
    exact hF r j (by omega) h1 h2

/-- The guard columns cleared over an array filled with all phases of signals that vanish outside `n` times 2048
    positions. -/
theorem Filled.guard {R C n : ℕ} {v : View sig κ sp (B2 R 2304) .f32} {f : v.ty.Contents (Elt Ideal)}
    {L : List (View.Piece (Elt Ideal) (B2 R 2304) .f32)} {X : ℕ → ℤ → EReal} (hL : Filled v f L C n n X) (hR : R = n * C)
    (hC : 0 < C) (hX : ∀ (o : ℕ) (s : ℤ), s < 0 ∨ ((n * 2048 : ℕ) : ℤ) ≤ s → X o s = 0)
    (inb : ∀ c, ![0, 127] c + (B2 R 1).size c ≤ (B2 R 2304).size c) (inb' : ∀ c, ![0, 2176] c + (B2 R 1).size c ≤ (B2 R 2304).size c)
    {y y' : (B2 R 1).Idx → EReal} (hy : Is2 y fun _ _ => 0) (hy' : Is2 y' fun _ _ => 0) :
    Held v f (⟨Rect.unit (s := B2 R 2304) ![0, 2176] (B2 R 1).size inb', y'⟩ ::
      ⟨Rect.unit (s := B2 R 2304) ![0, 127] (B2 R 1).size inb, y⟩ :: L) C n X := by
  obtain ⟨A, hA, hF⟩ := hL
  refine ⟨_, is2_put v f _ (is2_put v f L hA 0 127 rfl inb hy) 0 2176 rfl inb' hy', fun r j hr h1 h2 => ?_⟩
  have hd : r / C < n := Nat.div_lt_of_lt_mul (by rw [Nat.mul_comm, ← hR]; exact hr)
  have hn : (1 : ℤ) ≤ n := by exact_mod_cast Nat.one_le_of_lt hd
  show (if (0 ≤ r ∧ r < 0 + R) ∧ (2176 ≤ j ∧ j < 2176 + 1) then (0 : EReal) else
    if (0 ≤ r ∧ r < 0 + R) ∧ (127 ≤ j ∧ j < 127 + 1) then (0 : EReal) else A r j) = _
  by_cases ha : j = 2176
  · subst ha
    rw [if_pos (by omega)]
    exact (hX _ _ (Or.inr (by generalize r / C = e; push_cast; omega))).symm
  · rw [if_neg (by omega)]
    by_cases hb : j = 127
    · subst hb
      rw [if_pos (by omega)]
      exact (hX _ _ (Or.inl (by generalize r / C = e at hd ⊢; push_cast; omega))).symm
    · rw [if_neg (by omega)]
      exact hF r j (by omega) (by omega) (by omega)

/-- The product of weights stacked tap by tap with a window of a filled array: whole phases from phase `q`, columns from
    `c0`. -/
theorem Held.group {R C n K M m q r0 c0 : ℕ} {v : View sig κ sp (B2 R 2304) .f32} {f : v.ty.Contents (Elt Ideal)}
    {L : List (View.Piece (Elt Ideal) (B2 R 2304) .f32)} {X : ℕ → ℤ → EReal} (hA : Held v f L C n X)
    {off : Fin 2 → ℕ} (ho : off = ![r0, 0]) (inb : ∀ c, off c + (B2 K 2304).size c ≤ (B2 R 2304).size c)
    (hs : (B2 K 2304).Slices ![0, c0] (B2 K 2048))
    {d : DotDims (B2 M K) (B2 K 2048) (B2 M 2048)} (hd : d = DotDims.plain M K 2048) {prec : Option ContractPrecision}
    {x : FVec Ideal (B2 M K) .f32} (w : ℕ → ℕ → ℕ → EReal) (hx : Is2 x (fun o k => w (k / C) o (k % C)))
    (hC : 0 < C) (hK : K = m * C) (hq : r0 = q * C) (hR : r0 + K ≤ R) (hc : 127 ≤ c0) (hc' : c0 ≤ 129) :
    Is2 (matmul (φ₂ := .f32) d prec x (extractStridedSlice (α := EReal) (s := B2 K 2304) (B2 K 2048) ![0, c0]
        (v.readAt (Elt Ideal) (Rect.unit (s := B2 R 2304) off (B2 K 2304).size inb).toLoadRect (v.writes (Elt Ideal) f L)) hs)
        (constant (F := Ideal) (B2 M 2048) .f32 0x00000000#32))
      (fun o j => taps C w X m o (n * ((j : ℤ) + (c0 - 128)) + q)) := by
  obtain ⟨A, hA, hS⟩ := hA
  refine (is2_mat hd hx (is2_slice (is2_load v _ hA r0 0 ho inb) 0 c0 hs)).congr fun o j _ hj => ?_
  have e : (fun k => A (r0 + (0 + k)) (0 + (c0 + j))) = fun k => A (r0 + k) (c0 + j) := by
    funext k; rw [Nat.zero_add, Nat.zero_add]
  show dotR K (fun k => w (k / C) o (k % C)) (fun k => A (r0 + (0 + k)) (0 + (c0 + j))) = _
  rw [e]
  exact hS.dot hC hK (fun k _ => rfl) hq hR hc hc' hj (by push_cast; ring)

/-- The same product where the weights are those of one tap: a window of one phase. -/
theorem Held.group1 {R C n M q r0 c0 : ℕ} {v : View sig κ sp (B2 R 2304) .f32} {f : v.ty.Contents (Elt Ideal)}
    {L : List (View.Piece (Elt Ideal) (B2 R 2304) .f32)} {X : ℕ → ℤ → EReal} (hA : Held v f L C n X)
    {off : Fin 2 → ℕ} (ho : off = ![r0, 0]) (inb : ∀ c, off c + (B2 C 2304).size c ≤ (B2 R 2304).size c)
    (hs : (B2 C 2304).Slices ![0, c0] (B2 C 2048))
    {d : DotDims (B2 M C) (B2 C 2048) (B2 M 2048)} (hd : d = DotDims.plain M C 2048) {prec : Option ContractPrecision}
    {x : FVec Ideal (B2 M C) .f32} (w : ℕ → ℕ → EReal) (hx : Is2 x w)
    (hC : 0 < C) (hq : r0 = q * C) (hR : r0 + C ≤ R) (hc : 127 ≤ c0) (hc' : c0 ≤ 129) :
    Is2 (matmul (φ₂ := .f32) d prec x (extractStridedSlice (α := EReal) (s := B2 C 2304) (B2 C 2048) ![0, c0]
        (v.readAt (Elt Ideal) (Rect.unit (s := B2 R 2304) off (B2 C 2304).size inb).toLoadRect (v.writes (Elt Ideal) f L)) hs)
        (constant (F := Ideal) (B2 M 2048) .f32 0x00000000#32))
      (fun o j => tap C w X o (n * ((j : ℤ) + (c0 - 128)) + q)) :=
  (hA.group ho inb hs hd (fun _ => w) (hx.congr fun o k _ hk => by rw [Nat.mod_eq_of_lt hk]) hC (m := 1) (by omega) hq hR hc
    hc').congr fun o j _ _ => taps_one C (fun _ => w) X o _

/-- A store of one more phase. -/
theorem Filled.put1 {R C n q o1 : ℕ} {v : View sig κ sp (B2 R 2304) .f32} {f : v.ty.Contents (Elt Ideal)}
    {L : List (View.Piece (Elt Ideal) (B2 R 2304) .f32)} {X : ℕ → ℤ → EReal} (hL : Filled v f L C n q X)
    {off : Fin 2 → ℕ} (ho : off = ![o1, 128]) (hC : 0 < C) (hq : o1 = q * C)
    (inb : ∀ c, off c + (B2 C 2048).size c ≤ (B2 R 2304).size c) {y : (B2 C 2048).Idx → EReal} {W : ℕ → ℕ → EReal}
    (hy : Is2 y W) (hW : ∀ i j, i < C → j < 2048 → W i j = X i (n * (j : ℤ) + q)) :
    Filled v f (⟨Rect.unit (s := B2 R 2304) off (B2 C 2048).size inb, y⟩ :: L) C n (q + 1) X :=
  hL.put ho hC hq (m := 1) (by omega) inb hy fun i j hi hj => by
    rw [Nat.mod_eq_of_lt hi, Nat.div_eq_of_lt hi]; exact hW i j hi hj

/-- A convolution's taps from its first one apart. -/
theorem conv_first {C m : ℕ} {st p : ℤ} {w : ℕ → ℕ → ℕ → EReal} {b : ℕ → EReal} {X : ℕ → ℤ → EReal} {o : ℕ} {s z z' : ℤ}
    (hz' : z' = st * s - p) (hz : z = z' + 1) :
    taps C (fun q o i => w o i (1 + q)) X m o z + tap C (fun o i => w o i 0) X o z' + b o = conv C (1 + m) st p w b X o s := by
  subst hz hz'
  unfold conv
  rw [taps_add, taps_one, add_comm (taps C (fun q o i => w o i (1 + q)) X m o _), Nat.cast_one]

/-- A convolution's taps with its last one apart. -/
theorem conv_last {C m : ℕ} {st p : ℤ} {w : ℕ → ℕ → ℕ → EReal} {b : ℕ → EReal} {X : ℕ → ℤ → EReal} {o : ℕ} {s z z' : ℤ}
    (hz : z = st * s - p) (hz' : z' = z + m) :
    taps C (fun q o i => w o i q) X m o z + tap C (fun o i => w o i m) X o z' + b o = conv C (m + 1) st p w b X o s := by
  subst hz' hz
  unfold conv
  rw [taps_add, taps_one]; rfl

/-- A convolution of one tap. -/
theorem conv_one {C : ℕ} {st p : ℤ} {w : ℕ → ℕ → ℕ → EReal} {b : ℕ → EReal} {X : ℕ → ℤ → EReal} {o : ℕ} {s z : ℤ}
    (hz : z = st * s - p) :
    tap C (fun o i => w o i 0) X o z + b o = conv C 1 st p w b X o s := by
  subst hz
  unfold conv
  rw [taps_one]

/-- A convolution, rectified and kept on its extent. -/
def layer (N C m : ℕ) (st p : ℤ) (w : ℕ → ℕ → ℕ → EReal) (b : ℕ → EReal) (X : ℕ → ℤ → EReal) : ℕ → ℤ → EReal :=
  cut N fun o s => act (conv C m st p w b X o s)

/-- What one entry of a layer is. -/
theorem layer_in {N C m : ℕ} {st p : ℤ} {w : ℕ → ℕ → ℕ → EReal} {b : ℕ → EReal} {X : ℕ → ℤ → EReal} {o : ℕ} {s : ℤ} {g : EReal}
    (h0 : 0 ≤ s) (h1 : s < N) (h : g = conv C m st p w b X o s) : act g = layer N C m st p w b X o s := by
  rw [h]; exact (cut_in (f := fun o s => act (conv C m st p w b X o s)) h0 h1).symm

/-- A convolution's taps with its first and its last one apart. -/
theorem conv_both {C m : ℕ} {st p : ℤ} {w : ℕ → ℕ → ℕ → EReal} {b : ℕ → EReal} {X : ℕ → ℤ → EReal} {o : ℕ} {s z z' z'' : ℤ}
    (hz' : z' = st * s - p) (hz : z = z' + 1) (hz'' : z'' = z' + (1 + m : ℕ)) :
    taps C (fun q o i => w o i (1 + q)) X m o z + tap C (fun o i => w o i 0) X o z' + tap C (fun o i => w o i (1 + m)) X o z'' + b o =
      conv C (1 + m + 1) st p w b X o s := by
  subst hz hz' hz''
  unfold conv
  rw [taps_add (m := 1 + m), taps_add, taps_one, taps_one, add_comm (taps C (fun q o i => w o i (1 + q)) X m o _), Nat.cast_one]
  rfl

/-- A convolution of three taps, its middle one first. -/
theorem conv_three {C : ℕ} {st p : ℤ} {w : ℕ → ℕ → ℕ → EReal} {b : ℕ → EReal} {X : ℕ → ℤ → EReal} {o : ℕ} {s z z' z'' : ℤ}
    (hz' : z' = st * s - p) (hz : z = z' + 1) (hz'' : z'' = z' + 2) :
    tap C (fun o i => w o i 1) X o z + tap C (fun o i => w o i 0) X o z' + tap C (fun o i => w o i 2) X o z'' + b o =
      conv C 3 st p w b X o s := by
  rw [← taps_one C (fun q o i => w o i (1 + q)) X o z]
  exact conv_both hz' hz hz''

/-- One phase of a filled array, loaded. -/
theorem Held.phase {R C n q r0 c0 : ℕ} {v : View sig κ sp (B2 R 2304) .f32} {f : v.ty.Contents (Elt Ideal)}
    {L : List (View.Piece (Elt Ideal) (B2 R 2304) .f32)} {X : ℕ → ℤ → EReal} (hA : Held v f L C n X)
    {off : Fin 2 → ℕ} (ho : off = ![r0, c0]) (inb : ∀ c, off c + (B2 C 2048).size c ≤ (B2 R 2304).size c)
    (hC : 0 < C) (hq : r0 = q * C) (hR : r0 + C ≤ R) (hc : 127 ≤ c0) (hc' : c0 ≤ 129) :
    Is2 (v.readAt (Elt Ideal) (Rect.unit (s := B2 R 2304) off (B2 C 2048).size inb).toLoadRect (v.writes (Elt Ideal) f L))
      (fun o j => X o (n * ((j : ℤ) + (c0 - 128)) + q)) := by
  obtain ⟨A, hA, hS⟩ := hA
  refine (is2_load v _ hA r0 c0 ho inb).congr fun k j hk hj => ?_
  subst hq
  rw [hS _ _ (by omega) (by omega) (by omega), Nat.mul_comm q C, Nat.mul_add_div hC, Nat.mul_add_mod, Nat.mod_eq_of_lt hk,
    Nat.div_eq_of_lt hk]
  congr 1; push_cast; ring

/-- A whole staged argument, loaded and reshaped to its own shape. -/
theorem is2_arg {a b : ℕ} {x : (B2 a b).Idx → EReal} {A : ℕ → ℕ → EReal} (hx : Is2 x A)
    (r : Memref sig κ sp (B2 a b) .f32) (hr : r.IsWhole)
    (inb : ∀ c, ![0, 0] c + (B2 a b).size c ≤ (B2 a b).size c) (h : (B2 a b).ShapeCasts (B2 a b)) :
    Is2 (shapeCast (B2 a b) (r.view.readAt (Elt Ideal) (Rect.unit (s := B2 a b) ![0, 0] (B2 a b).size inb).toLoadRect
      (hr.unread x)) h) A :=
  (is2_cast (is2_load r.view _ (by rw [hr.read_unread]; exact hx) 0 0 rfl inb) h).congr fun i j _ _ => by
    show A (0 + i) (0 + j) = _
    rw [Nat.zero_add, Nat.zero_add]

/-- A whole staged three-axis argument, loaded. -/
theorem is3_arg {a b d : ℕ} {x : (B3 a b d).Idx → EReal} {A : ℕ → ℕ → ℕ → EReal} (hx : Is3 x A)
    (r : Memref sig κ sp (B3 a b d) .f32) (hr : r.IsWhole)
    (inb : ∀ c, ![0, 0, 0] c + (B3 a b d).size c ≤ (B3 a b d).size c) :
    Is3 (r.view.readAt (Elt Ideal) (Rect.unit (s := B3 a b d) ![0, 0, 0] (B3 a b d).size inb).toLoadRect (hr.unread x)) A :=
  fun i => by
    have h : Is3 (r.view.read (Elt Ideal) (hr.unread x)) A := by rw [hr.read_unread]; exact hx
    refine (h _).trans ?_
    show A (0 + 1 * (i 0).val) (0 + 1 * (i 1).val) (0 + 1 * (i 2).val) = _
    rw [Nat.zero_add, Nat.zero_add, Nat.zero_add, Nat.one_mul, Nat.one_mul, Nat.one_mul]

end PhaseConv

end
-- ==== Proof.EncVal.lean ====
/- What the encoder's body leaves: each scratch array holds the phases of one layer, and the output block is the last
   convolution of the encoder. -/
module

public import proofs.«01_k».proof.Proof.EncIdealBody
public import proofs.«01_k».proof.Proof.Scratch

@[expose] public section

set_option maxRecDepth 16384
set_option maxHeartbeats 4000000

noncomputable section

namespace Cert.EncIdeal.Hand

open Cert.EncIdeal.Gen
open Idealize.ShloMosaic PhaseConv

/-- The staged operands of the encoder's body: the phases of the signal `X`, and the layers' weights `w1` … `w5`, `wq` and
    biases `b1` … `b5`, `bq`, in the pieces the body multiplies with. -/
structure Operands (x0 : Vec Ideal S1x16x2048 .f32) (x1 : Vec Ideal S128x1 .f32) (x2 : Vec Ideal S128x6 .f32) (x3 : Vec Ideal S128x2 .f32) (x4 : Vec Ideal S128x1 .f32) (x5 : Vec Ideal S128x8 .f32) (x6 : Vec Ideal S128x1 .f32) (x7 : Vec Ideal S128x8 .f32) (x8 : Vec Ideal S128x1 .f32) (x9 : Vec Ideal S128x6 .f32) (x10 : Vec Ideal S128x2 .f32) (x11 : Vec Ideal S256x1 .f32) (x12 : Vec Ideal S256x384 .f32) (x13 : Vec Ideal S256x128 .f32) (x14 : Vec Ideal S256x1 .f32) (x15 : Vec Ideal S256x384 .f32) (x16 : Vec Ideal S256x128 .f32) (x17 : Vec Ideal S256x1 .f32) (x18 : Vec Ideal S256x512 .f32) (x19 : Vec Ideal S256x256 .f32) (x20 : Vec Ideal S256x256 .f32) (x21 : Vec Ideal S256x1 .f32) (x22 : Vec Ideal S256x256 .f32) (x23 : Vec Ideal S256x256 .f32) (x24 : Vec Ideal S256x256 .f32) (x25 : Vec Ideal S64x256 .f32) (x26 : Vec Ideal S64x1 .f32) (x27 : Vec Ideal S64x64 .f32) (x28 : Vec Ideal S64x1 .f32) (X : ℕ → ℤ → EReal)
    (w1 w2 w3 w4 w5 wq : ℕ → ℕ → ℕ → EReal) (b1 b2 b3 b4 b5 bq : ℕ → EReal) : Prop where
  zero : ∀ (o : ℕ) (s : ℤ), s < 0 ∨ ((8 * 2048 : ℕ) : ℤ) ≤ s → X o s = 0
  h0 : Is3 x0 fun _ r j => X (r % 2) ((8 : ℕ) * (j : ℤ) + ((r / 2 : ℕ) : ℤ))
  h1 : Is2 x1 fun o _ => b1 o
  h2 : Is2 x2 fun o k => w1 o (k % 2) (1 + k / 2)
  h3 : Is2 x3 fun o k => w1 o k 0
  h4 : Is2 x4 fun o _ => b1 o
  h5 : Is2 x5 fun o k => w1 o (k % 2) (k / 2)
  h6 : Is2 x6 fun o _ => b1 o
  h7 : Is2 x7 fun o k => w1 o (k % 2) (k / 2)
  h8 : Is2 x8 fun o _ => b1 o
  h9 : Is2 x9 fun o k => w1 o (k % 2) (k / 2)
  h10 : Is2 x10 fun o k => w1 o k 3
  h11 : Is2 x11 fun o _ => b2 o
  h12 : Is2 x12 fun o k => w2 o (k % 128) (1 + k / 128)
  h13 : Is2 x13 fun o k => w2 o k 0
  h14 : Is2 x14 fun o _ => b2 o
  h15 : Is2 x15 fun o k => w2 o (k % 128) (k / 128)
  h16 : Is2 x16 fun o k => w2 o k 3
  h17 : Is2 x17 fun o _ => b3 o
  h18 : Is2 x18 fun o k => w3 o (k % 256) (1 + k / 256)
  h19 : Is2 x19 fun o k => w3 o k 0
  h20 : Is2 x20 fun o k => w3 o k 3
  h21 : Is2 x21 fun o _ => b4 o
  h22 : Is2 x22 fun o k => w4 o k 1
  h23 : Is2 x23 fun o k => w4 o k 0
  h24 : Is2 x24 fun o k => w4 o k 2
  h25 : Is2 x25 fun o k => w5 o k 0
  h26 : Is2 x26 fun o _ => b5 o
  h27 : Is2 x27 fun o k => wq o k 0
  h28 : Is2 x28 fun o _ => bq o

variable {x0 : Vec Ideal S1x16x2048 .f32} {x1 : Vec Ideal S128x1 .f32} {x2 : Vec Ideal S128x6 .f32} {x3 : Vec Ideal S128x2 .f32} {x4 : Vec Ideal S128x1 .f32} {x5 : Vec Ideal S128x8 .f32} {x6 : Vec Ideal S128x1 .f32} {x7 : Vec Ideal S128x8 .f32} {x8 : Vec Ideal S128x1 .f32} {x9 : Vec Ideal S128x6 .f32} {x10 : Vec Ideal S128x2 .f32} {x11 : Vec Ideal S256x1 .f32} {x12 : Vec Ideal S256x384 .f32} {x13 : Vec Ideal S256x128 .f32} {x14 : Vec Ideal S256x1 .f32} {x15 : Vec Ideal S256x384 .f32} {x16 : Vec Ideal S256x128 .f32} {x17 : Vec Ideal S256x1 .f32} {x18 : Vec Ideal S256x512 .f32} {x19 : Vec Ideal S256x256 .f32} {x20 : Vec Ideal S256x256 .f32} {x21 : Vec Ideal S256x1 .f32} {x22 : Vec Ideal S256x256 .f32} {x23 : Vec Ideal S256x256 .f32} {x24 : Vec Ideal S256x256 .f32} {x25 : Vec Ideal S64x256 .f32} {x26 : Vec Ideal S64x1 .f32} {x27 : Vec Ideal S64x64 .f32} {x28 : Vec Ideal S64x1 .f32} {X : ℕ → ℤ → EReal}
  {w1 w2 w3 w4 w5 wq : ℕ → ℕ → ℕ → EReal} {b1 b2 b3 b4 b5 bq : ℕ → EReal}
  (H : Operands x0 x1 x2 x3 x4 x5 x6 x7 x8 x9 x10 x11 x12 x13 x14 x15 x16 x17 x18 x19 x20 x21 x22 x23 x24 x25 x26 x27 x28 X w1 w2 w3 w4 w5 wq b1 b2 b3 b4 b5 bq)
  (c : Dev nD)
  (arg1 : Memref sig .tc .vmem S1x16x2048 .f32) (harg1 : arg1.IsWhole)
  (arg2 : Memref sig .tc .vmem S128x1 .f32) (harg2 : arg2.IsWhole)
  (arg3 : Memref sig .tc .vmem S128x6 .f32) (harg3 : arg3.IsWhole)
  (arg4 : Memref sig .tc .vmem S128x2 .f32) (harg4 : arg4.IsWhole)
  (arg5 : Memref sig .tc .vmem S128x1 .f32) (harg5 : arg5.IsWhole)
  (arg6 : Memref sig .tc .vmem S128x8 .f32) (harg6 : arg6.IsWhole)
  (arg7 : Memref sig .tc .vmem S128x1 .f32) (harg7 : arg7.IsWhole)
  (arg8 : Memref sig .tc .vmem S128x8 .f32) (harg8 : arg8.IsWhole)
  (arg9 : Memref sig .tc .vmem S128x1 .f32) (harg9 : arg9.IsWhole)
  (arg10 : Memref sig .tc .vmem S128x6 .f32) (harg10 : arg10.IsWhole)
  (arg11 : Memref sig .tc .vmem S128x2 .f32) (harg11 : arg11.IsWhole)
  (arg12 : Memref sig .tc .vmem S256x1 .f32) (harg12 : arg12.IsWhole)
  (arg13 : Memref sig .tc .vmem S256x384 .f32) (harg13 : arg13.IsWhole)
  (arg14 : Memref sig .tc .vmem S256x128 .f32) (harg14 : arg14.IsWhole)
  (arg15 : Memref sig .tc .vmem S256x1 .f32) (harg15 : arg15.IsWhole)
  (arg16 : Memref sig .tc .vmem S256x384 .f32) (harg16 : arg16.IsWhole)
  (arg17 : Memref sig .tc .vmem S256x128 .f32) (harg17 : arg17.IsWhole)
  (arg18 : Memref sig .tc .vmem S256x1 .f32) (harg18 : arg18.IsWhole)
  (arg19 : Memref sig .tc .vmem S256x512 .f32) (harg19 : arg19.IsWhole)
  (arg20 : Memref sig .tc .vmem S256x256 .f32) (harg20 : arg20.IsWhole)
  (arg21 : Memref sig .tc .vmem S256x256 .f32) (harg21 : arg21.IsWhole)
  (arg22 : Memref sig .tc .vmem S256x1 .f32) (harg22 : arg22.IsWhole)
  (arg23 : Memref sig .tc .vmem S256x256 .f32) (harg23 : arg23.IsWhole)
  (arg24 : Memref sig .tc .vmem S256x256 .f32) (harg24 : arg24.IsWhole)
  (arg25 : Memref sig .tc .vmem S256x256 .f32) (harg25 : arg25.IsWhole)
  (arg26 : Memref sig .tc .vmem S64x256 .f32) (harg26 : arg26.IsWhole)
  (arg27 : Memref sig .tc .vmem S64x1 .f32) (harg27 : arg27.IsWhole)
  (arg28 : Memref sig .tc .vmem S64x64 .f32) (harg28 : arg28.IsWhole)
  (arg29 : Memref sig .tc .vmem S64x1 .f32) (harg29 : arg29.IsWhole)
  (arg31 : Memref sig .tc .vmem S16x2304 .f32) (g0 : arg31.view.ty.Contents (Elt Ideal))
  (arg32 : Memref sig .tc .vmem S512x2304 .f32) (g1 : arg32.view.ty.Contents (Elt Ideal))
  (arg33 : Memref sig .tc .vmem S512x2304 .f32) (g2 : arg33.view.ty.Contents (Elt Ideal))
  (arg34 : Memref sig .tc .vmem S256x2304 .f32) (g3 : arg34.view.ty.Contents (Elt Ideal))
  (arg35 : Memref sig .tc .vmem S256x2304 .f32) (g4 : arg35.view.ty.Contents (Elt Ideal))
include H

/-- The first scratch array holds the eight phases of the input. -/
theorem held0 (f) : Held arg31.view f (bodyRun.sl.S0_3 (F := Ideal) c arg1 harg1 x0) 2 8 X :=
  Filled.guard ((filled_nil arg31.view f 2 8 X).put (m := 8) rfl (by decide) rfl rfl _
    (is2_cast (is2_drop1 (is3_arg H.h0 arg1 harg1 _) _) _) fun i j _ _ => by rw [Nat.zero_add])
    rfl (by decide) H.zero _ _ (is2_cast is2_zero _) (is2_cast is2_zero _)

/-- The second holds the four phases of the first layer. -/
theorem held1 (f) : Held arg32.view f (bodyRun.sl.S1_6 (F := Ideal) c arg1 harg1 arg2 harg2 arg3 harg3 arg4 harg4 arg5 harg5 arg6 harg6 arg7 harg7 arg8 harg8 arg9 harg9 arg10 harg10 arg11 harg11 arg31 x0 x1 x2 x3 x4 x5 x6 x7 x8 x9 x10 g0)
    128 4 (layer 8192 2 4 2 1 w1 b1 X) := by
  have h0 := held0 H c arg1 harg1 arg31 g0
  refine Filled.guard (((((filled_nil arg32.view f 128 4 _).put1 (o1 := 0) rfl (by decide) rfl _
    (is2_cast (is2_act (is2_add (is2_add
      (h0.group (m := 3) (q := 0) rfl _ _ rfl (fun q o i => w1 o i (1 + q)) (is2_arg H.h2 arg3 harg3 _ _) (by decide) rfl rfl (by decide) (by decide) (by decide))
      (h0.group1 (q := 7) rfl _ _ rfl (fun o i => w1 o i 0) (is2_arg H.h3 arg4 harg4 _ _) (by decide) rfl (by decide) (by decide) (by decide)))
      (is2_col (is2_arg H.h1 arg2 harg2 _ _) broadcasts_S128x1_S128x2048))) _) ?_).put1 (o1 := 128) rfl (by decide) rfl _
    (is2_cast (is2_act (is2_add
      (h0.group (m := 4) (q := 1) rfl _ _ rfl (fun q o i => w1 o i q) (is2_arg H.h5 arg6 harg6 _ _) (by decide) rfl rfl (by decide) (by decide) (by decide))
      (is2_col (is2_arg H.h4 arg5 harg5 _ _) broadcasts_S128x1_S128x2048))) _) ?_).put1 (o1 := 256) rfl (by decide) rfl _
    (is2_cast (is2_act (is2_add
      (h0.group (m := 4) (q := 3) rfl _ _ rfl (fun q o i => w1 o i q) (is2_arg H.h7 arg8 harg8 _ _) (by decide) rfl rfl (by decide) (by decide) (by decide))
      (is2_col (is2_arg H.h6 arg7 harg7 _ _) broadcasts_S128x1_S128x2048))) _) ?_).put1 (o1 := 384) rfl (by decide) rfl _
    (is2_cast (is2_act (is2_add (is2_add
      (h0.group (m := 3) (q := 5) rfl _ _ rfl (fun q o i => w1 o i q) (is2_arg H.h9 arg10 harg10 _ _) (by decide) rfl rfl (by decide) (by decide) (by decide))
      (h0.group1 (q := 0) rfl _ _ rfl (fun o i => w1 o i 3) (is2_arg H.h10 arg11 harg11 _ _) (by decide) rfl (by decide) (by decide) (by decide)))
      (is2_col (is2_arg H.h8 arg9 harg9 _ _) broadcasts_S128x1_S128x2048))) _) ?_)
    rfl (by decide) (fun o s h => cut_out h) _ _ (is2_cast is2_zero _) (is2_cast is2_zero _)
  · exact fun i j hi hj => layer_in (by omega) (by omega) (conv_first (by push_cast; ring) (by push_cast; ring))
  · exact fun i j hi hj => layer_in (by omega) (by omega) (congrArg (· + b1 i) (congrArg _ (by push_cast; ring)))
  · exact fun i j hi hj => layer_in (by omega) (by omega) (congrArg (· + b1 i) (congrArg _ (by push_cast; ring)))
  · exact fun i j hi hj => layer_in (by omega) (by omega) (conv_last (by push_cast; ring) (by push_cast; ring))

/-- The third holds the two phases of the second layer. -/
theorem held2 (f) : Held arg33.view f (bodyRun.sl.S2_4 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg31 arg32 x0 x1 x2 x3 x4 x5 x6 x7 x8 x9 x10 x11 x12 x13 x14 x15 x16 g0 g1)
    256 2 (layer 4096 128 4 2 1 w2 b2 (layer 8192 2 4 2 1 w1 b1 X)) := by
  have h1 := held1 H c arg1 harg1 arg2 harg2 arg3 harg3 arg4 harg4 arg5 harg5 arg6 harg6 arg7 harg7 arg8 harg8 arg9 harg9 arg10 harg10 arg11 harg11 arg31 g0 arg32 g1
  refine Filled.guard (((filled_nil arg33.view f 256 2 _).put1 (o1 := 0) rfl (by decide) rfl _
    (is2_cast (is2_act (is2_add (is2_add
      (h1.group (m := 3) (q := 0) rfl _ _ rfl (fun q o i => w2 o i (1 + q)) (is2_arg H.h12 arg13 harg13 _ _) (by decide) rfl rfl (by decide) (by decide) (by decide))
      (h1.group1 (q := 3) rfl _ _ rfl (fun o i => w2 o i 0) (is2_arg H.h13 arg14 harg14 _ _) (by decide) rfl (by decide) (by decide) (by decide)))
      (is2_col (is2_arg H.h11 arg12 harg12 _ _) broadcasts_S256x1_S256x2048))) _) ?_).put1 (o1 := 256) rfl (by decide) rfl _
    (is2_cast (is2_act (is2_add (is2_add
      (h1.group (m := 3) (q := 1) rfl _ _ rfl (fun q o i => w2 o i q) (is2_arg H.h15 arg16 harg16 _ _) (by decide) rfl rfl (by decide) (by decide) (by decide))
      (h1.group1 (q := 0) rfl _ _ rfl (fun o i => w2 o i 3) (is2_arg H.h16 arg17 harg17 _ _) (by decide) rfl (by decide) (by decide) (by decide)))
      (is2_col (is2_arg H.h14 arg15 harg15 _ _) broadcasts_S256x1_S256x2048))) _) ?_)
    rfl (by decide) (fun o s h => cut_out h) _ _ (is2_cast is2_zero _) (is2_cast is2_zero _)
  · exact fun i j hi hj => layer_in (by omega) (by omega) (conv_first (by push_cast; ring) (by push_cast; ring))
  · exact fun i j hi hj => layer_in (by omega) (by omega) (conv_last (by push_cast; ring) (by push_cast; ring))

/-- The fourth holds the third layer. -/
theorem held3 (f) : Held arg34.view f (bodyRun.sl.S3_3 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg31 arg32 arg33 x0 x1 x2 x3 x4 x5 x6 x7 x8 x9 x10 x11 x12 x13 x14 x15 x16 x17 x18 x19 x20 g0 g1 g2)
    256 1 (layer 2048 256 4 2 1 w3 b3 (layer 4096 128 4 2 1 w2 b2 (layer 8192 2 4 2 1 w1 b1 X))) := by
  have h2 := held2 H c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg31 g0 arg32 g1 arg33 g2
  refine Filled.guard ((filled_nil arg34.view f 256 1 _).put1 (o1 := 0) rfl (by decide) rfl _
    (is2_cast (is2_act (is2_add (is2_add (is2_add
      (h2.group (m := 2) (q := 0) rfl _ _ rfl (fun q o i => w3 o i (1 + q)) (is2_arg H.h18 arg19 harg19 _ _) (by decide) rfl rfl (by decide) (by decide) (by decide))
      (h2.group1 (q := 1) rfl _ slices_S256x2304_o0_127_S256x2048 rfl (fun o i => w3 o i 0) (is2_arg H.h19 arg20 harg20 _ _) (by decide) rfl (by decide) (by decide) (by decide)))
      (h2.group1 (q := 0) rfl _ slices_S256x2304_o0_129_S256x2048 rfl (fun o i => w3 o i 3) (is2_arg H.h20 arg21 harg21 _ _) (by decide) rfl (by decide) (by decide) (by decide)))
      (is2_col (is2_arg H.h17 arg18 harg18 _ _) broadcasts_S256x1_S256x2048))) _) ?_)
    rfl (by decide) (fun o s h => cut_out h) _ _ (is2_cast is2_zero _) (is2_cast is2_zero _)
  exact fun i j hi hj => layer_in (by omega) (by omega)
    (conv_both (m := 2) (by push_cast; ring) (by push_cast; ring) (by push_cast; ring))

/-- The fifth holds the fourth layer. -/
theorem held4 (f) : Held arg35.view f (bodyRun.sl.S4_3 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg31 arg32 arg33 arg34 x0 x1 x2 x3 x4 x5 x6 x7 x8 x9 x10 x11 x12 x13 x14 x15 x16 x17 x18 x19 x20 x21 x22 x23 x24 g0 g1 g2 g3)
    256 1 (layer 2048 256 3 1 1 w4 b4 (layer 2048 256 4 2 1 w3 b3 (layer 4096 128 4 2 1 w2 b2 (layer 8192 2 4 2 1 w1 b1 X)))) := by
  have h3 := held3 H c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg31 g0 arg32 g1 arg33 g2 arg34 g3
  refine Filled.guard ((filled_nil arg35.view f 256 1 _).put1 (o1 := 0) rfl (by decide) rfl _
    (is2_cast (is2_act (is2_add (is2_add (is2_add
      (h3.group1 (q := 0) rfl _ slices_S256x2304_o0_128_S256x2048 rfl (fun o i => w4 o i 1) (is2_arg H.h22 arg23 harg23 _ _) (by decide) rfl (by decide) (by decide) (by decide))
      (h3.group1 (q := 0) rfl _ slices_S256x2304_o0_127_S256x2048 rfl (fun o i => w4 o i 0) (is2_arg H.h23 arg24 harg24 _ _) (by decide) rfl (by decide) (by decide) (by decide)))
      (h3.group1 (q := 0) rfl _ slices_S256x2304_o0_129_S256x2048 rfl (fun o i => w4 o i 2) (is2_arg H.h24 arg25 harg25 _ _) (by decide) rfl (by decide) (by decide) (by decide)))
      (is2_col (is2_arg H.h21 arg22 harg22 _ _) broadcasts_S256x1_S256x2048))) _) ?_)
    rfl (by decide) (fun o s h => cut_out h) _ _ (is2_cast is2_zero _) (is2_cast is2_zero _)
  exact fun i j hi hj => layer_in (by omega) (by omega)
    (conv_three (by push_cast; ring) (by push_cast; ring) (by push_cast; ring))

/-- The output block: two convolutions of one tap, the first one rectified, over the fourth layer. -/
theorem block_val : Is3 (k0_pay1 (bodyRun.sl.v53 (F := Ideal) c arg28 harg28 x27) (bodyRun.sl.v55 c arg29 harg29 x28)
    (bodyRun.sl.r_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg31 arg32 arg33 arg34 arg35 x0 x1 x2 x3 x4 x5 x6 x7 x8 x9 x10 x11 x12 x13 x14 x15 x16 x17 x18 x19 x20 x21 x22 x23 x24 x25 x26 g0 g1 g2 g3) bodyRun.sl.cst_159)
    (fun _ o j => conv 64 1 1 0 wq bq (layer 2048 256 1 1 0 w5 b5
      (layer 2048 256 3 1 1 w4 b4 (layer 2048 256 4 2 1 w3 b3 (layer 4096 128 4 2 1 w2 b2 (layer 8192 2 4 2 1 w1 b1 X))))) o j) := by
  have h4 := held4 H c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg31 g0 arg32 g1 arg33 g2 arg34 g3 arg35 arg35.view.junk
  have h9 : Is2 (bodyRun.sl.r_9 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg31 arg32 arg33 arg34 arg35 x0 x1 x2 x3 x4 x5 x6 x7 x8 x9 x10 x11 x12 x13 x14 x15 x16 x17 x18 x19 x20 x21 x22 x23 x24 x25 x26 g0 g1 g2 g3)
      (fun o j => layer 2048 256 1 1 0 w5 b5
        (layer 2048 256 3 1 1 w4 b4 (layer 2048 256 4 2 1 w3 b3 (layer 4096 128 4 2 1 w2 b2 (layer 8192 2 4 2 1 w1 b1 X)))) o j) :=
    Is2.congr (is2_act (is2_add (is2_mat rfl (is2_arg H.h25 arg26 harg26 _ _)
      (h4.phase (q := 0) (r0 := 0) (c0 := 128) rfl _ (by decide) rfl (by decide) (by decide) (by decide)))
      (is2_col (is2_arg H.h26 arg27 harg27 _ _) broadcasts_S64x1_S64x2048)))
      fun o j ho hj => layer_in (by omega) (by omega) (conv_one (by push_cast; ring))
  exact (is3_lead (is2_add (is2_mat rfl (is2_arg H.h27 arg28 harg28 _ _) h9)
    (is2_col (is2_arg H.h28 arg29 harg29 _ _) broadcasts_S64x1_S64x2048)) _).congr
    fun _ o j _ ho hj => conv_one (by ring)

end Cert.EncIdeal.Hand

end
-- ==== Proof.Weights.lean ====
/- Weight matrices that the host operations cut from a convolution's kernel, and the blocks of windows that take a whole array. -/
module

public import proofs.«01_k».proof.Proof.Scratch

@[expose] public section

noncomputable section

namespace PhaseConv

open Idealize.ShloMosaic Idealize.ShloMosaic.ValueIdx

/-- One tap of a convolution's kernel, cut from it with the taps moved to the front. -/
theorem is2_tap {O I K : ℕ} {x : (B3 O I K).Idx → EReal} {w : ℕ → ℕ → ℕ → EReal} (hx : Is3 x w) (k : ℕ)
    (ht : (B3 O I K).Transposes [2, 0, 1] (B3 K O I)) (hs : (B3 K O I).Slices ![k, 0, 0] (B3 1 O I))
    (hc : (B3 1 O I).ShapeCasts (B2 O I)) :
    Is2 (shapeCast (B2 O I) (extractStridedSlice (B3 1 O I) ![k, 0, 0] (transpose (B3 K O I) [2, 0, 1] x ht) hs) hc)
      (fun o i => w o i k) :=
  (is2_drop1 (is3_slice (is3_front hx ht) k 0 0 hs) hc).congr fun i j _ _ => by
    show w (0 + i) (0 + j) (k + 0) = _
    rw [Nat.zero_add, Nat.zero_add, Nat.add_zero]

/-- The block of a window that takes its whole array. -/
theorem is2_blk {a b : ℕ} {x : (B2 a b).Idx → EReal} {A : ℕ → ℕ → EReal} (hx : Is2 x A) (e : (B2 a b).Idx → (B2 a b).Idx)
    (he : ∀ i, (e i 0).val = 0 * a + 1 * (i 0).val ∧ (e i 1).val = 0 * b + 1 * (i 1).val) : Is2 (fun i => x (e i)) A := fun i => by
  obtain ⟨h0, h1⟩ := he i
  refine (hx _).trans (congrArg₂ A ?_ ?_) <;> omega

/-- The one-entry-deep block of a window that takes one entry of the first axis. -/
theorem is3_blk {a b c : ℕ} {x : (B3 a b c).Idx → EReal} {A : ℕ → ℕ → ℕ → EReal} (hx : Is3 x A) (e : (B3 1 b c).Idx → (B3 a b c).Idx)
    (t : ℕ) (he : ∀ i, (e i 0).val = t * 1 + 1 * (i 0).val ∧ (e i 1).val = 0 * b + 1 * (i 1).val ∧ (e i 2).val = 0 * c + 1 * (i 2).val) :
    Is3 (fun i => x (e i)) (fun _ j k => A t j k) := fun i => by
  obtain ⟨h0, h1, h2⟩ := he i
  have hi : (i 0).val < 1 := (i 0).isLt
  refine (hx _).trans ?_
  rw [show (e i 0).val = t by omega, show (e i 1).val = (i 1).val by omega, show (e i 2).val = (i 2).val by omega]

/-- The signal's positions dealt to `n` phases: reshape, transpose, reshape. -/
theorem is3_phases {a c n s : ℕ} {x : (B3 a c (s * n)).Idx → EReal} {A : ℕ → ℕ → ℕ → EReal} (hx : Is3 x A)
    (h1 : (B3 a c (s * n)).ShapeCasts ⟨4, ![a, c, s, n]⟩) (ht : (⟨4, ![a, c, s, n]⟩ : Shape).Transposes [0, 3, 1, 2] ⟨4, ![a, n, c, s]⟩)
    (h2 : (⟨4, ![a, n, c, s]⟩ : Shape).ShapeCasts (B3 a (n * c) s)) (hc : 0 < c) :
    Is3 (shapeCast (B3 a (n * c) s) (transpose ⟨4, ![a, n, c, s]⟩ [0, 3, 1, 2] (shapeCast ⟨4, ![a, c, s, n]⟩ x h1) ht) h2)
      (fun b r j => A b (r % c) (n * j + r / c)) := fun i => by
  have b0 : (i 0).val < a := (i 0).isLt
  have b1 : (i 1).val < n * c := (i 1).isLt
  have b2 : (i 2).val < s := (i 2).isLt
  have hd : (i 1).val / c < n := Nat.div_lt_of_lt_mul (b1.trans_eq (Nat.mul_comm n c))
  have hm : (i 1).val % c < c := Nat.mod_lt _ hc
  have hj : (i 2).val * n + (i 1).val / c < s * n := by
    calc (i 2).val * n + (i 1).val / c < (i 2).val * n + n := by omega
      _ = ((i 2).val + 1) * n := by ring
      _ ≤ s * n := Nat.mul_le_mul_right _ b2
  refine (shapeCast_apply _ h2 i (ix4 ⟨_, b0⟩ ⟨_, hd⟩ ⟨_, hm⟩ ⟨_, b2⟩) ?_).trans ((transpose_apply [0, 3, 1, 2] _ ht _
    (ix4 ⟨_, b0⟩ ⟨_, hm⟩ ⟨_, b2⟩ ⟨_, hd⟩) fun d => ?_).trans ((shapeCast_apply x h1 _ (ix3 ⟨_, b0⟩ ⟨_, hm⟩ ⟨_, hj⟩) ?_).trans ((hx _).trans ?_)))
  · rw [Shape.rowMajor_val_three, Shape.rowMajor_val_four]
    show (((i 0).val * n + (i 1).val / c) * c + (i 1).val % c) * s + (i 2).val = ((i 0).val * (n * c) + (i 1).val) * s + (i 2).val
    have := Nat.div_add_mod (i 1).val c
    conv_rhs => rw [← this]
    ring
  · match d with
    | ⟨0, _⟩ => rfl
    | ⟨1, _⟩ => rfl
    | ⟨2, _⟩ => rfl
    | ⟨3, _⟩ => rfl
  · rw [Shape.rowMajor_val_three, Shape.rowMajor_val_four]
    show ((i 0).val * c + (i 1).val % c) * (s * n) + ((i 2).val * n + (i 1).val / c) = (((i 0).val * c + (i 1).val % c) * s + (i 2).val) * n + (i 1).val / c
    ring
  · exact congrArg (A _ _) (congrArg (· + (i 1).val / c) (Nat.mul_comm (i 2).val n))

end PhaseConv

end
-- ==== Proof.EncHost.lean ====
/- What the encoder's windows hold: the weights and biases that the host operations prepare, and the phases of the signal. -/
module

public import proofs.«01_k».proof.Proof.EncVal
public import proofs.«01_k».proof.Proof.Weights
public import Idealize.ShloMosaic.Lib.StableHlo.RunRead

@[expose] public section

set_option maxRecDepth 16384
set_option maxHeartbeats 2000000

noncomputable section

namespace Cert.EncIdeal.Hand

open Cert.EncIdeal.Gen
open Idealize.ShloMosaic PhaseConv

variable (m : (ℓ : Loc nD τ sig) → Buf (Elt Ideal) ℓ) (c : Dev nD)

/-- The argument `main_arg0` by its entries. -/
def a0 : ℕ → ℕ → ℕ → EReal := of3 (m (c, Proc.tc.devRef main_arg0) : S8x2x16384.Idx → EReal)
/-- The argument `main_arg1` by its entries. -/
def a1 : ℕ → ℕ → ℕ → EReal := of3 (m (c, Proc.tc.devRef main_arg1) : S128x2x4.Idx → EReal)
/-- The argument `main_arg2` by its entries. -/
def a2 : ℕ → EReal := of1 (m (c, Proc.tc.devRef main_arg2) : S128.Idx → EReal)
/-- The argument `main_arg3` by its entries. -/
def a3 : ℕ → ℕ → ℕ → EReal := of3 (m (c, Proc.tc.devRef main_arg3) : S256x128x4.Idx → EReal)
/-- The argument `main_arg4` by its entries. -/
def a4 : ℕ → EReal := of1 (m (c, Proc.tc.devRef main_arg4) : S256.Idx → EReal)
/-- The argument `main_arg5` by its entries. -/
def a5 : ℕ → ℕ → ℕ → EReal := of3 (m (c, Proc.tc.devRef main_arg5) : S256x256x4.Idx → EReal)
/-- The argument `main_arg6` by its entries. -/
def a6 : ℕ → EReal := of1 (m (c, Proc.tc.devRef main_arg6) : S256.Idx → EReal)
/-- The argument `main_arg7` by its entries. -/
def a7 : ℕ → ℕ → ℕ → EReal := of3 (m (c, Proc.tc.devRef main_arg7) : S256x256x3.Idx → EReal)
/-- The argument `main_arg8` by its entries. -/
def a8 : ℕ → EReal := of1 (m (c, Proc.tc.devRef main_arg8) : S256.Idx → EReal)
/-- The argument `main_arg9` by its entries. -/
def a9 : ℕ → ℕ → ℕ → EReal := of3 (m (c, Proc.tc.devRef main_arg9) : S64x256x1.Idx → EReal)
/-- The argument `main_arg10` by its entries. -/
def a10 : ℕ → EReal := of1 (m (c, Proc.tc.devRef main_arg10) : S64.Idx → EReal)
/-- The argument `main_arg11` by its entries. -/
def a11 : ℕ → ℕ → ℕ → EReal := of3 (m (c, Proc.tc.devRef main_arg11) : S64x64x1.Idx → EReal)
/-- The argument `main_arg12` by its entries. -/
def a12 : ℕ → EReal := of1 (m (c, Proc.tc.devRef main_arg12) : S64.Idx → EReal)

theorem in_v2 : Is3 (V m c main_v2 : S8x16x2048.Idx → EReal) fun b r j => a0 m c b (r % 2) (8 * j + r / 2) := by
  after_reads_simp
  exact is3_phases (a := 8) (c := 2) (n := 8) (s := 2048) (is3_of _) _ _ _ (by decide)

theorem in_v7 : Is2 (V m c main_v7 : S128x1.Idx → EReal) fun o _ => a2 m c o := by
  after_reads_simp
  exact is2_colCast (is1_of _) _

theorem in_v44 : Is2 (V m c main_v44 : S256x1.Idx → EReal) fun o _ => a4 m c o := by
  after_reads_simp
  exact is2_colCast (is1_of _) _

theorem in_v63 : Is2 (V m c main_v63 : S256x1.Idx → EReal) fun o _ => a6 m c o := by
  after_reads_simp
  exact is2_colCast (is1_of _) _

theorem in_v73 : Is2 (V m c main_v73 : S256x1.Idx → EReal) fun o _ => a8 m c o := by
  after_reads_simp
  exact is2_colCast (is1_of _) _

theorem in_v81 : Is2 (V m c main_v81 : S64x1.Idx → EReal) fun o _ => a10 m c o := by
  after_reads_simp
  exact is2_colCast (is1_of _) _

theorem in_v83 : Is2 (V m c main_v83 : S64x1.Idx → EReal) fun o _ => a12 m c o := by
  after_reads_simp
  exact is2_colCast (is1_of _) _

theorem in_v16 : Is2 (V m c main_v16 : S128x2.Idx → EReal) fun o i => a1 m c o i 0 := by
  after_reads_simp
  exact is2_tap (is3_of _) 0 _ _ _

theorem in_v43 : Is2 (V m c main_v43 : S128x2.Idx → EReal) fun o i => a1 m c o i 3 := by
  after_reads_simp
  exact is2_tap (is3_of _) 3 _ _ _

theorem in_v53 : Is2 (V m c main_v53 : S256x128.Idx → EReal) fun o i => a3 m c o i 0 := by
  after_reads_simp
  exact is2_tap (is3_of _) 0 _ _ _

theorem in_v62 : Is2 (V m c main_v62 : S256x128.Idx → EReal) fun o i => a3 m c o i 3 := by
  after_reads_simp
  exact is2_tap (is3_of _) 3 _ _ _

theorem in_v70 : Is2 (V m c main_v70 : S256x256.Idx → EReal) fun o i => a5 m c o i 0 := by
  after_reads_simp
  exact is2_tap (is3_of _) 0 _ _ _

theorem in_v72 : Is2 (V m c main_v72 : S256x256.Idx → EReal) fun o i => a5 m c o i 3 := by
  after_reads_simp
  exact is2_tap (is3_of _) 3 _ _ _

theorem in_v75 : Is2 (V m c main_v75 : S256x256.Idx → EReal) fun o i => a7 m c o i 1 := by
  after_reads_simp
  exact is2_tap (is3_of _) 1 _ _ _

theorem in_v77 : Is2 (V m c main_v77 : S256x256.Idx → EReal) fun o i => a7 m c o i 0 := by
  after_reads_simp
  exact is2_tap (is3_of _) 0 _ _ _

theorem in_v79 : Is2 (V m c main_v79 : S256x256.Idx → EReal) fun o i => a7 m c o i 2 := by
  after_reads_simp
  exact is2_tap (is3_of _) 2 _ _ _

theorem in_v80 : Is2 (V m c main_v80 : S64x256.Idx → EReal) fun o i => a9 m c o i 0 := by
  after_reads_simp
  exact is2_drop3 (is3_of _) _

theorem in_v82 : Is2 (V m c main_v82 : S64x64.Idx → EReal) fun o i => a11 m c o i 0 := by
  after_reads_simp
  exact is2_drop3 (is3_of _) _

theorem in_v14 : Is2 (V m c main_v14 : S128x6.Idx → EReal) fun o k => a1 m c o (k % 2) (1 + k / 2) := by
  after_reads_simp
  exact is2_cat (b := 2) _ _ (fun q o i => a1 m c o i (1 + q)) rfl fun k hk => match k, hk with
    | 0, _ => ⟨_, rfl, by
        show Is2 (StableHlo.upto hostOps0 (fun b => m (c, b)) 14 (Proc.tc.devRef main_v9) : S128x2.Idx → EReal) fun o i => a1 m c o i 1
        after_reads_simp
        exact is2_tap (is3_of _) 1 _ _ _⟩
    | 1, _ => ⟨_, rfl, by
        show Is2 (StableHlo.upto hostOps0 (fun b => m (c, b)) 14 (Proc.tc.devRef main_v11) : S128x2.Idx → EReal) fun o i => a1 m c o i 2
        after_reads_simp
        exact is2_tap (is3_of _) 2 _ _ _⟩
    | 2, _ => ⟨_, rfl, by
        show Is2 (StableHlo.upto hostOps0 (fun b => m (c, b)) 14 (Proc.tc.devRef main_v13) : S128x2.Idx → EReal) fun o i => a1 m c o i 3
        after_reads_simp
        exact is2_tap (is3_of _) 3 _ _ _⟩

theorem in_v25 : Is2 (V m c main_v25 : S128x8.Idx → EReal) fun o k => a1 m c o (k % 2) (k / 2) := by
  after_reads_simp
  exact is2_cat (b := 2) _ _ (fun q o i => a1 m c o i q) rfl fun k hk => match k, hk with
    | 0, _ => ⟨_, rfl, by
        show Is2 (StableHlo.upto hostOps0 (fun b => m (c, b)) 25 (Proc.tc.devRef main_v18) : S128x2.Idx → EReal) fun o i => a1 m c o i 0
        after_reads_simp
        exact is2_tap (is3_of _) 0 _ _ _⟩
    | 1, _ => ⟨_, rfl, by
        show Is2 (StableHlo.upto hostOps0 (fun b => m (c, b)) 25 (Proc.tc.devRef main_v20) : S128x2.Idx → EReal) fun o i => a1 m c o i 1
        after_reads_simp
        exact is2_tap (is3_of _) 1 _ _ _⟩
    | 2, _ => ⟨_, rfl, by
        show Is2 (StableHlo.upto hostOps0 (fun b => m (c, b)) 25 (Proc.tc.devRef main_v22) : S128x2.Idx → EReal) fun o i => a1 m c o i 2
        after_reads_simp
        exact is2_tap (is3_of _) 2 _ _ _⟩
    | 3, _ => ⟨_, rfl, by
        show Is2 (StableHlo.upto hostOps0 (fun b => m (c, b)) 25 (Proc.tc.devRef main_v24) : S128x2.Idx → EReal) fun o i => a1 m c o i 3
        after_reads_simp
        exact is2_tap (is3_of _) 3 _ _ _⟩

theorem in_v34 : Is2 (V m c main_v34 : S128x8.Idx → EReal) fun o k => a1 m c o (k % 2) (k / 2) := by
  after_reads_simp
  exact is2_cat (b := 2) _ _ (fun q o i => a1 m c o i q) rfl fun k hk => match k, hk with
    | 0, _ => ⟨_, rfl, by
        show Is2 (StableHlo.upto hostOps0 (fun b => m (c, b)) 34 (Proc.tc.devRef main_v27) : S128x2.Idx → EReal) fun o i => a1 m c o i 0
        after_reads_simp
        exact is2_tap (is3_of _) 0 _ _ _⟩
    | 1, _ => ⟨_, rfl, by
        show Is2 (StableHlo.upto hostOps0 (fun b => m (c, b)) 34 (Proc.tc.devRef main_v29) : S128x2.Idx → EReal) fun o i => a1 m c o i 1
        after_reads_simp
        exact is2_tap (is3_of _) 1 _ _ _⟩
    | 2, _ => ⟨_, rfl, by
        show Is2 (StableHlo.upto hostOps0 (fun b => m (c, b)) 34 (Proc.tc.devRef main_v31) : S128x2.Idx → EReal) fun o i => a1 m c o i 2
        after_reads_simp
        exact is2_tap (is3_of _) 2 _ _ _⟩
    | 3, _ => ⟨_, rfl, by
        show Is2 (StableHlo.upto hostOps0 (fun b => m (c, b)) 34 (Proc.tc.devRef main_v33) : S128x2.Idx → EReal) fun o i => a1 m c o i 3
        after_reads_simp
        exact is2_tap (is3_of _) 3 _ _ _⟩

theorem in_v41 : Is2 (V m c main_v41 : S128x6.Idx → EReal) fun o k => a1 m c o (k % 2) (k / 2) := by
  after_reads_simp
  exact is2_cat (b := 2) _ _ (fun q o i => a1 m c o i q) rfl fun k hk => match k, hk with
    | 0, _ => ⟨_, rfl, by
        show Is2 (StableHlo.upto hostOps0 (fun b => m (c, b)) 41 (Proc.tc.devRef main_v36) : S128x2.Idx → EReal) fun o i => a1 m c o i 0
        after_reads_simp
        exact is2_tap (is3_of _) 0 _ _ _⟩
    | 1, _ => ⟨_, rfl, by
        show Is2 (StableHlo.upto hostOps0 (fun b => m (c, b)) 41 (Proc.tc.devRef main_v38) : S128x2.Idx → EReal) fun o i => a1 m c o i 1
        after_reads_simp
        exact is2_tap (is3_of _) 1 _ _ _⟩
    | 2, _ => ⟨_, rfl, by
        show Is2 (StableHlo.upto hostOps0 (fun b => m (c, b)) 41 (Proc.tc.devRef main_v40) : S128x2.Idx → EReal) fun o i => a1 m c o i 2
        after_reads_simp
        exact is2_tap (is3_of _) 2 _ _ _⟩

theorem in_v51 : Is2 (V m c main_v51 : S256x384.Idx → EReal) fun o k => a3 m c o (k % 128) (1 + k / 128) := by
  after_reads_simp
  exact is2_cat (b := 128) _ _ (fun q o i => a3 m c o i (1 + q)) rfl fun k hk => match k, hk with
    | 0, _ => ⟨_, rfl, by
        show Is2 (StableHlo.upto hostOps0 (fun b => m (c, b)) 51 (Proc.tc.devRef main_v46) : S256x128.Idx → EReal) fun o i => a3 m c o i 1
        after_reads_simp
        exact is2_tap (is3_of _) 1 _ _ _⟩
    | 1, _ => ⟨_, rfl, by
        show Is2 (StableHlo.upto hostOps0 (fun b => m (c, b)) 51 (Proc.tc.devRef main_v48) : S256x128.Idx → EReal) fun o i => a3 m c o i 2
        after_reads_simp
        exact is2_tap (is3_of _) 2 _ _ _⟩
    | 2, _ => ⟨_, rfl, by
        show Is2 (StableHlo.upto hostOps0 (fun b => m (c, b)) 51 (Proc.tc.devRef main_v50) : S256x128.Idx → EReal) fun o i => a3 m c o i 3
        after_reads_simp
        exact is2_tap (is3_of _) 3 _ _ _⟩

theorem in_v60 : Is2 (V m c main_v60 : S256x384.Idx → EReal) fun o k => a3 m c o (k % 128) (k / 128) := by
  after_reads_simp
  exact is2_cat (b := 128) _ _ (fun q o i => a3 m c o i q) rfl fun k hk => match k, hk with
    | 0, _ => ⟨_, rfl, by
        show Is2 (StableHlo.upto hostOps0 (fun b => m (c, b)) 60 (Proc.tc.devRef main_v55) : S256x128.Idx → EReal) fun o i => a3 m c o i 0
        after_reads_simp
        exact is2_tap (is3_of _) 0 _ _ _⟩
    | 1, _ => ⟨_, rfl, by
        show Is2 (StableHlo.upto hostOps0 (fun b => m (c, b)) 60 (Proc.tc.devRef main_v57) : S256x128.Idx → EReal) fun o i => a3 m c o i 1
        after_reads_simp
        exact is2_tap (is3_of _) 1 _ _ _⟩
    | 2, _ => ⟨_, rfl, by
        show Is2 (StableHlo.upto hostOps0 (fun b => m (c, b)) 60 (Proc.tc.devRef main_v59) : S256x128.Idx → EReal) fun o i => a3 m c o i 2
        after_reads_simp
        exact is2_tap (is3_of _) 2 _ _ _⟩

theorem in_v68 : Is2 (V m c main_v68 : S256x512.Idx → EReal) fun o k => a5 m c o (k % 256) (1 + k / 256) := by
  after_reads_simp
  exact is2_cat (b := 256) _ _ (fun q o i => a5 m c o i (1 + q)) rfl fun k hk => match k, hk with
    | 0, _ => ⟨_, rfl, by
        show Is2 (StableHlo.upto hostOps0 (fun b => m (c, b)) 68 (Proc.tc.devRef main_v65) : S256x256.Idx → EReal) fun o i => a5 m c o i 1
        after_reads_simp
        exact is2_tap (is3_of _) 1 _ _ _⟩
    | 1, _ => ⟨_, rfl, by
        show Is2 (StableHlo.upto hostOps0 (fun b => m (c, b)) 68 (Proc.tc.devRef main_v67) : S256x256.Idx → EReal) fun o i => a5 m c o i 2
        after_reads_simp
        exact is2_tap (is3_of _) 2 _ _ _⟩

end Cert.EncIdeal.Hand

end
-- ==== Proof.EncSpec.lean ====
/- The encoder as a composition of convolutions. -/
module

public import proofs.«01_k».proof.Proof.Scratch

@[expose] public section

noncomputable section

namespace PhaseConv

/-- The encoder: three strided convolutions, two more layers and a last convolution, of the batch entry `b` of `x`. -/
def encSpec (x w1 : ℕ → ℕ → ℕ → EReal) (b1 : ℕ → EReal) (w2 : ℕ → ℕ → ℕ → EReal) (b2 : ℕ → EReal) (w3 : ℕ → ℕ → ℕ → EReal) (b3 : ℕ → EReal)
    (w4 : ℕ → ℕ → ℕ → EReal) (b4 : ℕ → EReal) (w5 : ℕ → ℕ → ℕ → EReal) (b5 : ℕ → EReal) (wq : ℕ → ℕ → ℕ → EReal) (bq : ℕ → EReal)
    (b o s : ℕ) : EReal :=
  conv 64 1 1 0 wq bq (layer 2048 256 1 1 0 w5 b5 (layer 2048 256 3 1 1 w4 b4 (layer 2048 256 4 2 1 w3 b3
    (layer 4096 128 4 2 1 w2 b2 (layer 8192 2 4 2 1 w1 b1 (cut 16384 fun ch z => x b ch z.toNat)))))) o s

end PhaseConv

end
-- ==== Proof.EncBlocks.lean ====
/- The blocks of the encoder's windows are the operands of its body. -/
module

public import proofs.«01_k».proof.Proof.EncHost
public import proofs.«01_k».proof.Proof.EncSpec
public import proofs.«01_k».proof.Proof.Gen.EncIdeal.Launch
public import Idealize.ShloMosaic.Lib.Pipeline.ValueKit.Geometry

@[expose] public section

set_option maxRecDepth 16384
set_option maxHeartbeats 4000000

noncomputable section

namespace Cert.EncIdeal.Hand

open Cert.EncIdeal.Gen
open Idealize.ShloMosaic Idealize.ShloMosaic.TcCoe Idealize.SL.Sem PhaseConv
open Idealize.ShloMosaic.Pipeline (Dat)

variable (m : (ℓ : Loc nD τ sig) → Buf (Elt Ideal) ℓ) (ρ : Dev nD → PrngReg)

/-- What a grid point leaves in the output's block: the encoder at that batch entry. -/
def encBlk (c : Dev nD) (t : Fin cfg0.N) : S1x64x2048.Idx → EReal := fun i =>
  encSpec (a0 m c) (a1 m c) (a2 m c) (a3 m c) (a4 m c) (a5 m c) (a6 m c) (a7 m c) (a8 m c) (a9 m c) (a10 m c) (a11 m c) (a12 m c) t.val (i 1).val (i 2).val

/-- The output array of the run. -/
def encOut (c : Dev nD) : S8x64x2048.Idx → EReal := fun i =>
  encSpec (a0 m c) (a1 m c) (a2 m c) (a3 m c) (a4 m c) (a5 m c) (a6 m c) (a7 m c) (a8 m c) (a9 m c) (a10 m c) (a11 m c) (a12 m c) (i 0).val (i 1).val (i 2).val

theorem index0 (t : Fin cfg0.N) : (cfg0.win 0).index t 0 = t.val :=
  (by decide +kernel : ∀ t : Fin cfg0.N, (cfg0.win 0).index t 0 = t.val) t

theorem index29 (t : Fin cfg0.N) : (cfg0.win 29).index t 0 = t.val :=
  (by decide +kernel : ∀ t : Fin cfg0.N, (cfg0.win 29).index t 0 = t.val) t

/-- The blocks of the windows are the operands of the body. -/
theorem operands (c : Dev nD) (t : Fin cfg0.N) : Operands (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)
    (cut 16384 fun ch z => a0 m c t.val ch z.toNat) (a1 m c) (a3 m c) (a5 m c) (a7 m c) (a9 m c) (a11 m c)
    (a2 m c) (a4 m c) (a6 m c) (a8 m c) (a10 m c) (a12 m c) where
  zero := fun o s h => cut_out h
  h0 := Is3.congr (is3_blk (in_v2 m c) _ t.val fun i => ⟨congrArg (· * 1 + 1 * (i 0).val) (index0 t), rfl, rfl⟩) fun _ r j _ hr hj => by
    refine Eq.trans ?_ (cut_in (N := 16384) (f := fun ch z => a0 m c t.val ch z.toNat) (by omega) (by omega)).symm
    exact congrArg _ (by omega)
  h1 := is2_blk (in_v7 m c) _ fun i => ⟨rfl, rfl⟩
  h2 := is2_blk (in_v14 m c) _ fun i => ⟨rfl, rfl⟩
  h3 := is2_blk (in_v16 m c) _ fun i => ⟨rfl, rfl⟩
  h4 := is2_blk (in_v7 m c) _ fun i => ⟨rfl, rfl⟩
  h5 := is2_blk (in_v25 m c) _ fun i => ⟨rfl, rfl⟩
  h6 := is2_blk (in_v7 m c) _ fun i => ⟨rfl, rfl⟩
  h7 := is2_blk (in_v34 m c) _ fun i => ⟨rfl, rfl⟩
  h8 := is2_blk (in_v7 m c) _ fun i => ⟨rfl, rfl⟩
  h9 := is2_blk (in_v41 m c) _ fun i => ⟨rfl, rfl⟩
  h10 := is2_blk (in_v43 m c) _ fun i => ⟨rfl, rfl⟩
  h11 := is2_blk (in_v44 m c) _ fun i => ⟨rfl, rfl⟩
  h12 := is2_blk (in_v51 m c) _ fun i => ⟨rfl, rfl⟩
  h13 := is2_blk (in_v53 m c) _ fun i => ⟨rfl, rfl⟩
  h14 := is2_blk (in_v44 m c) _ fun i => ⟨rfl, rfl⟩
  h15 := is2_blk (in_v60 m c) _ fun i => ⟨rfl, rfl⟩
  h16 := is2_blk (in_v62 m c) _ fun i => ⟨rfl, rfl⟩
  h17 := is2_blk (in_v63 m c) _ fun i => ⟨rfl, rfl⟩
  h18 := is2_blk (in_v68 m c) _ fun i => ⟨rfl, rfl⟩
  h19 := is2_blk (in_v70 m c) _ fun i => ⟨rfl, rfl⟩
  h20 := is2_blk (in_v72 m c) _ fun i => ⟨rfl, rfl⟩
  h21 := is2_blk (in_v73 m c) _ fun i => ⟨rfl, rfl⟩
  h22 := is2_blk (in_v75 m c) _ fun i => ⟨rfl, rfl⟩
  h23 := is2_blk (in_v77 m c) _ fun i => ⟨rfl, rfl⟩
  h24 := is2_blk (in_v79 m c) _ fun i => ⟨rfl, rfl⟩
  h25 := is2_blk (in_v80 m c) _ fun i => ⟨rfl, rfl⟩
  h26 := is2_blk (in_v81 m c) _ fun i => ⟨rfl, rfl⟩
  h27 := is2_blk (in_v82 m c) _ fun i => ⟨rfl, rfl⟩
  h28 := is2_blk (in_v83 m c) _ fun i => ⟨rfl, rfl⟩

end Cert.EncIdeal.Hand

end
-- ==== Proof.EncLeft.lean ====
/- What the encoder's body leaves in its output block. -/
module

public import proofs.«01_k».proof.Proof.EncBlocks
public import Idealize.ShloMosaic.Lib.Pipeline.ValueKit.Geometry

@[expose] public section

set_option maxRecDepth 16384
set_option maxHeartbeats 4000000

noncomputable section

namespace Cert.EncIdeal.Hand

open Cert.EncIdeal.Gen
open Idealize.ShloMosaic Idealize.ShloMosaic.TcCoe Idealize.SL.Sem PhaseConv
open Idealize.ShloMosaic.Pipeline (Dat)

variable (m : (ℓ : Loc nD τ sig) → Buf (Elt Ideal) ℓ) (ρ : Dev nD → PrngReg)

/-- What the body leaves in its output block, at every grid point and over any contents of the scratch. -/
theorem left (c : Dev nD) (t : Fin cfg0.N) (g0 : Buf (Elt Ideal) ((Memref.whole cc0_scratch0).view.loc (c : Thread nD τ))) (g1 : Buf (Elt Ideal) ((Memref.whole cc0_scratch1).view.loc (c : Thread nD τ))) (g2 : Buf (Elt Ideal) ((Memref.whole cc0_scratch2).view.loc (c : Thread nD τ))) (g3 : Buf (Elt Ideal) ((Memref.whole cc0_scratch3).view.loc (c : Thread nD τ))) (g4 : Buf (Elt Ideal) ((Memref.whole cc0_scratch4).view.loc (c : Thread nD τ))) (f) :
      (win0_29.stage (cfg0.slots t 29)).view.read (Elt Ideal) ((win0_29.stage (cfg0.slots t 29)).view.writes (Elt Ideal) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g0 g1 g2 g3 g4).1) = encBlk m c t := by
  funext y
  refine (View.read_writes_cons_hit_of_coords _ f _ _ [] (y : S1x64x2048.Idx) y fun a => ?_).trans ?_
  · show (y a).val = k0_off22 a + 1 * (y a).val
    match a with
    | ⟨0, _⟩ => exact (by simp [k0_off22])
    | ⟨1, _⟩ => exact (by simp [k0_off22])
    | ⟨2, h⟩ => exact (Nat.zero_add _).symm.trans (congrArg (0 + ·) (Nat.one_mul _).symm)
  · exact block_val (operands m c t) c _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) _ (hstage0_16 ((cfg0.slots t 16).cast nbuf0_16)) _ (hstage0_17 ((cfg0.slots t 17).cast nbuf0_17)) _ (hstage0_18 ((cfg0.slots t 18).cast nbuf0_18)) _ (hstage0_19 ((cfg0.slots t 19).cast nbuf0_19)) _ (hstage0_20 ((cfg0.slots t 20).cast nbuf0_20)) _ (hstage0_21 ((cfg0.slots t 21).cast nbuf0_21)) _ (hstage0_22 ((cfg0.slots t 22).cast nbuf0_22)) _ (hstage0_23 ((cfg0.slots t 23).cast nbuf0_23)) _ (hstage0_24 ((cfg0.slots t 24).cast nbuf0_24)) _ (hstage0_25 ((cfg0.slots t 25).cast nbuf0_25)) _ (hstage0_26 ((cfg0.slots t 26).cast nbuf0_26)) _ (hstage0_27 ((cfg0.slots t 27).cast nbuf0_27)) _ (hstage0_28 ((cfg0.slots t 28).cast nbuf0_28)) _ g0 _ g1 _ g2 _ g3 _ y

end Cert.EncIdeal.Hand

end
-- ==== Proof.EncIdealFrame.lean ====
/- The launch of the program: the proof data of its pipeline, the obligation of its body, and the runs of its main function. -/
module

public import proofs.«01_k».proof.Proof.EncIdealBody
public import proofs.«01_k».proof.Proof.Gen.EncIdeal.Launch
public import Idealize.ShloMosaic.Lib.Claim
public import proofs.«01_k».proof.Proof.Gen.EncIdeal.Points

@[expose] public section

set_option maxRecDepth 16384

noncomputable section

namespace Cert.EncIdeal.Hand

open Cert.EncIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The invariant between points: the scratch at some contents, and the generator's register. -/
theorem phi_eq (c : Dev nD) : (Pipeline.ΦA spec0 c : sProp 𝕄)
    = iprop(iprop((∃ f, (Memref.whole cc0_scratch0).view.loc (c : Thread nD τ) ↦[(Memref.whole cc0_scratch0).view.set]{fullShare} f)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f)
    ∗ (∃ f, (Memref.whole cc0_scratch3).view.loc (c : Thread nD τ) ↦[(Memref.whole cc0_scratch3).view.set]{fullShare} f)
    ∗ (∃ f, (Memref.whole cc0_scratch4).view.loc (c : Thread nD τ) ↦[(Memref.whole cc0_scratch4).view.set]{fullShare} f)) ∗ (∃ r, prngReg c r)) := by
  unfold Pipeline.ΦA; rw [scopedRest0_eq]
  rw [show (Memref.whole cc0_scratch0).view.set = Finset.univ from View.set_whole cc0_scratch0]; rw [show (Memref.whole cc0_scratch1).view.set = Finset.univ from View.set_whole cc0_scratch1]; rw [show (Memref.whole cc0_scratch2).view.set = Finset.univ from View.set_whole cc0_scratch2]; rw [show (Memref.whole cc0_scratch3).view.set = Finset.univ from View.set_whole cc0_scratch3]; rw [show (Memref.whole cc0_scratch4).view.set = Finset.univ from View.set_whole cc0_scratch4]
  try rfl

variable (W : (c : Dev nD) → (t : Fin cfg0.N) → Vec F S1x64x2048 .f32)

/-- The proof data of the pipeline on core `c`: the arrays as the region finds them, every input's buffer left at its
    block, the output's at `W`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => W c t
    | ⟨k + 30, h⟩ => absurd h (Nat.not_lt.mpr (Nat.le_add_left 30 k))
  Φ _ := Pipeline.ΦA spec0 c
  q w := Pipeline.shareOf spec0 w
  owed _ := 0

/-- The proof data's arrays are what the region finds. -/
theorem A_eq (c : Dev nD) (w : Fin cfg0.W) : (dats m W 0 c).A w = V m c (Pipeline.arrRef spec0 w) := by
  dsimp only [dats]

theorem after0_0 (c : Dev nD) (t : Fin cfg0.N) : (dats m W 0 c).after 0 t = iblk m c 0 t := by dsimp only [dats]
theorem after0_1 (c : Dev nD) (t : Fin cfg0.N) : (dats m W 0 c).after 1 t = iblk m c 1 t := by dsimp only [dats]
theorem after0_2 (c : Dev nD) (t : Fin cfg0.N) : (dats m W 0 c).after 2 t = iblk m c 2 t := by dsimp only [dats]
theorem after0_3 (c : Dev nD) (t : Fin cfg0.N) : (dats m W 0 c).after 3 t = iblk m c 3 t := by dsimp only [dats]
theorem after0_4 (c : Dev nD) (t : Fin cfg0.N) : (dats m W 0 c).after 4 t = iblk m c 4 t := by dsimp only [dats]
theorem after0_5 (c : Dev nD) (t : Fin cfg0.N) : (dats m W 0 c).after 5 t = iblk m c 5 t := by dsimp only [dats]
theorem after0_6 (c : Dev nD) (t : Fin cfg0.N) : (dats m W 0 c).after 6 t = iblk m c 6 t := by dsimp only [dats]
theorem after0_7 (c : Dev nD) (t : Fin cfg0.N) : (dats m W 0 c).after 7 t = iblk m c 7 t := by dsimp only [dats]
theorem after0_8 (c : Dev nD) (t : Fin cfg0.N) : (dats m W 0 c).after 8 t = iblk m c 8 t := by dsimp only [dats]
theorem after0_9 (c : Dev nD) (t : Fin cfg0.N) : (dats m W 0 c).after 9 t = iblk m c 9 t := by dsimp only [dats]
theorem after0_10 (c : Dev nD) (t : Fin cfg0.N) : (dats m W 0 c).after 10 t = iblk m c 10 t := by dsimp only [dats]
theorem after0_11 (c : Dev nD) (t : Fin cfg0.N) : (dats m W 0 c).after 11 t = iblk m c 11 t := by dsimp only [dats]
theorem after0_12 (c : Dev nD) (t : Fin cfg0.N) : (dats m W 0 c).after 12 t = iblk m c 12 t := by dsimp only [dats]
theorem after0_13 (c : Dev nD) (t : Fin cfg0.N) : (dats m W 0 c).after 13 t = iblk m c 13 t := by dsimp only [dats]
theorem after0_14 (c : Dev nD) (t : Fin cfg0.N) : (dats m W 0 c).after 14 t = iblk m c 14 t := by dsimp only [dats]
theorem after0_15 (c : Dev nD) (t : Fin cfg0.N) : (dats m W 0 c).after 15 t = iblk m c 15 t := by dsimp only [dats]
theorem after0_16 (c : Dev nD) (t : Fin cfg0.N) : (dats m W 0 c).after 16 t = iblk m c 16 t := by dsimp only [dats]
theorem after0_17 (c : Dev nD) (t : Fin cfg0.N) : (dats m W 0 c).after 17 t = iblk m c 17 t := by dsimp only [dats]
theorem after0_18 (c : Dev nD) (t : Fin cfg0.N) : (dats m W 0 c).after 18 t = iblk m c 18 t := by dsimp only [dats]
theorem after0_19 (c : Dev nD) (t : Fin cfg0.N) : (dats m W 0 c).after 19 t = iblk m c 19 t := by dsimp only [dats]
theorem after0_20 (c : Dev nD) (t : Fin cfg0.N) : (dats m W 0 c).after 20 t = iblk m c 20 t := by dsimp only [dats]
theorem after0_21 (c : Dev nD) (t : Fin cfg0.N) : (dats m W 0 c).after 21 t = iblk m c 21 t := by dsimp only [dats]
theorem after0_22 (c : Dev nD) (t : Fin cfg0.N) : (dats m W 0 c).after 22 t = iblk m c 22 t := by dsimp only [dats]
theorem after0_23 (c : Dev nD) (t : Fin cfg0.N) : (dats m W 0 c).after 23 t = iblk m c 23 t := by dsimp only [dats]
theorem after0_24 (c : Dev nD) (t : Fin cfg0.N) : (dats m W 0 c).after 24 t = iblk m c 24 t := by dsimp only [dats]
theorem after0_25 (c : Dev nD) (t : Fin cfg0.N) : (dats m W 0 c).after 25 t = iblk m c 25 t := by dsimp only [dats]
theorem after0_26 (c : Dev nD) (t : Fin cfg0.N) : (dats m W 0 c).after 26 t = iblk m c 26 t := by dsimp only [dats]
theorem after0_27 (c : Dev nD) (t : Fin cfg0.N) : (dats m W 0 c).after 27 t = iblk m c 27 t := by dsimp only [dats]
theorem after0_28 (c : Dev nD) (t : Fin cfg0.N) : (dats m W 0 c).after 28 t = iblk m c 28 t := by dsimp only [dats]
theorem after0_29 (c : Dev nD) (t : Fin cfg0.N) : (dats m W 0 c).after 29 t = W c t := by dsimp only [dats]
theorem before0_0 (c : Dev nD) (t : Fin cfg0.N) (d) : (dats m W 0 c).before 0 t d = iblk m c 0 t :=
  before0_0_of m (dats m W 0 c) (A_eq m W c 0) (after0_0 m W c) t d
theorem before0_1 (c : Dev nD) (t : Fin cfg0.N) (d) : (dats m W 0 c).before 1 t d = iblk m c 1 t :=
  before0_1_of m (dats m W 0 c) (A_eq m W c 1) (after0_1 m W c) t d
theorem before0_2 (c : Dev nD) (t : Fin cfg0.N) (d) : (dats m W 0 c).before 2 t d = iblk m c 2 t :=
  before0_2_of m (dats m W 0 c) (A_eq m W c 2) (after0_2 m W c) t d
theorem before0_3 (c : Dev nD) (t : Fin cfg0.N) (d) : (dats m W 0 c).before 3 t d = iblk m c 3 t :=
  before0_3_of m (dats m W 0 c) (A_eq m W c 3) (after0_3 m W c) t d
theorem before0_4 (c : Dev nD) (t : Fin cfg0.N) (d) : (dats m W 0 c).before 4 t d = iblk m c 4 t :=
  before0_4_of m (dats m W 0 c) (A_eq m W c 4) (after0_4 m W c) t d
theorem before0_5 (c : Dev nD) (t : Fin cfg0.N) (d) : (dats m W 0 c).before 5 t d = iblk m c 5 t :=
  before0_5_of m (dats m W 0 c) (A_eq m W c 5) (after0_5 m W c) t d
theorem before0_6 (c : Dev nD) (t : Fin cfg0.N) (d) : (dats m W 0 c).before 6 t d = iblk m c 6 t :=
  before0_6_of m (dats m W 0 c) (A_eq m W c 6) (after0_6 m W c) t d
theorem before0_7 (c : Dev nD) (t : Fin cfg0.N) (d) : (dats m W 0 c).before 7 t d = iblk m c 7 t :=
  before0_7_of m (dats m W 0 c) (A_eq m W c 7) (after0_7 m W c) t d
theorem before0_8 (c : Dev nD) (t : Fin cfg0.N) (d) : (dats m W 0 c).before 8 t d = iblk m c 8 t :=
  before0_8_of m (dats m W 0 c) (A_eq m W c 8) (after0_8 m W c) t d
theorem before0_9 (c : Dev nD) (t : Fin cfg0.N) (d) : (dats m W 0 c).before 9 t d = iblk m c 9 t :=
  before0_9_of m (dats m W 0 c) (A_eq m W c 9) (after0_9 m W c) t d
theorem before0_10 (c : Dev nD) (t : Fin cfg0.N) (d) : (dats m W 0 c).before 10 t d = iblk m c 10 t :=
  before0_10_of m (dats m W 0 c) (A_eq m W c 10) (after0_10 m W c) t d
theorem before0_11 (c : Dev nD) (t : Fin cfg0.N) (d) : (dats m W 0 c).before 11 t d = iblk m c 11 t :=
  before0_11_of m (dats m W 0 c) (A_eq m W c 11) (after0_11 m W c) t d
theorem before0_12 (c : Dev nD) (t : Fin cfg0.N) (d) : (dats m W 0 c).before 12 t d = iblk m c 12 t :=
  before0_12_of m (dats m W 0 c) (A_eq m W c 12) (after0_12 m W c) t d
theorem before0_13 (c : Dev nD) (t : Fin cfg0.N) (d) : (dats m W 0 c).before 13 t d = iblk m c 13 t :=
  before0_13_of m (dats m W 0 c) (A_eq m W c 13) (after0_13 m W c) t d
theorem before0_14 (c : Dev nD) (t : Fin cfg0.N) (d) : (dats m W 0 c).before 14 t d = iblk m c 14 t :=
  before0_14_of m (dats m W 0 c) (A_eq m W c 14) (after0_14 m W c) t d
theorem before0_15 (c : Dev nD) (t : Fin cfg0.N) (d) : (dats m W 0 c).before 15 t d = iblk m c 15 t :=
  before0_15_of m (dats m W 0 c) (A_eq m W c 15) (after0_15 m W c) t d
theorem before0_16 (c : Dev nD) (t : Fin cfg0.N) (d) : (dats m W 0 c).before 16 t d = iblk m c 16 t :=
  before0_16_of m (dats m W 0 c) (A_eq m W c 16) (after0_16 m W c) t d
theorem before0_17 (c : Dev nD) (t : Fin cfg0.N) (d) : (dats m W 0 c).before 17 t d = iblk m c 17 t :=
  before0_17_of m (dats m W 0 c) (A_eq m W c 17) (after0_17 m W c) t d
theorem before0_18 (c : Dev nD) (t : Fin cfg0.N) (d) : (dats m W 0 c).before 18 t d = iblk m c 18 t :=
  before0_18_of m (dats m W 0 c) (A_eq m W c 18) (after0_18 m W c) t d
theorem before0_19 (c : Dev nD) (t : Fin cfg0.N) (d) : (dats m W 0 c).before 19 t d = iblk m c 19 t :=
  before0_19_of m (dats m W 0 c) (A_eq m W c 19) (after0_19 m W c) t d
theorem before0_20 (c : Dev nD) (t : Fin cfg0.N) (d) : (dats m W 0 c).before 20 t d = iblk m c 20 t :=
  before0_20_of m (dats m W 0 c) (A_eq m W c 20) (after0_20 m W c) t d
theorem before0_21 (c : Dev nD) (t : Fin cfg0.N) (d) : (dats m W 0 c).before 21 t d = iblk m c 21 t :=
  before0_21_of m (dats m W 0 c) (A_eq m W c 21) (after0_21 m W c) t d
theorem before0_22 (c : Dev nD) (t : Fin cfg0.N) (d) : (dats m W 0 c).before 22 t d = iblk m c 22 t :=
  before0_22_of m (dats m W 0 c) (A_eq m W c 22) (after0_22 m W c) t d
theorem before0_23 (c : Dev nD) (t : Fin cfg0.N) (d) : (dats m W 0 c).before 23 t d = iblk m c 23 t :=
  before0_23_of m (dats m W 0 c) (A_eq m W c 23) (after0_23 m W c) t d
theorem before0_24 (c : Dev nD) (t : Fin cfg0.N) (d) : (dats m W 0 c).before 24 t d = iblk m c 24 t :=
  before0_24_of m (dats m W 0 c) (A_eq m W c 24) (after0_24 m W c) t d
theorem before0_25 (c : Dev nD) (t : Fin cfg0.N) (d) : (dats m W 0 c).before 25 t d = iblk m c 25 t :=
  before0_25_of m (dats m W 0 c) (A_eq m W c 25) (after0_25 m W c) t d
theorem before0_26 (c : Dev nD) (t : Fin cfg0.N) (d) : (dats m W 0 c).before 26 t d = iblk m c 26 t :=
  before0_26_of m (dats m W 0 c) (A_eq m W c 26) (after0_26 m W c) t d
theorem before0_27 (c : Dev nD) (t : Fin cfg0.N) (d) : (dats m W 0 c).before 27 t d = iblk m c 27 t :=
  before0_27_of m (dats m W 0 c) (A_eq m W c 27) (after0_27 m W c) t d
theorem before0_28 (c : Dev nD) (t : Fin cfg0.N) (d) : (dats m W 0 c).before 28 t d = iblk m c 28 t :=
  before0_28_of m (dats m W 0 c) (A_eq m W c 28) (after0_28 m W c) t d

/-- What the body is called with at a point. -/
def bodyPre (c : Dev nD) (t : Fin cfg0.N) : sProp 𝕄 :=
  iprop((dats m W 0 c).Φ t.castSucc ∗ (dats m W 0 c).owesAt () t.castSucc
    ∗ (∃ d, owns (c : Thread nD τ) (win0_0.stage (cfg0.slots t 0)) fullShare ((dats m W 0 c).before 0 t d))
    ∗ (∃ d, owns (c : Thread nD τ) (win0_1.stage (cfg0.slots t 1)) fullShare ((dats m W 0 c).before 1 t d))
    ∗ (∃ d, owns (c : Thread nD τ) (win0_2.stage (cfg0.slots t 2)) fullShare ((dats m W 0 c).before 2 t d))
    ∗ (∃ d, owns (c : Thread nD τ) (win0_3.stage (cfg0.slots t 3)) fullShare ((dats m W 0 c).before 3 t d))
    ∗ (∃ d, owns (c : Thread nD τ) (win0_4.stage (cfg0.slots t 4)) fullShare ((dats m W 0 c).before 4 t d))
    ∗ (∃ d, owns (c : Thread nD τ) (win0_5.stage (cfg0.slots t 5)) fullShare ((dats m W 0 c).before 5 t d))
    ∗ (∃ d, owns (c : Thread nD τ) (win0_6.stage (cfg0.slots t 6)) fullShare ((dats m W 0 c).before 6 t d))
    ∗ (∃ d, owns (c : Thread nD τ) (win0_7.stage (cfg0.slots t 7)) fullShare ((dats m W 0 c).before 7 t d))
    ∗ (∃ d, owns (c : Thread nD τ) (win0_8.stage (cfg0.slots t 8)) fullShare ((dats m W 0 c).before 8 t d))
    ∗ (∃ d, owns (c : Thread nD τ) (win0_9.stage (cfg0.slots t 9)) fullShare ((dats m W 0 c).before 9 t d))
    ∗ (∃ d, owns (c : Thread nD τ) (win0_10.stage (cfg0.slots t 10)) fullShare ((dats m W 0 c).before 10 t d))
    ∗ (∃ d, owns (c : Thread nD τ) (win0_11.stage (cfg0.slots t 11)) fullShare ((dats m W 0 c).before 11 t d))
    ∗ (∃ d, owns (c : Thread nD τ) (win0_12.stage (cfg0.slots t 12)) fullShare ((dats m W 0 c).before 12 t d))
    ∗ (∃ d, owns (c : Thread nD τ) (win0_13.stage (cfg0.slots t 13)) fullShare ((dats m W 0 c).before 13 t d))
    ∗ (∃ d, owns (c : Thread nD τ) (win0_14.stage (cfg0.slots t 14)) fullShare ((dats m W 0 c).before 14 t d))
    ∗ (∃ d, owns (c : Thread nD τ) (win0_15.stage (cfg0.slots t 15)) fullShare ((dats m W 0 c).before 15 t d))
    ∗ (∃ d, owns (c : Thread nD τ) (win0_16.stage (cfg0.slots t 16)) fullShare ((dats m W 0 c).before 16 t d))
    ∗ (∃ d, owns (c : Thread nD τ) (win0_17.stage (cfg0.slots t 17)) fullShare ((dats m W 0 c).before 17 t d))
    ∗ (∃ d, owns (c : Thread nD τ) (win0_18.stage (cfg0.slots t 18)) fullShare ((dats m W 0 c).before 18 t d))
    ∗ (∃ d, owns (c : Thread nD τ) (win0_19.stage (cfg0.slots t 19)) fullShare ((dats m W 0 c).before 19 t d))
    ∗ (∃ d, owns (c : Thread nD τ) (win0_20.stage (cfg0.slots t 20)) fullShare ((dats m W 0 c).before 20 t d))
    ∗ (∃ d, owns (c : Thread nD τ) (win0_21.stage (cfg0.slots t 21)) fullShare ((dats m W 0 c).before 21 t d))
    ∗ (∃ d, owns (c : Thread nD τ) (win0_22.stage (cfg0.slots t 22)) fullShare ((dats m W 0 c).before 22 t d))
    ∗ (∃ d, owns (c : Thread nD τ) (win0_23.stage (cfg0.slots t 23)) fullShare ((dats m W 0 c).before 23 t d))
    ∗ (∃ d, owns (c : Thread nD τ) (win0_24.stage (cfg0.slots t 24)) fullShare ((dats m W 0 c).before 24 t d))
    ∗ (∃ d, owns (c : Thread nD τ) (win0_25.stage (cfg0.slots t 25)) fullShare ((dats m W 0 c).before 25 t d))
    ∗ (∃ d, owns (c : Thread nD τ) (win0_26.stage (cfg0.slots t 26)) fullShare ((dats m W 0 c).before 26 t d))
    ∗ (∃ d, owns (c : Thread nD τ) (win0_27.stage (cfg0.slots t 27)) fullShare ((dats m W 0 c).before 27 t d))
    ∗ (∃ d, owns (c : Thread nD τ) (win0_28.stage (cfg0.slots t 28)) fullShare ((dats m W 0 c).before 28 t d))
    ∗ (∃ d, owns (c : Thread nD τ) (win0_29.stage (cfg0.slots t 29)) fullShare ((dats m W 0 c).before 29 t d)))

/-- What it returns. -/
def bodyPost (c : Dev nD) (t : Fin cfg0.N) : sProp 𝕄 :=
  iprop((dats m W 0 c).Φ t.succ ∗ (dats m W 0 c).owesAt () t.succ
    ∗ owns (c : Thread nD τ) (win0_0.stage (cfg0.slots t 0)) fullShare ((dats m W 0 c).after 0 t)
    ∗ owns (c : Thread nD τ) (win0_1.stage (cfg0.slots t 1)) fullShare ((dats m W 0 c).after 1 t)
    ∗ owns (c : Thread nD τ) (win0_2.stage (cfg0.slots t 2)) fullShare ((dats m W 0 c).after 2 t)
    ∗ owns (c : Thread nD τ) (win0_3.stage (cfg0.slots t 3)) fullShare ((dats m W 0 c).after 3 t)
    ∗ owns (c : Thread nD τ) (win0_4.stage (cfg0.slots t 4)) fullShare ((dats m W 0 c).after 4 t)
    ∗ owns (c : Thread nD τ) (win0_5.stage (cfg0.slots t 5)) fullShare ((dats m W 0 c).after 5 t)
    ∗ owns (c : Thread nD τ) (win0_6.stage (cfg0.slots t 6)) fullShare ((dats m W 0 c).after 6 t)
    ∗ owns (c : Thread nD τ) (win0_7.stage (cfg0.slots t 7)) fullShare ((dats m W 0 c).after 7 t)
    ∗ owns (c : Thread nD τ) (win0_8.stage (cfg0.slots t 8)) fullShare ((dats m W 0 c).after 8 t)
    ∗ owns (c : Thread nD τ) (win0_9.stage (cfg0.slots t 9)) fullShare ((dats m W 0 c).after 9 t)
    ∗ owns (c : Thread nD τ) (win0_10.stage (cfg0.slots t 10)) fullShare ((dats m W 0 c).after 10 t)
    ∗ owns (c : Thread nD τ) (win0_11.stage (cfg0.slots t 11)) fullShare ((dats m W 0 c).after 11 t)
    ∗ owns (c : Thread nD τ) (win0_12.stage (cfg0.slots t 12)) fullShare ((dats m W 0 c).after 12 t)
    ∗ owns (c : Thread nD τ) (win0_13.stage (cfg0.slots t 13)) fullShare ((dats m W 0 c).after 13 t)
    ∗ owns (c : Thread nD τ) (win0_14.stage (cfg0.slots t 14)) fullShare ((dats m W 0 c).after 14 t)
    ∗ owns (c : Thread nD τ) (win0_15.stage (cfg0.slots t 15)) fullShare ((dats m W 0 c).after 15 t)
    ∗ owns (c : Thread nD τ) (win0_16.stage (cfg0.slots t 16)) fullShare ((dats m W 0 c).after 16 t)
    ∗ owns (c : Thread nD τ) (win0_17.stage (cfg0.slots t 17)) fullShare ((dats m W 0 c).after 17 t)
    ∗ owns (c : Thread nD τ) (win0_18.stage (cfg0.slots t 18)) fullShare ((dats m W 0 c).after 18 t)
    ∗ owns (c : Thread nD τ) (win0_19.stage (cfg0.slots t 19)) fullShare ((dats m W 0 c).after 19 t)
    ∗ owns (c : Thread nD τ) (win0_20.stage (cfg0.slots t 20)) fullShare ((dats m W 0 c).after 20 t)
    ∗ owns (c : Thread nD τ) (win0_21.stage (cfg0.slots t 21)) fullShare ((dats m W 0 c).after 21 t)
    ∗ owns (c : Thread nD τ) (win0_22.stage (cfg0.slots t 22)) fullShare ((dats m W 0 c).after 22 t)
    ∗ owns (c : Thread nD τ) (win0_23.stage (cfg0.slots t 23)) fullShare ((dats m W 0 c).after 23 t)
    ∗ owns (c : Thread nD τ) (win0_24.stage (cfg0.slots t 24)) fullShare ((dats m W 0 c).after 24 t)
    ∗ owns (c : Thread nD τ) (win0_25.stage (cfg0.slots t 25)) fullShare ((dats m W 0 c).after 25 t)
    ∗ owns (c : Thread nD τ) (win0_26.stage (cfg0.slots t 26)) fullShare ((dats m W 0 c).after 26 t)
    ∗ owns (c : Thread nD τ) (win0_27.stage (cfg0.slots t 27)) fullShare ((dats m W 0 c).after 27 t)
    ∗ owns (c : Thread nD τ) (win0_28.stage (cfg0.slots t 28)) fullShare ((dats m W 0 c).after 28 t)
    ∗ owns (c : Thread nD τ) (win0_29.stage (cfg0.slots t 29)) fullShare ((dats m W 0 c).after 29 t))

set_option maxHeartbeats 8000000 in
/-- The body at any point: from what its run writes, whatever the scratch held, meets its obligation. -/
theorem sound_body
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (g4 : Buf (Elt F) ((Memref.whole cc0_scratch4).view.loc (c : Thread nD τ))) (f),
      (win0_29.stage (cfg0.slots t 29)).view.read (Elt F) ((win0_29.stage (cfg0.slots t 29)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g0 g1 g2 g3 g4).1) = W c t)
    (c : Dev nD) (t : Fin cfg0.N) :
    bodyPre m W c t ⊢ wp frame (wpE (defs₀ (F := F)) Variants.none c none) Set.univ (bodyAt0 t) (fun _ => bodyPost m W c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m W 0 c).Φ t.succ = Pipeline.ΦA spec0 c from rfl, show (dats m W 0 c).Φ t.castSucc = Pipeline.ΦA spec0 c from rfl, phi_eq,
    show (dats m W 0 c).owesAt () t.succ = (dats m W 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨⟨⟨⟨%g0, S0⟩, ⟨%g1, S1⟩, ⟨%g2, S2⟩, ⟨%g3, S3⟩, ⟨%g4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g0 g1 g2 g3 g4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, H18, H19, H20, H21, H22, H23, H24, H25, H26, H27, H28, ⟨%e, H29⟩, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  unfold owns; iexists _; isplitr
  swap; · iexact H29
  ipureintro; exact hW c t g0 g1 g2 g3 g4 e

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (g4 : Buf (Elt F) ((Memref.whole cc0_scratch4).view.loc (c : Thread nD τ))) (f),
      (win0_29.stage (cfg0.slots t 29)).view.read (Elt F) ((win0_29.stage (cfg0.slots t 29)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g0 g1 g2 g3 g4).1) = W c t)
    (c : Dev nD) : BodyObligation (dats (F := F) m W 0 c) (defs₀ (F := F)) Variants.none () Set.univ := fun t => by
  rw [bigSep_W0, bigSep_W0, defs₀_row]
  exact triple_restated (sound_body m W hW c t) rfl .rfl fun _ => .rfl

set_option maxHeartbeats 4000000 in
set_option backward.isDefEq.respectTransparency.types false in
/-- The run of the main function, to what the pipeline leaves, with every semaphore at zero. -/
theorem run_main
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (g4 : Buf (Elt F) ((Memref.whole cc0_scratch4).view.loc (c : Thread nD τ))) (f),
      (win0_29.stage (cfg0.slots t 29)).view.read (Elt F) ((win0_29.stage (cfg0.slots t 29)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g0 g1 g2 g3 g4).1) = W c t)
    : θ_run defs (onTc (τ := τ) (main (F := F))) (s₀ m ρ) (fun r => (Pipeline.FramePost cfgs (dats m W) 0 (V m)) r ∧ r.2.sem = fun _ => 0) :=
  Pipeline.θ_run_frame_shared (Q' := _) cfgs (dats m W) (0 : Fin 1) launch₀0 defs₀ Variants.none m ρ main
    (hbody := fun c => (body_obligation m W hW c).loose) (hq := fun _ _ _ => rfl)
    (howed := fun _ _ => rfl) (V := V m) (hmain := hmain m Variants.none) (hA := A_eq m W) (hΦ := fun _ _ => rfl)

set_option maxHeartbeats 4000000 in
/-- The arguments end unchanged, and every semaphore at zero. -/
theorem frame
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (g4 : Buf (Elt F) ((Memref.whole cc0_scratch4).view.loc (c : Thread nD τ))) (f),
      (win0_29.stage (cfg0.slots t 29)).view.read (Elt F) ((win0_29.stage (cfg0.slots t 29)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g0 g1 g2 g3 g4).1) = W c t)
    : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m W) (A_eq m W) ((θ_run defs _ _).mono (fun _ h => h.1) (run_main m ρ W hW)))
    ((θ_run defs _ _).mono (fun _ h => h.2) (run_main m ρ W hW))

end Cert.EncIdeal.Hand

end
-- ==== Proof.EncEq.lean ====
/- The encoder's run: its output array is the composition of convolutions, at every batch entry. -/
module

public import proofs.«01_k».proof.Proof.EncLeft
public import proofs.«01_k».proof.Proof.EncIdealFrame
public import Idealize.ShloMosaic.Lib.Pipeline.ValueKit.Geometry

@[expose] public section

set_option maxRecDepth 16384
set_option maxHeartbeats 4000000

noncomputable section

namespace Cert.EncIdeal.Hand

open Cert.EncIdeal.Gen
open Idealize.ShloMosaic Idealize.ShloMosaic.TcCoe Idealize.SL.Sem PhaseConv
open Idealize.ShloMosaic.Pipeline (Dat)

variable (m : (ℓ : Loc nD τ sig) → Buf (Elt Ideal) ℓ) (ρ : Dev nD → PrngReg)

/-- The window's block indices are distinct. -/
theorem idx_inj29 : ∀ t t' : Fin cfg0.N, win0_29.index t = win0_29.index t' → t = t' :=
  (by decide +kernel : ∀ t t' : Fin grid0.N, win0_29.index t = win0_29.index t' → t = t')

/-- The output array after the run. -/
theorem arr_out (c : Dev nD) : (dats m (encBlk m) 0 c).arrAt 29 cfg0.N = encOut m c := by
  refine (dats m (encBlk m) 0 c).arrAt_eq_of_covers 29 (encOut m c) (by decide +kernel) (fun t hf y => ?_)
  blk_simp
  show encSpec (a0 m c) (a1 m c) (a2 m c) (a3 m c) (a4 m c) (a5 m c) (a6 m c) (a7 m c) (a8 m c) (a9 m c) (a10 m c) (a11 m c) (a12 m c) t.val (y 1).val (y 2).val = encSpec (a0 m c) (a1 m c) (a2 m c) (a3 m c) (a4 m c) (a5 m c) (a6 m c) (a7 m c) (a8 m c) (a9 m c) (a10 m c) (a11 m c) (a12 m c)
    ((cfg0.win 29).index t 0 * 1 + 1 * (y 0).val) (0 * 64 + 1 * (y 1).val) (0 * 2048 + 1 * (y 2).val)
  have h0 : (y 0).val < 1 := (y 0).isLt
  rw [index29, show t.val * 1 + 1 * (y 0).val = t.val by omega, show 0 * 64 + 1 * (y 1).val = (y 1).val by omega, show 0 * 2048 + 1 * (y 2).val = (y 2).val by omega]

/-- The encoder's run ends with the output array above and the arguments unchanged. -/
theorem run_enc : θ_run defs (onTc (τ := τ) (main (F := Ideal))) ⟨m, fun _ => 0, ρ⟩ fun r => (∀ c : Dev nD,
      r.2.mem ((c.tc : Thread nD τ).loc main_v84) = encOut m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  θ_run_and ((θ_run defs _ _).mono (fun r h c => (h.1 c |>.1 29).trans (arr_out m c)) (run_main m ρ (encBlk m) (left m)))
    (frame m ρ (encBlk m) (left m))

end Cert.EncIdeal.Hand

end
-- ==== Proof.RefLayer.lean ====
/- A reference's convolution, one operation at a time: the taps, their sum with the bias, the rectifier and the padding. -/
module

public import proofs.«01_k».proof.Proof.HostArr
public import proofs.«01_k».proof.Proof.Scratch

@[expose] public section

noncomputable section

namespace PhaseConv

open Idealize.ShloMosaic Idealize.ShloMosaic.ValueIdx
open scoped BigOperators

/-- The converted integer zero is zero. -/
theorem int_zero : ((((0#32 : BitVec 32).toInt : ℝ)) : EReal) = 0 := by simp

/-- One tap of a kernel, cut at entry `k` of its last axis. -/
theorem is2_last {O I K : ℕ} {x : (B3 O I K).Idx → EReal} {w : ℕ → ℕ → ℕ → EReal} (hx : Is3 x w) (k : ℕ)
    (hs : (B3 O I K).Slices ![0, 0, k] (B3 O I 1)) (hc : (B3 O I 1).ShapeCasts (B2 O I)) :
    Is2 (shapeCast (B2 O I) (extractStridedSlice (B3 O I 1) ![0, 0, k] x hs) hc) (fun o i => w o i k) :=
  (is2_drop3 (is3_slice hx 0 0 k hs) hc).congr fun i j _ _ => by
    show w (0 + i) (0 + j) (k + 0) = _
    rw [Nat.zero_add, Nat.zero_add, Nat.add_zero]

variable {O C b L t : ℕ} {st p : ℤ} {w : ℕ → ℕ → ℕ → EReal} {B : ℕ → EReal} {Y : ℕ → ℕ → ℤ → EReal}

/-- A strided window of a padded signal. -/
theorem is3_win {x : (B3 C b L).Idx → EReal} (hx : Is3 x (fun i j s => Y j i ((s : ℤ) - p))) (k n : ℕ)
    (hs : (B3 C b L).SlicesBy ![0, 0, k] ![1, 1, n] (B3 C b t)) :
    Is3 (Host.slice (B3 C b t) ![0, 0, k] ![1, 1, n] x hs) (fun i j s => Y j i ((n : ℤ) * s - p + k)) :=
  (is3_stride hx k n hs).congr fun i j s _ _ _ => congrArg (Y j i) (by push_cast; ring)

/-- A window of a padded signal. -/
theorem is3_win1 {x : (B3 C b L).Idx → EReal} (hx : Is3 x (fun i j s => Y j i ((s : ℤ) - p))) (k : ℕ)
    (hs : (B3 C b L).Slices ![0, 0, k] (B3 C b t)) :
    Is3 (extractStridedSlice (B3 C b t) ![0, 0, k] x hs) (fun i j s => Y j i ((1 : ℤ) * s - p + k)) :=
  (is3_slice hx 0 0 k hs).congr fun i j s _ _ _ => by
    show Y (0 + j) (0 + i) (((k + s : ℕ) : ℤ) - p) = _
    rw [Nat.zero_add, Nat.zero_add]
    exact congrArg (Y j i) (by push_cast; ring)

/-- The padded signal itself, for a kernel of one tap. -/
theorem is3_win0 {x : (B3 C b L).Idx → EReal} (hx : Is3 x (fun i j s => Y j i ((s : ℤ) - p))) :
    Is3 x (fun i j s => Y j i ((1 : ℤ) * s - p + (0 : ℕ))) :=
  hx.congr fun i j s _ _ _ => congrArg (Y j i) (by push_cast; ring)

/-- The sum of the first `n` taps and the next one. -/
theorem is3_more {y z : FVec Ideal (B3 O b t) .f32} {n : ℕ}
    (hy : Is3 y (fun o j s => taps C (fun k o i => w o i k) (Y j) n o (st * s - p)))
    (hz : Is3 z (fun o j s => dotR C (fun i => w o i n) (fun i => Y j i (st * s - p + n)))) :
    Is3 (addf y z) (fun o j s => taps C (fun k o i => w o i k) (Y j) (n + 1) o (st * s - p)) :=
  (is3_add hy hz).congr fun o j s _ _ _ => by
    rw [taps_add, taps_one]; rfl

/-- The first tap. -/
theorem is3_first {z : (B3 O b t).Idx → EReal}
    (hz : Is3 z (fun o j s => dotR C (fun i => w o i 0) (fun i => Y j i (st * s - p + (0 : ℕ))))) :
    Is3 z (fun o j s => taps C (fun k o i => w o i k) (Y j) 1 o (st * s - p)) :=
  hz.congr fun o j s _ _ _ => by rw [taps_one]; unfold tap; simp

/-- The taps and the bias are the convolution. -/
theorem is3_conv {y z : FVec Ideal (B3 O b t) .f32} {n : ℕ}
    (hy : Is3 y (fun o j s => taps C (fun k o i => w o i k) (Y j) n o (st * s - p))) (hz : Is3 z (fun o _ _ => B o)) :
    Is3 (addf y z) (fun o j s => conv C n st p w B (Y j) o s) := is3_add hy hz

/-- The rectified convolution is the layer. -/
theorem is3_layer {n : ℕ} {y z s : FVec Ideal (B3 O b t) .f32} (hy : Is3 y (fun o j s => conv C n st p w B (Y j) o s))
    (hz : ∀ i, z i = (Ideal.ofBits .f32 0x00000000#32 : EReal)) (hs : ∀ i, s i = slope) :
    Is3 (select (cmpf .oge y z) y (mulf s y)) (fun o j s => layer t C n st p w B (Y j) o (s : ℤ)) :=
  (is3_act hy hz hs).congr fun o j s _ _ h => layer_in (by omega) (by omega) rfl

/-- A layer is kept to its extent already. -/
theorem cut_layer {n N : ℕ} {X : ℕ → ℤ → EReal} : cut N (layer N C n st p w B X) = layer N C n st p w B X := by
  funext o s
  by_cases h : 0 ≤ s ∧ s < N
  · exact cut_in h.1 h.2
  · rw [cut_out (by omega)]; exact (cut_out (by omega)).symm

/-- A padded layer. -/
theorem is3_padL {n c' lo hi : ℕ} {x : (B3 O b t).Idx → EReal} (hx : Is3 x (fun o j s => layer t C n st p w B (Y j) o (s : ℤ)))
    {u : Shape} (v : u.Idx → EReal)
    (h : (B3 O b t).Pads ![0, 0, lo] ![0, 0, hi] ![0, 0, 0] (B3 O b c')) (hu : 0 < u.numel) (hv : ∀ i, v i = 0) :
    Is3 (pad (B3 O b c') ![0, 0, lo] ![0, 0, hi] ![0, 0, 0] x v h hu) (fun i j k => layer t C n st p w B (Y j) i ((k : ℤ) - (lo : ℕ))) :=
  (is3_pad1 (X := fun j => layer t C n st p w B (Y j)) hx v h hu hv).congr fun i j k _ _ _ => by rw [cut_layer]

/-- A signal spread to every second position, zero between. -/
def dil (X : ℕ → ℤ → EReal) : ℕ → ℤ → EReal := fun i s => if s % 2 = 0 then X i (s / 2) else 0

/-- A layer, spread and padded. -/
theorem is3_padD {n c' lo hi : ℕ} {x : (B3 O b t).Idx → EReal} (hx : Is3 x (fun o j s => layer t C n st p w B (Y j) o (s : ℤ)))
    {u : Shape} (v : u.Idx → EReal)
    (h : (B3 O b t).Pads ![0, 0, lo] ![0, 0, hi] ![0, 0, 1] (B3 O b c')) (hu : 0 < u.numel) (hv : ∀ i, v i = 0) :
    Is3 (pad (B3 O b c') ![0, 0, lo] ![0, 0, hi] ![0, 0, 1] x v h hu) (fun i j k => dil (layer t C n st p w B (Y j)) i ((k : ℤ) - (lo : ℕ))) :=
  (is3_pad (X := fun j => layer t C n st p w B (Y j)) hx v h hu hv).congr fun i j k _ _ _ => by
    show (if _ then cut t (layer t C n st p w B (Y j)) i _ else 0) = _
    rw [cut_layer]; rfl

end PhaseConv

end
-- ==== Proof.RefEncVal.lean ====
/- The encoder's reference, read as the composition of convolutions. -/
module

public import proofs.«01_k».proof.Proof.Gen.RefEncIdeal.Read
public import proofs.«01_k».proof.Proof.RefLayer
public import proofs.«01_k».proof.Proof.EncSpec

@[expose] public section

set_option maxRecDepth 16384
set_option maxHeartbeats 2000000

noncomputable section

namespace Cert.RefEncIdeal.Hand

open Cert.RefEncIdeal Cert.RefEncIdeal.Gen Cert.RefEncIdeal.Read Idealize.ShloMosaic PhaseConv

variable (x0 : S8x2x16384.Idx → EReal) (x1 : S128x2x4.Idx → EReal) (x2 : S128.Idx → EReal) (x3 : S256x128x4.Idx → EReal) (x4 : S256.Idx → EReal) (x5 : S256x256x4.Idx → EReal) (x6 : S256.Idx → EReal) (x7 : S256x256x3.Idx → EReal) (x8 : S256.Idx → EReal) (x9 : S64x256x1.Idx → EReal) (x10 : S64.Idx → EReal) (x11 : S64x64x1.Idx → EReal) (x12 : S64.Idx → EReal)

/-- The padded input. -/
theorem ref_in : Is3 (val_main_v1 (F := Ideal) x0) (fun i j s => (cut 16384 fun ch z => of3 x0 j ch z.toNat) i ((s : ℤ) - 1)) :=
  is3_pad1 (X := fun j => fun ch z => of3 x0 j ch z.toNat) (is3_swap (is3_of x0) _) _ _ _ fun _ => int_zero

/-- The first layer. -/
theorem ref1 : Is3 (val_main_v23 (F := Ideal) x0 x1 x2) (fun o j s => layer 8192 2 4 2 1 (of3 x1) (of1 x2) (cut 16384 fun ch z => of3 x0 j ch z.toNat) o (s : ℤ)) :=
  is3_layer (is3_conv (is3_more (is3_more (is3_more (is3_first (is3_dot (is2_last (is3_of x1) 0 _ _) (is3_win (ref_in x0) 0 2 _) (val_main_v11_apply x0 x1) (fun _ _ => ⟨rfl, rfl⟩) (fun _ _ => ⟨rfl, rfl, rfl⟩)))
    (is3_dot (is2_last (is3_of x1) 1 _ _) (is3_win (ref_in x0) 1 2 _) (val_main_v13_apply x0 x1) (fun _ _ => ⟨rfl, rfl⟩) (fun _ _ => ⟨rfl, rfl, rfl⟩)))
    (is3_dot (is2_last (is3_of x1) 2 _ _) (is3_win (ref_in x0) 2 2 _) (val_main_v15_apply x0 x1) (fun _ _ => ⟨rfl, rfl⟩) (fun _ _ => ⟨rfl, rfl, rfl⟩)))
    (is3_dot (is2_last (is3_of x1) 3 _ _) (is3_win (ref_in x0) 3 2 _) (val_main_v17_apply x0 x1) (fun _ _ => ⟨rfl, rfl⟩) (fun _ _ => ⟨rfl, rfl, rfl⟩)))
    (is3_bias (is1_of x2) _)) (fun _ => rfl) (fun _ => rfl)

/-- The first layer, padded. -/
theorem pad1 : Is3 (val_main_v24 (F := Ideal) x0 x1 x2) (fun o j s => layer 8192 2 4 2 1 (of3 x1) (of1 x2) (cut 16384 fun ch z => of3 x0 j ch z.toNat) o ((s : ℤ) - 1)) :=
  is3_padL (ref1 x0 x1 x2) _ _ _ fun _ => int_zero

/-- The second layer. -/
theorem ref2 : Is3 (val_main_v46 (F := Ideal) x0 x1 x2 x3 x4) (fun o j s => layer 4096 128 4 2 1 (of3 x3) (of1 x4) (layer 8192 2 4 2 1 (of3 x1) (of1 x2) (cut 16384 fun ch z => of3 x0 j ch z.toNat)) o (s : ℤ)) :=
  is3_layer (is3_conv (is3_more (is3_more (is3_more (is3_first (is3_dot (is2_last (is3_of x3) 0 _ _) (is3_win (pad1 x0 x1 x2) 0 2 _) (val_main_v34_apply x0 x1 x2 x3) (fun _ _ => ⟨rfl, rfl⟩) (fun _ _ => ⟨rfl, rfl, rfl⟩)))
    (is3_dot (is2_last (is3_of x3) 1 _ _) (is3_win (pad1 x0 x1 x2) 1 2 _) (val_main_v36_apply x0 x1 x2 x3) (fun _ _ => ⟨rfl, rfl⟩) (fun _ _ => ⟨rfl, rfl, rfl⟩)))
    (is3_dot (is2_last (is3_of x3) 2 _ _) (is3_win (pad1 x0 x1 x2) 2 2 _) (val_main_v38_apply x0 x1 x2 x3) (fun _ _ => ⟨rfl, rfl⟩) (fun _ _ => ⟨rfl, rfl, rfl⟩)))
    (is3_dot (is2_last (is3_of x3) 3 _ _) (is3_win (pad1 x0 x1 x2) 3 2 _) (val_main_v40_apply x0 x1 x2 x3) (fun _ _ => ⟨rfl, rfl⟩) (fun _ _ => ⟨rfl, rfl, rfl⟩)))
    (is3_bias (is1_of x4) _)) (fun _ => rfl) (fun _ => rfl)

/-- The second layer, padded. -/
theorem pad2 : Is3 (val_main_v47 (F := Ideal) x0 x1 x2 x3 x4) (fun o j s => layer 4096 128 4 2 1 (of3 x3) (of1 x4) (layer 8192 2 4 2 1 (of3 x1) (of1 x2) (cut 16384 fun ch z => of3 x0 j ch z.toNat)) o ((s : ℤ) - 1)) :=
  is3_padL (ref2 x0 x1 x2 x3 x4) _ _ _ fun _ => int_zero

/-- The third layer. -/
theorem ref3 : Is3 (val_main_v69 (F := Ideal) x0 x1 x2 x3 x4 x5 x6) (fun o j s => layer 2048 256 4 2 1 (of3 x5) (of1 x6) (layer 4096 128 4 2 1 (of3 x3) (of1 x4) (layer 8192 2 4 2 1 (of3 x1) (of1 x2) (cut 16384 fun ch z => of3 x0 j ch z.toNat))) o (s : ℤ)) :=
  is3_layer (is3_conv (is3_more (is3_more (is3_more (is3_first (is3_dot (is2_last (is3_of x5) 0 _ _) (is3_win (pad2 x0 x1 x2 x3 x4) 0 2 _) (val_main_v57_apply x0 x1 x2 x3 x4 x5) (fun _ _ => ⟨rfl, rfl⟩) (fun _ _ => ⟨rfl, rfl, rfl⟩)))
    (is3_dot (is2_last (is3_of x5) 1 _ _) (is3_win (pad2 x0 x1 x2 x3 x4) 1 2 _) (val_main_v59_apply x0 x1 x2 x3 x4 x5) (fun _ _ => ⟨rfl, rfl⟩) (fun _ _ => ⟨rfl, rfl, rfl⟩)))
    (is3_dot (is2_last (is3_of x5) 2 _ _) (is3_win (pad2 x0 x1 x2 x3 x4) 2 2 _) (val_main_v61_apply x0 x1 x2 x3 x4 x5) (fun _ _ => ⟨rfl, rfl⟩) (fun _ _ => ⟨rfl, rfl, rfl⟩)))
    (is3_dot (is2_last (is3_of x5) 3 _ _) (is3_win (pad2 x0 x1 x2 x3 x4) 3 2 _) (val_main_v63_apply x0 x1 x2 x3 x4 x5) (fun _ _ => ⟨rfl, rfl⟩) (fun _ _ => ⟨rfl, rfl, rfl⟩)))
    (is3_bias (is1_of x6) _)) (fun _ => rfl) (fun _ => rfl)

/-- The third layer, padded. -/
theorem pad3 : Is3 (val_main_v70 (F := Ideal) x0 x1 x2 x3 x4 x5 x6) (fun o j s => layer 2048 256 4 2 1 (of3 x5) (of1 x6) (layer 4096 128 4 2 1 (of3 x3) (of1 x4) (layer 8192 2 4 2 1 (of3 x1) (of1 x2) (cut 16384 fun ch z => of3 x0 j ch z.toNat))) o ((s : ℤ) - 1)) :=
  is3_padL (ref3 x0 x1 x2 x3 x4 x5 x6) _ _ _ fun _ => int_zero

/-- The fourth layer. -/
theorem ref4 : Is3 (val_main_v87 (F := Ideal) x0 x1 x2 x3 x4 x5 x6 x7 x8) (fun o j s => layer 2048 256 3 1 1 (of3 x7) (of1 x8) (layer 2048 256 4 2 1 (of3 x5) (of1 x6) (layer 4096 128 4 2 1 (of3 x3) (of1 x4) (layer 8192 2 4 2 1 (of3 x1) (of1 x2) (cut 16384 fun ch z => of3 x0 j ch z.toNat)))) o (s : ℤ)) :=
  is3_layer (is3_conv (is3_more (is3_more (is3_first (is3_dot (is2_last (is3_of x7) 0 _ _) (is3_win1 (pad3 x0 x1 x2 x3 x4 x5 x6) 0 _) (val_main_v78_apply x0 x1 x2 x3 x4 x5 x6 x7) (fun _ _ => ⟨rfl, rfl⟩) (fun _ _ => ⟨rfl, rfl, rfl⟩)))
    (is3_dot (is2_last (is3_of x7) 1 _ _) (is3_win1 (pad3 x0 x1 x2 x3 x4 x5 x6) 1 _) (val_main_v80_apply x0 x1 x2 x3 x4 x5 x6 x7) (fun _ _ => ⟨rfl, rfl⟩) (fun _ _ => ⟨rfl, rfl, rfl⟩)))
    (is3_dot (is2_last (is3_of x7) 2 _ _) (is3_win1 (pad3 x0 x1 x2 x3 x4 x5 x6) 2 _) (val_main_v82_apply x0 x1 x2 x3 x4 x5 x6 x7) (fun _ _ => ⟨rfl, rfl⟩) (fun _ _ => ⟨rfl, rfl, rfl⟩)))
    (is3_bias (is1_of x8) _)) (fun _ => rfl) (fun _ => rfl)

/-- The fourth layer, padded by nothing. -/
theorem pad4 : Is3 (val_main_v88 (F := Ideal) x0 x1 x2 x3 x4 x5 x6 x7 x8) (fun o j s => layer 2048 256 3 1 1 (of3 x7) (of1 x8) (layer 2048 256 4 2 1 (of3 x5) (of1 x6) (layer 4096 128 4 2 1 (of3 x3) (of1 x4) (layer 8192 2 4 2 1 (of3 x1) (of1 x2) (cut 16384 fun ch z => of3 x0 j ch z.toNat)))) o ((s : ℤ) - 0)) :=
  is3_padL (ref4 x0 x1 x2 x3 x4 x5 x6 x7 x8) _ _ _ fun _ => int_zero

/-- The fifth layer. -/
theorem ref5 : Is3 (val_main_v93 (F := Ideal) x0 x1 x2 x3 x4 x5 x6 x7 x8 x9 x10) (fun o j s => layer 2048 256 1 1 0 (of3 x9) (of1 x10) (layer 2048 256 3 1 1 (of3 x7) (of1 x8) (layer 2048 256 4 2 1 (of3 x5) (of1 x6) (layer 4096 128 4 2 1 (of3 x3) (of1 x4) (layer 8192 2 4 2 1 (of3 x1) (of1 x2) (cut 16384 fun ch z => of3 x0 j ch z.toNat))))) o (s : ℤ)) :=
  is3_layer (is3_conv (is3_first (is3_dot (is2_drop3 (is3_of x9) _) (is3_win0 (pad4 x0 x1 x2 x3 x4 x5 x6 x7 x8)) (val_main_v90_apply x0 x1 x2 x3 x4 x5 x6 x7 x8 x9) (fun _ _ => ⟨rfl, rfl⟩) (fun _ _ => ⟨rfl, rfl, rfl⟩)))
    (is3_bias (is1_of x10) _)) (fun _ => rfl) (fun _ => rfl)

/-- The fifth layer, padded by nothing. -/
theorem pad5 : Is3 (val_main_v94 (F := Ideal) x0 x1 x2 x3 x4 x5 x6 x7 x8 x9 x10) (fun o j s => layer 2048 256 1 1 0 (of3 x9) (of1 x10) (layer 2048 256 3 1 1 (of3 x7) (of1 x8) (layer 2048 256 4 2 1 (of3 x5) (of1 x6) (layer 4096 128 4 2 1 (of3 x3) (of1 x4) (layer 8192 2 4 2 1 (of3 x1) (of1 x2) (cut 16384 fun ch z => of3 x0 j ch z.toNat))))) o ((s : ℤ) - 0)) :=
  is3_padL (ref5 x0 x1 x2 x3 x4 x5 x6 x7 x8 x9 x10) _ _ _ fun _ => int_zero

/-- The reference's result is the encoder. -/
theorem ref_enc : Is3 (val_main_v99 (F := Ideal) x0 x1 x2 x3 x4 x5 x6 x7 x8 x9 x10 x11 x12) (fun b o s => encSpec (of3 x0) (of3 x1) (of1 x2) (of3 x3) (of1 x4) (of3 x5) (of1 x6) (of3 x7) (of1 x8) (of3 x9) (of1 x10) (of3 x11) (of1 x12) b o s) :=
  is3_swap (is3_conv (is3_first (is3_dot (is2_drop3 (is3_of x11) _) (is3_win0 (pad5 x0 x1 x2 x3 x4 x5 x6 x7 x8 x9 x10)) (val_main_v96_apply x0 x1 x2 x3 x4 x5 x6 x7 x8 x9 x10 x11) (fun _ _ => ⟨rfl, rfl⟩) (fun _ _ => ⟨rfl, rfl, rfl⟩)))
    (is3_bias (is1_of x12) _)) _

end Cert.RefEncIdeal.Hand

end
-- ==== Proof.EncAlg.lean ====
/- The claims about the encoder: its run is the reference's. -/
module

public import proofs.«01_k».proof.Defs
public import proofs.«01_k».proof.Proof.EncEq
public import proofs.«01_k».proof.Proof.RefEncVal

@[expose] public section

set_option maxRecDepth 16384
set_option maxHeartbeats 4000000

noncomputable section

namespace Cert.EncIdeal.Hand

open Cert.EncIdeal.Gen
open Idealize.ShloMosaic Idealize.ShloMosaic.TcCoe Idealize.SL.Sem PhaseConv

/-- The encoder of equal arguments. -/
theorem spec_congr {x0 : ℕ → ℕ → ℕ → EReal} {x1 : ℕ → ℕ → ℕ → EReal} {x2 : ℕ → EReal} {x3 : ℕ → ℕ → ℕ → EReal} {x4 : ℕ → EReal} {x5 : ℕ → ℕ → ℕ → EReal} {x6 : ℕ → EReal} {x7 : ℕ → ℕ → ℕ → EReal} {x8 : ℕ → EReal} {x9 : ℕ → ℕ → ℕ → EReal} {x10 : ℕ → EReal} {x11 : ℕ → ℕ → ℕ → EReal} {x12 : ℕ → EReal} {y0 : ℕ → ℕ → ℕ → EReal} {y1 : ℕ → ℕ → ℕ → EReal} {y2 : ℕ → EReal} {y3 : ℕ → ℕ → ℕ → EReal} {y4 : ℕ → EReal} {y5 : ℕ → ℕ → ℕ → EReal} {y6 : ℕ → EReal} {y7 : ℕ → ℕ → ℕ → EReal} {y8 : ℕ → EReal} {y9 : ℕ → ℕ → ℕ → EReal} {y10 : ℕ → EReal} {y11 : ℕ → ℕ → ℕ → EReal} {y12 : ℕ → EReal}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (b o s : ℕ) :
    encSpec x0 x1 x2 x3 x4 x5 x6 x7 x8 x9 x10 x11 x12 b o s = encSpec y0 y1 y2 y3 y4 y5 y6 y7 y8 y9 y10 y11 y12 b o s := by
  rw [e0, e1, e2, e3, e4, e5, e6, e7, e8, e9, e10, e11, e12]

/-- The encoder leaves its arguments and semaphores as they were. -/
theorem quiescent : quiescent_EncIdeal := fun m g _ => frame m g (encBlk m) (left m)

/-- The encoder's result is its reference's. -/
theorem algebraic : algebraic_EncIdeal_RefEncIdeal := fun m g m' g' _ hargs =>
  ⟨encOut m, (θ_run _ _ _).mono (fun r h c => ⟨h.1 c, h.2.1 c⟩) (run_enc m g), (θ_run _ _ _).mono (fun r h c => by
    obtain ⟨e0, e1, e2, e3, e4, e5, e6, e7, e8, e9, e10, e11, e12⟩ := hargs c
    refine ⟨(h c).1.trans ((Cert.RefEncIdeal.Read.val_main_v99_eq (StableHlo.launchContents m' c)).trans (funext fun i =>
      (Cert.RefEncIdeal.Hand.ref_enc _ _ _ _ _ _ _ _ _ _ _ _ _ i).trans ?_)), (h c).2⟩
    exact spec_congr (congrArg (fun x : S8x2x16384.Idx → EReal => of3 x) e0) (congrArg (fun x : S128x2x4.Idx → EReal => of3 x) e1) (congrArg (fun x : S128.Idx → EReal => of1 x) e2) (congrArg (fun x : S256x128x4.Idx → EReal => of3 x) e3) (congrArg (fun x : S256.Idx → EReal => of1 x) e4) (congrArg (fun x : S256x256x4.Idx → EReal => of3 x) e5) (congrArg (fun x : S256.Idx → EReal => of1 x) e6) (congrArg (fun x : S256x256x3.Idx → EReal => of3 x) e7) (congrArg (fun x : S256.Idx → EReal => of1 x) e8) (congrArg (fun x : S64x256x1.Idx → EReal => of3 x) e9) (congrArg (fun x : S64.Idx → EReal => of1 x) e10) (congrArg (fun x : S64x64x1.Idx → EReal => of3 x) e11) (congrArg (fun x : S64.Idx → EReal => of1 x) e12) _ _ _) (Cert.RefEncIdeal.Value.run m' g')⟩

end Cert.EncIdeal.Hand

end
-- ==== Proof.DecIdealBody.lean ====
module

public import proofs.«01_k».proof.Proof.Gen.DecIdeal.Frame
public import proofs.«01_k».proof.Proof.Gen.DecIdeal.Skeleton

@[expose] public section

set_option maxRecDepth 16384

noncomputable section

namespace Cert.DecIdeal.Hand

open Cert.DecIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
/-- The body run once, on whole staging buffers and on scratch holding anything at all: its operands
    come back as they were, its scratch at some contents, and its output at the pieces the run
    writes, which are the witness. -/
noncomputable def bodyRun (c : Dev nD) (i : grid0.Coords) (arg1 : Memref sig .tc .vmem S1x64x2048 .f32) (harg1 : arg1.IsWhole) (arg2 : Memref sig .tc .vmem S256x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S128x1 .f32) (harg12 : arg12.IsWhole) (arg13 : Memref sig .tc .vmem S128x256 .f32) (harg13 : arg13.IsWhole) (arg14 : Memref sig .tc .vmem S128x256 .f32) (harg14 : arg14.IsWhole) (arg15 : Memref sig .tc .vmem S128x1 .f32) (harg15 : arg15.IsWhole) (arg16 : Memref sig .tc .vmem S128x512 .f32) (harg16 : arg16.IsWhole) (arg17 : Memref sig .tc .vmem S128x1 .f32) (harg17 : arg17.IsWhole) (arg18 : Memref sig .tc .vmem S128x512 .f32) (harg18 : arg18.IsWhole) (arg19 : Memref sig .tc .vmem S128x1 .f32) (harg19 : arg19.IsWhole) (arg20 : Memref sig .tc .vmem S128x256 .f32) (harg20 : arg20.IsWhole) (arg21 : Memref sig .tc .vmem S128x256 .f32) (harg21 : arg21.IsWhole) (arg22 : Memref sig .tc .vmem S2x1 .f32) (harg22 : arg22.IsWhole) (arg23 : Memref sig .tc .vmem S2x128 .f32) (harg23 : arg23.IsWhole) (arg24 : Memref sig .tc .vmem S2x128 .f32) (harg24 : arg24.IsWhole) (arg25 : Memref sig .tc .vmem S2x1 .f32) (harg25 : arg25.IsWhole) (arg26 : Memref sig .tc .vmem S2x128 .f32) (harg26 : arg26.IsWhole) (arg27 : Memref sig .tc .vmem S2x128 .f32) (harg27 : arg27.IsWhole) (arg28 : Memref sig .tc .vmem S2x1 .f32) (harg28 : arg28.IsWhole) (arg29 : Memref sig .tc .vmem S2x128 .f32) (harg29 : arg29.IsWhole) (arg30 : Memref sig .tc .vmem S2x128 .f32) (harg30 : arg30.IsWhole) (arg31 : Memref sig .tc .vmem S2x1 .f32) (harg31 : arg31.IsWhole) (arg32 : Memref sig .tc .vmem S2x128 .f32) (harg32 : arg32.IsWhole) (arg33 : Memref sig .tc .vmem S2x128 .f32) (harg33 : arg33.IsWhole) (arg34 : Memref sig .tc .vmem S2x1 .f32) (harg34 : arg34.IsWhole) (arg35 : Memref sig .tc .vmem S2x128 .f32) (harg35 : arg35.IsWhole) (arg36 : Memref sig .tc .vmem S2x128 .f32) (harg36 : arg36.IsWhole) (arg37 : Memref sig .tc .vmem S2x1 .f32) (harg37 : arg37.IsWhole) (arg38 : Memref sig .tc .vmem S2x128 .f32) (harg38 : arg38.IsWhole) (arg39 : Memref sig .tc .vmem S2x128 .f32) (harg39 : arg39.IsWhole) (arg40 : Memref sig .tc .vmem S2x1 .f32) (harg40 : arg40.IsWhole) (arg41 : Memref sig .tc .vmem S2x128 .f32) (harg41 : arg41.IsWhole) (arg42 : Memref sig .tc .vmem S2x128 .f32) (harg42 : arg42.IsWhole) (arg43 : Memref sig .tc .vmem S2x1 .f32) (harg43 : arg43.IsWhole) (arg44 : Memref sig .tc .vmem S2x128 .f32) (harg44 : arg44.IsWhole) (arg45 : Memref sig .tc .vmem S2x128 .f32) (harg45 : arg45.IsWhole) (arg46 : Memref sig .tc .vmem S256x64 .f32) (harg46 : arg46.IsWhole) (arg47 : Memref sig .tc .vmem S256x1 .f32) (harg47 : arg47.IsWhole) (arg48 : Memref sig .tc .vmem S1x16x2048 .f32) (harg48 : arg48.IsWhole) (arg49 : Memref sig .tc .vmem S256x2304 .f32) (harg49 : arg49.IsWhole) (arg50 : Memref sig .tc .vmem S256x2304 .f32) (harg50 : arg50.IsWhole) (arg51 : Memref sig .tc .vmem S512x2304 .f32) (harg51 : arg51.IsWhole) (arg52 : Memref sig .tc .vmem S512x2304 .f32) (harg52 : arg52.IsWhole)
    (x0 : Vec F S1x64x2048 .f32) (x1 : Vec F S256x1 .f32) (x2 : Vec F S256x256 .f32) (x3 : Vec F S256x256 .f32) (x4 : Vec F S256x256 .f32) (x5 : Vec F S256x1 .f32) (x6 : Vec F S256x256 .f32) (x7 : Vec F S256x256 .f32) (x8 : Vec F S256x1 .f32) (x9 : Vec F S256x256 .f32) (x10 : Vec F S256x256 .f32) (x11 : Vec F S128x1 .f32) (x12 : Vec F S128x256 .f32) (x13 : Vec F S128x256 .f32) (x14 : Vec F S128x1 .f32) (x15 : Vec F S128x512 .f32) (x16 : Vec F S128x1 .f32) (x17 : Vec F S128x512 .f32) (x18 : Vec F S128x1 .f32) (x19 : Vec F S128x256 .f32) (x20 : Vec F S128x256 .f32) (x21 : Vec F S2x1 .f32) (x22 : Vec F S2x128 .f32) (x23 : Vec F S2x128 .f32) (x24 : Vec F S2x1 .f32) (x25 : Vec F S2x128 .f32) (x26 : Vec F S2x128 .f32) (x27 : Vec F S2x1 .f32) (x28 : Vec F S2x128 .f32) (x29 : Vec F S2x128 .f32) (x30 : Vec F S2x1 .f32) (x31 : Vec F S2x128 .f32) (x32 : Vec F S2x128 .f32) (x33 : Vec F S2x1 .f32) (x34 : Vec F S2x128 .f32) (x35 : Vec F S2x128 .f32) (x36 : Vec F S2x1 .f32) (x37 : Vec F S2x128 .f32) (x38 : Vec F S2x128 .f32) (x39 : Vec F S2x1 .f32) (x40 : Vec F S2x128 .f32) (x41 : Vec F S2x128 .f32) (x42 : Vec F S2x1 .f32) (x43 : Vec F S2x128 .f32) (x44 : Vec F S2x128 .f32) (x45 : Vec F S256x64 .f32) (x46 : Vec F S256x1 .f32)
    (g0 : Buf (Elt F) (arg49.view.loc (c : Thread nD τ))) (g1 : Buf (Elt F) (arg50.view.loc (c : Thread nD τ))) (g2 : Buf (Elt F) (arg51.view.loc (c : Thread nD τ))) (g3 : Buf (Elt F) (arg52.view.loc (c : Thread nD τ))) :
    { L : List (View.Piece (Elt F) S1x16x2048 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare x16
          ∗ owns (c : Thread nD τ) arg18 fullShare x17
          ∗ owns (c : Thread nD τ) arg19 fullShare x18
          ∗ owns (c : Thread nD τ) arg20 fullShare x19
          ∗ owns (c : Thread nD τ) arg21 fullShare x20
          ∗ owns (c : Thread nD τ) arg22 fullShare x21
          ∗ owns (c : Thread nD τ) arg23 fullShare x22
          ∗ owns (c : Thread nD τ) arg24 fullShare x23
          ∗ owns (c : Thread nD τ) arg25 fullShare x24
          ∗ owns (c : Thread nD τ) arg26 fullShare x25
          ∗ owns (c : Thread nD τ) arg27 fullShare x26
          ∗ owns (c : Thread nD τ) arg28 fullShare x27
          ∗ owns (c : Thread nD τ) arg29 fullShare x28
          ∗ owns (c : Thread nD τ) arg30 fullShare x29
          ∗ owns (c : Thread nD τ) arg31 fullShare x30
          ∗ owns (c : Thread nD τ) arg32 fullShare x31
          ∗ owns (c : Thread nD τ) arg33 fullShare x32
          ∗ owns (c : Thread nD τ) arg34 fullShare x33
          ∗ owns (c : Thread nD τ) arg35 fullShare x34
          ∗ owns (c : Thread nD τ) arg36 fullShare x35
          ∗ owns (c : Thread nD τ) arg37 fullShare x36
          ∗ owns (c : Thread nD τ) arg38 fullShare x37
          ∗ owns (c : Thread nD τ) arg39 fullShare x38
          ∗ owns (c : Thread nD τ) arg40 fullShare x39
          ∗ owns (c : Thread nD τ) arg41 fullShare x40
          ∗ owns (c : Thread nD τ) arg42 fullShare x41
          ∗ owns (c : Thread nD τ) arg43 fullShare x42
          ∗ owns (c : Thread nD τ) arg44 fullShare x43
          ∗ owns (c : Thread nD τ) arg45 fullShare x44
          ∗ owns (c : Thread nD τ) arg46 fullShare x45
          ∗ owns (c : Thread nD τ) arg47 fullShare x46
          ∗ (∃ d, owns (c : Thread nD τ) arg48 fullShare d)
          ∗ (arg49.view.loc (c : Thread nD τ) ↦[arg49.view.set]{fullShare} g0)
          ∗ (arg50.view.loc (c : Thread nD τ) ↦[arg50.view.set]{fullShare} g1)
          ∗ (arg51.view.loc (c : Thread nD τ) ↦[arg51.view.set]{fullShare} g2)
          ∗ (arg52.view.loc (c : Thread nD τ) ↦[arg52.view.set]{fullShare} g3)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare x16
          ∗ owns (c : Thread nD τ) arg18 fullShare x17
          ∗ owns (c : Thread nD τ) arg19 fullShare x18
          ∗ owns (c : Thread nD τ) arg20 fullShare x19
          ∗ owns (c : Thread nD τ) arg21 fullShare x20
          ∗ owns (c : Thread nD τ) arg22 fullShare x21
          ∗ owns (c : Thread nD τ) arg23 fullShare x22
          ∗ owns (c : Thread nD τ) arg24 fullShare x23
          ∗ owns (c : Thread nD τ) arg25 fullShare x24
          ∗ owns (c : Thread nD τ) arg26 fullShare x25
          ∗ owns (c : Thread nD τ) arg27 fullShare x26
          ∗ owns (c : Thread nD τ) arg28 fullShare x27
          ∗ owns (c : Thread nD τ) arg29 fullShare x28
          ∗ owns (c : Thread nD τ) arg30 fullShare x29
          ∗ owns (c : Thread nD τ) arg31 fullShare x30
          ∗ owns (c : Thread nD τ) arg32 fullShare x31
          ∗ owns (c : Thread nD τ) arg33 fullShare x32
          ∗ owns (c : Thread nD τ) arg34 fullShare x33
          ∗ owns (c : Thread nD τ) arg35 fullShare x34
          ∗ owns (c : Thread nD τ) arg36 fullShare x35
          ∗ owns (c : Thread nD τ) arg37 fullShare x36
          ∗ owns (c : Thread nD τ) arg38 fullShare x37
          ∗ owns (c : Thread nD τ) arg39 fullShare x38
          ∗ owns (c : Thread nD τ) arg40 fullShare x39
          ∗ owns (c : Thread nD τ) arg41 fullShare x40
          ∗ owns (c : Thread nD τ) arg42 fullShare x41
          ∗ owns (c : Thread nD τ) arg43 fullShare x42
          ∗ owns (c : Thread nD τ) arg44 fullShare x43
          ∗ owns (c : Thread nD τ) arg45 fullShare x44
          ∗ owns (c : Thread nD τ) arg46 fullShare x45
          ∗ owns (c : Thread nD τ) arg47 fullShare x46
          ∗ (∃ f, arg48.view.loc (c : Thread nD τ) ↦[arg48.view.set]{fullShare} arg48.view.writes (Elt F) f L)
          ∗ (∃ f, arg49.view.loc (c : Thread nD τ) ↦[arg49.view.set]{fullShare} f)
          ∗ (∃ f, arg50.view.loc (c : Thread nD τ) ↦[arg50.view.set]{fullShare} f)
          ∗ (∃ f, arg51.view.loc (c : Thread nD τ) ↦[arg51.view.set]{fullShare} f)
          ∗ (∃ f, arg52.view.loc (c : Thread nD τ) ↦[arg52.view.set]{fullShare} f)) -∗ K ⟨⟩))
        ⊢ wp frame (wpE (defs₀ (F := F)) Variants.none c none) E (cc0_dec_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52) K } := by
  refine ⟨?_, fun E K => ?run⟩
  case run =>
    simp only [cc0_dec_body_eq_skeleton]; unfold cc0_dec_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%dO, %fO, -, HO⟩, S0, S1, S2, S3, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33; obtain rfl := harg35.eq_unread hf34; obtain rfl := harg36.eq_unread hf35; obtain rfl := harg37.eq_unread hf36; obtain rfl := harg38.eq_unread hf37; obtain rfl := harg39.eq_unread hf38; obtain rfl := harg40.eq_unread hf39; obtain rfl := harg41.eq_unread hf40; obtain rfl := harg42.eq_unread hf41; obtain rfl := harg43.eq_unread hf42; obtain rfl := harg44.eq_unread hf43; obtain rfl := harg45.eq_unread hf44; obtain rfl := harg46.eq_unread hf45; obtain rfl := harg47.eq_unread hf46
    set_option sl_exec.squeezeSlice true in
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]
    · iexists _; isplitr; · ipureintro; exact harg31.read_unread _
      iexact H30
    isplitl [H31]
    · iexists _; isplitr; · ipureintro; exact harg32.read_unread _
      iexact H31
    isplitl [H32]
    · iexists _; isplitr; · ipureintro; exact harg33.read_unread _
      iexact H32
    isplitl [H33]
    · iexists _; isplitr; · ipureintro; exact harg34.read_unread _
      iexact H33
    isplitl [H34]
    · iexists _; isplitr; · ipureintro; exact harg35.read_unread _
      iexact H34
    isplitl [H35]
    · iexists _; isplitr; · ipureintro; exact harg36.read_unread _
      iexact H35
    isplitl [H36]
    · iexists _; isplitr; · ipureintro; exact harg37.read_unread _
      iexact H36
    isplitl [H37]
    · iexists _; isplitr; · ipureintro; exact harg38.read_unread _
      iexact H37
    isplitl [H38]
    · iexists _; isplitr; · ipureintro; exact harg39.read_unread _
      iexact H38
    isplitl [H39]
    · iexists _; isplitr; · ipureintro; exact harg40.read_unread _
      iexact H39
    isplitl [H40]
    · iexists _; isplitr; · ipureintro; exact harg41.read_unread _
      iexact H40
    isplitl [H41]
    · iexists _; isplitr; · ipureintro; exact harg42.read_unread _
      iexact H41
    isplitl [H42]
    · iexists _; isplitr; · ipureintro; exact harg43.read_unread _
      iexact H42
    isplitl [H43]
    · iexists _; isplitr; · ipureintro; exact harg44.read_unread _
      iexact H43
    isplitl [H44]
    · iexists _; isplitr; · ipureintro; exact harg45.read_unread _
      iexact H44
    isplitl [H45]
    · iexists _; isplitr; · ipureintro; exact harg46.read_unread _
      iexact H45
    isplitl [H46]
    · iexists _; isplitr; · ipureintro; exact harg47.read_unread _
      iexact H46
    isplitl [HO]; · iexists _; iexact HO
    isplitl [S0]; · iexists _; iexact S0
    isplitl [S1]; · iexists _; iexact S1
    isplitl [S2]; · iexists _; iexact S2
    iexists _; iexact S3

end Cert.DecIdeal.Hand

end
-- ==== Proof.DecSpec.lean ====
/- The decoder as a composition of convolutions over spread signals, and what its phases are as taps of the unspread ones. -/
module

public import proofs.«01_k».proof.Proof.RefLayer

@[expose] public section

noncomputable section

namespace PhaseConv

open scoped BigOperators

/-- The kernel of a transposed convolution as the one that slides over the spread signal: channels exchanged, taps reversed. -/
def flip (K : ℕ) (w : ℕ → ℕ → ℕ → EReal) : ℕ → ℕ → ℕ → EReal := fun o i k => w i o (K - 1 - k)

/-- The decoder: two layers at the signal's rate, two layers at doubled rates and a last convolution at the doubled rate, of
    the batch entry `b` of `q`. -/
def decSpec (q w1 : ℕ → ℕ → ℕ → EReal) (b1 : ℕ → EReal) (w2 : ℕ → ℕ → ℕ → EReal) (b2 : ℕ → EReal) (w3 : ℕ → ℕ → ℕ → EReal) (b3 : ℕ → EReal)
    (w4 : ℕ → ℕ → ℕ → EReal) (b4 : ℕ → EReal) (w5 : ℕ → ℕ → ℕ → EReal) (b5 : ℕ → EReal) (b : ℕ) : ℕ → ℤ → EReal :=
  conv 128 4 1 2 (flip 4 w5) b5 (dil (layer 8192 256 4 1 2 (flip 4 w4) b4 (dil (layer 4096 256 4 1 2 (flip 4 w3) b3 (dil
    (layer 2048 256 3 1 1 (flip 3 w2) b2 (layer 2048 64 1 1 0 (flip 1 w1) b1 (cut 2048 fun ch z => q b ch z.toNat))))))))

variable {C : ℕ} {w : ℕ → ℕ → ℕ → EReal} {b : ℕ → EReal} {X : ℕ → ℤ → EReal} {o : ℕ} {s z z' : ℤ}

/-- A tap of a spread signal at an even position. -/
theorem tap_even (W : ℕ → ℕ → EReal) (h : s = 2 * z) : tap C W (dil X) o s = tap C W X o z := by
  subst h
  refine dotR_congr (fun _ _ => rfl) fun i _ => ?_
  show (if 2 * z % 2 = 0 then X i (2 * z / 2) else 0) = X i z
  rw [if_pos (by omega), show 2 * z / 2 = z by omega]

/-- A tap of a spread signal at an odd position is zero. -/
theorem tap_odd (W : ℕ → ℕ → EReal) (h : s % 2 = 1) : tap C W (dil X) o s = 0 :=
  dotR_zero _ _ _ fun i _ => if_neg (by omega)

/-- Four taps with their bias, written out. -/
theorem conv_four (V : ℕ → ℕ → ℕ → EReal) (Y : ℕ → ℤ → EReal) : conv C 4 1 2 V b Y o s =
    tap C (fun o i => V o i 0) Y o (s - 2) + tap C (fun o i => V o i 1) Y o (s - 1) + tap C (fun o i => V o i 2) Y o s +
      tap C (fun o i => V o i 3) Y o (s + 1) + b o := by
  unfold conv taps
  rw [Finset.sum_range_succ, Finset.sum_range_succ, Finset.sum_range_succ, Finset.sum_range_one,
    show 1 * s - 2 + ((0 : ℕ) : ℤ) = s - 2 by push_cast; ring, show 1 * s - 2 + ((1 : ℕ) : ℤ) = s - 1 by push_cast; ring,
    show 1 * s - 2 + ((2 : ℕ) : ℤ) = s by push_cast; ring, show 1 * s - 2 + ((3 : ℕ) : ℤ) = s + 1 by push_cast; ring]

/-- At an even position two taps remain: the second one at half of it and the last one before. -/
theorem conv_even (hs : s = 2 * z) (hz : z' = z - 1) :
    tap C (fun o i => w i o 1) X o z + tap C (fun o i => w i o 3) X o z' + b o = conv C 4 1 2 (flip 4 w) b (dil X) o s := by
  rw [conv_four, tap_even (z := z') _ (by omega), tap_odd _ (by omega), tap_even (z := z) _ hs, tap_odd _ (by omega), add_zero, add_zero,
    add_comm (tap C (fun o i => w i o 1) X o z)]
  rfl

/-- At an odd position two taps remain: the third one at half of it and the first one after. -/
theorem conv_odd (hs : s = 2 * z' + 1) (hz : z = z' + 1) :
    tap C (fun o i => w i o 0) X o z + tap C (fun o i => w i o 2) X o z' + b o = conv C 4 1 2 (flip 4 w) b (dil X) o s := by
  rw [conv_four, tap_odd _ (by omega), tap_even (z := z') _ (by omega), tap_odd _ (by omega), tap_even (z := z) _ (by omega), zero_add, add_zero,
    add_comm (tap C (fun o i => w i o 0) X o z)]
  rfl

/-- Two taps stacked. -/
theorem taps_two (v : ℕ → ℕ → ℕ → EReal) : taps C v X 2 o z = tap C (v 1) X o (z + 1) + tap C (v 0) X o z := by
  rw [show (2 : ℕ) = 1 + 1 from rfl, taps_add, taps_one, taps_one, add_comm, Nat.cast_one]

/-- The two taps of an odd position, stacked. -/
theorem conv_odd2 (hs : s = 2 * z + 1) :
    taps C (fun q o i => w i o (2 - 2 * q)) X 2 o z + b o = conv C 4 1 2 (flip 4 w) b (dil X) o s := by
  rw [taps_two]; exact conv_odd hs rfl

/-- The two taps of an even position, stacked. -/
theorem conv_even2 (hs : s = 2 * (z + 1)) :
    taps C (fun q o i => w i o (3 - 2 * q)) X 2 o z + b o = conv C 4 1 2 (flip 4 w) b (dil X) o s := by
  rw [taps_two]; exact conv_even hs (by omega)

/-- A convolution of three taps with reversed weights, its middle one first. -/
theorem conv_mid {z'' : ℤ} (hz : z = s) (hz' : z' = s + 1) (hz'' : z'' = s - 1) :
    tap C (fun o i => w i o 1) X o z + tap C (fun o i => w i o 0) X o z' + tap C (fun o i => w i o 2) X o z'' + b o =
      conv C 3 1 1 (flip 3 w) b X o s := by
  rw [add_right_comm (tap C (fun o i => w i o 1) X o z)]
  exact conv_three (w := flip 3 w) (z := z) (z' := z'') (z'' := z') (by omega) (by omega) (by omega)

end PhaseConv

end
-- ==== Proof.DecPut.lean ====
/- Stores of rows into a block with a leading axis of one entry. -/
module

public import proofs.«01_k».proof.Proof.Scratch

@[expose] public section

noncomputable section

namespace PhaseConv

open Idealize.ShloMosaic Idealize.ShloMosaic.ValueIdx

variable {sig : RefSig} {κ : Kind} {sp : Space}

/-- After the stores `L` the first `n` rows of the block hold `G`. -/
def Rows {R N : ℕ} (v : View sig κ sp (B3 1 R N) .f32) (f : v.ty.Contents (Elt Ideal))
    (L : List (View.Piece (Elt Ideal) (B3 1 R N) .f32)) (n : ℕ) (G : ℕ → ℕ → EReal) : Prop :=
  ∀ y : (B3 1 R N).Idx, (y 1).val < n → v.read (Elt Ideal) (v.writes (Elt Ideal) f L) y = G (y 1).val (y 2).val

/-- Before any store nothing need stand. -/
theorem rows_nil {R N : ℕ} (v : View sig κ sp (B3 1 R N) .f32) (f : v.ty.Contents (Elt Ideal)) (G : ℕ → ℕ → EReal) :
    Rows v f [] 0 G := fun y h => absurd h (Nat.not_lt_zero _)

/-- A store of `h` more rows, through the block with its leading axis dropped. -/
theorem Rows.put {R N n h : ℕ} {v : View sig κ sp (B3 1 R N) .f32} {f : v.ty.Contents (Elt Ideal)}
    {L : List (View.Piece (Elt Ideal) (B3 1 R N) .f32)} {G : ℕ → ℕ → EReal} (hL : Rows v f L n G)
    (inb₀ : ∀ a, ![0, 0, 0] a + (B3 1 R N).size a ≤ (B3 1 R N).size a)
    {off : Fin 2 → ℕ} (ho : off = ![n, 0]) (inb : ∀ a, off a + (B2 h N).size a ≤ (B2 R N).size a)
    (h0 : ![1, R, N] 0 = 1) (hs : ∀ i : Fin 2, ![1, R, N] i.succ = (B2 R N).size i)
    (h1 : ∀ a, (Rect.unit (s := B3 1 R N) ![0, 0, 0] (B3 1 R N).size inb₀).stride a = 1)
    (hR : ((Rect.unit (s := B2 R N) off (B2 h N).size inb).consLift ![1, R, N] h0 hs).shape.numel =
      (Rect.unit (s := B2 R N) off (B2 h N).size inb).shape.numel)
    {w : (B2 h N).Idx → EReal} {W : ℕ → ℕ → EReal} (hw : Is2 w W)
    (hW : ∀ i j, i < h → j < N → W i j = G (n + i) j) :
    Rows v f (⟨(Rect.unit (s := B3 1 R N) ![0, 0, 0] (B3 1 R N).size inb₀).within
      ((Rect.unit (s := B2 R N) off (B2 h N).size inb).consLift ![1, R, N] h0 hs) h1, Rect.payAlong hR w⟩ :: L) (n + h) G := fun y hy => by
  subst ho
  have b0 : (y 0).val < 1 := (y 0).isLt
  have b2 : (y 2).val < N := (y 2).isLt
  by_cases hn : (y 1).val < n
  · refine (View.read_writes_cons_miss_of_axis v f _ L y 1 n h ?_ rfl rfl (Or.inl hn)).trans (hL y hn)
    show 0 + n = n
    omega
  · have hi : (y 1).val - n < h := by omega
    let x : ((Rect.unit (s := B2 R N) ![n, 0] (B2 h N).size inb).consLift ![1, R, N] h0 hs).shape.Idx := fun a =>
      match a with
      | ⟨0, _⟩ => ⟨0, Nat.one_pos⟩
      | ⟨1, _⟩ => ⟨(y 1).val - n, hi⟩
      | ⟨2, _⟩ => ⟨(y 2).val, b2⟩
    refine (View.read_writes_cons_hit_of_coords v f (Rect.within (Rect.unit (s := B3 1 R N) ![0, 0, 0] (B3 1 R N).size inb₀) ((Rect.unit (s := B2 R N) ![n, 0] (B2 h N).size inb).consLift ![1, R, N] h0 hs) h1) _ L x y fun a => ?_).trans
      ((Rect.payAlong_consLift _ _ h0 hs w hR x (ix2 ⟨(y 1).val - n, hi⟩ ⟨(y 2).val, b2⟩) fun a => ?_).trans ((hw _).trans ?_))
    · match a with
      | ⟨0, _⟩ => show (y 0).val = 0 + 0 + 1 * 0; omega
      | ⟨1, _⟩ => show (y 1).val = 0 + n + 1 * ((y 1).val - n); omega
      | ⟨2, _⟩ => show (y 2).val = 0 + 0 + 1 * (y 2).val; omega
    · match a with
      | ⟨0, _⟩ => rfl
      | ⟨1, _⟩ => rfl
    · show W ((y 1).val - n) (y 2).val = _
      rw [hW _ _ hi b2, show n + ((y 1).val - n) = (y 1).val by omega]

end PhaseConv

end
-- ==== Proof.DecVal.lean ====
/- What the decoder's body leaves: each scratch array holds the phases of one layer, and the output block is the last
   convolution of the decoder, dealt to phases. -/
module

public import proofs.«01_k».proof.Proof.DecIdealBody
public import proofs.«01_k».proof.Proof.DecSpec
public import proofs.«01_k».proof.Proof.DecPut

@[expose] public section

set_option maxRecDepth 16384
set_option maxHeartbeats 4000000

noncomputable section

namespace Cert.DecIdeal.Hand

open Cert.DecIdeal.Gen
open Idealize.ShloMosaic PhaseConv

/-- The staged operands of the decoder's body: the signal `X`, and the layers' weights `w1` … `w5` and biases `b1` … `b5`, in
    the pieces the body multiplies with. -/
structure Operands (x0 : Vec Ideal S1x64x2048 .f32) (x1 : Vec Ideal S256x1 .f32) (x2 : Vec Ideal S256x256 .f32) (x3 : Vec Ideal S256x256 .f32) (x4 : Vec Ideal S256x256 .f32) (x5 : Vec Ideal S256x1 .f32) (x6 : Vec Ideal S256x256 .f32) (x7 : Vec Ideal S256x256 .f32) (x8 : Vec Ideal S256x1 .f32) (x9 : Vec Ideal S256x256 .f32) (x10 : Vec Ideal S256x256 .f32) (x11 : Vec Ideal S128x1 .f32) (x12 : Vec Ideal S128x256 .f32) (x13 : Vec Ideal S128x256 .f32) (x14 : Vec Ideal S128x1 .f32) (x15 : Vec Ideal S128x512 .f32) (x16 : Vec Ideal S128x1 .f32) (x17 : Vec Ideal S128x512 .f32) (x18 : Vec Ideal S128x1 .f32) (x19 : Vec Ideal S128x256 .f32) (x20 : Vec Ideal S128x256 .f32) (x21 : Vec Ideal S2x1 .f32) (x22 : Vec Ideal S2x128 .f32) (x23 : Vec Ideal S2x128 .f32) (x24 : Vec Ideal S2x1 .f32) (x25 : Vec Ideal S2x128 .f32) (x26 : Vec Ideal S2x128 .f32) (x27 : Vec Ideal S2x1 .f32) (x28 : Vec Ideal S2x128 .f32) (x29 : Vec Ideal S2x128 .f32) (x30 : Vec Ideal S2x1 .f32) (x31 : Vec Ideal S2x128 .f32) (x32 : Vec Ideal S2x128 .f32) (x33 : Vec Ideal S2x1 .f32) (x34 : Vec Ideal S2x128 .f32) (x35 : Vec Ideal S2x128 .f32) (x36 : Vec Ideal S2x1 .f32) (x37 : Vec Ideal S2x128 .f32) (x38 : Vec Ideal S2x128 .f32) (x39 : Vec Ideal S2x1 .f32) (x40 : Vec Ideal S2x128 .f32) (x41 : Vec Ideal S2x128 .f32) (x42 : Vec Ideal S2x1 .f32) (x43 : Vec Ideal S2x128 .f32) (x44 : Vec Ideal S2x128 .f32) (x45 : Vec Ideal S256x64 .f32) (x46 : Vec Ideal S256x1 .f32) (X : ℕ → ℤ → EReal)
    (w1 w2 w3 w4 w5 : ℕ → ℕ → ℕ → EReal) (b1 b2 b3 b4 b5 : ℕ → EReal) : Prop where
  h0 : Is3 x0 fun _ r j => X r (j : ℤ)
  h1 : Is2 x1 fun o _ => b2 o
  h2 : Is2 x2 fun o i => w2 i o 1
  h3 : Is2 x3 fun o i => w2 i o 0
  h4 : Is2 x4 fun o i => w2 i o 2
  h5 : Is2 x5 fun o _ => b3 o
  h6 : Is2 x6 fun o i => w3 i o 1
  h7 : Is2 x7 fun o i => w3 i o 3
  h8 : Is2 x8 fun o _ => b3 o
  h9 : Is2 x9 fun o i => w3 i o 0
  h10 : Is2 x10 fun o i => w3 i o 2
  h11 : Is2 x11 fun o _ => b4 o
  h12 : Is2 x12 fun o i => w4 i o 1
  h13 : Is2 x13 fun o i => w4 i o 3
  h14 : Is2 x14 fun o _ => b4 o
  h15 : Is2 x15 fun o k => w4 (k % 256) o (2 - 2 * (k / 256))
  h16 : Is2 x16 fun o _ => b4 o
  h17 : Is2 x17 fun o k => w4 (k % 256) o (3 - 2 * (k / 256))
  h18 : Is2 x18 fun o _ => b4 o
  h19 : Is2 x19 fun o i => w4 i o 0
  h20 : Is2 x20 fun o i => w4 i o 2
  h21 : Is2 x21 fun o _ => b5 o
  h22 : Is2 x22 fun o i => w5 i o 1
  h23 : Is2 x23 fun o i => w5 i o 3
  h24 : Is2 x24 fun o _ => b5 o
  h25 : Is2 x25 fun o i => w5 i o 0
  h26 : Is2 x26 fun o i => w5 i o 2
  h27 : Is2 x27 fun o _ => b5 o
  h28 : Is2 x28 fun o i => w5 i o 1
  h29 : Is2 x29 fun o i => w5 i o 3
  h30 : Is2 x30 fun o _ => b5 o
  h31 : Is2 x31 fun o i => w5 i o 0
  h32 : Is2 x32 fun o i => w5 i o 2
  h33 : Is2 x33 fun o _ => b5 o
  h34 : Is2 x34 fun o i => w5 i o 1
  h35 : Is2 x35 fun o i => w5 i o 3
  h36 : Is2 x36 fun o _ => b5 o
  h37 : Is2 x37 fun o i => w5 i o 0
  h38 : Is2 x38 fun o i => w5 i o 2
  h39 : Is2 x39 fun o _ => b5 o
  h40 : Is2 x40 fun o i => w5 i o 1
  h41 : Is2 x41 fun o i => w5 i o 3
  h42 : Is2 x42 fun o _ => b5 o
  h43 : Is2 x43 fun o i => w5 i o 0
  h44 : Is2 x44 fun o i => w5 i o 2
  h45 : Is2 x45 fun o i => w1 i o 0
  h46 : Is2 x46 fun o _ => b1 o

variable {x0 : Vec Ideal S1x64x2048 .f32} {x1 : Vec Ideal S256x1 .f32} {x2 : Vec Ideal S256x256 .f32} {x3 : Vec Ideal S256x256 .f32} {x4 : Vec Ideal S256x256 .f32} {x5 : Vec Ideal S256x1 .f32} {x6 : Vec Ideal S256x256 .f32} {x7 : Vec Ideal S256x256 .f32} {x8 : Vec Ideal S256x1 .f32} {x9 : Vec Ideal S256x256 .f32} {x10 : Vec Ideal S256x256 .f32} {x11 : Vec Ideal S128x1 .f32} {x12 : Vec Ideal S128x256 .f32} {x13 : Vec Ideal S128x256 .f32} {x14 : Vec Ideal S128x1 .f32} {x15 : Vec Ideal S128x512 .f32} {x16 : Vec Ideal S128x1 .f32} {x17 : Vec Ideal S128x512 .f32} {x18 : Vec Ideal S128x1 .f32} {x19 : Vec Ideal S128x256 .f32} {x20 : Vec Ideal S128x256 .f32} {x21 : Vec Ideal S2x1 .f32} {x22 : Vec Ideal S2x128 .f32} {x23 : Vec Ideal S2x128 .f32} {x24 : Vec Ideal S2x1 .f32} {x25 : Vec Ideal S2x128 .f32} {x26 : Vec Ideal S2x128 .f32} {x27 : Vec Ideal S2x1 .f32} {x28 : Vec Ideal S2x128 .f32} {x29 : Vec Ideal S2x128 .f32} {x30 : Vec Ideal S2x1 .f32} {x31 : Vec Ideal S2x128 .f32} {x32 : Vec Ideal S2x128 .f32} {x33 : Vec Ideal S2x1 .f32} {x34 : Vec Ideal S2x128 .f32} {x35 : Vec Ideal S2x128 .f32} {x36 : Vec Ideal S2x1 .f32} {x37 : Vec Ideal S2x128 .f32} {x38 : Vec Ideal S2x128 .f32} {x39 : Vec Ideal S2x1 .f32} {x40 : Vec Ideal S2x128 .f32} {x41 : Vec Ideal S2x128 .f32} {x42 : Vec Ideal S2x1 .f32} {x43 : Vec Ideal S2x128 .f32} {x44 : Vec Ideal S2x128 .f32} {x45 : Vec Ideal S256x64 .f32} {x46 : Vec Ideal S256x1 .f32} {X : ℕ → ℤ → EReal}
  {w1 w2 w3 w4 w5 : ℕ → ℕ → ℕ → EReal} {b1 b2 b3 b4 b5 : ℕ → EReal}
  (H : Operands x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 X w1 w2 w3 w4 w5 b1 b2 b3 b4 b5)
  (c : Dev nD)
  (arg1 : Memref sig .tc .vmem S1x64x2048 .f32) (harg1 : arg1.IsWhole)
  (arg2 : Memref sig .tc .vmem S256x1 .f32) (harg2 : arg2.IsWhole)
  (arg3 : Memref sig .tc .vmem S256x256 .f32) (harg3 : arg3.IsWhole)
  (arg4 : Memref sig .tc .vmem S256x256 .f32) (harg4 : arg4.IsWhole)
  (arg5 : Memref sig .tc .vmem S256x256 .f32) (harg5 : arg5.IsWhole)
  (arg6 : Memref sig .tc .vmem S256x1 .f32) (harg6 : arg6.IsWhole)
  (arg7 : Memref sig .tc .vmem S256x256 .f32) (harg7 : arg7.IsWhole)
  (arg8 : Memref sig .tc .vmem S256x256 .f32) (harg8 : arg8.IsWhole)
  (arg9 : Memref sig .tc .vmem S256x1 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S128x1 .f32) (harg12 : arg12.IsWhole)
  (arg13 : Memref sig .tc .vmem S128x256 .f32) (harg13 : arg13.IsWhole)
  (arg14 : Memref sig .tc .vmem S128x256 .f32) (harg14 : arg14.IsWhole)
  (arg15 : Memref sig .tc .vmem S128x1 .f32) (harg15 : arg15.IsWhole)
  (arg16 : Memref sig .tc .vmem S128x512 .f32) (harg16 : arg16.IsWhole)
  (arg17 : Memref sig .tc .vmem S128x1 .f32) (harg17 : arg17.IsWhole)
  (arg18 : Memref sig .tc .vmem S128x512 .f32) (harg18 : arg18.IsWhole)
  (arg19 : Memref sig .tc .vmem S128x1 .f32) (harg19 : arg19.IsWhole)
  (arg20 : Memref sig .tc .vmem S128x256 .f32) (harg20 : arg20.IsWhole)
  (arg21 : Memref sig .tc .vmem S128x256 .f32) (harg21 : arg21.IsWhole)
  (arg22 : Memref sig .tc .vmem S2x1 .f32) (harg22 : arg22.IsWhole)
  (arg23 : Memref sig .tc .vmem S2x128 .f32) (harg23 : arg23.IsWhole)
  (arg24 : Memref sig .tc .vmem S2x128 .f32) (harg24 : arg24.IsWhole)
  (arg25 : Memref sig .tc .vmem S2x1 .f32) (harg25 : arg25.IsWhole)
  (arg26 : Memref sig .tc .vmem S2x128 .f32) (harg26 : arg26.IsWhole)
  (arg27 : Memref sig .tc .vmem S2x128 .f32) (harg27 : arg27.IsWhole)
  (arg28 : Memref sig .tc .vmem S2x1 .f32) (harg28 : arg28.IsWhole)
  (arg29 : Memref sig .tc .vmem S2x128 .f32) (harg29 : arg29.IsWhole)
  (arg30 : Memref sig .tc .vmem S2x128 .f32) (harg30 : arg30.IsWhole)
  (arg31 : Memref sig .tc .vmem S2x1 .f32) (harg31 : arg31.IsWhole)
  (arg32 : Memref sig .tc .vmem S2x128 .f32) (harg32 : arg32.IsWhole)
  (arg33 : Memref sig .tc .vmem S2x128 .f32) (harg33 : arg33.IsWhole)
  (arg34 : Memref sig .tc .vmem S2x1 .f32) (harg34 : arg34.IsWhole)
  (arg35 : Memref sig .tc .vmem S2x128 .f32) (harg35 : arg35.IsWhole)
  (arg36 : Memref sig .tc .vmem S2x128 .f32) (harg36 : arg36.IsWhole)
  (arg37 : Memref sig .tc .vmem S2x1 .f32) (harg37 : arg37.IsWhole)
  (arg38 : Memref sig .tc .vmem S2x128 .f32) (harg38 : arg38.IsWhole)
  (arg39 : Memref sig .tc .vmem S2x128 .f32) (harg39 : arg39.IsWhole)
  (arg40 : Memref sig .tc .vmem S2x1 .f32) (harg40 : arg40.IsWhole)
  (arg41 : Memref sig .tc .vmem S2x128 .f32) (harg41 : arg41.IsWhole)
  (arg42 : Memref sig .tc .vmem S2x128 .f32) (harg42 : arg42.IsWhole)
  (arg43 : Memref sig .tc .vmem S2x1 .f32) (harg43 : arg43.IsWhole)
  (arg44 : Memref sig .tc .vmem S2x128 .f32) (harg44 : arg44.IsWhole)
  (arg45 : Memref sig .tc .vmem S2x128 .f32) (harg45 : arg45.IsWhole)
  (arg46 : Memref sig .tc .vmem S256x64 .f32) (harg46 : arg46.IsWhole)
  (arg47 : Memref sig .tc .vmem S256x1 .f32) (harg47 : arg47.IsWhole)
  (arg49 : Memref sig .tc .vmem S256x2304 .f32) (g0 : arg49.view.ty.Contents (Elt Ideal))
  (arg50 : Memref sig .tc .vmem S256x2304 .f32) (g1 : arg50.view.ty.Contents (Elt Ideal))
  (arg51 : Memref sig .tc .vmem S512x2304 .f32) (g2 : arg51.view.ty.Contents (Elt Ideal))
  (arg52 : Memref sig .tc .vmem S512x2304 .f32) (g3 : arg52.view.ty.Contents (Elt Ideal))
include H

/-- The first scratch array holds the first layer. -/
theorem held0 (f) : Held arg49.view f (bodyRun.sl.S0_3 (F := Ideal) c arg1 harg1 arg46 harg46 arg47 harg47 x0 x45 x46) 256 1 (layer 2048 64 1 1 0 (flip 1 w1) b1 X) := by
  refine Filled.guard ((filled_nil arg49.view f 256 1 _).put1 (o1 := 0) rfl (by decide) rfl _
    (is2_cast (is2_act (is2_add (is2_mat rfl (is2_arg H.h45 arg46 harg46 _ _) (is2_drop1 (is3_arg H.h0 arg1 harg1 _) _))
      (is2_col (is2_arg H.h46 arg47 harg47 _ _) broadcasts_S256x1_S256x2048))) _) ?_)
    rfl (by decide) (fun o s h => cut_out h) _ _ (is2_cast is2_zero _) (is2_cast is2_zero _)
  exact fun i j hi hj => layer_in (by omega) (by omega) (conv_one (w := flip 1 w1) (by push_cast; ring))

/-- The second holds the second layer. -/
theorem held1 (f) : Held arg50.view f (bodyRun.sl.S1_3 (F := Ideal) c arg1 harg1 arg2 harg2 arg3 harg3 arg4 harg4 arg5 harg5 arg46 harg46 arg47 harg47 arg49 x0 x1 x2 x3 x4 x45 x46 g0) 256 1
    (layer 2048 256 3 1 1 (flip 3 w2) b2 (layer 2048 64 1 1 0 (flip 1 w1) b1 X)) := by
  have h0 := held0 H c arg1 harg1 arg46 harg46 arg47 harg47 arg49 g0
  refine Filled.guard ((filled_nil arg50.view f 256 1 _).put1 (o1 := 0) rfl (by decide) rfl _
    (is2_cast (is2_act (is2_add (is2_add (is2_add
      (h0.group1 (q := 0) rfl _ slices_S256x2304_o0_128_S256x2048 rfl (fun o i => w2 i o 1) (is2_arg H.h2 arg3 harg3 _ _) (by decide) rfl (by decide) (by decide) (by decide))
      (h0.group1 (q := 0) rfl _ slices_S256x2304_o0_129_S256x2048 rfl (fun o i => w2 i o 0) (is2_arg H.h3 arg4 harg4 _ _) (by decide) rfl (by decide) (by decide) (by decide)))
      (h0.group1 (q := 0) rfl _ slices_S256x2304_o0_127_S256x2048 rfl (fun o i => w2 i o 2) (is2_arg H.h4 arg5 harg5 _ _) (by decide) rfl (by decide) (by decide) (by decide)))
      (is2_col (is2_arg H.h1 arg2 harg2 _ _) broadcasts_S256x1_S256x2048))) _) ?_)
    rfl (by decide) (fun o s h => cut_out h) _ _ (is2_cast is2_zero _) (is2_cast is2_zero _)
  exact fun i j hi hj => layer_in (by omega) (by omega) (conv_mid (by push_cast; ring) (by push_cast; ring) (by push_cast; ring))

/-- The third holds the two phases of the third layer. -/
theorem held2 (f) : Held arg51.view f (bodyRun.sl.S2_4 (F := Ideal) c arg1 harg1 arg2 harg2 arg3 harg3 arg4 harg4 arg5 harg5 arg6 harg6 arg7 harg7 arg8 harg8 arg9 harg9 arg10 harg10 arg11 harg11 arg46 harg46 arg47 harg47 arg49 arg50 x0 x1 x2 x3 x4 x5 x6 x7 x8 x9 x10 x45 x46 g0 g1) 256 2
    (layer 4096 256 4 1 2 (flip 4 w3) b3 (dil (layer 2048 256 3 1 1 (flip 3 w2) b2 (layer 2048 64 1 1 0 (flip 1 w1) b1 X)))) := by
  have h1 := held1 H c arg1 harg1 arg2 harg2 arg3 harg3 arg4 harg4 arg5 harg5 arg46 harg46 arg47 harg47 arg49 g0 arg50 g1
  refine Filled.guard (((filled_nil arg51.view f 256 2 _).put1 (o1 := 0) rfl (by decide) rfl _
    (is2_cast (is2_act (is2_add (is2_add
      (h1.group1 (q := 0) rfl _ slices_S256x2304_o0_128_S256x2048 rfl (fun o i => w3 i o 1) (is2_arg H.h6 arg7 harg7 _ _) (by decide) rfl (by decide) (by decide) (by decide))
      (h1.group1 (q := 0) rfl _ slices_S256x2304_o0_127_S256x2048 rfl (fun o i => w3 i o 3) (is2_arg H.h7 arg8 harg8 _ _) (by decide) rfl (by decide) (by decide) (by decide)))
      (is2_col (is2_arg H.h5 arg6 harg6 _ _) broadcasts_S256x1_S256x2048))) _) ?_).put1 (o1 := 256) rfl (by decide) rfl _
    (is2_cast (is2_act (is2_add (is2_add
      (h1.group1 (q := 0) rfl _ slices_S256x2304_o0_129_S256x2048 rfl (fun o i => w3 i o 0) (is2_arg H.h9 arg10 harg10 _ _) (by decide) rfl (by decide) (by decide) (by decide))
      (h1.group1 (q := 0) rfl _ slices_S256x2304_o0_128_S256x2048 rfl (fun o i => w3 i o 2) (is2_arg H.h10 arg11 harg11 _ _) (by decide) rfl (by decide) (by decide) (by decide)))
      (is2_col (is2_arg H.h8 arg9 harg9 _ _) broadcasts_S256x1_S256x2048))) _) ?_)
    rfl (by decide) (fun o s h => cut_out h) _ _ (is2_cast is2_zero _) (is2_cast is2_zero _)
  · exact fun i j hi hj => layer_in (by omega) (by omega) (conv_even (by push_cast; ring) (by push_cast; ring))
  · exact fun i j hi hj => layer_in (by omega) (by omega) (conv_odd (by push_cast; ring) (by push_cast; ring))

/-- The fourth holds the four phases of the fourth layer. -/
theorem held3 (f) : Held arg52.view f (bodyRun.sl.S3_6 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg46 harg46 arg47 harg47 arg49 arg50 arg51 x0 x1 x2 x3 x4 x5 x6 x7 x8 x9 x10 x11 x12 x13 x14 x15 x16 x17 x18 x19 x20 x45 x46 g0 g1 g2) 128 4
    (layer 8192 256 4 1 2 (flip 4 w4) b4 (dil (layer 4096 256 4 1 2 (flip 4 w3) b3 (dil (layer 2048 256 3 1 1 (flip 3 w2) b2 (layer 2048 64 1 1 0 (flip 1 w1) b1 X)))))) := by
  have h2 := held2 H c arg1 harg1 arg2 harg2 arg3 harg3 arg4 harg4 arg5 harg5 arg6 harg6 arg7 harg7 arg8 harg8 arg9 harg9 arg10 harg10 arg11 harg11 arg46 harg46 arg47 harg47 arg49 g0 arg50 g1 arg51 g2
  refine Filled.guard (((((filled_nil arg52.view f 128 4 _).put1 (o1 := 0) rfl (by decide) rfl _
    (is2_cast (is2_act (is2_add (is2_add
      (h2.group1 (q := 0) rfl _ slices_S256x2304_o0_128_S256x2048 rfl (fun o i => w4 i o 1) (is2_arg H.h12 arg13 harg13 _ _) (by decide) rfl (by decide) (by decide) (by decide))
      (h2.group1 (q := 1) rfl _ slices_S256x2304_o0_127_S256x2048 rfl (fun o i => w4 i o 3) (is2_arg H.h13 arg14 harg14 _ _) (by decide) rfl (by decide) (by decide) (by decide)))
      (is2_col (is2_arg H.h11 arg12 harg12 _ _) broadcasts_S128x1_S128x2048))) _) ?_).put1 (o1 := 128) rfl (by decide) rfl _
    (is2_cast (is2_act (is2_add
      (h2.group (m := 2) (q := 0) rfl _ slices_S512x2304_o0_128_S512x2048 rfl (fun q o i => w4 i o (2 - 2 * q)) (is2_arg H.h15 arg16 harg16 _ _) (by decide) rfl rfl (by decide) (by decide) (by decide))
      (is2_col (is2_arg H.h14 arg15 harg15 _ _) broadcasts_S128x1_S128x2048))) _) ?_).put1 (o1 := 256) rfl (by decide) rfl _
    (is2_cast (is2_act (is2_add
      (h2.group (m := 2) (q := 0) rfl _ slices_S512x2304_o0_128_S512x2048 rfl (fun q o i => w4 i o (3 - 2 * q)) (is2_arg H.h17 arg18 harg18 _ _) (by decide) rfl rfl (by decide) (by decide) (by decide))
      (is2_col (is2_arg H.h16 arg17 harg17 _ _) broadcasts_S128x1_S128x2048))) _) ?_).put1 (o1 := 384) rfl (by decide) rfl _
    (is2_cast (is2_act (is2_add (is2_add
      (h2.group1 (q := 0) rfl _ slices_S256x2304_o0_129_S256x2048 rfl (fun o i => w4 i o 0) (is2_arg H.h19 arg20 harg20 _ _) (by decide) rfl (by decide) (by decide) (by decide))
      (h2.group1 (q := 1) rfl _ slices_S256x2304_o0_128_S256x2048 rfl (fun o i => w4 i o 2) (is2_arg H.h20 arg21 harg21 _ _) (by decide) rfl (by decide) (by decide) (by decide)))
      (is2_col (is2_arg H.h18 arg19 harg19 _ _) broadcasts_S128x1_S128x2048))) _) ?_)
    rfl (by decide) (fun o s h => cut_out h) _ _ (is2_cast is2_zero shapeCasts_S512x1_S512x1) (is2_cast is2_zero shapeCasts_S512x1_S512x1)
  · exact fun i j hi hj => layer_in (by omega) (by omega) (conv_even (by push_cast; ring) (by push_cast; ring))
  · exact fun i j hi hj => layer_in (by omega) (by omega) (conv_odd2 (by push_cast; ring))
  · exact fun i j hi hj => layer_in (by omega) (by omega) (conv_even2 (by push_cast; ring))
  · exact fun i j hi hj => layer_in (by omega) (by omega) (conv_odd (by push_cast; ring) (by push_cast; ring))

/-- The output block: the eight phases of the last convolution, two rows each. -/
theorem rows_val (i : grid0.Coords) (arg48 : Memref sig .tc .vmem S1x16x2048 .f32) (harg48 : arg48.IsWhole)
    (harg49 : arg49.IsWhole) (harg50 : arg50.IsWhole) (harg51 : arg51.IsWhole) (harg52 : arg52.IsWhole) (f) :
    Rows arg48.view f (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 g0 g1 g2 g3).1 16
      (fun r j => conv 128 4 1 2 (flip 4 w5) b5 (dil (layer 8192 256 4 1 2 (flip 4 w4) b4 (dil (layer 4096 256 4 1 2 (flip 4 w3) b3 (dil (layer 2048 256 3 1 1 (flip 3 w2) b2 (layer 2048 64 1 1 0 (flip 1 w1) b1 X))))))) (r % 2) ((8 : ℕ) * (j : ℤ) + ((r / 2 : ℕ) : ℤ))) := by
  have h3 := held3 H c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg46 harg46 arg47 harg47 arg49 g0 arg50 g1 arg51 g2 arg52 g3
  refine Rows.put (n := 14) (h := 2) ?_ _ rfl _ _ _ _ _ (is2_add (is2_add
      (h3.group1 (q := 0) rfl _ slices_S128x2304_o0_129_S128x2048 rfl (fun o i => w5 i o 0) (is2_arg H.h43 arg44 harg44 _ _) (by decide) rfl (by decide) (by decide) (by decide))
      (h3.group1 (q := 3) rfl _ slices_S128x2304_o0_128_S128x2048 rfl (fun o i => w5 i o 2) (is2_arg H.h44 arg45 harg45 _ _) (by decide) rfl (by decide) (by decide) (by decide)))
      (is2_col (is2_arg H.h42 arg43 harg43 _ _) broadcasts_S2x1_S2x2048)) fun i j hi hj => by
    rw [show (14 + i) % 2 = i by omega, show (14 + i) / 2 = 7 by omega]
    exact conv_odd (by push_cast; ring) (by push_cast; ring)
  refine Rows.put (n := 12) (h := 2) ?_ _ rfl _ _ _ _ _ (is2_add (is2_add
      (h3.group1 (q := 3) rfl _ slices_S128x2304_o0_128_S128x2048 rfl (fun o i => w5 i o 1) (is2_arg H.h40 arg41 harg41 _ _) (by decide) rfl (by decide) (by decide) (by decide))
      (h3.group1 (q := 2) rfl _ slices_S128x2304_o0_128_S128x2048 rfl (fun o i => w5 i o 3) (is2_arg H.h41 arg42 harg42 _ _) (by decide) rfl (by decide) (by decide) (by decide)))
      (is2_col (is2_arg H.h39 arg40 harg40 _ _) broadcasts_S2x1_S2x2048)) fun i j hi hj => by
    rw [show (12 + i) % 2 = i by omega, show (12 + i) / 2 = 6 by omega]
    exact conv_even (by push_cast; ring) (by push_cast; ring)
  refine Rows.put (n := 10) (h := 2) ?_ _ rfl _ _ _ _ _ (is2_add (is2_add
      (h3.group1 (q := 3) rfl _ slices_S128x2304_o0_128_S128x2048 rfl (fun o i => w5 i o 0) (is2_arg H.h37 arg38 harg38 _ _) (by decide) rfl (by decide) (by decide) (by decide))
      (h3.group1 (q := 2) rfl _ slices_S128x2304_o0_128_S128x2048 rfl (fun o i => w5 i o 2) (is2_arg H.h38 arg39 harg39 _ _) (by decide) rfl (by decide) (by decide) (by decide)))
      (is2_col (is2_arg H.h36 arg37 harg37 _ _) broadcasts_S2x1_S2x2048)) fun i j hi hj => by
    rw [show (10 + i) % 2 = i by omega, show (10 + i) / 2 = 5 by omega]
    exact conv_odd (by push_cast; ring) (by push_cast; ring)
  refine Rows.put (n := 8) (h := 2) ?_ _ rfl _ _ _ _ _ (is2_add (is2_add
      (h3.group1 (q := 2) rfl _ slices_S128x2304_o0_128_S128x2048 rfl (fun o i => w5 i o 1) (is2_arg H.h34 arg35 harg35 _ _) (by decide) rfl (by decide) (by decide) (by decide))
      (h3.group1 (q := 1) rfl _ slices_S128x2304_o0_128_S128x2048 rfl (fun o i => w5 i o 3) (is2_arg H.h35 arg36 harg36 _ _) (by decide) rfl (by decide) (by decide) (by decide)))
      (is2_col (is2_arg H.h33 arg34 harg34 _ _) broadcasts_S2x1_S2x2048)) fun i j hi hj => by
    rw [show (8 + i) % 2 = i by omega, show (8 + i) / 2 = 4 by omega]
    exact conv_even (by push_cast; ring) (by push_cast; ring)
  refine Rows.put (n := 6) (h := 2) ?_ _ rfl _ _ _ _ _ (is2_add (is2_add
      (h3.group1 (q := 2) rfl _ slices_S128x2304_o0_128_S128x2048 rfl (fun o i => w5 i o 0) (is2_arg H.h31 arg32 harg32 _ _) (by decide) rfl (by decide) (by decide) (by decide))
      (h3.group1 (q := 1) rfl _ slices_S128x2304_o0_128_S128x2048 rfl (fun o i => w5 i o 2) (is2_arg H.h32 arg33 harg33 _ _) (by decide) rfl (by decide) (by decide) (by decide)))
      (is2_col (is2_arg H.h30 arg31 harg31 _ _) broadcasts_S2x1_S2x2048)) fun i j hi hj => by
    rw [show (6 + i) % 2 = i by omega, show (6 + i) / 2 = 3 by omega]
    exact conv_odd (by push_cast; ring) (by push_cast; ring)
  refine Rows.put (n := 4) (h := 2) ?_ _ rfl _ _ _ _ _ (is2_add (is2_add
      (h3.group1 (q := 1) rfl _ slices_S128x2304_o0_128_S128x2048 rfl (fun o i => w5 i o 1) (is2_arg H.h28 arg29 harg29 _ _) (by decide) rfl (by decide) (by decide) (by decide))
      (h3.group1 (q := 0) rfl _ slices_S128x2304_o0_128_S128x2048 rfl (fun o i => w5 i o 3) (is2_arg H.h29 arg30 harg30 _ _) (by decide) rfl (by decide) (by decide) (by decide)))
      (is2_col (is2_arg H.h27 arg28 harg28 _ _) broadcasts_S2x1_S2x2048)) fun i j hi hj => by
    rw [show (4 + i) % 2 = i by omega, show (4 + i) / 2 = 2 by omega]
    exact conv_even (by push_cast; ring) (by push_cast; ring)
  refine Rows.put (n := 2) (h := 2) ?_ _ rfl _ _ _ _ _ (is2_add (is2_add
      (h3.group1 (q := 1) rfl _ slices_S128x2304_o0_128_S128x2048 rfl (fun o i => w5 i o 0) (is2_arg H.h25 arg26 harg26 _ _) (by decide) rfl (by decide) (by decide) (by decide))
      (h3.group1 (q := 0) rfl _ slices_S128x2304_o0_128_S128x2048 rfl (fun o i => w5 i o 2) (is2_arg H.h26 arg27 harg27 _ _) (by decide) rfl (by decide) (by decide) (by decide)))
      (is2_col (is2_arg H.h24 arg25 harg25 _ _) broadcasts_S2x1_S2x2048)) fun i j hi hj => by
    rw [show (2 + i) % 2 = i by omega, show (2 + i) / 2 = 1 by omega]
    exact conv_odd (by push_cast; ring) (by push_cast; ring)
  refine Rows.put (n := 0) (h := 2) ?_ _ rfl _ _ _ _ _ (is2_add (is2_add
      (h3.group1 (q := 0) rfl _ slices_S128x2304_o0_128_S128x2048 rfl (fun o i => w5 i o 1) (is2_arg H.h22 arg23 harg23 _ _) (by decide) rfl (by decide) (by decide) (by decide))
      (h3.group1 (q := 3) rfl _ slices_S128x2304_o0_127_S128x2048 rfl (fun o i => w5 i o 3) (is2_arg H.h23 arg24 harg24 _ _) (by decide) rfl (by decide) (by decide) (by decide)))
      (is2_col (is2_arg H.h21 arg22 harg22 _ _) broadcasts_S2x1_S2x2048)) fun i j hi hj => by
    rw [show (0 + i) % 2 = i by omega, show (0 + i) / 2 = 0 by omega]
    exact conv_even (by push_cast; ring) (by push_cast; ring)
  exact rows_nil _ _ _

end Cert.DecIdeal.Hand

end
-- ==== Proof.DecHost.lean ====
/- What the decoder's windows hold: the weights and biases that the host operations prepare. -/
module

public import proofs.«01_k».proof.Proof.DecVal
public import proofs.«01_k».proof.Proof.Weights
public import Idealize.ShloMosaic.Lib.StableHlo.RunRead

@[expose] public section

set_option maxRecDepth 16384
set_option maxHeartbeats 2000000

noncomputable section

namespace Cert.DecIdeal.Hand

open Cert.DecIdeal.Gen
open Idealize.ShloMosaic PhaseConv

/-- One tap of a kernel whose input channels come first, as the matrix from inputs to outputs. -/
theorem is2_tapT {O I K : ℕ} {x : (B3 I O K).Idx → EReal} {w : ℕ → ℕ → ℕ → EReal} (hx : Is3 x w) (k : ℕ)
    (ht : (B3 I O K).Transposes [2, 1, 0] (B3 K O I)) (hs : (B3 K O I).Slices ![k, 0, 0] (B3 1 O I))
    (hc : (B3 1 O I).ShapeCasts (B2 O I)) :
    Is2 (shapeCast (B2 O I) (extractStridedSlice (B3 1 O I) ![k, 0, 0] (transpose (B3 K O I) [2, 1, 0] x ht) hs) hc)
      (fun o i => w i o k) :=
  (is2_drop1 (is3_slice (is3_rev hx ht) k 0 0 hs) hc).congr fun i j _ _ => by
    show w (0 + j) (0 + i) (k + 0) = _
    rw [Nat.zero_add, Nat.zero_add, Nat.add_zero]

variable (m : (ℓ : Loc nD τ sig) → Buf (Elt Ideal) ℓ) (c : Dev nD)

/-- The argument `main_arg0` by its entries. -/
def a0 : ℕ → ℕ → ℕ → EReal := of3 (m (c, Proc.tc.devRef main_arg0) : S8x64x2048.Idx → EReal)
/-- The argument `main_arg1` by its entries. -/
def a1 : ℕ → ℕ → ℕ → EReal := of3 (m (c, Proc.tc.devRef main_arg1) : S64x256x1.Idx → EReal)
/-- The argument `main_arg2` by its entries. -/
def a2 : ℕ → EReal := of1 (m (c, Proc.tc.devRef main_arg2) : S256.Idx → EReal)
/-- The argument `main_arg3` by its entries. -/
def a3 : ℕ → ℕ → ℕ → EReal := of3 (m (c, Proc.tc.devRef main_arg3) : S256x256x3.Idx → EReal)
/-- The argument `main_arg4` by its entries. -/
def a4 : ℕ → EReal := of1 (m (c, Proc.tc.devRef main_arg4) : S256.Idx → EReal)
/-- The argument `main_arg5` by its entries. -/
def a5 : ℕ → ℕ → ℕ → EReal := of3 (m (c, Proc.tc.devRef main_arg5) : S256x256x4.Idx → EReal)
/-- The argument `main_arg6` by its entries. -/
def a6 : ℕ → EReal := of1 (m (c, Proc.tc.devRef main_arg6) : S256.Idx → EReal)
/-- The argument `main_arg7` by its entries. -/
def a7 : ℕ → ℕ → ℕ → EReal := of3 (m (c, Proc.tc.devRef main_arg7) : S256x128x4.Idx → EReal)
/-- The argument `main_arg8` by its entries. -/
def a8 : ℕ → EReal := of1 (m (c, Proc.tc.devRef main_arg8) : S128.Idx → EReal)
/-- The argument `main_arg9` by its entries. -/
def a9 : ℕ → ℕ → ℕ → EReal := of3 (m (c, Proc.tc.devRef main_arg9) : S128x2x4.Idx → EReal)
/-- The argument `main_arg10` by its entries. -/
def a10 : ℕ → EReal := of1 (m (c, Proc.tc.devRef main_arg10) : S2.Idx → EReal)

theorem in_arg0 : Is3 (V m c main_arg0 : S8x64x2048.Idx → EReal) (a0 m c) := by
  after_reads_simp
  exact is3_of _

theorem in_v4 : Is2 (V m c main_v4 : S256x1.Idx → EReal) fun o _ => a4 m c o := by
  after_reads_simp
  exact is2_colCast (is1_of _) _

theorem in_v6 : Is2 (V m c main_v6 : S256x256.Idx → EReal) fun o i => a3 m c i o 1 := by
  after_reads_simp
  exact is2_tapT (is3_of _) 1 _ _ _

theorem in_v8 : Is2 (V m c main_v8 : S256x256.Idx → EReal) fun o i => a3 m c i o 0 := by
  after_reads_simp
  exact is2_tapT (is3_of _) 0 _ _ _

theorem in_v10 : Is2 (V m c main_v10 : S256x256.Idx → EReal) fun o i => a3 m c i o 2 := by
  after_reads_simp
  exact is2_tapT (is3_of _) 2 _ _ _

theorem in_v11 : Is2 (V m c main_v11 : S256x1.Idx → EReal) fun o _ => a6 m c o := by
  after_reads_simp
  exact is2_colCast (is1_of _) _

theorem in_v13 : Is2 (V m c main_v13 : S256x256.Idx → EReal) fun o i => a5 m c i o 1 := by
  after_reads_simp
  exact is2_tapT (is3_of _) 1 _ _ _

theorem in_v15 : Is2 (V m c main_v15 : S256x256.Idx → EReal) fun o i => a5 m c i o 3 := by
  after_reads_simp
  exact is2_tapT (is3_of _) 3 _ _ _

theorem in_v17 : Is2 (V m c main_v17 : S256x256.Idx → EReal) fun o i => a5 m c i o 0 := by
  after_reads_simp
  exact is2_tapT (is3_of _) 0 _ _ _

theorem in_v19 : Is2 (V m c main_v19 : S256x256.Idx → EReal) fun o i => a5 m c i o 2 := by
  after_reads_simp
  exact is2_tapT (is3_of _) 2 _ _ _

theorem in_v20 : Is2 (V m c main_v20 : S128x1.Idx → EReal) fun o _ => a8 m c o := by
  after_reads_simp
  exact is2_colCast (is1_of _) _

theorem in_v22 : Is2 (V m c main_v22 : S128x256.Idx → EReal) fun o i => a7 m c i o 1 := by
  after_reads_simp
  exact is2_tapT (is3_of _) 1 _ _ _

theorem in_v24 : Is2 (V m c main_v24 : S128x256.Idx → EReal) fun o i => a7 m c i o 3 := by
  after_reads_simp
  exact is2_tapT (is3_of _) 3 _ _ _

theorem in_v36 : Is2 (V m c main_v36 : S128x256.Idx → EReal) fun o i => a7 m c i o 0 := by
  after_reads_simp
  exact is2_tapT (is3_of _) 0 _ _ _

theorem in_v38 : Is2 (V m c main_v38 : S128x256.Idx → EReal) fun o i => a7 m c i o 2 := by
  after_reads_simp
  exact is2_tapT (is3_of _) 2 _ _ _

theorem in_v29 : Is2 (V m c main_v29 : S128x512.Idx → EReal) fun o k => a7 m c (k % 256) o (2 - 2 * (k / 256)) := by
  after_reads_simp
  exact is2_cat (b := 256) _ _ (fun q o i => a7 m c i o (2 - 2 * q)) rfl fun k hk => match k, hk with
    | 0, _ => ⟨_, rfl, by
        show Is2 (StableHlo.upto hostOps0 (fun b => m (c, b)) 29 (Proc.tc.devRef main_v26) : S128x256.Idx → EReal) fun o i => a7 m c i o 2
        after_reads_simp
        exact is2_tapT (is3_of _) 2 _ _ _⟩
    | 1, _ => ⟨_, rfl, by
        show Is2 (StableHlo.upto hostOps0 (fun b => m (c, b)) 29 (Proc.tc.devRef main_v28) : S128x256.Idx → EReal) fun o i => a7 m c i o 0
        after_reads_simp
        exact is2_tapT (is3_of _) 0 _ _ _⟩

theorem in_v34 : Is2 (V m c main_v34 : S128x512.Idx → EReal) fun o k => a7 m c (k % 256) o (3 - 2 * (k / 256)) := by
  after_reads_simp
  exact is2_cat (b := 256) _ _ (fun q o i => a7 m c i o (3 - 2 * q)) rfl fun k hk => match k, hk with
    | 0, _ => ⟨_, rfl, by
        show Is2 (StableHlo.upto hostOps0 (fun b => m (c, b)) 34 (Proc.tc.devRef main_v31) : S128x256.Idx → EReal) fun o i => a7 m c i o 3
        after_reads_simp
        exact is2_tapT (is3_of _) 3 _ _ _⟩
    | 1, _ => ⟨_, rfl, by
        show Is2 (StableHlo.upto hostOps0 (fun b => m (c, b)) 34 (Proc.tc.devRef main_v33) : S128x256.Idx → EReal) fun o i => a7 m c i o 1
        after_reads_simp
        exact is2_tapT (is3_of _) 1 _ _ _⟩

theorem in_v39 : Is2 (V m c main_v39 : S2x1.Idx → EReal) fun o _ => a10 m c o := by
  after_reads_simp
  exact is2_colCast (is1_of _) _

theorem in_v41 : Is2 (V m c main_v41 : S2x128.Idx → EReal) fun o i => a9 m c i o 1 := by
  after_reads_simp
  exact is2_tapT (is3_of _) 1 _ _ _

theorem in_v43 : Is2 (V m c main_v43 : S2x128.Idx → EReal) fun o i => a9 m c i o 3 := by
  after_reads_simp
  exact is2_tapT (is3_of _) 3 _ _ _

theorem in_v45 : Is2 (V m c main_v45 : S2x128.Idx → EReal) fun o i => a9 m c i o 0 := by
  after_reads_simp
  exact is2_tapT (is3_of _) 0 _ _ _

theorem in_v47 : Is2 (V m c main_v47 : S2x128.Idx → EReal) fun o i => a9 m c i o 2 := by
  after_reads_simp
  exact is2_tapT (is3_of _) 2 _ _ _

theorem in_v49 : Is2 (V m c main_v49 : S2x128.Idx → EReal) fun o i => a9 m c i o 1 := by
  after_reads_simp
  exact is2_tapT (is3_of _) 1 _ _ _

theorem in_v51 : Is2 (V m c main_v51 : S2x128.Idx → EReal) fun o i => a9 m c i o 3 := by
  after_reads_simp
  exact is2_tapT (is3_of _) 3 _ _ _

theorem in_v53 : Is2 (V m c main_v53 : S2x128.Idx → EReal) fun o i => a9 m c i o 0 := by
  after_reads_simp
  exact is2_tapT (is3_of _) 0 _ _ _

theorem in_v55 : Is2 (V m c main_v55 : S2x128.Idx → EReal) fun o i => a9 m c i o 2 := by
  after_reads_simp
  exact is2_tapT (is3_of _) 2 _ _ _

theorem in_v57 : Is2 (V m c main_v57 : S2x128.Idx → EReal) fun o i => a9 m c i o 1 := by
  after_reads_simp
  exact is2_tapT (is3_of _) 1 _ _ _

theorem in_v59 : Is2 (V m c main_v59 : S2x128.Idx → EReal) fun o i => a9 m c i o 3 := by
  after_reads_simp
  exact is2_tapT (is3_of _) 3 _ _ _

theorem in_v61 : Is2 (V m c main_v61 : S2x128.Idx → EReal) fun o i => a9 m c i o 0 := by
  after_reads_simp
  exact is2_tapT (is3_of _) 0 _ _ _

theorem in_v63 : Is2 (V m c main_v63 : S2x128.Idx → EReal) fun o i => a9 m c i o 2 := by
  after_reads_simp
  exact is2_tapT (is3_of _) 2 _ _ _

theorem in_v65 : Is2 (V m c main_v65 : S2x128.Idx → EReal) fun o i => a9 m c i o 1 := by
  after_reads_simp
  exact is2_tapT (is3_of _) 1 _ _ _

theorem in_v67 : Is2 (V m c main_v67 : S2x128.Idx → EReal) fun o i => a9 m c i o 3 := by
  after_reads_simp
  exact is2_tapT (is3_of _) 3 _ _ _

theorem in_v69 : Is2 (V m c main_v69 : S2x128.Idx → EReal) fun o i => a9 m c i o 0 := by
  after_reads_simp
  exact is2_tapT (is3_of _) 0 _ _ _

theorem in_v71 : Is2 (V m c main_v71 : S2x128.Idx → EReal) fun o i => a9 m c i o 2 := by
  after_reads_simp
  exact is2_tapT (is3_of _) 2 _ _ _

theorem in_v73 : Is2 (V m c main_v73 : S256x64.Idx → EReal) fun o i => a1 m c i o 0 := by
  after_reads_simp
  exact is2_tr (is2_drop3 (is3_of _) _) _

theorem in_v74 : Is2 (V m c main_v74 : S256x1.Idx → EReal) fun o _ => a2 m c o := by
  after_reads_simp
  exact is2_colCast (is1_of _) _

end Cert.DecIdeal.Hand

end
-- ==== Proof.DecBlocks.lean ====
/- The blocks of the decoder's windows are the operands of its body. -/
module

public import proofs.«01_k».proof.Proof.DecHost
public import proofs.«01_k».proof.Proof.DecSpec
public import proofs.«01_k».proof.Proof.Gen.DecIdeal.Launch
public import Idealize.ShloMosaic.Lib.Pipeline.ValueKit.Geometry

@[expose] public section

set_option maxRecDepth 16384
set_option maxHeartbeats 4000000

noncomputable section

namespace Cert.DecIdeal.Hand

open Cert.DecIdeal.Gen
open Idealize.ShloMosaic Idealize.ShloMosaic.TcCoe Idealize.SL.Sem PhaseConv
open Idealize.ShloMosaic.Pipeline (Dat)

variable (m : (ℓ : Loc nD τ sig) → Buf (Elt Ideal) ℓ) (ρ : Dev nD → PrngReg)

/-- What a grid point leaves in the output's block: the decoder at that batch entry, its positions dealt to eight phases. -/
def decBlk (c : Dev nD) (t : Fin cfg0.N) : S1x16x2048.Idx → EReal := fun i =>
  decSpec (a0 m c) (a1 m c) (a2 m c) (a3 m c) (a4 m c) (a5 m c) (a6 m c) (a7 m c) (a8 m c) (a9 m c) (a10 m c) t.val ((i 1).val % 2) ((8 * (i 2).val + (i 1).val / 2 : ℕ) : ℤ)

/-- The output array of the run. -/
def decOut (c : Dev nD) : S8x16x2048.Idx → EReal := fun i =>
  decSpec (a0 m c) (a1 m c) (a2 m c) (a3 m c) (a4 m c) (a5 m c) (a6 m c) (a7 m c) (a8 m c) (a9 m c) (a10 m c) (i 0).val ((i 1).val % 2) ((8 * (i 2).val + (i 1).val / 2 : ℕ) : ℤ)

theorem index0 (t : Fin cfg0.N) : (cfg0.win 0).index t 0 = t.val :=
  (by decide +kernel : ∀ t : Fin cfg0.N, (cfg0.win 0).index t 0 = t.val) t

theorem index47 (t : Fin cfg0.N) : (cfg0.win 47).index t 0 = t.val :=
  (by decide +kernel : ∀ t : Fin cfg0.N, (cfg0.win 47).index t 0 = t.val) t

/-- The block of the signal. -/
theorem blk0 (c : Dev nD) (t : Fin cfg0.N) : Is3 (iblk m c 0 t : S1x64x2048.Idx → EReal) fun _ r j => (cut 2048 fun ch z => a0 m c t.val ch z.toNat) r (j : ℤ) := by
  refine Is3.congr (is3_blk (in_arg0 m c) _ t.val fun i => ⟨congrArg (· * 1 + 1 * (i 0).val) (index0 t), rfl, rfl⟩) fun _ r j _ hr hj => ?_
  refine Eq.trans ?_ (cut_in (N := 2048) (f := fun ch z => a0 m c t.val ch z.toNat) (by omega) (by omega)).symm
  exact congrArg _ (by omega)

theorem blk1 (c : Dev nD) (t : Fin cfg0.N) : Is2 (iblk m c 1 t : S256x1.Idx → EReal) fun o _ => a4 m c o := by
  exact is2_blk (in_v4 m c) _ fun i => ⟨rfl, rfl⟩

theorem blk2 (c : Dev nD) (t : Fin cfg0.N) : Is2 (iblk m c 2 t : S256x256.Idx → EReal) fun o i => a3 m c i o 1 := by
  exact is2_blk (in_v6 m c) _ fun i => ⟨rfl, rfl⟩

theorem blk3 (c : Dev nD) (t : Fin cfg0.N) : Is2 (iblk m c 3 t : S256x256.Idx → EReal) fun o i => a3 m c i o 0 := by
  exact is2_blk (in_v8 m c) _ fun i => ⟨rfl, rfl⟩

theorem blk4 (c : Dev nD) (t : Fin cfg0.N) : Is2 (iblk m c 4 t : S256x256.Idx → EReal) fun o i => a3 m c i o 2 := by
  exact is2_blk (in_v10 m c) _ fun i => ⟨rfl, rfl⟩

theorem blk5 (c : Dev nD) (t : Fin cfg0.N) : Is2 (iblk m c 5 t : S256x1.Idx → EReal) fun o _ => a6 m c o := by
  exact is2_blk (in_v11 m c) _ fun i => ⟨rfl, rfl⟩

theorem blk6 (c : Dev nD) (t : Fin cfg0.N) : Is2 (iblk m c 6 t : S256x256.Idx → EReal) fun o i => a5 m c i o 1 := by
  exact is2_blk (in_v13 m c) _ fun i => ⟨rfl, rfl⟩

theorem blk7 (c : Dev nD) (t : Fin cfg0.N) : Is2 (iblk m c 7 t : S256x256.Idx → EReal) fun o i => a5 m c i o 3 := by
  exact is2_blk (in_v15 m c) _ fun i => ⟨rfl, rfl⟩

theorem blk8 (c : Dev nD) (t : Fin cfg0.N) : Is2 (iblk m c 8 t : S256x1.Idx → EReal) fun o _ => a6 m c o := by
  exact is2_blk (in_v11 m c) _ fun i => ⟨rfl, rfl⟩

theorem blk9 (c : Dev nD) (t : Fin cfg0.N) : Is2 (iblk m c 9 t : S256x256.Idx → EReal) fun o i => a5 m c i o 0 := by
  exact is2_blk (in_v17 m c) _ fun i => ⟨rfl, rfl⟩

theorem blk10 (c : Dev nD) (t : Fin cfg0.N) : Is2 (iblk m c 10 t : S256x256.Idx → EReal) fun o i => a5 m c i o 2 := by
  exact is2_blk (in_v19 m c) _ fun i => ⟨rfl, rfl⟩

theorem blk11 (c : Dev nD) (t : Fin cfg0.N) : Is2 (iblk m c 11 t : S128x1.Idx → EReal) fun o _ => a8 m c o := by
  exact is2_blk (in_v20 m c) _ fun i => ⟨rfl, rfl⟩

theorem blk12 (c : Dev nD) (t : Fin cfg0.N) : Is2 (iblk m c 12 t : S128x256.Idx → EReal) fun o i => a7 m c i o 1 := by
  exact is2_blk (in_v22 m c) _ fun i => ⟨rfl, rfl⟩

theorem blk13 (c : Dev nD) (t : Fin cfg0.N) : Is2 (iblk m c 13 t : S128x256.Idx → EReal) fun o i => a7 m c i o 3 := by
  exact is2_blk (in_v24 m c) _ fun i => ⟨rfl, rfl⟩

theorem blk14 (c : Dev nD) (t : Fin cfg0.N) : Is2 (iblk m c 14 t : S128x1.Idx → EReal) fun o _ => a8 m c o := by
  exact is2_blk (in_v20 m c) _ fun i => ⟨rfl, rfl⟩

theorem blk15 (c : Dev nD) (t : Fin cfg0.N) : Is2 (iblk m c 15 t : S128x512.Idx → EReal) fun o k => a7 m c (k % 256) o (2 - 2 * (k / 256)) := by
  exact is2_blk (in_v29 m c) _ fun i => ⟨rfl, rfl⟩

theorem blk16 (c : Dev nD) (t : Fin cfg0.N) : Is2 (iblk m c 16 t : S128x1.Idx → EReal) fun o _ => a8 m c o := by
  exact is2_blk (in_v20 m c) _ fun i => ⟨rfl, rfl⟩

theorem blk17 (c : Dev nD) (t : Fin cfg0.N) : Is2 (iblk m c 17 t : S128x512.Idx → EReal) fun o k => a7 m c (k % 256) o (3 - 2 * (k / 256)) := by
  exact is2_blk (in_v34 m c) _ fun i => ⟨rfl, rfl⟩

theorem blk18 (c : Dev nD) (t : Fin cfg0.N) : Is2 (iblk m c 18 t : S128x1.Idx → EReal) fun o _ => a8 m c o := by
  exact is2_blk (in_v20 m c) _ fun i => ⟨rfl, rfl⟩

theorem blk19 (c : Dev nD) (t : Fin cfg0.N) : Is2 (iblk m c 19 t : S128x256.Idx → EReal) fun o i => a7 m c i o 0 := by
  exact is2_blk (in_v36 m c) _ fun i => ⟨rfl, rfl⟩

theorem blk20 (c : Dev nD) (t : Fin cfg0.N) : Is2 (iblk m c 20 t : S128x256.Idx → EReal) fun o i => a7 m c i o 2 := by
  exact is2_blk (in_v38 m c) _ fun i => ⟨rfl, rfl⟩

theorem blk21 (c : Dev nD) (t : Fin cfg0.N) : Is2 (iblk m c 21 t : S2x1.Idx → EReal) fun o _ => a10 m c o := by
  exact is2_blk (in_v39 m c) _ fun i => ⟨rfl, rfl⟩

theorem blk22 (c : Dev nD) (t : Fin cfg0.N) : Is2 (iblk m c 22 t : S2x128.Idx → EReal) fun o i => a9 m c i o 1 := by
  exact is2_blk (in_v41 m c) _ fun i => ⟨rfl, rfl⟩

theorem blk23 (c : Dev nD) (t : Fin cfg0.N) : Is2 (iblk m c 23 t : S2x128.Idx → EReal) fun o i => a9 m c i o 3 := by
  exact is2_blk (in_v43 m c) _ fun i => ⟨rfl, rfl⟩

theorem blk24 (c : Dev nD) (t : Fin cfg0.N) : Is2 (iblk m c 24 t : S2x1.Idx → EReal) fun o _ => a10 m c o := by
  exact is2_blk (in_v39 m c) _ fun i => ⟨rfl, rfl⟩

theorem blk25 (c : Dev nD) (t : Fin cfg0.N) : Is2 (iblk m c 25 t : S2x128.Idx → EReal) fun o i => a9 m c i o 0 := by
  exact is2_blk (in_v45 m c) _ fun i => ⟨rfl, rfl⟩

theorem blk26 (c : Dev nD) (t : Fin cfg0.N) : Is2 (iblk m c 26 t : S2x128.Idx → EReal) fun o i => a9 m c i o 2 := by
  exact is2_blk (in_v47 m c) _ fun i => ⟨rfl, rfl⟩

theorem blk27 (c : Dev nD) (t : Fin cfg0.N) : Is2 (iblk m c 27 t : S2x1.Idx → EReal) fun o _ => a10 m c o := by
  exact is2_blk (in_v39 m c) _ fun i => ⟨rfl, rfl⟩

theorem blk28 (c : Dev nD) (t : Fin cfg0.N) : Is2 (iblk m c 28 t : S2x128.Idx → EReal) fun o i => a9 m c i o 1 := by
  exact is2_blk (in_v49 m c) _ fun i => ⟨rfl, rfl⟩

theorem blk29 (c : Dev nD) (t : Fin cfg0.N) : Is2 (iblk m c 29 t : S2x128.Idx → EReal) fun o i => a9 m c i o 3 := by
  exact is2_blk (in_v51 m c) _ fun i => ⟨rfl, rfl⟩

theorem blk30 (c : Dev nD) (t : Fin cfg0.N) : Is2 (iblk m c 30 t : S2x1.Idx → EReal) fun o _ => a10 m c o := by
  exact is2_blk (in_v39 m c) _ fun i => ⟨rfl, rfl⟩

theorem blk31 (c : Dev nD) (t : Fin cfg0.N) : Is2 (iblk m c 31 t : S2x128.Idx → EReal) fun o i => a9 m c i o 0 := by
  exact is2_blk (in_v53 m c) _ fun i => ⟨rfl, rfl⟩

theorem blk32 (c : Dev nD) (t : Fin cfg0.N) : Is2 (iblk m c 32 t : S2x128.Idx → EReal) fun o i => a9 m c i o 2 := by
  exact is2_blk (in_v55 m c) _ fun i => ⟨rfl, rfl⟩

theorem blk33 (c : Dev nD) (t : Fin cfg0.N) : Is2 (iblk m c 33 t : S2x1.Idx → EReal) fun o _ => a10 m c o := by
  exact is2_blk (in_v39 m c) _ fun i => ⟨rfl, rfl⟩

theorem blk34 (c : Dev nD) (t : Fin cfg0.N) : Is2 (iblk m c 34 t : S2x128.Idx → EReal) fun o i => a9 m c i o 1 := by
  exact is2_blk (in_v57 m c) _ fun i => ⟨rfl, rfl⟩

theorem blk35 (c : Dev nD) (t : Fin cfg0.N) : Is2 (iblk m c 35 t : S2x128.Idx → EReal) fun o i => a9 m c i o 3 := by
  exact is2_blk (in_v59 m c) _ fun i => ⟨rfl, rfl⟩

theorem blk36 (c : Dev nD) (t : Fin cfg0.N) : Is2 (iblk m c 36 t : S2x1.Idx → EReal) fun o _ => a10 m c o := by
  exact is2_blk (in_v39 m c) _ fun i => ⟨rfl, rfl⟩

theorem blk37 (c : Dev nD) (t : Fin cfg0.N) : Is2 (iblk m c 37 t : S2x128.Idx → EReal) fun o i => a9 m c i o 0 := by
  exact is2_blk (in_v61 m c) _ fun i => ⟨rfl, rfl⟩

theorem blk38 (c : Dev nD) (t : Fin cfg0.N) : Is2 (iblk m c 38 t : S2x128.Idx → EReal) fun o i => a9 m c i o 2 := by
  exact is2_blk (in_v63 m c) _ fun i => ⟨rfl, rfl⟩

theorem blk39 (c : Dev nD) (t : Fin cfg0.N) : Is2 (iblk m c 39 t : S2x1.Idx → EReal) fun o _ => a10 m c o := by
  exact is2_blk (in_v39 m c) _ fun i => ⟨rfl, rfl⟩

theorem blk40 (c : Dev nD) (t : Fin cfg0.N) : Is2 (iblk m c 40 t : S2x128.Idx → EReal) fun o i => a9 m c i o 1 := by
  exact is2_blk (in_v65 m c) _ fun i => ⟨rfl, rfl⟩

theorem blk41 (c : Dev nD) (t : Fin cfg0.N) : Is2 (iblk m c 41 t : S2x128.Idx → EReal) fun o i => a9 m c i o 3 := by
  exact is2_blk (in_v67 m c) _ fun i => ⟨rfl, rfl⟩

theorem blk42 (c : Dev nD) (t : Fin cfg0.N) : Is2 (iblk m c 42 t : S2x1.Idx → EReal) fun o _ => a10 m c o := by
  exact is2_blk (in_v39 m c) _ fun i => ⟨rfl, rfl⟩

theorem blk43 (c : Dev nD) (t : Fin cfg0.N) : Is2 (iblk m c 43 t : S2x128.Idx → EReal) fun o i => a9 m c i o 0 := by
  exact is2_blk (in_v69 m c) _ fun i => ⟨rfl, rfl⟩

theorem blk44 (c : Dev nD) (t : Fin cfg0.N) : Is2 (iblk m c 44 t : S2x128.Idx → EReal) fun o i => a9 m c i o 2 := by
  exact is2_blk (in_v71 m c) _ fun i => ⟨rfl, rfl⟩

theorem blk45 (c : Dev nD) (t : Fin cfg0.N) : Is2 (iblk m c 45 t : S256x64.Idx → EReal) fun o i => a1 m c i o 0 := by
  exact is2_blk (in_v73 m c) _ fun i => ⟨rfl, rfl⟩

theorem blk46 (c : Dev nD) (t : Fin cfg0.N) : Is2 (iblk m c 46 t : S256x1.Idx → EReal) fun o _ => a2 m c o := by
  exact is2_blk (in_v74 m c) _ fun i => ⟨rfl, rfl⟩

/-- The blocks of the windows are the operands of the body. -/
theorem operands (c : Dev nD) (t : Fin cfg0.N) : Operands (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t)
    (cut 2048 fun ch z => a0 m c t.val ch z.toNat) (a1 m c) (a3 m c) (a5 m c) (a7 m c) (a9 m c)
    (a2 m c) (a4 m c) (a6 m c) (a8 m c) (a10 m c) :=
  ⟨blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, blk25 m c t, blk26 m c t, blk27 m c t, blk28 m c t, blk29 m c t, blk30 m c t, blk31 m c t, blk32 m c t, blk33 m c t, blk34 m c t, blk35 m c t, blk36 m c t, blk37 m c t, blk38 m c t, blk39 m c t, blk40 m c t, blk41 m c t, blk42 m c t, blk43 m c t, blk44 m c t, blk45 m c t, blk46 m c t⟩

end Cert.DecIdeal.Hand

end
-- ==== Proof.DecLeft.lean ====
/- What the decoder's body leaves in its output block. -/
module

public import proofs.«01_k».proof.Proof.DecBlocks

@[expose] public section

set_option maxRecDepth 16384
set_option maxHeartbeats 4000000

noncomputable section

namespace Cert.DecIdeal.Hand

open Cert.DecIdeal.Gen
open Idealize.ShloMosaic Idealize.ShloMosaic.TcCoe Idealize.SL.Sem PhaseConv
open Idealize.ShloMosaic.Pipeline (Dat)

variable (m : (ℓ : Loc nD τ sig) → Buf (Elt Ideal) ℓ) (ρ : Dev nD → PrngReg)

/-- What the body leaves in its output block, at every grid point and over any contents of the scratch. -/
theorem left (c : Dev nD) (t : Fin cfg0.N) (g0 : Buf (Elt Ideal) ((Memref.whole cc0_scratch0).view.loc (c : Thread nD τ))) (g1 : Buf (Elt Ideal) ((Memref.whole cc0_scratch1).view.loc (c : Thread nD τ))) (g2 : Buf (Elt Ideal) ((Memref.whole cc0_scratch2).view.loc (c : Thread nD τ))) (g3 : Buf (Elt Ideal) ((Memref.whole cc0_scratch3).view.loc (c : Thread nD τ))) (f) :
      (win0_47.stage (cfg0.slots t 47)).view.read (Elt Ideal) ((win0_47.stage (cfg0.slots t 47)).view.writes (Elt Ideal) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (win0_35.stage (cfg0.slots t 35)) (hstage0_35 ((cfg0.slots t 35).cast nbuf0_35)) (win0_36.stage (cfg0.slots t 36)) (hstage0_36 ((cfg0.slots t 36).cast nbuf0_36)) (win0_37.stage (cfg0.slots t 37)) (hstage0_37 ((cfg0.slots t 37).cast nbuf0_37)) (win0_38.stage (cfg0.slots t 38)) (hstage0_38 ((cfg0.slots t 38).cast nbuf0_38)) (win0_39.stage (cfg0.slots t 39)) (hstage0_39 ((cfg0.slots t 39).cast nbuf0_39)) (win0_40.stage (cfg0.slots t 40)) (hstage0_40 ((cfg0.slots t 40).cast nbuf0_40)) (win0_41.stage (cfg0.slots t 41)) (hstage0_41 ((cfg0.slots t 41).cast nbuf0_41)) (win0_42.stage (cfg0.slots t 42)) (hstage0_42 ((cfg0.slots t 42).cast nbuf0_42)) (win0_43.stage (cfg0.slots t 43)) (hstage0_43 ((cfg0.slots t 43).cast nbuf0_43)) (win0_44.stage (cfg0.slots t 44)) (hstage0_44 ((cfg0.slots t 44).cast nbuf0_44)) (win0_45.stage (cfg0.slots t 45)) (hstage0_45 ((cfg0.slots t 45).cast nbuf0_45)) (win0_46.stage (cfg0.slots t 46)) (hstage0_46 ((cfg0.slots t 46).cast nbuf0_46)) (win0_47.stage (cfg0.slots t 47)) (hstage0_47 ((cfg0.slots t 47).cast nbuf0_47)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) g0 g1 g2 g3).1) = decBlk m c t := by
  funext y
  exact (rows_val (operands m c t) c _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) _ (hstage0_16 ((cfg0.slots t 16).cast nbuf0_16)) _ (hstage0_17 ((cfg0.slots t 17).cast nbuf0_17)) _ (hstage0_18 ((cfg0.slots t 18).cast nbuf0_18)) _ (hstage0_19 ((cfg0.slots t 19).cast nbuf0_19)) _ (hstage0_20 ((cfg0.slots t 20).cast nbuf0_20)) _ (hstage0_21 ((cfg0.slots t 21).cast nbuf0_21)) _ (hstage0_22 ((cfg0.slots t 22).cast nbuf0_22)) _ (hstage0_23 ((cfg0.slots t 23).cast nbuf0_23)) _ (hstage0_24 ((cfg0.slots t 24).cast nbuf0_24)) _ (hstage0_25 ((cfg0.slots t 25).cast nbuf0_25)) _ (hstage0_26 ((cfg0.slots t 26).cast nbuf0_26)) _ (hstage0_27 ((cfg0.slots t 27).cast nbuf0_27)) _ (hstage0_28 ((cfg0.slots t 28).cast nbuf0_28)) _ (hstage0_29 ((cfg0.slots t 29).cast nbuf0_29)) _ (hstage0_30 ((cfg0.slots t 30).cast nbuf0_30)) _ (hstage0_31 ((cfg0.slots t 31).cast nbuf0_31)) _ (hstage0_32 ((cfg0.slots t 32).cast nbuf0_32)) _ (hstage0_33 ((cfg0.slots t 33).cast nbuf0_33)) _ (hstage0_34 ((cfg0.slots t 34).cast nbuf0_34)) _ (hstage0_35 ((cfg0.slots t 35).cast nbuf0_35)) _ (hstage0_36 ((cfg0.slots t 36).cast nbuf0_36)) _ (hstage0_37 ((cfg0.slots t 37).cast nbuf0_37)) _ (hstage0_38 ((cfg0.slots t 38).cast nbuf0_38)) _ (hstage0_39 ((cfg0.slots t 39).cast nbuf0_39)) _ (hstage0_40 ((cfg0.slots t 40).cast nbuf0_40)) _ (hstage0_41 ((cfg0.slots t 41).cast nbuf0_41)) _ (hstage0_42 ((cfg0.slots t 42).cast nbuf0_42)) _ (hstage0_43 ((cfg0.slots t 43).cast nbuf0_43)) _ (hstage0_44 ((cfg0.slots t 44).cast nbuf0_44)) _ (hstage0_45 ((cfg0.slots t 45).cast nbuf0_45)) _ (hstage0_46 ((cfg0.slots t 46).cast nbuf0_46))
    (Memref.whole cc0_scratch0) g0 (Memref.whole cc0_scratch1) g1 (Memref.whole cc0_scratch2) g2 (Memref.whole cc0_scratch3) g3
    (grid0.coords t) (win0_47.stage (cfg0.slots t 47)) (hstage0_47 ((cfg0.slots t 47).cast nbuf0_47))
    (Memref.isWhole_whole _) (Memref.isWhole_whole _) (Memref.isWhole_whole _) (Memref.isWhole_whole _) f y (y 1).isLt).trans
    (congrArg (conv 128 4 1 2 _ _ _ _) (by push_cast; ring))

end Cert.DecIdeal.Hand

end
-- ==== Proof.DecIdealFrame.lean ====
/- The launch of the program: the proof data of its pipeline, the obligation of its body, and the runs of its main function. -/
module

public import proofs.«01_k».proof.Proof.DecIdealBody
public import proofs.«01_k».proof.Proof.Gen.DecIdeal.Launch
public import Idealize.ShloMosaic.Lib.Claim
public import proofs.«01_k».proof.Proof.Gen.DecIdeal.Points

@[expose] public section

set_option maxRecDepth 16384

noncomputable section

namespace Cert.DecIdeal.Hand

open Cert.DecIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The invariant between points: the scratch at some contents, and the generator's register. -/
theorem phi_eq (c : Dev nD) : (Pipeline.ΦA spec0 c : sProp 𝕄)
    = iprop(iprop((∃ f, (Memref.whole cc0_scratch0).view.loc (c : Thread nD τ) ↦[(Memref.whole cc0_scratch0).view.set]{fullShare} f)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f)
    ∗ (∃ f, (Memref.whole cc0_scratch3).view.loc (c : Thread nD τ) ↦[(Memref.whole cc0_scratch3).view.set]{fullShare} f)) ∗ (∃ r, prngReg c r)) := by
  unfold Pipeline.ΦA; rw [scopedRest0_eq]
  rw [show (Memref.whole cc0_scratch0).view.set = Finset.univ from View.set_whole cc0_scratch0]; rw [show (Memref.whole cc0_scratch1).view.set = Finset.univ from View.set_whole cc0_scratch1]; rw [show (Memref.whole cc0_scratch2).view.set = Finset.univ from View.set_whole cc0_scratch2]; rw [show (Memref.whole cc0_scratch3).view.set = Finset.univ from View.set_whole cc0_scratch3]
  try rfl

variable (W : (c : Dev nD) → (t : Fin cfg0.N) → Vec F S1x16x2048 .f32)

/-- The proof data of the pipeline on core `c`: the arrays as the region finds them, every input's buffer left at its
    block, the output's at `W`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, _⟩ => W c t
    | ⟨k + 48, h⟩ => absurd h (Nat.not_lt.mpr (Nat.le_add_left 48 k))
  Φ _ := Pipeline.ΦA spec0 c
  q w := Pipeline.shareOf spec0 w
  owed _ := 0

/-- The proof data's arrays are what the region finds. -/
theorem A_eq (c : Dev nD) (w : Fin cfg0.W) : (dats m W 0 c).A w = V m c (Pipeline.arrRef spec0 w) := by
  dsimp only [dats]

theorem after0_0 (c : Dev nD) (t : Fin cfg0.N) : (dats m W 0 c).after 0 t = iblk m c 0 t := by dsimp only [dats]
theorem after0_1 (c : Dev nD) (t : Fin cfg0.N) : (dats m W 0 c).after 1 t = iblk m c 1 t := by dsimp only [dats]
theorem after0_2 (c : Dev nD) (t : Fin cfg0.N) : (dats m W 0 c).after 2 t = iblk m c 2 t := by dsimp only [dats]
theorem after0_3 (c : Dev nD) (t : Fin cfg0.N) : (dats m W 0 c).after 3 t = iblk m c 3 t := by dsimp only [dats]
theorem after0_4 (c : Dev nD) (t : Fin cfg0.N) : (dats m W 0 c).after 4 t = iblk m c 4 t := by dsimp only [dats]
theorem after0_5 (c : Dev nD) (t : Fin cfg0.N) : (dats m W 0 c).after 5 t = iblk m c 5 t := by dsimp only [dats]
theorem after0_6 (c : Dev nD) (t : Fin cfg0.N) : (dats m W 0 c).after 6 t = iblk m c 6 t := by dsimp only [dats]
theorem after0_7 (c : Dev nD) (t : Fin cfg0.N) : (dats m W 0 c).after 7 t = iblk m c 7 t := by dsimp only [dats]
theorem after0_8 (c : Dev nD) (t : Fin cfg0.N) : (dats m W 0 c).after 8 t = iblk m c 8 t := by dsimp only [dats]
theorem after0_9 (c : Dev nD) (t : Fin cfg0.N) : (dats m W 0 c).after 9 t = iblk m c 9 t := by dsimp only [dats]
theorem after0_10 (c : Dev nD) (t : Fin cfg0.N) : (dats m W 0 c).after 10 t = iblk m c 10 t := by dsimp only [dats]
theorem after0_11 (c : Dev nD) (t : Fin cfg0.N) : (dats m W 0 c).after 11 t = iblk m c 11 t := by dsimp only [dats]
theorem after0_12 (c : Dev nD) (t : Fin cfg0.N) : (dats m W 0 c).after 12 t = iblk m c 12 t := by dsimp only [dats]
theorem after0_13 (c : Dev nD) (t : Fin cfg0.N) : (dats m W 0 c).after 13 t = iblk m c 13 t := by dsimp only [dats]
theorem after0_14 (c : Dev nD) (t : Fin cfg0.N) : (dats m W 0 c).after 14 t = iblk m c 14 t := by dsimp only [dats]
theorem after0_15 (c : Dev nD) (t : Fin cfg0.N) : (dats m W 0 c).after 15 t = iblk m c 15 t := by dsimp only [dats]
theorem after0_16 (c : Dev nD) (t : Fin cfg0.N) : (dats m W 0 c).after 16 t = iblk m c 16 t := by dsimp only [dats]
theorem after0_17 (c : Dev nD) (t : Fin cfg0.N) : (dats m W 0 c).after 17 t = iblk m c 17 t := by dsimp only [dats]
theorem after0_18 (c : Dev nD) (t : Fin cfg0.N) : (dats m W 0 c).after 18 t = iblk m c 18 t := by dsimp only [dats]
theorem after0_19 (c : Dev nD) (t : Fin cfg0.N) : (dats m W 0 c).after 19 t = iblk m c 19 t := by dsimp only [dats]
theorem after0_20 (c : Dev nD) (t : Fin cfg0.N) : (dats m W 0 c).after 20 t = iblk m c 20 t := by dsimp only [dats]
theorem after0_21 (c : Dev nD) (t : Fin cfg0.N) : (dats m W 0 c).after 21 t = iblk m c 21 t := by dsimp only [dats]
theorem after0_22 (c : Dev nD) (t : Fin cfg0.N) : (dats m W 0 c).after 22 t = iblk m c 22 t := by dsimp only [dats]
theorem after0_23 (c : Dev nD) (t : Fin cfg0.N) : (dats m W 0 c).after 23 t = iblk m c 23 t := by dsimp only [dats]
theorem after0_24 (c : Dev nD) (t : Fin cfg0.N) : (dats m W 0 c).after 24 t = iblk m c 24 t := by dsimp only [dats]
theorem after0_25 (c : Dev nD) (t : Fin cfg0.N) : (dats m W 0 c).after 25 t = iblk m c 25 t := by dsimp only [dats]
theorem after0_26 (c : Dev nD) (t : Fin cfg0.N) : (dats m W 0 c).after 26 t = iblk m c 26 t := by dsimp only [dats]
theorem after0_27 (c : Dev nD) (t : Fin cfg0.N) : (dats m W 0 c).after 27 t = iblk m c 27 t := by dsimp only [dats]
theorem after0_28 (c : Dev nD) (t : Fin cfg0.N) : (dats m W 0 c).after 28 t = iblk m c 28 t := by dsimp only [dats]
theorem after0_29 (c : Dev nD) (t : Fin cfg0.N) : (dats m W 0 c).after 29 t = iblk m c 29 t := by dsimp only [dats]
theorem after0_30 (c : Dev nD) (t : Fin cfg0.N) : (dats m W 0 c).after 30 t = iblk m c 30 t := by dsimp only [dats]
theorem after0_31 (c : Dev nD) (t : Fin cfg0.N) : (dats m W 0 c).after 31 t = iblk m c 31 t := by dsimp only [dats]
theorem after0_32 (c : Dev nD) (t : Fin cfg0.N) : (dats m W 0 c).after 32 t = iblk m c 32 t := by dsimp only [dats]
theorem after0_33 (c : Dev nD) (t : Fin cfg0.N) : (dats m W 0 c).after 33 t = iblk m c 33 t := by dsimp only [dats]
theorem after0_34 (c : Dev nD) (t : Fin cfg0.N) : (dats m W 0 c).after 34 t = iblk m c 34 t := by dsimp only [dats]
theorem after0_35 (c : Dev nD) (t : Fin cfg0.N) : (dats m W 0 c).after 35 t = iblk m c 35 t := by dsimp only [dats]
theorem after0_36 (c : Dev nD) (t : Fin cfg0.N) : (dats m W 0 c).after 36 t = iblk m c 36 t := by dsimp only [dats]
theorem after0_37 (c : Dev nD) (t : Fin cfg0.N) : (dats m W 0 c).after 37 t = iblk m c 37 t := by dsimp only [dats]
theorem after0_38 (c : Dev nD) (t : Fin cfg0.N) : (dats m W 0 c).after 38 t = iblk m c 38 t := by dsimp only [dats]
theorem after0_39 (c : Dev nD) (t : Fin cfg0.N) : (dats m W 0 c).after 39 t = iblk m c 39 t := by dsimp only [dats]
theorem after0_40 (c : Dev nD) (t : Fin cfg0.N) : (dats m W 0 c).after 40 t = iblk m c 40 t := by dsimp only [dats]
theorem after0_41 (c : Dev nD) (t : Fin cfg0.N) : (dats m W 0 c).after 41 t = iblk m c 41 t := by dsimp only [dats]
theorem after0_42 (c : Dev nD) (t : Fin cfg0.N) : (dats m W 0 c).after 42 t = iblk m c 42 t := by dsimp only [dats]
theorem after0_43 (c : Dev nD) (t : Fin cfg0.N) : (dats m W 0 c).after 43 t = iblk m c 43 t := by dsimp only [dats]
theorem after0_44 (c : Dev nD) (t : Fin cfg0.N) : (dats m W 0 c).after 44 t = iblk m c 44 t := by dsimp only [dats]
theorem after0_45 (c : Dev nD) (t : Fin cfg0.N) : (dats m W 0 c).after 45 t = iblk m c 45 t := by dsimp only [dats]
theorem after0_46 (c : Dev nD) (t : Fin cfg0.N) : (dats m W 0 c).after 46 t = iblk m c 46 t := by dsimp only [dats]
theorem after0_47 (c : Dev nD) (t : Fin cfg0.N) : (dats m W 0 c).after 47 t = W c t := by dsimp only [dats]
theorem before0_0 (c : Dev nD) (t : Fin cfg0.N) (d) : (dats m W 0 c).before 0 t d = iblk m c 0 t :=
  before0_0_of m (dats m W 0 c) (A_eq m W c 0) (after0_0 m W c) t d
theorem before0_1 (c : Dev nD) (t : Fin cfg0.N) (d) : (dats m W 0 c).before 1 t d = iblk m c 1 t :=
  before0_1_of m (dats m W 0 c) (A_eq m W c 1) (after0_1 m W c) t d
theorem before0_2 (c : Dev nD) (t : Fin cfg0.N) (d) : (dats m W 0 c).before 2 t d = iblk m c 2 t :=
  before0_2_of m (dats m W 0 c) (A_eq m W c 2) (after0_2 m W c) t d
theorem before0_3 (c : Dev nD) (t : Fin cfg0.N) (d) : (dats m W 0 c).before 3 t d = iblk m c 3 t :=
  before0_3_of m (dats m W 0 c) (A_eq m W c 3) (after0_3 m W c) t d
theorem before0_4 (c : Dev nD) (t : Fin cfg0.N) (d) : (dats m W 0 c).before 4 t d = iblk m c 4 t :=
  before0_4_of m (dats m W 0 c) (A_eq m W c 4) (after0_4 m W c) t d
theorem before0_5 (c : Dev nD) (t : Fin cfg0.N) (d) : (dats m W 0 c).before 5 t d = iblk m c 5 t :=
  before0_5_of m (dats m W 0 c) (A_eq m W c 5) (after0_5 m W c) t d
theorem before0_6 (c : Dev nD) (t : Fin cfg0.N) (d) : (dats m W 0 c).before 6 t d = iblk m c 6 t :=
  before0_6_of m (dats m W 0 c) (A_eq m W c 6) (after0_6 m W c) t d
theorem before0_7 (c : Dev nD) (t : Fin cfg0.N) (d) : (dats m W 0 c).before 7 t d = iblk m c 7 t :=
  before0_7_of m (dats m W 0 c) (A_eq m W c 7) (after0_7 m W c) t d
theorem before0_8 (c : Dev nD) (t : Fin cfg0.N) (d) : (dats m W 0 c).before 8 t d = iblk m c 8 t :=
  before0_8_of m (dats m W 0 c) (A_eq m W c 8) (after0_8 m W c) t d
theorem before0_9 (c : Dev nD) (t : Fin cfg0.N) (d) : (dats m W 0 c).before 9 t d = iblk m c 9 t :=
  before0_9_of m (dats m W 0 c) (A_eq m W c 9) (after0_9 m W c) t d
theorem before0_10 (c : Dev nD) (t : Fin cfg0.N) (d) : (dats m W 0 c).before 10 t d = iblk m c 10 t :=
  before0_10_of m (dats m W 0 c) (A_eq m W c 10) (after0_10 m W c) t d
theorem before0_11 (c : Dev nD) (t : Fin cfg0.N) (d) : (dats m W 0 c).before 11 t d = iblk m c 11 t :=
  before0_11_of m (dats m W 0 c) (A_eq m W c 11) (after0_11 m W c) t d
theorem before0_12 (c : Dev nD) (t : Fin cfg0.N) (d) : (dats m W 0 c).before 12 t d = iblk m c 12 t :=
  before0_12_of m (dats m W 0 c) (A_eq m W c 12) (after0_12 m W c) t d
theorem before0_13 (c : Dev nD) (t : Fin cfg0.N) (d) : (dats m W 0 c).before 13 t d = iblk m c 13 t :=
  before0_13_of m (dats m W 0 c) (A_eq m W c 13) (after0_13 m W c) t d
theorem before0_14 (c : Dev nD) (t : Fin cfg0.N) (d) : (dats m W 0 c).before 14 t d = iblk m c 14 t :=
  before0_14_of m (dats m W 0 c) (A_eq m W c 14) (after0_14 m W c) t d
theorem before0_15 (c : Dev nD) (t : Fin cfg0.N) (d) : (dats m W 0 c).before 15 t d = iblk m c 15 t :=
  before0_15_of m (dats m W 0 c) (A_eq m W c 15) (after0_15 m W c) t d
theorem before0_16 (c : Dev nD) (t : Fin cfg0.N) (d) : (dats m W 0 c).before 16 t d = iblk m c 16 t :=
  before0_16_of m (dats m W 0 c) (A_eq m W c 16) (after0_16 m W c) t d
theorem before0_17 (c : Dev nD) (t : Fin cfg0.N) (d) : (dats m W 0 c).before 17 t d = iblk m c 17 t :=
  before0_17_of m (dats m W 0 c) (A_eq m W c 17) (after0_17 m W c) t d
theorem before0_18 (c : Dev nD) (t : Fin cfg0.N) (d) : (dats m W 0 c).before 18 t d = iblk m c 18 t :=
  before0_18_of m (dats m W 0 c) (A_eq m W c 18) (after0_18 m W c) t d
theorem before0_19 (c : Dev nD) (t : Fin cfg0.N) (d) : (dats m W 0 c).before 19 t d = iblk m c 19 t :=
  before0_19_of m (dats m W 0 c) (A_eq m W c 19) (after0_19 m W c) t d
theorem before0_20 (c : Dev nD) (t : Fin cfg0.N) (d) : (dats m W 0 c).before 20 t d = iblk m c 20 t :=
  before0_20_of m (dats m W 0 c) (A_eq m W c 20) (after0_20 m W c) t d
theorem before0_21 (c : Dev nD) (t : Fin cfg0.N) (d) : (dats m W 0 c).before 21 t d = iblk m c 21 t :=
  before0_21_of m (dats m W 0 c) (A_eq m W c 21) (after0_21 m W c) t d
theorem before0_22 (c : Dev nD) (t : Fin cfg0.N) (d) : (dats m W 0 c).before 22 t d = iblk m c 22 t :=
  before0_22_of m (dats m W 0 c) (A_eq m W c 22) (after0_22 m W c) t d
theorem before0_23 (c : Dev nD) (t : Fin cfg0.N) (d) : (dats m W 0 c).before 23 t d = iblk m c 23 t :=
  before0_23_of m (dats m W 0 c) (A_eq m W c 23) (after0_23 m W c) t d
theorem before0_24 (c : Dev nD) (t : Fin cfg0.N) (d) : (dats m W 0 c).before 24 t d = iblk m c 24 t :=
  before0_24_of m (dats m W 0 c) (A_eq m W c 24) (after0_24 m W c) t d
theorem before0_25 (c : Dev nD) (t : Fin cfg0.N) (d) : (dats m W 0 c).before 25 t d = iblk m c 25 t :=
  before0_25_of m (dats m W 0 c) (A_eq m W c 25) (after0_25 m W c) t d
theorem before0_26 (c : Dev nD) (t : Fin cfg0.N) (d) : (dats m W 0 c).before 26 t d = iblk m c 26 t :=
  before0_26_of m (dats m W 0 c) (A_eq m W c 26) (after0_26 m W c) t d
theorem before0_27 (c : Dev nD) (t : Fin cfg0.N) (d) : (dats m W 0 c).before 27 t d = iblk m c 27 t :=
  before0_27_of m (dats m W 0 c) (A_eq m W c 27) (after0_27 m W c) t d
theorem before0_28 (c : Dev nD) (t : Fin cfg0.N) (d) : (dats m W 0 c).before 28 t d = iblk m c 28 t :=
  before0_28_of m (dats m W 0 c) (A_eq m W c 28) (after0_28 m W c) t d
theorem before0_29 (c : Dev nD) (t : Fin cfg0.N) (d) : (dats m W 0 c).before 29 t d = iblk m c 29 t :=
  before0_29_of m (dats m W 0 c) (A_eq m W c 29) (after0_29 m W c) t d
theorem before0_30 (c : Dev nD) (t : Fin cfg0.N) (d) : (dats m W 0 c).before 30 t d = iblk m c 30 t :=
  before0_30_of m (dats m W 0 c) (A_eq m W c 30) (after0_30 m W c) t d
theorem before0_31 (c : Dev nD) (t : Fin cfg0.N) (d) : (dats m W 0 c).before 31 t d = iblk m c 31 t :=
  before0_31_of m (dats m W 0 c) (A_eq m W c 31) (after0_31 m W c) t d
theorem before0_32 (c : Dev nD) (t : Fin cfg0.N) (d) : (dats m W 0 c).before 32 t d = iblk m c 32 t :=
  before0_32_of m (dats m W 0 c) (A_eq m W c 32) (after0_32 m W c) t d
theorem before0_33 (c : Dev nD) (t : Fin cfg0.N) (d) : (dats m W 0 c).before 33 t d = iblk m c 33 t :=
  before0_33_of m (dats m W 0 c) (A_eq m W c 33) (after0_33 m W c) t d
theorem before0_34 (c : Dev nD) (t : Fin cfg0.N) (d) : (dats m W 0 c).before 34 t d = iblk m c 34 t :=
  before0_34_of m (dats m W 0 c) (A_eq m W c 34) (after0_34 m W c) t d
theorem before0_35 (c : Dev nD) (t : Fin cfg0.N) (d) : (dats m W 0 c).before 35 t d = iblk m c 35 t :=
  before0_35_of m (dats m W 0 c) (A_eq m W c 35) (after0_35 m W c) t d
theorem before0_36 (c : Dev nD) (t : Fin cfg0.N) (d) : (dats m W 0 c).before 36 t d = iblk m c 36 t :=
  before0_36_of m (dats m W 0 c) (A_eq m W c 36) (after0_36 m W c) t d
theorem before0_37 (c : Dev nD) (t : Fin cfg0.N) (d) : (dats m W 0 c).before 37 t d = iblk m c 37 t :=
  before0_37_of m (dats m W 0 c) (A_eq m W c 37) (after0_37 m W c) t d
theorem before0_38 (c : Dev nD) (t : Fin cfg0.N) (d) : (dats m W 0 c).before 38 t d = iblk m c 38 t :=
  before0_38_of m (dats m W 0 c) (A_eq m W c 38) (after0_38 m W c) t d
theorem before0_39 (c : Dev nD) (t : Fin cfg0.N) (d) : (dats m W 0 c).before 39 t d = iblk m c 39 t :=
  before0_39_of m (dats m W 0 c) (A_eq m W c 39) (after0_39 m W c) t d
theorem before0_40 (c : Dev nD) (t : Fin cfg0.N) (d) : (dats m W 0 c).before 40 t d = iblk m c 40 t :=
  before0_40_of m (dats m W 0 c) (A_eq m W c 40) (after0_40 m W c) t d
theorem before0_41 (c : Dev nD) (t : Fin cfg0.N) (d) : (dats m W 0 c).before 41 t d = iblk m c 41 t :=
  before0_41_of m (dats m W 0 c) (A_eq m W c 41) (after0_41 m W c) t d
theorem before0_42 (c : Dev nD) (t : Fin cfg0.N) (d) : (dats m W 0 c).before 42 t d = iblk m c 42 t :=
  before0_42_of m (dats m W 0 c) (A_eq m W c 42) (after0_42 m W c) t d
theorem before0_43 (c : Dev nD) (t : Fin cfg0.N) (d) : (dats m W 0 c).before 43 t d = iblk m c 43 t :=
  before0_43_of m (dats m W 0 c) (A_eq m W c 43) (after0_43 m W c) t d
theorem before0_44 (c : Dev nD) (t : Fin cfg0.N) (d) : (dats m W 0 c).before 44 t d = iblk m c 44 t :=
  before0_44_of m (dats m W 0 c) (A_eq m W c 44) (after0_44 m W c) t d
theorem before0_45 (c : Dev nD) (t : Fin cfg0.N) (d) : (dats m W 0 c).before 45 t d = iblk m c 45 t :=
  before0_45_of m (dats m W 0 c) (A_eq m W c 45) (after0_45 m W c) t d
theorem before0_46 (c : Dev nD) (t : Fin cfg0.N) (d) : (dats m W 0 c).before 46 t d = iblk m c 46 t :=
  before0_46_of m (dats m W 0 c) (A_eq m W c 46) (after0_46 m W c) t d

/-- What the body is called with at a point. -/
def bodyPre (c : Dev nD) (t : Fin cfg0.N) : sProp 𝕄 :=
  iprop((dats m W 0 c).Φ t.castSucc ∗ (dats m W 0 c).owesAt () t.castSucc
    ∗ (∃ d, owns (c : Thread nD τ) (win0_0.stage (cfg0.slots t 0)) fullShare ((dats m W 0 c).before 0 t d))
    ∗ (∃ d, owns (c : Thread nD τ) (win0_1.stage (cfg0.slots t 1)) fullShare ((dats m W 0 c).before 1 t d))
    ∗ (∃ d, owns (c : Thread nD τ) (win0_2.stage (cfg0.slots t 2)) fullShare ((dats m W 0 c).before 2 t d))
    ∗ (∃ d, owns (c : Thread nD τ) (win0_3.stage (cfg0.slots t 3)) fullShare ((dats m W 0 c).before 3 t d))
    ∗ (∃ d, owns (c : Thread nD τ) (win0_4.stage (cfg0.slots t 4)) fullShare ((dats m W 0 c).before 4 t d))
    ∗ (∃ d, owns (c : Thread nD τ) (win0_5.stage (cfg0.slots t 5)) fullShare ((dats m W 0 c).before 5 t d))
    ∗ (∃ d, owns (c : Thread nD τ) (win0_6.stage (cfg0.slots t 6)) fullShare ((dats m W 0 c).before 6 t d))
    ∗ (∃ d, owns (c : Thread nD τ) (win0_7.stage (cfg0.slots t 7)) fullShare ((dats m W 0 c).before 7 t d))
    ∗ (∃ d, owns (c : Thread nD τ) (win0_8.stage (cfg0.slots t 8)) fullShare ((dats m W 0 c).before 8 t d))
    ∗ (∃ d, owns (c : Thread nD τ) (win0_9.stage (cfg0.slots t 9)) fullShare ((dats m W 0 c).before 9 t d))
    ∗ (∃ d, owns (c : Thread nD τ) (win0_10.stage (cfg0.slots t 10)) fullShare ((dats m W 0 c).before 10 t d))
    ∗ (∃ d, owns (c : Thread nD τ) (win0_11.stage (cfg0.slots t 11)) fullShare ((dats m W 0 c).before 11 t d))
    ∗ (∃ d, owns (c : Thread nD τ) (win0_12.stage (cfg0.slots t 12)) fullShare ((dats m W 0 c).before 12 t d))
    ∗ (∃ d, owns (c : Thread nD τ) (win0_13.stage (cfg0.slots t 13)) fullShare ((dats m W 0 c).before 13 t d))
    ∗ (∃ d, owns (c : Thread nD τ) (win0_14.stage (cfg0.slots t 14)) fullShare ((dats m W 0 c).before 14 t d))
    ∗ (∃ d, owns (c : Thread nD τ) (win0_15.stage (cfg0.slots t 15)) fullShare ((dats m W 0 c).before 15 t d))
    ∗ (∃ d, owns (c : Thread nD τ) (win0_16.stage (cfg0.slots t 16)) fullShare ((dats m W 0 c).before 16 t d))
    ∗ (∃ d, owns (c : Thread nD τ) (win0_17.stage (cfg0.slots t 17)) fullShare ((dats m W 0 c).before 17 t d))
    ∗ (∃ d, owns (c : Thread nD τ) (win0_18.stage (cfg0.slots t 18)) fullShare ((dats m W 0 c).before 18 t d))
    ∗ (∃ d, owns (c : Thread nD τ) (win0_19.stage (cfg0.slots t 19)) fullShare ((dats m W 0 c).before 19 t d))
    ∗ (∃ d, owns (c : Thread nD τ) (win0_20.stage (cfg0.slots t 20)) fullShare ((dats m W 0 c).before 20 t d))
    ∗ (∃ d, owns (c : Thread nD τ) (win0_21.stage (cfg0.slots t 21)) fullShare ((dats m W 0 c).before 21 t d))
    ∗ (∃ d, owns (c : Thread nD τ) (win0_22.stage (cfg0.slots t 22)) fullShare ((dats m W 0 c).before 22 t d))
    ∗ (∃ d, owns (c : Thread nD τ) (win0_23.stage (cfg0.slots t 23)) fullShare ((dats m W 0 c).before 23 t d))
    ∗ (∃ d, owns (c : Thread nD τ) (win0_24.stage (cfg0.slots t 24)) fullShare ((dats m W 0 c).before 24 t d))
    ∗ (∃ d, owns (c : Thread nD τ) (win0_25.stage (cfg0.slots t 25)) fullShare ((dats m W 0 c).before 25 t d))
    ∗ (∃ d, owns (c : Thread nD τ) (win0_26.stage (cfg0.slots t 26)) fullShare ((dats m W 0 c).before 26 t d))
    ∗ (∃ d, owns (c : Thread nD τ) (win0_27.stage (cfg0.slots t 27)) fullShare ((dats m W 0 c).before 27 t d))
    ∗ (∃ d, owns (c : Thread nD τ) (win0_28.stage (cfg0.slots t 28)) fullShare ((dats m W 0 c).before 28 t d))
    ∗ (∃ d, owns (c : Thread nD τ) (win0_29.stage (cfg0.slots t 29)) fullShare ((dats m W 0 c).before 29 t d))
    ∗ (∃ d, owns (c : Thread nD τ) (win0_30.stage (cfg0.slots t 30)) fullShare ((dats m W 0 c).before 30 t d))
    ∗ (∃ d, owns (c : Thread nD τ) (win0_31.stage (cfg0.slots t 31)) fullShare ((dats m W 0 c).before 31 t d))
    ∗ (∃ d, owns (c : Thread nD τ) (win0_32.stage (cfg0.slots t 32)) fullShare ((dats m W 0 c).before 32 t d))
    ∗ (∃ d, owns (c : Thread nD τ) (win0_33.stage (cfg0.slots t 33)) fullShare ((dats m W 0 c).before 33 t d))
    ∗ (∃ d, owns (c : Thread nD τ) (win0_34.stage (cfg0.slots t 34)) fullShare ((dats m W 0 c).before 34 t d))
    ∗ (∃ d, owns (c : Thread nD τ) (win0_35.stage (cfg0.slots t 35)) fullShare ((dats m W 0 c).before 35 t d))
    ∗ (∃ d, owns (c : Thread nD τ) (win0_36.stage (cfg0.slots t 36)) fullShare ((dats m W 0 c).before 36 t d))
    ∗ (∃ d, owns (c : Thread nD τ) (win0_37.stage (cfg0.slots t 37)) fullShare ((dats m W 0 c).before 37 t d))
    ∗ (∃ d, owns (c : Thread nD τ) (win0_38.stage (cfg0.slots t 38)) fullShare ((dats m W 0 c).before 38 t d))
    ∗ (∃ d, owns (c : Thread nD τ) (win0_39.stage (cfg0.slots t 39)) fullShare ((dats m W 0 c).before 39 t d))
    ∗ (∃ d, owns (c : Thread nD τ) (win0_40.stage (cfg0.slots t 40)) fullShare ((dats m W 0 c).before 40 t d))
    ∗ (∃ d, owns (c : Thread nD τ) (win0_41.stage (cfg0.slots t 41)) fullShare ((dats m W 0 c).before 41 t d))
    ∗ (∃ d, owns (c : Thread nD τ) (win0_42.stage (cfg0.slots t 42)) fullShare ((dats m W 0 c).before 42 t d))
    ∗ (∃ d, owns (c : Thread nD τ) (win0_43.stage (cfg0.slots t 43)) fullShare ((dats m W 0 c).before 43 t d))
    ∗ (∃ d, owns (c : Thread nD τ) (win0_44.stage (cfg0.slots t 44)) fullShare ((dats m W 0 c).before 44 t d))
    ∗ (∃ d, owns (c : Thread nD τ) (win0_45.stage (cfg0.slots t 45)) fullShare ((dats m W 0 c).before 45 t d))
    ∗ (∃ d, owns (c : Thread nD τ) (win0_46.stage (cfg0.slots t 46)) fullShare ((dats m W 0 c).before 46 t d))
    ∗ (∃ d, owns (c : Thread nD τ) (win0_47.stage (cfg0.slots t 47)) fullShare ((dats m W 0 c).before 47 t d)))

/-- What it returns. -/
def bodyPost (c : Dev nD) (t : Fin cfg0.N) : sProp 𝕄 :=
  iprop((dats m W 0 c).Φ t.succ ∗ (dats m W 0 c).owesAt () t.succ
    ∗ owns (c : Thread nD τ) (win0_0.stage (cfg0.slots t 0)) fullShare ((dats m W 0 c).after 0 t)
    ∗ owns (c : Thread nD τ) (win0_1.stage (cfg0.slots t 1)) fullShare ((dats m W 0 c).after 1 t)
    ∗ owns (c : Thread nD τ) (win0_2.stage (cfg0.slots t 2)) fullShare ((dats m W 0 c).after 2 t)
    ∗ owns (c : Thread nD τ) (win0_3.stage (cfg0.slots t 3)) fullShare ((dats m W 0 c).after 3 t)
    ∗ owns (c : Thread nD τ) (win0_4.stage (cfg0.slots t 4)) fullShare ((dats m W 0 c).after 4 t)
    ∗ owns (c : Thread nD τ) (win0_5.stage (cfg0.slots t 5)) fullShare ((dats m W 0 c).after 5 t)
    ∗ owns (c : Thread nD τ) (win0_6.stage (cfg0.slots t 6)) fullShare ((dats m W 0 c).after 6 t)
    ∗ owns (c : Thread nD τ) (win0_7.stage (cfg0.slots t 7)) fullShare ((dats m W 0 c).after 7 t)
    ∗ owns (c : Thread nD τ) (win0_8.stage (cfg0.slots t 8)) fullShare ((dats m W 0 c).after 8 t)
    ∗ owns (c : Thread nD τ) (win0_9.stage (cfg0.slots t 9)) fullShare ((dats m W 0 c).after 9 t)
    ∗ owns (c : Thread nD τ) (win0_10.stage (cfg0.slots t 10)) fullShare ((dats m W 0 c).after 10 t)
    ∗ owns (c : Thread nD τ) (win0_11.stage (cfg0.slots t 11)) fullShare ((dats m W 0 c).after 11 t)
    ∗ owns (c : Thread nD τ) (win0_12.stage (cfg0.slots t 12)) fullShare ((dats m W 0 c).after 12 t)
    ∗ owns (c : Thread nD τ) (win0_13.stage (cfg0.slots t 13)) fullShare ((dats m W 0 c).after 13 t)
    ∗ owns (c : Thread nD τ) (win0_14.stage (cfg0.slots t 14)) fullShare ((dats m W 0 c).after 14 t)
    ∗ owns (c : Thread nD τ) (win0_15.stage (cfg0.slots t 15)) fullShare ((dats m W 0 c).after 15 t)
    ∗ owns (c : Thread nD τ) (win0_16.stage (cfg0.slots t 16)) fullShare ((dats m W 0 c).after 16 t)
    ∗ owns (c : Thread nD τ) (win0_17.stage (cfg0.slots t 17)) fullShare ((dats m W 0 c).after 17 t)
    ∗ owns (c : Thread nD τ) (win0_18.stage (cfg0.slots t 18)) fullShare ((dats m W 0 c).after 18 t)
    ∗ owns (c : Thread nD τ) (win0_19.stage (cfg0.slots t 19)) fullShare ((dats m W 0 c).after 19 t)
    ∗ owns (c : Thread nD τ) (win0_20.stage (cfg0.slots t 20)) fullShare ((dats m W 0 c).after 20 t)
    ∗ owns (c : Thread nD τ) (win0_21.stage (cfg0.slots t 21)) fullShare ((dats m W 0 c).after 21 t)
    ∗ owns (c : Thread nD τ) (win0_22.stage (cfg0.slots t 22)) fullShare ((dats m W 0 c).after 22 t)
    ∗ owns (c : Thread nD τ) (win0_23.stage (cfg0.slots t 23)) fullShare ((dats m W 0 c).after 23 t)
    ∗ owns (c : Thread nD τ) (win0_24.stage (cfg0.slots t 24)) fullShare ((dats m W 0 c).after 24 t)
    ∗ owns (c : Thread nD τ) (win0_25.stage (cfg0.slots t 25)) fullShare ((dats m W 0 c).after 25 t)
    ∗ owns (c : Thread nD τ) (win0_26.stage (cfg0.slots t 26)) fullShare ((dats m W 0 c).after 26 t)
    ∗ owns (c : Thread nD τ) (win0_27.stage (cfg0.slots t 27)) fullShare ((dats m W 0 c).after 27 t)
    ∗ owns (c : Thread nD τ) (win0_28.stage (cfg0.slots t 28)) fullShare ((dats m W 0 c).after 28 t)
    ∗ owns (c : Thread nD τ) (win0_29.stage (cfg0.slots t 29)) fullShare ((dats m W 0 c).after 29 t)
    ∗ owns (c : Thread nD τ) (win0_30.stage (cfg0.slots t 30)) fullShare ((dats m W 0 c).after 30 t)
    ∗ owns (c : Thread nD τ) (win0_31.stage (cfg0.slots t 31)) fullShare ((dats m W 0 c).after 31 t)
    ∗ owns (c : Thread nD τ) (win0_32.stage (cfg0.slots t 32)) fullShare ((dats m W 0 c).after 32 t)
    ∗ owns (c : Thread nD τ) (win0_33.stage (cfg0.slots t 33)) fullShare ((dats m W 0 c).after 33 t)
    ∗ owns (c : Thread nD τ) (win0_34.stage (cfg0.slots t 34)) fullShare ((dats m W 0 c).after 34 t)
    ∗ owns (c : Thread nD τ) (win0_35.stage (cfg0.slots t 35)) fullShare ((dats m W 0 c).after 35 t)
    ∗ owns (c : Thread nD τ) (win0_36.stage (cfg0.slots t 36)) fullShare ((dats m W 0 c).after 36 t)
    ∗ owns (c : Thread nD τ) (win0_37.stage (cfg0.slots t 37)) fullShare ((dats m W 0 c).after 37 t)
    ∗ owns (c : Thread nD τ) (win0_38.stage (cfg0.slots t 38)) fullShare ((dats m W 0 c).after 38 t)
    ∗ owns (c : Thread nD τ) (win0_39.stage (cfg0.slots t 39)) fullShare ((dats m W 0 c).after 39 t)
    ∗ owns (c : Thread nD τ) (win0_40.stage (cfg0.slots t 40)) fullShare ((dats m W 0 c).after 40 t)
    ∗ owns (c : Thread nD τ) (win0_41.stage (cfg0.slots t 41)) fullShare ((dats m W 0 c).after 41 t)
    ∗ owns (c : Thread nD τ) (win0_42.stage (cfg0.slots t 42)) fullShare ((dats m W 0 c).after 42 t)
    ∗ owns (c : Thread nD τ) (win0_43.stage (cfg0.slots t 43)) fullShare ((dats m W 0 c).after 43 t)
    ∗ owns (c : Thread nD τ) (win0_44.stage (cfg0.slots t 44)) fullShare ((dats m W 0 c).after 44 t)
    ∗ owns (c : Thread nD τ) (win0_45.stage (cfg0.slots t 45)) fullShare ((dats m W 0 c).after 45 t)
    ∗ owns (c : Thread nD τ) (win0_46.stage (cfg0.slots t 46)) fullShare ((dats m W 0 c).after 46 t)
    ∗ owns (c : Thread nD τ) (win0_47.stage (cfg0.slots t 47)) fullShare ((dats m W 0 c).after 47 t))

set_option maxHeartbeats 8000000 in
/-- The body at any point: from what its run writes, whatever the scratch held, meets its obligation. -/
theorem sound_body
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (f),
      (win0_47.stage (cfg0.slots t 47)).view.read (Elt F) ((win0_47.stage (cfg0.slots t 47)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (win0_35.stage (cfg0.slots t 35)) (hstage0_35 ((cfg0.slots t 35).cast nbuf0_35)) (win0_36.stage (cfg0.slots t 36)) (hstage0_36 ((cfg0.slots t 36).cast nbuf0_36)) (win0_37.stage (cfg0.slots t 37)) (hstage0_37 ((cfg0.slots t 37).cast nbuf0_37)) (win0_38.stage (cfg0.slots t 38)) (hstage0_38 ((cfg0.slots t 38).cast nbuf0_38)) (win0_39.stage (cfg0.slots t 39)) (hstage0_39 ((cfg0.slots t 39).cast nbuf0_39)) (win0_40.stage (cfg0.slots t 40)) (hstage0_40 ((cfg0.slots t 40).cast nbuf0_40)) (win0_41.stage (cfg0.slots t 41)) (hstage0_41 ((cfg0.slots t 41).cast nbuf0_41)) (win0_42.stage (cfg0.slots t 42)) (hstage0_42 ((cfg0.slots t 42).cast nbuf0_42)) (win0_43.stage (cfg0.slots t 43)) (hstage0_43 ((cfg0.slots t 43).cast nbuf0_43)) (win0_44.stage (cfg0.slots t 44)) (hstage0_44 ((cfg0.slots t 44).cast nbuf0_44)) (win0_45.stage (cfg0.slots t 45)) (hstage0_45 ((cfg0.slots t 45).cast nbuf0_45)) (win0_46.stage (cfg0.slots t 46)) (hstage0_46 ((cfg0.slots t 46).cast nbuf0_46)) (win0_47.stage (cfg0.slots t 47)) (hstage0_47 ((cfg0.slots t 47).cast nbuf0_47)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) g0 g1 g2 g3).1) = W c t)
    (c : Dev nD) (t : Fin cfg0.N) :
    bodyPre m W c t ⊢ wp frame (wpE (defs₀ (F := F)) Variants.none c none) Set.univ (bodyAt0 t) (fun _ => bodyPost m W c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43, before0_44, before0_45, before0_46]
  rw [show (dats m W 0 c).Φ t.succ = Pipeline.ΦA spec0 c from rfl, show (dats m W 0 c).Φ t.castSucc = Pipeline.ΦA spec0 c from rfl, phi_eq,
    show (dats m W 0 c).owesAt () t.succ = (dats m W 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47]
  iintro ⟨⟨⟨⟨%g0, S0⟩, ⟨%g1, S1⟩, ⟨%g2, S2⟩, ⟨%g3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) g0 g1 g2 g3).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexists _; iexact H47
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, ⟨%e, H47⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  unfold owns; iexists _; isplitr
  swap; · iexact H47
  ipureintro; exact hW c t g0 g1 g2 g3 e

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (f),
      (win0_47.stage (cfg0.slots t 47)).view.read (Elt F) ((win0_47.stage (cfg0.slots t 47)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (win0_35.stage (cfg0.slots t 35)) (hstage0_35 ((cfg0.slots t 35).cast nbuf0_35)) (win0_36.stage (cfg0.slots t 36)) (hstage0_36 ((cfg0.slots t 36).cast nbuf0_36)) (win0_37.stage (cfg0.slots t 37)) (hstage0_37 ((cfg0.slots t 37).cast nbuf0_37)) (win0_38.stage (cfg0.slots t 38)) (hstage0_38 ((cfg0.slots t 38).cast nbuf0_38)) (win0_39.stage (cfg0.slots t 39)) (hstage0_39 ((cfg0.slots t 39).cast nbuf0_39)) (win0_40.stage (cfg0.slots t 40)) (hstage0_40 ((cfg0.slots t 40).cast nbuf0_40)) (win0_41.stage (cfg0.slots t 41)) (hstage0_41 ((cfg0.slots t 41).cast nbuf0_41)) (win0_42.stage (cfg0.slots t 42)) (hstage0_42 ((cfg0.slots t 42).cast nbuf0_42)) (win0_43.stage (cfg0.slots t 43)) (hstage0_43 ((cfg0.slots t 43).cast nbuf0_43)) (win0_44.stage (cfg0.slots t 44)) (hstage0_44 ((cfg0.slots t 44).cast nbuf0_44)) (win0_45.stage (cfg0.slots t 45)) (hstage0_45 ((cfg0.slots t 45).cast nbuf0_45)) (win0_46.stage (cfg0.slots t 46)) (hstage0_46 ((cfg0.slots t 46).cast nbuf0_46)) (win0_47.stage (cfg0.slots t 47)) (hstage0_47 ((cfg0.slots t 47).cast nbuf0_47)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) g0 g1 g2 g3).1) = W c t)
    (c : Dev nD) : BodyObligation (dats (F := F) m W 0 c) (defs₀ (F := F)) Variants.none () Set.univ := fun t => by
  rw [bigSep_W0, bigSep_W0, defs₀_row]
  exact triple_restated (sound_body m W hW c t) rfl .rfl fun _ => .rfl

set_option maxHeartbeats 4000000 in
set_option backward.isDefEq.respectTransparency.types false in
/-- The run of the main function, to what the pipeline leaves, with every semaphore at zero. -/
theorem run_main
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (f),
      (win0_47.stage (cfg0.slots t 47)).view.read (Elt F) ((win0_47.stage (cfg0.slots t 47)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (win0_35.stage (cfg0.slots t 35)) (hstage0_35 ((cfg0.slots t 35).cast nbuf0_35)) (win0_36.stage (cfg0.slots t 36)) (hstage0_36 ((cfg0.slots t 36).cast nbuf0_36)) (win0_37.stage (cfg0.slots t 37)) (hstage0_37 ((cfg0.slots t 37).cast nbuf0_37)) (win0_38.stage (cfg0.slots t 38)) (hstage0_38 ((cfg0.slots t 38).cast nbuf0_38)) (win0_39.stage (cfg0.slots t 39)) (hstage0_39 ((cfg0.slots t 39).cast nbuf0_39)) (win0_40.stage (cfg0.slots t 40)) (hstage0_40 ((cfg0.slots t 40).cast nbuf0_40)) (win0_41.stage (cfg0.slots t 41)) (hstage0_41 ((cfg0.slots t 41).cast nbuf0_41)) (win0_42.stage (cfg0.slots t 42)) (hstage0_42 ((cfg0.slots t 42).cast nbuf0_42)) (win0_43.stage (cfg0.slots t 43)) (hstage0_43 ((cfg0.slots t 43).cast nbuf0_43)) (win0_44.stage (cfg0.slots t 44)) (hstage0_44 ((cfg0.slots t 44).cast nbuf0_44)) (win0_45.stage (cfg0.slots t 45)) (hstage0_45 ((cfg0.slots t 45).cast nbuf0_45)) (win0_46.stage (cfg0.slots t 46)) (hstage0_46 ((cfg0.slots t 46).cast nbuf0_46)) (win0_47.stage (cfg0.slots t 47)) (hstage0_47 ((cfg0.slots t 47).cast nbuf0_47)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) g0 g1 g2 g3).1) = W c t)
    : θ_run defs (onTc (τ := τ) (main (F := F))) (s₀ m ρ) (fun r => (Pipeline.FramePost cfgs (dats m W) 0 (V m)) r ∧ r.2.sem = fun _ => 0) :=
  Pipeline.θ_run_frame_shared (Q' := _) cfgs (dats m W) (0 : Fin 1) launch₀0 defs₀ Variants.none m ρ main
    (hbody := fun c => (body_obligation m W hW c).loose) (hq := fun _ _ _ => rfl)
    (howed := fun _ _ => rfl) (V := V m) (hmain := hmain m Variants.none) (hA := A_eq m W) (hΦ := fun _ _ => rfl)

set_option maxHeartbeats 4000000 in
/-- The arguments end unchanged, and every semaphore at zero. -/
theorem frame
    (hW : ∀ (c : Dev nD) (t : Fin cfg0.N) (g0 : Buf (Elt F) ((Memref.whole cc0_scratch0).view.loc (c : Thread nD τ))) (g1 : Buf (Elt F) ((Memref.whole cc0_scratch1).view.loc (c : Thread nD τ))) (g2 : Buf (Elt F) ((Memref.whole cc0_scratch2).view.loc (c : Thread nD τ))) (g3 : Buf (Elt F) ((Memref.whole cc0_scratch3).view.loc (c : Thread nD τ))) (f),
      (win0_47.stage (cfg0.slots t 47)).view.read (Elt F) ((win0_47.stage (cfg0.slots t 47)).view.writes (Elt F) f
        (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (win0_31.stage (cfg0.slots t 31)) (hstage0_31 ((cfg0.slots t 31).cast nbuf0_31)) (win0_32.stage (cfg0.slots t 32)) (hstage0_32 ((cfg0.slots t 32).cast nbuf0_32)) (win0_33.stage (cfg0.slots t 33)) (hstage0_33 ((cfg0.slots t 33).cast nbuf0_33)) (win0_34.stage (cfg0.slots t 34)) (hstage0_34 ((cfg0.slots t 34).cast nbuf0_34)) (win0_35.stage (cfg0.slots t 35)) (hstage0_35 ((cfg0.slots t 35).cast nbuf0_35)) (win0_36.stage (cfg0.slots t 36)) (hstage0_36 ((cfg0.slots t 36).cast nbuf0_36)) (win0_37.stage (cfg0.slots t 37)) (hstage0_37 ((cfg0.slots t 37).cast nbuf0_37)) (win0_38.stage (cfg0.slots t 38)) (hstage0_38 ((cfg0.slots t 38).cast nbuf0_38)) (win0_39.stage (cfg0.slots t 39)) (hstage0_39 ((cfg0.slots t 39).cast nbuf0_39)) (win0_40.stage (cfg0.slots t 40)) (hstage0_40 ((cfg0.slots t 40).cast nbuf0_40)) (win0_41.stage (cfg0.slots t 41)) (hstage0_41 ((cfg0.slots t 41).cast nbuf0_41)) (win0_42.stage (cfg0.slots t 42)) (hstage0_42 ((cfg0.slots t 42).cast nbuf0_42)) (win0_43.stage (cfg0.slots t 43)) (hstage0_43 ((cfg0.slots t 43).cast nbuf0_43)) (win0_44.stage (cfg0.slots t 44)) (hstage0_44 ((cfg0.slots t 44).cast nbuf0_44)) (win0_45.stage (cfg0.slots t 45)) (hstage0_45 ((cfg0.slots t 45).cast nbuf0_45)) (win0_46.stage (cfg0.slots t 46)) (hstage0_46 ((cfg0.slots t 46).cast nbuf0_46)) (win0_47.stage (cfg0.slots t 47)) (hstage0_47 ((cfg0.slots t 47).cast nbuf0_47)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) g0 g1 g2 g3).1) = W c t)
    : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m W) (A_eq m W) ((θ_run defs _ _).mono (fun _ h => h.1) (run_main m ρ W hW)))
    ((θ_run defs _ _).mono (fun _ h => h.2) (run_main m ρ W hW))

end Cert.DecIdeal.Hand

end
-- ==== Proof.DecEq.lean ====
/- The decoder's run: its output array is the composition of transposed convolutions, at every batch entry. -/
module

public import proofs.«01_k».proof.Proof.DecLeft
public import proofs.«01_k».proof.Proof.DecIdealFrame
public import Idealize.ShloMosaic.Lib.Pipeline.ValueKit.Geometry

@[expose] public section

set_option maxRecDepth 16384
set_option maxHeartbeats 4000000

noncomputable section

namespace Cert.DecIdeal.Hand

open Cert.DecIdeal.Gen
open Idealize.ShloMosaic Idealize.ShloMosaic.TcCoe Idealize.SL.Sem PhaseConv
open Idealize.ShloMosaic.Pipeline (Dat)

variable (m : (ℓ : Loc nD τ sig) → Buf (Elt Ideal) ℓ) (ρ : Dev nD → PrngReg)

/-- The output array after the run. -/
theorem arr_out (c : Dev nD) : (dats m (decBlk m) 0 c).arrAt 47 cfg0.N = decOut m c := by
  refine (dats m (decBlk m) 0 c).arrAt_eq_of_covers 47 (decOut m c) (by decide +kernel) (fun t hf y => ?_)
  blk_simp
  show decSpec (a0 m c) (a1 m c) (a2 m c) (a3 m c) (a4 m c) (a5 m c) (a6 m c) (a7 m c) (a8 m c) (a9 m c) (a10 m c) t.val ((y 1).val % 2) ((8 * (y 2).val + (y 1).val / 2 : ℕ) : ℤ) = decSpec (a0 m c) (a1 m c) (a2 m c) (a3 m c) (a4 m c) (a5 m c) (a6 m c) (a7 m c) (a8 m c) (a9 m c) (a10 m c)
    ((cfg0.win 47).index t 0 * 1 + 1 * (y 0).val) ((0 * 16 + 1 * (y 1).val) % 2) ((8 * (0 * 2048 + 1 * (y 2).val) + (0 * 16 + 1 * (y 1).val) / 2 : ℕ) : ℤ)
  have h0 : (y 0).val < 1 := (y 0).isLt
  rw [index47, show t.val * 1 + 1 * (y 0).val = t.val by omega, show 0 * 16 + 1 * (y 1).val = (y 1).val by omega, show 0 * 2048 + 1 * (y 2).val = (y 2).val by omega]

/-- The decoder's run ends with the output array above and the arguments unchanged. -/
theorem run_dec : θ_run defs (onTc (τ := τ) (main (F := Ideal))) ⟨m, fun _ => 0, ρ⟩ fun r => (∀ c : Dev nD,
      r.2.mem ((c.tc : Thread nD τ).loc main_v75) = decOut m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0 :=
  θ_run_and ((θ_run defs _ _).mono (fun r h c => (h.1 c |>.1 47).trans (arr_out m c)) (run_main m ρ (decBlk m) (left m)))
    (frame m ρ (decBlk m) (left m))

end Cert.DecIdeal.Hand

end
-- ==== Proof.RefDecVal.lean ====
/- The decoder's reference, read as the composition of transposed convolutions. -/
module

public import proofs.«01_k».proof.Proof.Gen.RefDecIdeal.Read
public import proofs.«01_k».proof.Proof.RefLayer
public import proofs.«01_k».proof.Proof.DecSpec

@[expose] public section

set_option maxRecDepth 16384
set_option maxHeartbeats 2000000

noncomputable section

namespace Cert.RefDecIdeal.Hand

open Cert.RefDecIdeal Cert.RefDecIdeal.Gen Cert.RefDecIdeal.Read Idealize.ShloMosaic Idealize.ShloMosaic.ValueIdx PhaseConv

/-- A channel-first signal's positions dealt to `n` phases: reshape, transpose, reshape. -/
theorem is3_deal {a c n s : ℕ} {x : (B3 c a (s * n)).Idx → EReal} {A : ℕ → ℕ → ℕ → EReal} (hx : Is3 x A)
    (h1 : (B3 c a (s * n)).ShapeCasts ⟨4, ![c, a, s, n]⟩) (ht : (⟨4, ![c, a, s, n]⟩ : Shape).Transposes [1, 3, 0, 2] ⟨4, ![a, n, c, s]⟩)
    (h2 : (⟨4, ![a, n, c, s]⟩ : Shape).ShapeCasts (B3 a (n * c) s)) (hc : 0 < c) :
    Is3 (shapeCast (B3 a (n * c) s) (transpose ⟨4, ![a, n, c, s]⟩ [1, 3, 0, 2] (shapeCast ⟨4, ![c, a, s, n]⟩ x h1) ht) h2)
      (fun b r j => A (r % c) b (n * j + r / c)) := fun i => by
  have b0 : (i 0).val < a := (i 0).isLt
  have b1 : (i 1).val < n * c := (i 1).isLt
  have b2 : (i 2).val < s := (i 2).isLt
  have hd : (i 1).val / c < n := Nat.div_lt_of_lt_mul (b1.trans_eq (Nat.mul_comm n c))
  have hm : (i 1).val % c < c := Nat.mod_lt _ hc
  have hj : (i 2).val * n + (i 1).val / c < s * n := by
    calc (i 2).val * n + (i 1).val / c < (i 2).val * n + n := by omega
      _ = ((i 2).val + 1) * n := by ring
      _ ≤ s * n := Nat.mul_le_mul_right _ b2
  refine (shapeCast_apply _ h2 i (ix4 ⟨_, b0⟩ ⟨_, hd⟩ ⟨_, hm⟩ ⟨_, b2⟩) ?_).trans ((transpose_apply [1, 3, 0, 2] _ ht _
    (ix4 ⟨_, hm⟩ ⟨_, b0⟩ ⟨_, b2⟩ ⟨_, hd⟩) fun d => ?_).trans ((shapeCast_apply x h1 _ (ix3 ⟨_, hm⟩ ⟨_, b0⟩ ⟨_, hj⟩) ?_).trans ((hx _).trans ?_)))
  · rw [Shape.rowMajor_val_three, Shape.rowMajor_val_four]
    show (((i 0).val * n + (i 1).val / c) * c + (i 1).val % c) * s + (i 2).val = ((i 0).val * (n * c) + (i 1).val) * s + (i 2).val
    have := Nat.div_add_mod (i 1).val c
    conv_rhs => rw [← this]
    ring
  · match d with
    | ⟨0, _⟩ => rfl
    | ⟨1, _⟩ => rfl
    | ⟨2, _⟩ => rfl
    | ⟨3, _⟩ => rfl
  · rw [Shape.rowMajor_val_three, Shape.rowMajor_val_four]
    show ((i 1).val % c * a + (i 0).val) * (s * n) + ((i 2).val * n + (i 1).val / c) = (((i 1).val % c * a + (i 0).val) * s + (i 2).val) * n + (i 1).val / c
    ring
  · exact congrArg (A _ _) (congrArg (· + (i 1).val / c) (Nat.mul_comm (i 2).val n))

variable (x0 : S8x64x2048.Idx → EReal) (x1 : S64x256x1.Idx → EReal) (x2 : S256.Idx → EReal) (x3 : S256x256x3.Idx → EReal) (x4 : S256.Idx → EReal) (x5 : S256x256x4.Idx → EReal) (x6 : S256.Idx → EReal) (x7 : S256x128x4.Idx → EReal) (x8 : S128.Idx → EReal) (x9 : S128x2x4.Idx → EReal) (x10 : S2.Idx → EReal)

/-- The input, padded by nothing. -/
theorem ref_in : Is3 (val_main_v1 (F := Ideal) x0) (fun i j s => (cut 2048 fun ch z => of3 x0 j ch z.toNat) i ((s : ℤ) - (0 : ℕ))) :=
  is3_pad1 (X := fun j => fun ch z => of3 x0 j ch z.toNat) (is3_swap (is3_of x0) _) _ _ _ fun _ => Ideal.ofBits_zero_f32

/-- The first layer. -/
theorem ref1 : Is3 (val_main_v6 (F := Ideal) x0 x1 x2) (fun o j s => layer 2048 64 1 1 0 (flip 1 (of3 x1)) (of1 x2) (cut 2048 fun ch z => of3 x0 j ch z.toNat) o (s : ℤ)) :=
  is3_layer (is3_conv (w := flip 1 (of3 x1)) (is3_first (is3_dotT (is2_drop3 (is3_of x1) _) (is3_win0 (ref_in x0)) (val_main_v3_apply x0 x1) (fun _ _ => ⟨rfl, rfl⟩) (fun _ _ => ⟨rfl, rfl, rfl⟩)))
    (is3_bias (is1_of x2) _)) (fun _ => rfl) (fun _ => rfl)

/-- The first layer, padded. -/
theorem pad1 : Is3 (val_main_v7 (F := Ideal) x0 x1 x2) (fun o j s => layer 2048 64 1 1 0 (flip 1 (of3 x1)) (of1 x2) (cut 2048 fun ch z => of3 x0 j ch z.toNat) o ((s : ℤ) - (1 : ℕ))) :=
  is3_padL (ref1 x0 x1 x2) _ _ _ fun _ => Ideal.ofBits_zero_f32

/-- The second layer. -/
theorem ref2 : Is3 (val_main_v24 (F := Ideal) x0 x1 x2 x3 x4) (fun o j s => layer 2048 256 3 1 1 (flip 3 (of3 x3)) (of1 x4) (layer 2048 64 1 1 0 (flip 1 (of3 x1)) (of1 x2) (cut 2048 fun ch z => of3 x0 j ch z.toNat)) o (s : ℤ)) :=
  is3_layer (is3_conv (w := flip 3 (of3 x3)) (is3_more (is3_more (is3_first (is3_dotT (is2_last (is3_of x3) 2 _ _) (is3_win1 (pad1 x0 x1 x2) 0 _) (val_main_v15_apply x0 x1 x2 x3) (fun _ _ => ⟨rfl, rfl⟩) (fun _ _ => ⟨rfl, rfl, rfl⟩)))
    (is3_dotT (is2_last (is3_of x3) 1 _ _) (is3_win1 (pad1 x0 x1 x2) 1 _) (val_main_v17_apply x0 x1 x2 x3) (fun _ _ => ⟨rfl, rfl⟩) (fun _ _ => ⟨rfl, rfl, rfl⟩)))
    (is3_dotT (is2_last (is3_of x3) 0 _ _) (is3_win1 (pad1 x0 x1 x2) 2 _) (val_main_v19_apply x0 x1 x2 x3) (fun _ _ => ⟨rfl, rfl⟩) (fun _ _ => ⟨rfl, rfl, rfl⟩)))
    (is3_bias (is1_of x4) _)) (fun _ => rfl) (fun _ => rfl)

/-- The second layer, padded and spread. -/
theorem pad2 : Is3 (val_main_v25 (F := Ideal) x0 x1 x2 x3 x4) (fun o j s => dil (layer 2048 256 3 1 1 (flip 3 (of3 x3)) (of1 x4) (layer 2048 64 1 1 0 (flip 1 (of3 x1)) (of1 x2) (cut 2048 fun ch z => of3 x0 j ch z.toNat))) o ((s : ℤ) - (2 : ℕ))) :=
  is3_padD (ref2 x0 x1 x2 x3 x4) _ _ _ fun _ => Ideal.ofBits_zero_f32

/-- The third layer. -/
theorem ref3 : Is3 (val_main_v47 (F := Ideal) x0 x1 x2 x3 x4 x5 x6) (fun o j s => layer 4096 256 4 1 2 (flip 4 (of3 x5)) (of1 x6) (dil (layer 2048 256 3 1 1 (flip 3 (of3 x3)) (of1 x4) (layer 2048 64 1 1 0 (flip 1 (of3 x1)) (of1 x2) (cut 2048 fun ch z => of3 x0 j ch z.toNat)))) o (s : ℤ)) :=
  is3_layer (is3_conv (w := flip 4 (of3 x5)) (is3_more (is3_more (is3_more (is3_first (is3_dotT (is2_last (is3_of x5) 3 _ _) (is3_win1 (pad2 x0 x1 x2 x3 x4) 0 _) (val_main_v35_apply x0 x1 x2 x3 x4 x5) (fun _ _ => ⟨rfl, rfl⟩) (fun _ _ => ⟨rfl, rfl, rfl⟩)))
    (is3_dotT (is2_last (is3_of x5) 2 _ _) (is3_win1 (pad2 x0 x1 x2 x3 x4) 1 _) (val_main_v37_apply x0 x1 x2 x3 x4 x5) (fun _ _ => ⟨rfl, rfl⟩) (fun _ _ => ⟨rfl, rfl, rfl⟩)))
    (is3_dotT (is2_last (is3_of x5) 1 _ _) (is3_win1 (pad2 x0 x1 x2 x3 x4) 2 _) (val_main_v39_apply x0 x1 x2 x3 x4 x5) (fun _ _ => ⟨rfl, rfl⟩) (fun _ _ => ⟨rfl, rfl, rfl⟩)))
    (is3_dotT (is2_last (is3_of x5) 0 _ _) (is3_win1 (pad2 x0 x1 x2 x3 x4) 3 _) (val_main_v41_apply x0 x1 x2 x3 x4 x5) (fun _ _ => ⟨rfl, rfl⟩) (fun _ _ => ⟨rfl, rfl, rfl⟩)))
    (is3_bias (is1_of x6) _)) (fun _ => rfl) (fun _ => rfl)

/-- The third layer, padded and spread. -/
theorem pad3 : Is3 (val_main_v48 (F := Ideal) x0 x1 x2 x3 x4 x5 x6) (fun o j s => dil (layer 4096 256 4 1 2 (flip 4 (of3 x5)) (of1 x6) (dil (layer 2048 256 3 1 1 (flip 3 (of3 x3)) (of1 x4) (layer 2048 64 1 1 0 (flip 1 (of3 x1)) (of1 x2) (cut 2048 fun ch z => of3 x0 j ch z.toNat))))) o ((s : ℤ) - (2 : ℕ))) :=
  is3_padD (ref3 x0 x1 x2 x3 x4 x5 x6) _ _ _ fun _ => Ideal.ofBits_zero_f32

/-- The fourth layer. -/
theorem ref4 : Is3 (val_main_v70 (F := Ideal) x0 x1 x2 x3 x4 x5 x6 x7 x8) (fun o j s => layer 8192 256 4 1 2 (flip 4 (of3 x7)) (of1 x8) (dil (layer 4096 256 4 1 2 (flip 4 (of3 x5)) (of1 x6) (dil (layer 2048 256 3 1 1 (flip 3 (of3 x3)) (of1 x4) (layer 2048 64 1 1 0 (flip 1 (of3 x1)) (of1 x2) (cut 2048 fun ch z => of3 x0 j ch z.toNat)))))) o (s : ℤ)) :=
  is3_layer (is3_conv (w := flip 4 (of3 x7)) (is3_more (is3_more (is3_more (is3_first (is3_dotT (is2_last (is3_of x7) 3 _ _) (is3_win1 (pad3 x0 x1 x2 x3 x4 x5 x6) 0 _) (val_main_v58_apply x0 x1 x2 x3 x4 x5 x6 x7) (fun _ _ => ⟨rfl, rfl⟩) (fun _ _ => ⟨rfl, rfl, rfl⟩)))
    (is3_dotT (is2_last (is3_of x7) 2 _ _) (is3_win1 (pad3 x0 x1 x2 x3 x4 x5 x6) 1 _) (val_main_v60_apply x0 x1 x2 x3 x4 x5 x6 x7) (fun _ _ => ⟨rfl, rfl⟩) (fun _ _ => ⟨rfl, rfl, rfl⟩)))
    (is3_dotT (is2_last (is3_of x7) 1 _ _) (is3_win1 (pad3 x0 x1 x2 x3 x4 x5 x6) 2 _) (val_main_v62_apply x0 x1 x2 x3 x4 x5 x6 x7) (fun _ _ => ⟨rfl, rfl⟩) (fun _ _ => ⟨rfl, rfl, rfl⟩)))
    (is3_dotT (is2_last (is3_of x7) 0 _ _) (is3_win1 (pad3 x0 x1 x2 x3 x4 x5 x6) 3 _) (val_main_v64_apply x0 x1 x2 x3 x4 x5 x6 x7) (fun _ _ => ⟨rfl, rfl⟩) (fun _ _ => ⟨rfl, rfl, rfl⟩)))
    (is3_bias (is1_of x8) _)) (fun _ => rfl) (fun _ => rfl)

/-- The fourth layer, padded and spread. -/
theorem pad4 : Is3 (val_main_v71 (F := Ideal) x0 x1 x2 x3 x4 x5 x6 x7 x8) (fun o j s => dil (layer 8192 256 4 1 2 (flip 4 (of3 x7)) (of1 x8) (dil (layer 4096 256 4 1 2 (flip 4 (of3 x5)) (of1 x6) (dil (layer 2048 256 3 1 1 (flip 3 (of3 x3)) (of1 x4) (layer 2048 64 1 1 0 (flip 1 (of3 x1)) (of1 x2) (cut 2048 fun ch z => of3 x0 j ch z.toNat))))))) o ((s : ℤ) - (2 : ℕ))) :=
  is3_padD (ref4 x0 x1 x2 x3 x4 x5 x6 x7 x8) _ _ _ fun _ => Ideal.ofBits_zero_f32

/-- The reference's result is the decoder, its positions dealt to eight phases. -/
theorem ref_dec : Is3 (val_main_v95 (F := Ideal) x0 x1 x2 x3 x4 x5 x6 x7 x8 x9 x10) (fun b r j => decSpec (of3 x0) (of3 x1) (of1 x2) (of3 x3) (of1 x4) (of3 x5) (of1 x6) (of3 x7) (of1 x8) (of3 x9) (of1 x10) b (r % 2) ((8 * j + r / 2 : ℕ) : ℤ)) :=
  is3_deal (a := 8) (c := 2) (n := 8) (s := 2048) (A := fun o b s => decSpec (of3 x0) (of3 x1) (of1 x2) (of3 x3) (of1 x4) (of3 x5) (of1 x6) (of3 x7) (of1 x8) (of3 x9) (of1 x10) b o (s : ℤ))
    (is3_conv (w := flip 4 (of3 x9)) (is3_more (is3_more (is3_more (is3_first (is3_dotT (is2_last (is3_of x9) 3 _ _) (is3_win1 (pad4 x0 x1 x2 x3 x4 x5 x6 x7 x8) 0 _) (val_main_v81_apply x0 x1 x2 x3 x4 x5 x6 x7 x8 x9) (fun _ _ => ⟨rfl, rfl⟩) (fun _ _ => ⟨rfl, rfl, rfl⟩)))
    (is3_dotT (is2_last (is3_of x9) 2 _ _) (is3_win1 (pad4 x0 x1 x2 x3 x4 x5 x6 x7 x8) 1 _) (val_main_v83_apply x0 x1 x2 x3 x4 x5 x6 x7 x8 x9) (fun _ _ => ⟨rfl, rfl⟩) (fun _ _ => ⟨rfl, rfl, rfl⟩)))
    (is3_dotT (is2_last (is3_of x9) 1 _ _) (is3_win1 (pad4 x0 x1 x2 x3 x4 x5 x6 x7 x8) 2 _) (val_main_v85_apply x0 x1 x2 x3 x4 x5 x6 x7 x8 x9) (fun _ _ => ⟨rfl, rfl⟩) (fun _ _ => ⟨rfl, rfl, rfl⟩)))
    (is3_dotT (is2_last (is3_of x9) 0 _ _) (is3_win1 (pad4 x0 x1 x2 x3 x4 x5 x6 x7 x8) 3 _) (val_main_v87_apply x0 x1 x2 x3 x4 x5 x6 x7 x8 x9) (fun _ _ => ⟨rfl, rfl⟩) (fun _ _ => ⟨rfl, rfl, rfl⟩)))
    (is3_bias (is1_of x10) _)) _ _ _ (by decide)

end Cert.RefDecIdeal.Hand

end
-- ==== Proof.DecAlg.lean ====
/- The claims about the decoder: its run is the reference's. -/
module

public import proofs.«01_k».proof.Defs
public import proofs.«01_k».proof.Proof.DecEq
public import proofs.«01_k».proof.Proof.RefDecVal

@[expose] public section

set_option maxRecDepth 16384
set_option maxHeartbeats 4000000

noncomputable section

namespace Cert.DecIdeal.Hand

open Cert.DecIdeal.Gen
open Idealize.ShloMosaic Idealize.ShloMosaic.TcCoe Idealize.SL.Sem PhaseConv

/-- The decoder of equal arguments. -/
theorem spec_congr {x0 : ℕ → ℕ → ℕ → EReal} {x1 : ℕ → ℕ → ℕ → EReal} {x2 : ℕ → EReal} {x3 : ℕ → ℕ → ℕ → EReal} {x4 : ℕ → EReal} {x5 : ℕ → ℕ → ℕ → EReal} {x6 : ℕ → EReal} {x7 : ℕ → ℕ → ℕ → EReal} {x8 : ℕ → EReal} {x9 : ℕ → ℕ → ℕ → EReal} {x10 : ℕ → EReal} {y0 : ℕ → ℕ → ℕ → EReal} {y1 : ℕ → ℕ → ℕ → EReal} {y2 : ℕ → EReal} {y3 : ℕ → ℕ → ℕ → EReal} {y4 : ℕ → EReal} {y5 : ℕ → ℕ → ℕ → EReal} {y6 : ℕ → EReal} {y7 : ℕ → ℕ → ℕ → EReal} {y8 : ℕ → EReal} {y9 : ℕ → ℕ → ℕ → EReal} {y10 : ℕ → EReal}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (b o : ℕ) (s : ℤ) :
    decSpec x0 x1 x2 x3 x4 x5 x6 x7 x8 x9 x10 b o s = decSpec y0 y1 y2 y3 y4 y5 y6 y7 y8 y9 y10 b o s := by
  rw [e0, e1, e2, e3, e4, e5, e6, e7, e8, e9, e10]

/-- The decoder leaves its arguments and semaphores as they were. -/
theorem quiescent : quiescent_DecIdeal := fun m g _ => frame m g (decBlk m) (left m)

/-- The decoder's result is its reference's. -/
theorem algebraic : algebraic_DecIdeal_RefDecIdeal := fun m g m' g' _ hargs =>
  ⟨decOut m, (θ_run _ _ _).mono (fun r h c => ⟨h.1 c, h.2.1 c⟩) (run_dec m g), (θ_run _ _ _).mono (fun r h c => by
    obtain ⟨e0, e1, e2, e3, e4, e5, e6, e7, e8, e9, e10⟩ := hargs c
    refine ⟨(h c).1.trans ((Cert.RefDecIdeal.Read.val_main_v95_eq (StableHlo.launchContents m' c)).trans (funext fun i =>
      (Cert.RefDecIdeal.Hand.ref_dec _ _ _ _ _ _ _ _ _ _ _  i).trans ?_)), (h c).2⟩
    exact spec_congr (congrArg (fun x : S8x64x2048.Idx → EReal => of3 x) e0) (congrArg (fun x : S64x256x1.Idx → EReal => of3 x) e1) (congrArg (fun x : S256.Idx → EReal => of1 x) e2) (congrArg (fun x : S256x256x3.Idx → EReal => of3 x) e3) (congrArg (fun x : S256.Idx → EReal => of1 x) e4) (congrArg (fun x : S256x256x4.Idx → EReal => of3 x) e5) (congrArg (fun x : S256.Idx → EReal => of1 x) e6) (congrArg (fun x : S256x128x4.Idx → EReal => of3 x) e7) (congrArg (fun x : S128.Idx → EReal => of1 x) e8) (congrArg (fun x : S128x2x4.Idx → EReal => of3 x) e9) (congrArg (fun x : S2.Idx → EReal => of1 x) e10) _ _ _) (Cert.RefDecIdeal.Value.run m' g')⟩

end Cert.DecIdeal.Hand

end
-- ==== Proof.DecFrame.lean ====
/- The launch of the program: the proof data of its pipeline, the obligation of its body, and the runs of its main function. -/
module

public import proofs.«01_k».proof.Proof.DecBody
public import proofs.«01_k».proof.Proof.Gen.Dec.Launch
public import Idealize.ShloMosaic.Lib.Claim
public import proofs.«01_k».proof.Proof.Gen.Dec.Points

@[expose] public section

set_option maxRecDepth 16384

noncomputable section

namespace Cert.Dec.Hand

open Cert.Dec.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The invariant between points: the scratch at some contents, and the generator's register. -/
theorem phi_eq (c : Dev nD) : (Pipeline.ΦA spec0 c : sProp 𝕄)
    = iprop(iprop((∃ f, (Memref.whole cc0_scratch0).view.loc (c : Thread nD τ) ↦[(Memref.whole cc0_scratch0).view.set]{fullShare} f)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f)
    ∗ (∃ f, (Memref.whole cc0_scratch3).view.loc (c : Thread nD τ) ↦[(Memref.whole cc0_scratch3).view.set]{fullShare} f)) ∗ (∃ r, prngReg c r)) := by
  unfold Pipeline.ΦA; rw [scopedRest0_eq]
  rw [show (Memref.whole cc0_scratch0).view.set = Finset.univ from View.set_whole cc0_scratch0]; rw [show (Memref.whole cc0_scratch1).view.set = Finset.univ from View.set_whole cc0_scratch1]; rw [show (Memref.whole cc0_scratch2).view.set = Finset.univ from View.set_whole cc0_scratch2]; rw [show (Memref.whole cc0_scratch3).view.set = Finset.univ from View.set_whole cc0_scratch3]
  try rfl

/-- The output window: what it is left at is not named here. -/
def forgets0 : Fin 48 → Bool := fun w => w.val == 47

/-- The proof data of the pipeline on core `c`: the arrays as the region finds them, every input's buffer left at its
    block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, h⟩ => Pipeline.Dat.unnamed (cfg := cfg0) ⟨47, h⟩ t
    | ⟨k + 48, h⟩ => absurd h (Nat.not_lt.mpr (Nat.le_add_left 48 k))
  Φ _ := Pipeline.ΦA spec0 c
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = iblk m c 41 t := by dsimp only [dats]
theorem after0_42 (c : Dev nD) (t : Fin cfg0.N) : (dats m 0 c).after 42 t = iblk m c 42 t := by dsimp only [dats]
theorem after0_43 (c : Dev nD) (t : Fin cfg0.N) : (dats m 0 c).after 43 t = iblk m c 43 t := by dsimp only [dats]
theorem after0_44 (c : Dev nD) (t : Fin cfg0.N) : (dats m 0 c).after 44 t = iblk m c 44 t := by dsimp only [dats]
theorem after0_45 (c : Dev nD) (t : Fin cfg0.N) : (dats m 0 c).after 45 t = iblk m c 45 t := by dsimp only [dats]
theorem after0_46 (c : Dev nD) (t : Fin cfg0.N) : (dats m 0 c).after 46 t = iblk m c 46 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d
theorem before0_37 (c : Dev nD) (t : Fin cfg0.N) (d) : (dats m 0 c).before 37 t d = iblk m c 37 t :=
  before0_37_of m (dats m 0 c) (A_eq m c 37) (after0_37 m c) t d
theorem before0_38 (c : Dev nD) (t : Fin cfg0.N) (d) : (dats m 0 c).before 38 t d = iblk m c 38 t :=
  before0_38_of m (dats m 0 c) (A_eq m c 38) (after0_38 m c) t d
theorem before0_39 (c : Dev nD) (t : Fin cfg0.N) (d) : (dats m 0 c).before 39 t d = iblk m c 39 t :=
  before0_39_of m (dats m 0 c) (A_eq m c 39) (after0_39 m c) t d
theorem before0_40 (c : Dev nD) (t : Fin cfg0.N) (d) : (dats m 0 c).before 40 t d = iblk m c 40 t :=
  before0_40_of m (dats m 0 c) (A_eq m c 40) (after0_40 m c) t d
theorem before0_41 (c : Dev nD) (t : Fin cfg0.N) (d) : (dats m 0 c).before 41 t d = iblk m c 41 t :=
  before0_41_of m (dats m 0 c) (A_eq m c 41) (after0_41 m c) t d
theorem before0_42 (c : Dev nD) (t : Fin cfg0.N) (d) : (dats m 0 c).before 42 t d = iblk m c 42 t :=
  before0_42_of m (dats m 0 c) (A_eq m c 42) (after0_42 m c) t d
theorem before0_43 (c : Dev nD) (t : Fin cfg0.N) (d) : (dats m 0 c).before 43 t d = iblk m c 43 t :=
  before0_43_of m (dats m 0 c) (A_eq m c 43) (after0_43 m c) t d
theorem before0_44 (c : Dev nD) (t : Fin cfg0.N) (d) : (dats m 0 c).before 44 t d = iblk m c 44 t :=
  before0_44_of m (dats m 0 c) (A_eq m c 44) (after0_44 m c) t d
theorem before0_45 (c : Dev nD) (t : Fin cfg0.N) (d) : (dats m 0 c).before 45 t d = iblk m c 45 t :=
  before0_45_of m (dats m 0 c) (A_eq m c 45) (after0_45 m c) t d
theorem before0_46 (c : Dev nD) (t : Fin cfg0.N) (d) : (dats m 0 c).before 46 t d = iblk m c 46 t :=
  before0_46_of m (dats m 0 c) (A_eq m c 46) (after0_46 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d))
    ∗ (∃ d, owns (c : Thread nD τ) (win0_26.stage (cfg0.slots t 26)) fullShare ((dats m 0 c).before 26 t d))
    ∗ (∃ d, owns (c : Thread nD τ) (win0_27.stage (cfg0.slots t 27)) fullShare ((dats m 0 c).before 27 t d))
    ∗ (∃ d, owns (c : Thread nD τ) (win0_28.stage (cfg0.slots t 28)) fullShare ((dats m 0 c).before 28 t d))
    ∗ (∃ d, owns (c : Thread nD τ) (win0_29.stage (cfg0.slots t 29)) fullShare ((dats m 0 c).before 29 t d))
    ∗ (∃ d, owns (c : Thread nD τ) (win0_30.stage (cfg0.slots t 30)) fullShare ((dats m 0 c).before 30 t d))
    ∗ (∃ d, owns (c : Thread nD τ) (win0_31.stage (cfg0.slots t 31)) fullShare ((dats m 0 c).before 31 t d))
    ∗ (∃ d, owns (c : Thread nD τ) (win0_32.stage (cfg0.slots t 32)) fullShare ((dats m 0 c).before 32 t d))
    ∗ (∃ d, owns (c : Thread nD τ) (win0_33.stage (cfg0.slots t 33)) fullShare ((dats m 0 c).before 33 t d))
    ∗ (∃ d, owns (c : Thread nD τ) (win0_34.stage (cfg0.slots t 34)) fullShare ((dats m 0 c).before 34 t d))
    ∗ (∃ d, owns (c : Thread nD τ) (win0_35.stage (cfg0.slots t 35)) fullShare ((dats m 0 c).before 35 t d))
    ∗ (∃ d, owns (c : Thread nD τ) (win0_36.stage (cfg0.slots t 36)) fullShare ((dats m 0 c).before 36 t d))
    ∗ (∃ d, owns (c : Thread nD τ) (win0_37.stage (cfg0.slots t 37)) fullShare ((dats m 0 c).before 37 t d))
    ∗ (∃ d, owns (c : Thread nD τ) (win0_38.stage (cfg0.slots t 38)) fullShare ((dats m 0 c).before 38 t d))
    ∗ (∃ d, owns (c : Thread nD τ) (win0_39.stage (cfg0.slots t 39)) fullShare ((dats m 0 c).before 39 t d))
    ∗ (∃ d, owns (c : Thread nD τ) (win0_40.stage (cfg0.slots t 40)) fullShare ((dats m 0 c).before 40 t d))
    ∗ (∃ d, owns (c : Thread nD τ) (win0_41.stage (cfg0.slots t 41)) fullShare ((dats m 0 c).before 41 t d))
    ∗ (∃ d, owns (c : Thread nD τ) (win0_42.stage (cfg0.slots t 42)) fullShare ((dats m 0 c).before 42 t d))
    ∗ (∃ d, owns (c : Thread nD τ) (win0_43.stage (cfg0.slots t 43)) fullShare ((dats m 0 c).before 43 t d))
    ∗ (∃ d, owns (c : Thread nD τ) (win0_44.stage (cfg0.slots t 44)) fullShare ((dats m 0 c).before 44 t d))
    ∗ (∃ d, owns (c : Thread nD τ) (win0_45.stage (cfg0.slots t 45)) fullShare ((dats m 0 c).before 45 t d))
    ∗ (∃ d, owns (c : Thread nD τ) (win0_46.stage (cfg0.slots t 46)) fullShare ((dats m 0 c).before 46 t d))
    ∗ (∃ d, owns (c : Thread nD τ) (win0_47.stage (cfg0.slots t 47)) fullShare d))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t)
    ∗ owns (c : Thread nD τ) (win0_26.stage (cfg0.slots t 26)) fullShare ((dats m 0 c).after 26 t)
    ∗ owns (c : Thread nD τ) (win0_27.stage (cfg0.slots t 27)) fullShare ((dats m 0 c).after 27 t)
    ∗ owns (c : Thread nD τ) (win0_28.stage (cfg0.slots t 28)) fullShare ((dats m 0 c).after 28 t)
    ∗ owns (c : Thread nD τ) (win0_29.stage (cfg0.slots t 29)) fullShare ((dats m 0 c).after 29 t)
    ∗ owns (c : Thread nD τ) (win0_30.stage (cfg0.slots t 30)) fullShare ((dats m 0 c).after 30 t)
    ∗ owns (c : Thread nD τ) (win0_31.stage (cfg0.slots t 31)) fullShare ((dats m 0 c).after 31 t)
    ∗ owns (c : Thread nD τ) (win0_32.stage (cfg0.slots t 32)) fullShare ((dats m 0 c).after 32 t)
    ∗ owns (c : Thread nD τ) (win0_33.stage (cfg0.slots t 33)) fullShare ((dats m 0 c).after 33 t)
    ∗ owns (c : Thread nD τ) (win0_34.stage (cfg0.slots t 34)) fullShare ((dats m 0 c).after 34 t)
    ∗ owns (c : Thread nD τ) (win0_35.stage (cfg0.slots t 35)) fullShare ((dats m 0 c).after 35 t)
    ∗ owns (c : Thread nD τ) (win0_36.stage (cfg0.slots t 36)) fullShare ((dats m 0 c).after 36 t)
    ∗ owns (c : Thread nD τ) (win0_37.stage (cfg0.slots t 37)) fullShare ((dats m 0 c).after 37 t)
    ∗ owns (c : Thread nD τ) (win0_38.stage (cfg0.slots t 38)) fullShare ((dats m 0 c).after 38 t)
    ∗ owns (c : Thread nD τ) (win0_39.stage (cfg0.slots t 39)) fullShare ((dats m 0 c).after 39 t)
    ∗ owns (c : Thread nD τ) (win0_40.stage (cfg0.slots t 40)) fullShare ((dats m 0 c).after 40 t)
    ∗ owns (c : Thread nD τ) (win0_41.stage (cfg0.slots t 41)) fullShare ((dats m 0 c).after 41 t)
    ∗ owns (c : Thread nD τ) (win0_42.stage (cfg0.slots t 42)) fullShare ((dats m 0 c).after 42 t)
    ∗ owns (c : Thread nD τ) (win0_43.stage (cfg0.slots t 43)) fullShare ((dats m 0 c).after 43 t)
    ∗ owns (c : Thread nD τ) (win0_44.stage (cfg0.slots t 44)) fullShare ((dats m 0 c).after 44 t)
    ∗ owns (c : Thread nD τ) (win0_45.stage (cfg0.slots t 45)) fullShare ((dats m 0 c).after 45 t)
    ∗ owns (c : Thread nD τ) (win0_46.stage (cfg0.slots t 46)) fullShare ((dats m 0 c).after 46 t)
    ∗ (∃ d, owns (c : Thread nD τ) (win0_47.stage (cfg0.slots t 47)) fullShare d))

set_option maxHeartbeats 8000000 in
/-- The body at any point meets its obligation. -/
theorem sound_body
    (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43, before0_44, before0_45, before0_46]
  rw [show (dats m 0 c).Φ t.succ = Pipeline.ΦA spec0 c from rfl, show (dats m 0 c).Φ t.castSucc = Pipeline.ΦA spec0 c from rfl, phi_eq,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46]
  iintro ⟨⟨⟨⟨%g0, S0⟩, ⟨%g1, S1⟩, ⟨%g2, S2⟩, ⟨%g3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) g0 g1 g2 g3).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexists _; iexact H47
  isplitl [S0]; · iexact S0
  isplitl [S1]; · iexact S1
  isplitl [S2]; · iexact S2
  isplitl [S3]; · iexact S3
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, ⟨%e, H47⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexists _; unfold owns; iexists _; isplitr
  swap; · iexact H47
  ipureintro; rfl

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation
    (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option maxHeartbeats 4000000 in
set_option backward.isDefEq.respectTransparency.types false in
/-- The run of the main function, to what the pipeline leaves, with every semaphore at zero. -/
theorem run_main
    : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 4000000 in
/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1.arr_in c 0 rfl).trans (A_eq m c 0)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

end Cert.Dec.Hand

end
-- ==== Proof.EncFrame.lean ====
/- The launch of the program: the proof data of its pipeline, the obligation of its body, and the runs of its main function. -/
module

public import proofs.«01_k».proof.Proof.EncBody
public import proofs.«01_k».proof.Proof.Gen.Enc.Launch
public import Idealize.ShloMosaic.Lib.Claim
public import proofs.«01_k».proof.Proof.Gen.Enc.Points

@[expose] public section

set_option maxRecDepth 16384

noncomputable section

namespace Cert.Enc.Hand

open Cert.Enc.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The invariant between points: the scratch at some contents, and the generator's register. -/
theorem phi_eq (c : Dev nD) : (Pipeline.ΦA spec0 c : sProp 𝕄)
    = iprop(iprop((∃ f, (Memref.whole cc0_scratch0).view.loc (c : Thread nD τ) ↦[(Memref.whole cc0_scratch0).view.set]{fullShare} f)
    ∗ (∃ f, (Memref.whole cc0_scratch1).view.loc (c : Thread nD τ) ↦[(Memref.whole cc0_scratch1).view.set]{fullShare} f)
    ∗ (∃ f, (Memref.whole cc0_scratch2).view.loc (c : Thread nD τ) ↦[(Memref.whole cc0_scratch2).view.set]{fullShare} f)
    ∗ (∃ f, (Memref.whole cc0_scratch3).view.loc (c : Thread nD τ) ↦[(Memref.whole cc0_scratch3).view.set]{fullShare} f)
    ∗ (∃ f, (Memref.whole cc0_scratch4).view.loc (c : Thread nD τ) ↦[(Memref.whole cc0_scratch4).view.set]{fullShare} f)) ∗ (∃ r, prngReg c r)) := by
  unfold Pipeline.ΦA; rw [scopedRest0_eq]
  rw [show (Memref.whole cc0_scratch0).view.set = Finset.univ from View.set_whole cc0_scratch0]; rw [show (Memref.whole cc0_scratch1).view.set = Finset.univ from View.set_whole cc0_scratch1]; rw [show (Memref.whole cc0_scratch2).view.set = Finset.univ from View.set_whole cc0_scratch2]; rw [show (Memref.whole cc0_scratch3).view.set = Finset.univ from View.set_whole cc0_scratch3]; rw [show (Memref.whole cc0_scratch4).view.set = Finset.univ from View.set_whole cc0_scratch4]
  try rfl

/-- The output window: what it is left at is not named here. -/
def forgets0 : Fin 30 → Bool := fun w => w.val == 29

/-- The proof data of the pipeline on core `c`: the arrays as the region finds them, every input's buffer left at its
    block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, h⟩ => Pipeline.Dat.unnamed (cfg := cfg0) ⟨29, h⟩ t
    | ⟨k + 30, h⟩ => absurd h (Nat.not_lt.mpr (Nat.le_add_left 30 k))
  Φ _ := Pipeline.ΦA spec0 c
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d))
    ∗ (∃ d, owns (c : Thread nD τ) (win0_22.stage (cfg0.slots t 22)) fullShare ((dats m 0 c).before 22 t d))
    ∗ (∃ d, owns (c : Thread nD τ) (win0_23.stage (cfg0.slots t 23)) fullShare ((dats m 0 c).before 23 t d))
    ∗ (∃ d, owns (c : Thread nD τ) (win0_24.stage (cfg0.slots t 24)) fullShare ((dats m 0 c).before 24 t d))
    ∗ (∃ d, owns (c : Thread nD τ) (win0_25.stage (cfg0.slots t 25)) fullShare ((dats m 0 c).before 25 t d))
    ∗ (∃ d, owns (c : Thread nD τ) (win0_26.stage (cfg0.slots t 26)) fullShare ((dats m 0 c).before 26 t d))
    ∗ (∃ d, owns (c : Thread nD τ) (win0_27.stage (cfg0.slots t 27)) fullShare ((dats m 0 c).before 27 t d))
    ∗ (∃ d, owns (c : Thread nD τ) (win0_28.stage (cfg0.slots t 28)) fullShare ((dats m 0 c).before 28 t d))
    ∗ (∃ d, owns (c : Thread nD τ) (win0_29.stage (cfg0.slots t 29)) fullShare d))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t)
    ∗ owns (c : Thread nD τ) (win0_22.stage (cfg0.slots t 22)) fullShare ((dats m 0 c).after 22 t)
    ∗ owns (c : Thread nD τ) (win0_23.stage (cfg0.slots t 23)) fullShare ((dats m 0 c).after 23 t)
    ∗ owns (c : Thread nD τ) (win0_24.stage (cfg0.slots t 24)) fullShare ((dats m 0 c).after 24 t)
    ∗ owns (c : Thread nD τ) (win0_25.stage (cfg0.slots t 25)) fullShare ((dats m 0 c).after 25 t)
    ∗ owns (c : Thread nD τ) (win0_26.stage (cfg0.slots t 26)) fullShare ((dats m 0 c).after 26 t)
    ∗ owns (c : Thread nD τ) (win0_27.stage (cfg0.slots t 27)) fullShare ((dats m 0 c).after 27 t)
    ∗ owns (c : Thread nD τ) (win0_28.stage (cfg0.slots t 28)) fullShare ((dats m 0 c).after 28 t)
    ∗ (∃ d, owns (c : Thread nD τ) (win0_29.stage (cfg0.slots t 29)) fullShare d))

set_option maxHeartbeats 8000000 in
/-- The body at any point meets its obligation. -/
theorem sound_body
    (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m 0 c).Φ t.succ = Pipeline.ΦA spec0 c from rfl, show (dats m 0 c).Φ t.castSucc = Pipeline.ΦA spec0 c from rfl, phi_eq,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨⟨⟨⟨%g0, S0⟩, ⟨%g1, S1⟩, ⟨%g2, S2⟩, ⟨%g3, S3⟩, ⟨%g4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) g0 g1 g2 g3 g4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, H15, H16, H17, H18, H19, H20, H21, H22, H23, H24, H25, H26, H27, H28, ⟨%e, H29⟩, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexists _; unfold owns; iexists _; isplitr
  swap; · iexact H29
  ipureintro; rfl

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation at every point. -/
theorem body_obligation
    (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option maxHeartbeats 4000000 in
set_option backward.isDefEq.respectTransparency.types false in
/-- The run of the main function, to what the pipeline leaves, with every semaphore at zero. -/
theorem run_main
    : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 4000000 in
/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩, h.2⟩) (run_main m ρ)

end Cert.Enc.Hand

end
-- ==== Proof.VqSpec.lean ====
/- The nearest row: the first place where a list of extended reals is least, as the kernel and the reference find it. -/
module

public import proofs.«01_k».proof.Proof.HostArr
public import Idealize.ShloMosaic.Lib.SortNet.Extract
public import Idealize.ShloMosaic.Lib.Pointwise.Reduce

@[expose] public section

set_option maxRecDepth 16384

noncomputable section

namespace PhaseConv

open Idealize.ShloMosaic Idealize.ShloMosaic.ValueIdx
open scoped BigOperators

/-- Place `j` is the first where the `n` values are least. -/
def IsFirst (n : ℕ) (s : ℕ → EReal) (j : ℕ) : Prop := j < n ∧ (∀ k < n, s j ≤ s k) ∧ ∀ k < j, s j < s k

/-- The first place where `n` values are least. -/
def first (n : ℕ) (s : ℕ → EReal) : ℕ := sInf {j | j < n ∧ ∀ k < n, s j ≤ s k}

/-- It is one, when there are values at all. -/
theorem first_is {n : ℕ} (hn : 0 < n) (s : ℕ → EReal) : IsFirst n s (first n s) := by
  have hne : {j | j < n ∧ ∀ k < n, s j ≤ s k}.Nonempty := by
    obtain ⟨j, hj, h⟩ := Finset.exists_min_image (Finset.range n) s ⟨0, Finset.mem_range.mpr hn⟩
    exact ⟨j, Finset.mem_range.mp hj, fun k hk => h k (Finset.mem_range.mpr hk)⟩
  have hm : first n s < n ∧ ∀ k < n, s (first n s) ≤ s k := Nat.sInf_mem hne
  refine ⟨hm.1, hm.2, fun k hk => lt_of_le_of_ne (hm.2 k (hk.trans hm.1)) fun e => ?_⟩
  exact Nat.notMem_of_lt_sInf hk ⟨hk.trans hm.1, fun l hl => e ▸ hm.2 l hl⟩

/-- There is only one. -/
theorem IsFirst.eq {n j k : ℕ} {s : ℕ → EReal} (h : IsFirst n s j) (h' : IsFirst n s k) : j = k := by
  rcases lt_trichotomy j k with hl | he | hl
  · exact absurd (h'.2.2 j hl) (not_lt.mpr (h.2.1 k h'.1))
  · exact he
  · exact absurd (h.2.2 k hl) (not_lt.mpr (h'.2.1 j h.1))

/-- A real number added to every value leaves the place. -/
theorem first_shift {n : ℕ} (hn : 0 < n) {s d : ℕ → EReal} (c : ℝ) (h : ∀ k < n, d k = (c : EReal) + s k) : first n d = first n s := by
  have hs := first_is hn s
  refine IsFirst.eq (first_is hn d) ⟨hs.1, fun k hk => ?_, fun k hk => ?_⟩
  · rw [h _ hs.1, h k hk]; exact add_le_add le_rfl (hs.2.1 k hk)
  · rw [h _ hs.1, h k (hk.trans hs.1)]
    exact EReal.add_lt_add_left_coe (hs.2.2 k hk) c

/-- Equal values have the same first place. -/
theorem first_congr {n : ℕ} (hn : 0 < n) {s d : ℕ → EReal} (h : ∀ k < n, d k = s k) : first n d = first n s :=
  first_shift hn 0 fun k hk => by rw [h k hk]; exact (zero_add _).symm

/-- The least value, as a fold. -/
theorem fold_min_first {n j : ℕ} {s : ℕ → EReal} (h : IsFirst n s j) :
    (Finset.univ : Finset (Fin n)).fold min (⊤ : EReal) (fun k => s k.val) = s j :=
  le_antisymm (Finset.fold_min_le (s j) |>.mpr (Or.inr ⟨⟨j, h.1⟩, Finset.mem_univ _, le_rfl⟩))
    (Finset.le_fold_min (s j) |>.mpr ⟨le_top, fun k _ => h.2.1 k.val k.isLt⟩)

/-- The signed minimum of words, as a fold. -/
theorem fold_minsi {n : ℕ} {f : Fin n → BitVec 32} {b v : BitVec 32} (j : Fin n) (hj : f j = v) (hb : v.toInt ≤ b.toInt)
    (hall : ∀ k, v.toInt ≤ (f k).toInt) : (Finset.univ : Finset (Fin n)).fold IntOp.minsi b f = v := by
  refine BitVec.eq_of_toInt_eq ?_
  have e : ((Finset.univ : Finset (Fin n)).fold IntOp.minsi b f).toInt
      = (Finset.univ : Finset (Fin n)).fold min b.toInt (fun k => (f k).toInt) :=
    (Finset.fold_hom (op := IntOp.minsi) (op' := (min : Int → Int → Int)) (m := BitVec.toInt) (fun x y => (SortNet.toInt_minsi x y))).symm
  rw [e]
  refine le_antisymm (Finset.fold_min_le _ |>.mpr (Or.inr ⟨j, Finset.mem_univ _, by rw [hj]⟩)) (Finset.le_fold_min _ |>.mpr ⟨hb, fun k _ => hall k⟩)

/-- A product with a row that is one at one place and zero elsewhere. -/
theorem dotR_hot {n j : ℕ} (hj : j < n) (g : ℕ → EReal) : dotR n (fun k => if k = j then 1 else 0) g = g j := by
  unfold dotR
  refine (Finset.sum_eq_single j (fun k _ hk => ?_) (fun h => absurd (Finset.mem_range.mpr hj) h)).trans ?_
  · show (if k = j then (1 : EReal) else 0) * g k = 0
    rw [if_neg hk, zero_mul]
  · show (if j = j then (1 : EReal) else 0) * g j = g j
    rw [if_pos rfl, one_mul]

/-- The integer of a small natural number's word. -/
theorem toInt_small {k : ℕ} (h : k ≤ 512) : (BitVec.ofNat 32 k).toInt = k := by
  rw [BitVec.toInt_eq_toNat_of_lt (by rw [BitVec.toNat_ofNat]; omega), BitVec.toNat_ofNat, Nat.mod_eq_of_lt (by omega)]

/-- The bits of positive infinity. -/
theorem ofBits_inf : Ideal.ofBits .f32 0x7F800000#32 = ⊤ := by simp [Ideal.ofBits, Ideal.ieee]

/-- The scores of the codebook rows `E`, of square sums `N`, for a row `a`. -/
def score (E : ℕ → ℕ → EReal) (N : ℕ → EReal) (a : ℕ → EReal) : ℕ → EReal := fun k => N k - Ideal.ofBits .f32 0x40000000#32 * dotR 64 a (E k)

/-- The codebook row of least score. -/
def pick (E : ℕ → ℕ → EReal) (N : ℕ → EReal) (a : ℕ → EReal) : ℕ → EReal := fun d => E (first 512 (score E N a)) d

/-- The square error of one entry. -/
def sqErr (E : ℕ → ℕ → EReal) (N : ℕ → EReal) (a : ℕ → EReal) (d : ℕ) : EReal := (pick E N a d - a d) * (pick E N a d - a d)

end PhaseConv

end
-- ==== Proof.VqPick.lean ====
/- Row minima, the first place of each and the one-hot rows, as the kernel's and the host's operations compute them. -/
module

public import proofs.«01_k».proof.Proof.VqSpec
public import proofs.«01_k».proof.Proof.HostArr

@[expose] public section

set_option maxRecDepth 16384

noncomputable section

namespace PhaseConv

open Idealize.ShloMosaic
open scoped BigOperators

/-- The place of a row's number in a column of numbers. -/
theorem col_apply {α : Type} {a b : ℕ} (x : (B1 a).Idx → α) (h : (B1 a).ShapeCasts (B2 a 1)) (h' : (B2 a 1).Broadcasts (B2 a b)) (i : (B2 a b).Idx) :
    broadcastTo (B2 a b) (shapeCast (B2 a 1) x h) h' i = x (ValueIdx.ix1 ⟨(i 0).val, (i 0).isLt⟩) := by
  have h0 : (i 0).val < a := (i 0).isLt
  refine (broadcastTo_apply _ h' i (ValueIdx.ix2 ⟨(i 0).val, h0⟩ 0) (fun d => ?_)).trans (shapeCast_apply x h _ (ValueIdx.ix1 ⟨(i 0).val, h0⟩) ?_)
  · match d with
    | ⟨0, _⟩ =>
      show (i 0).val = if a = 1 then 0 else (i 0).val
      split
      · omega
      · rfl
    | ⟨1, _⟩ => rfl
  · rw [Shape.rowMajor_val_one, Shape.rowMajor_val_two]
    show (i 0).val = (i 0).val * 1 + 0
    omega

/-- A row stretched down the rows. -/
theorem is2_row {a b : ℕ} {x : (B2 1 b).Idx → EReal} {A : ℕ → ℕ → EReal} (hx : Is2 x A) (h : (B2 1 b).Broadcasts (B2 a b)) :
    Is2 (broadcastTo (B2 a b) x h) (fun _ j => A 0 j) := fun i => by
  have h1 : (i 1).val < b := (i 1).isLt
  refine (broadcastTo_apply x h i (ValueIdx.ix2 0 ⟨(i 1).val, h1⟩) (fun d => ?_)).trans (hx _)
  match d with
  | ⟨0, _⟩ => rfl
  | ⟨1, _⟩ =>
    show (i 1).val = if b = 1 then 0 else (i 1).val
    split
    · omega
    · rfl

/-- The scores of rows: a row of numbers less the doubled products. -/
theorem is2_score {a b : ℕ} {x y : FVec Ideal (B2 a b) .f32} {X Y : ℕ → ℕ → EReal} (hx : Is2 x X) (hy : Is2 y Y) :
    Is2 (subf x (mulf (broadcast (B2 a b) (Scalar.ofBits (F := Ideal) .f32 0x40000000#32)) y))
      (fun i j => X i j - Ideal.ofBits .f32 0x40000000#32 * Y i j) := fun i => by
  show (x i - Ideal.ofBits .f32 0x40000000#32 * y i : EReal) = _
  rw [hx, hy]

/-- The least of each row. -/
theorem rowMin {a n : ℕ} (hn : 0 < n) {x : FVec Ideal (B2 a n) .f32} {S : ℕ → ℕ → EReal} (hx : Is2 x S) (h : (B2 a n).Reduces [1] (B1 a))
    (hφ : FKind.Formats .f32) (hacc : (0x7F800000#32 : BitVec 32) = FKind.minimumf.neutral .f32 hφ) (j : (B1 a).Idx) :
    (multiReduction .minimumf [1] (B1 a) x 0x7F800000#32 h hφ hacc j : EReal) = S (j 0).val (first n (S (j 0).val)) := by
  rw [multiReduction_minimumf_eq_fold, h.fold_fiber_r2_a1]
  refine Eq.trans ?_ (fold_min_first (first_is hn (S (j 0).val)))
  have e : (FloatOps.ofBits .f32 0x7F800000#32 : Ideal .f32) = (⊤ : EReal) := ofBits_inf
  rw [e]
  exact Finset.fold_congr fun k _ => hx _

/-- The first place of each row, as the kernel finds it. -/
theorem rowPick {a : ℕ} {S : ℕ → ℕ → EReal} {f : IVec (B2 a 512) 32}
    (hf : ∀ i, f i = if S (i 0).val (i 1).val = S (i 0).val (first 512 (S (i 0).val)) then BitVec.ofNat 32 (i 1).val else 512#32)
    (h : (B2 a 512).Reduces [1] (B1 a)) (hacc : (2147483647#32 : BitVec 32) = IKind.minsi.neutral) (j : (B1 a).Idx) :
    multiReductionI .minsi [1] (B1 a) f 2147483647#32 h hacc j = BitVec.ofNat 32 (first 512 (S (j 0).val)) := by
  have hs := first_is (n := 512) (by decide) (S (j 0).val)
  rw [multiReductionI_eq_fold, h.fold_fiber_r2_a1]
  refine fold_minsi ⟨first 512 (S (j 0).val), hs.1⟩ ?_ ?_ fun k => ?_
  · rw [hf]; exact if_pos rfl
  · rw [toInt_small hs.1.le]
    have : (2147483647#32 : BitVec 32).toInt = 2147483647 := by decide
    have := hs.1
    omega
  · rw [hf]
    show _ ≤ (if S (j 0).val k.val = S (j 0).val (first 512 (S (j 0).val)) then BitVec.ofNat 32 k.val else 512#32 : BitVec 32).toInt
    rw [toInt_small hs.1.le]
    split
    · rename_i he
      rw [toInt_small k.isLt.le]
      by_contra hlt
      exact absurd he (ne_of_gt (hs.2.2 k.val (by omega)))
    · have : (512#32 : BitVec 32).toInt = 512 := by decide
      have := hs.1
      omega

/-- Two small numbers compared as words. -/
theorem cmpi_small {k j : ℕ} (hk : k < 512) (hj : j < 512) :
    IntOp.cmpi .eq (BitVec.ofNat 32 k) (BitVec.ofNat 32 j) = if k = j then 1#1 else 0#1 := by
  by_cases h : k = j
  · subst h; rw [if_pos rfl]; show BitVec.ofBool (_ == _) = _; rw [beq_self_eq_true]; rfl
  · have hne : BitVec.ofNat 32 k ≠ BitVec.ofNat 32 j := fun e => h (by
      have := congrArg BitVec.toInt e
      rw [toInt_small hk.le, toInt_small hj.le] at this
      exact_mod_cast this)
    rw [if_neg h]; show BitVec.ofBool (_ == _) = _; rw [beq_eq_false_iff_ne.mpr hne]; rfl

/-- The kernel's choice of place or bound, by the comparison of two values. -/
theorem select_oeq (x y : EReal) (u v : BitVec 32) :
    Scalar.select (FloatOps.cmpf (F := Ideal) (φ := .f32) .oeq x y) u v = if x = y then u else v := by
  rw [Ideal.cmpf_def]
  by_cases h : x = y
  · simp [h, Ideal.cmp, Scalar.select]
  · simp [h, Ideal.cmp, Scalar.select]

/-- The kernel's one-hot rows. -/
theorem is2_hot {a : ℕ} {n : ℕ → ℕ} (hn : ∀ i, n i < 512) {x y : IVec (B2 a 512) 32} (hx : ∀ i, x i = BitVec.ofNat 32 (i 1).val)
    (hy : ∀ i, y i = BitVec.ofNat 32 (n (i 0).val)) (hlt : 1 < 32) :
    Is2 (sitofp (F := Ideal) .f32 (extui 32 (cmpi .eq x y) hlt)) (fun i k => if k = n i then 1 else 0) := fun i => by
  have hk : (i 1).val < 512 := (i 1).isLt
  show ((((IntOp.cmpi .eq (x i) (y i)).setWidth 32).toInt : ℝ) : EReal) = if (i 1).val = n (i 0).val then 1 else 0
  rw [hx, hy, cmpi_small hk (hn _)]
  by_cases h : (i 1).val = n (i 0).val
  · rw [if_pos h, if_pos h]; simp
  · rw [if_neg h, if_neg h]; simp

/-- The host's one-hot rows. -/
theorem is2_hotHost {a : ℕ} {n : ℕ → ℕ} (hn : ∀ i, n i < 512) {x y : IVec (B2 a 512) 32} (hx : ∀ i, x i = BitVec.ofNat 32 (n (i 0).val))
    (hy : ∀ i, y i = BitVec.ofNat 32 (i 1).val) :
    Is2 (uitofp (F := Ideal) .f32 (cmpi .eq x y)) (fun i k => if k = n i then 1 else 0) := fun i => by
  have hk : (i 1).val < 512 := (i 1).isLt
  show (((IntOp.cmpi .eq (x i) (y i)).toNat : ℝ) : EReal) = if (i 1).val = n (i 0).val then 1 else 0
  rw [hx, hy, cmpi_small (hn _) hk]
  by_cases h : (i 1).val = n (i 0).val
  · rw [if_pos h.symm, if_pos h]; simp
  · rw [if_neg fun e => h e.symm, if_neg h]; simp

/-- The square differences of two matrices. -/
theorem is2_sq {a b : ℕ} {x y : FVec Ideal (B2 a b) .f32} {X Y : ℕ → ℕ → EReal} (hx : Is2 x X) (hy : Is2 y Y) :
    Is2 (mulf (subf x y) (subf x y)) (fun i j => (X i j - Y i j) * (X i j - Y i j)) := fun i => by
  show ((x i - y i) * (x i - y i) : EReal) = _
  rw [hx, hy]

/-- The only entry of an array of one. -/
theorem cell_apply {α : Type} (x : (B1 1).Idx → α) (h : (B1 1).ShapeCasts (B3 1 1 1)) (i : (B3 1 1 1).Idx) :
    shapeCast (B3 1 1 1) x h i = x (ValueIdx.ix1 ⟨0, Nat.one_pos⟩) := by
  refine shapeCast_apply x h i _ ?_
  rw [Shape.rowMajor_val_one, Shape.rowMajor_val_three]
  have h0 : (i 0).val < 1 := (i 0).isLt
  have h1 : (i 1).val < 1 := (i 1).isLt
  have h2 : (i 2).val < 1 := (i 2).isLt
  show 0 = ((i 0).val * 1 + (i 1).val) * 1 + (i 2).val
  omega

/-- All entries of a matrix added up. -/
theorem sum_all {a b : ℕ} {x : (B2 a b).Idx → EReal} {W : ℕ → ℕ → EReal} (hx : Is2 x W) (hc : (B2 a b).ShapeCasts (B3 1 a b))
    (h : (B3 1 a b).Reduces [1, 2] (B1 1)) (hφ : FKind.Formats .f32) (hacc : (0x00000000#32 : BitVec 32) = FKind.add.neutral .f32 hφ) (j : (B1 1).Idx) :
    (multiReduction (F := Ideal) (φ := .f32) .add [1, 2] (B1 1) (shapeCast (B3 1 a b) x hc) 0x00000000#32 h hφ hacc j : EReal)
      = ∑ r ∈ Finset.range a, ∑ d ∈ Finset.range b, W r d := by
  rw [multiReduction_add_apply]
  refine (Ideal.reduceAdd_r3_a12 h _ j).trans ?_
  refine (Finset.sum_congr rfl fun r _ => (Finset.sum_congr rfl fun d _ => is3_lead hx hc _).trans (Fin.sum_univ_eq_sum_range (fun d => W r.val d) b)).trans ?_
  exact Fin.sum_univ_eq_sum_range (fun r => ∑ d ∈ Finset.range b, W r d) a

end PhaseConv

end
-- ==== Proof.VqVal.lean ====
/- The values the quantiser's body computes from one tile of rows. -/
module

public import proofs.«01_k».proof.Proof.VqPick
public import proofs.«01_k».proof.Proof.Gen.VqIdeal.Skeleton

@[expose] public section

set_option maxRecDepth 16384
set_option maxHeartbeats 1000000

noncomputable section

namespace Cert.VqIdeal.Hand

open Cert.VqIdeal Cert.VqIdeal.Gen
open Idealize.ShloMosaic PhaseConv
open scoped BigOperators

variable {v0 : Vec Ideal S512x64 .f32} {v1 : Vec Ideal S64x512 .f32} {v3 : Vec Ideal S1x512 .f32} {v11 : Vec Ideal S512x64 .f32}
  {E A : ℕ → ℕ → EReal} {N : ℕ → EReal}

/-- The quantised rows of a tile. -/
theorem pay2_val (h0 : Is2 v0 E) (h1 : Is2 v1 fun d k => E k d) (h3 : Is2 v3 fun _ k => N k) (h11 : Is2 v11 A) :
    Is2 (k0_pay2 v0 v1 v3 v11) (fun r d => pick E N (A r) d) := by
  have hs := is2_score (is2_row (is2_cast h3 shapeCasts_S1x512_S1x512) broadcasts_S1x512_S512x512)
    (is2_mat (d := dot_S512x64_S64x512_S512x512_1_0_0_1_n_n) rfl (prec := none) (is2_cast h11 shapeCasts_S512x64_S512x64) (is2_cast h1 shapeCasts_S64x512_S64x512))
  have hi : ∀ i : S512x512.Idx, iota .tc S512x512 32 [1] iota_S512x512_d1_w32 i = BitVec.ofNat 32 (i 1).val := fun i => by
    refine congrArg (BitVec.ofNat 32) ?_
    show 0 * 512 + (i 1).val = (i 1).val
    omega
  refine (is2_mat (d := dot_S512x512_S512x64_S512x64_1_0_0_1_n_n) rfl (prec := none)
    (is2_hot (n := fun r => first 512 (score E N (A r))) (fun r => (first_is (by decide) _).1) hi (fun i => ?_) natLt_1_32) h0).congr fun r d _ _ =>
      dotR_hot (first_is (by decide) _).1 (fun k => E k d)
  refine (col_apply _ _ _ i).trans (rowPick (S := fun r => score E N (A r)) (fun i => ?_) reduces_S512x512_S512 rfl _)
  show Scalar.select (FloatOps.cmpf (F := Ideal) (φ := .f32) .oeq _ (broadcastTo S512x512 (shapeCast S512x1 _ shapeCasts_S512_S512x1) broadcasts_S512x1_S512x512 i)) (iota .tc S512x512 32 [1] iota_S512x512_d1_w32 i) 512#32 = _
  rw [select_oeq, hi, col_apply]
  exact ite_congr (congrArg₂ Eq (hs i) (rowMin (S := fun r => score E N (A r)) (by decide) hs reduces_S512x512_S512 (.inl rfl) rfl _)) (fun _ => rfl) (fun _ => rfl)

/-- The square errors of a tile, added up. -/
theorem pay3_val (h0 : Is2 v0 E) (h1 : Is2 v1 fun d k => E k d) (h3 : Is2 v3 fun _ k => N k) (h11 : Is2 v11 A) (acc : EReal) :
    k0_pay3 (F := Ideal) v0 v1 v3 acc v11 = acc + ∑ r ∈ Finset.range 512, ∑ d ∈ Finset.range 64, sqErr E N (A r) d := by
  have hd := is2_sq (pay2_val h0 h1 h3 h11) (is2_cast h11 shapeCasts_S512x64_S512x64)
  unfold k0_pay3
  refine congrArg (acc + ·) ?_
  exact (cell_apply _ shapeCasts_S1_S1x1x1 _).trans (sum_all hd shapeCasts_S512x64_S1x512x64 reduces_S1x512x64_S1 (.inl rfl) rfl _)

end Cert.VqIdeal.Hand

end
-- ==== Proof.VqLeft.lean ====
/- What the quantiser's body leaves in its output blocks. -/
module

public import proofs.«01_k».proof.Proof.VqVal
public import proofs.«01_k».proof.Proof.Gen.VqIdeal.Value

@[expose] public section

set_option maxRecDepth 16384
set_option maxHeartbeats 4000000

noncomputable section

namespace Cert.VqIdeal.Hand

open Cert.VqIdeal Cert.VqIdeal.Gen
open Idealize.ShloMosaic Idealize.ShloMosaic.TcCoe Idealize.SL.Sem PhaseConv
open Idealize.ShloMosaic.Pipeline (Dat)
open scoped BigOperators

variable (𝒱 : Variants) (c : Dev nD) (bd : Option 𝒱.V) (i : grid0.Coords) (arg1 : Memref sig .tc .vmem S2048x64 .f32) (harg1 : arg1.IsWhole) (arg2 : Memref sig .tc .vmem S64x512 .f32) (harg2 : arg2.IsWhole) (arg3 : Memref sig .tc .vmem S512x64 .f32) (harg3 : arg3.IsWhole) (arg4 : Memref sig .tc .vmem S1x512 .f32) (harg4 : arg4.IsWhole) (arg5 : Memref sig .tc .vmem S2048x64 .f32) (harg5 : arg5.IsWhole) (arg6 : Memref sig .tc .vmem S1x1x128 .f32) (harg6 : arg6.IsWhole) (v0 : Vec Ideal S512x64 .f32) (v1 : Vec Ideal S64x512 .f32) (v3 : Vec Ideal S1x512 .f32) (X : BufTy.Contents (Elt Ideal) arg1.view.ty)
  (x0 : Vec Ideal S2048x64 .f32) (x1 : Vec Ideal S64x512 .f32) (x2 : Vec Ideal S512x64 .f32) (x3 : Vec Ideal S1x512 .f32)

/-- The rows of one trip. -/
def tile (k : Fin k0_t1_loop.trips) : Vec Ideal S512x64 .f32 :=
  View.readAt (Elt Ideal) arg1.view (Rect.unit (s := S2048x64) (k0_off1 k) S512x64.size (k0_off1_inb k)).toLoadRect X

/-- One trip adds its square errors. -/
theorem tripR_eq (k : Fin k0_t1_loop.trips) (acc : Ideal .f32) :
    tripR_k0_t1 𝒱 c bd i arg1 harg1 arg2 harg2 arg3 harg3 arg4 harg4 arg5 harg5 arg6 harg6 v0 v1 v3 X k acc = k0_pay3 v0 v1 v3 acc (tile arg1 X k) := by
  unfold tripR_k0_t1 trip_k0_t1
  rfl

/-- One trip writes its quantised rows. -/
theorem tripL_eq (k : Fin k0_t1_loop.trips) (acc : Ideal .f32) :
    tripL_k0_t1 𝒱 c bd i arg1 harg1 arg2 harg2 arg3 harg3 arg4 harg4 arg5 harg5 arg6 harg6 v0 v1 v3 X k acc
      = [⟨Rect.unit (s := S2048x64) (k0_off1 k) S512x64.size (k0_off1_inb k), k0_pay2 v0 v1 v3 (tile arg1 X k)⟩] := by
  unfold tripL_k0_t1 trip_k0_t1
  rfl

theorem off1 (k : Fin k0_t1_loop.trips) : k0_off1 k = ![512 * k.val, 0] :=
  (by decide +kernel : ∀ k : Fin k0_t1_loop.trips, k0_off1 k = ![512 * k.val, 0]) k

variable {A E : ℕ → ℕ → EReal} {N : ℕ → EReal}

/-- The rows of one trip, by their place in the block. -/
theorem tile_val (h : Is2 x0 A) (k : Fin k0_t1_loop.trips) : Is2 (tile arg1 (harg1.unread x0) k) (fun r d => A (512 * k.val + r) d) :=
  (is2_load arg1.view (harg1.unread x0) (A := A) (by rw [harg1.read_unread]; exact h) (512 * k.val) 0 (off1 k) (k0_off1_inb k)).congr
    fun r d _ _ => by rw [Nat.zero_add]

/-- The square errors of the first trips, added up. -/
def lossOf (E : ℕ → ℕ → EReal) (N : ℕ → EReal) (A : ℕ → ℕ → EReal) (n : ℕ) : EReal :=
  ∑ k ∈ Finset.range n, ∑ r ∈ Finset.range 512, ∑ d ∈ Finset.range 64, sqErr E N (A (512 * k + r)) d

/-- What the loop holds before a trip: the square errors so far, and the quantised rows so far. -/
theorem loop_val (hA : Is2 x0 A) (h0 : Is2 v0 E) (h1 : Is2 v1 fun d k => E k d) (h3 : Is2 v3 fun _ k => N k) (init : Ideal .f32) (hi : init = (0 : EReal)) :
    ∀ n ≤ 4, (st_k0_t1 𝒱 c bd i arg1 harg1 arg2 harg2 arg3 harg3 arg4 harg4 arg5 harg5 arg6 harg6 v0 v1 v3 (harg1.unread x0) init n).1 = lossOf E N A n
      ∧ ∀ y : S2048x64.Idx, (y 0).val < 512 * n →
        VO0_4.read (Elt Ideal) (VO0_4.writes (Elt Ideal) VO0_4.junk (st_k0_t1 𝒱 c bd i arg1 harg1 arg2 harg2 arg3 harg3 arg4 harg4 arg5 harg5 arg6 harg6 v0 v1 v3 (harg1.unread x0) init n).2) y
          = pick E N (A (y 0).val) (y 1).val := by
  intro n
  induction n with
  | zero =>
    intro _
    refine ⟨(st_k0_t1_zero ..).trans (hi.trans ?_), fun y h => absurd h (by omega)⟩
    unfold lossOf; rw [Finset.range_zero, Finset.sum_empty]
  | succ n ih =>
    intro hn
    obtain ⟨i1, i2⟩ := ih (by omega)
    have ht : n < k0_t1_loop.trips := lt_of_lt_of_eq hn (by decide +kernel)
    rw [st_k0_t1_succ 𝒱 c bd i arg1 harg1 arg2 harg2 arg3 harg3 arg4 harg4 arg5 harg5 arg6 harg6 v0 v1 v3 (harg1.unread x0) init ⟨n, ht⟩]
    have hv := tile_val arg1 harg1 x0 hA ⟨n, ht⟩
    refine ⟨?_, fun y hy => ?_⟩
    · show tripR_k0_t1 𝒱 c bd i arg1 harg1 arg2 harg2 arg3 harg3 arg4 harg4 arg5 harg5 arg6 harg6 v0 v1 v3 (harg1.unread x0) ⟨n, ht⟩ _ = _
      rw [tripR_eq, i1]
      refine (pay3_val h0 h1 h3 hv _).trans ?_
      exact (Finset.sum_range_succ (fun k => ∑ r ∈ Finset.range 512, ∑ d ∈ Finset.range 64, sqErr E N (A (512 * k + r)) d) n).symm
    · show VO0_4.read (Elt Ideal) (VO0_4.writes (Elt Ideal) VO0_4.junk (tripL_k0_t1 𝒱 c bd i arg1 harg1 arg2 harg2 arg3 harg3 arg4 harg4 arg5 harg5 arg6 harg6 v0 v1 v3 (harg1.unread x0) ⟨n, ht⟩ _ ++ _)) y = _
      rw [tripL_eq]
      by_cases hlt : (y 0).val < 512 * n
      · exact (View.read_writes_cons_rows_of_not_mem VO0_4 VO0_4.junk (k0_off1_inb ⟨n, ht⟩) _ _ y (off1 ⟨n, ht⟩) rfl (Or.inl hlt)).trans (i2 y hlt)
      · refine (View.read_writes_cons_rows_of_mem VO0_4 VO0_4.junk (k0_off1_inb ⟨n, ht⟩) _ _ y
          (ValueIdx.ix2 ⟨(y 0).val - 512 * n, by omega⟩ ⟨(y 1).val, (y 1).isLt⟩) (off1 ⟨n, ht⟩) ?_ rfl).trans ?_
        · show (y 0).val = 512 * n + ((y 0).val - 512 * n)
          omega
        · refine (pay2_val h0 h1 h3 hv _).trans ?_
          show pick E N (A (512 * n + ((y 0).val - 512 * n))) (y 1).val = _
          rw [show 512 * n + ((y 0).val - 512 * n) = (y 0).val by omega]

theorem whole_val {a b : ℕ} {arg : Memref sig .tc .vmem (B2 a b) .f32} (harg : arg.IsWhole) {x : (B2 a b).Idx → EReal} {W : ℕ → ℕ → EReal} (h : Is2 x W)
    (inb : ∀ d, (![0, 0] : Fin 2 → ℕ) d + (B2 a b).size d ≤ (B2 a b).size d) :
    Is2 (View.readAt (Elt Ideal) arg.view (Rect.unit (s := B2 a b) ![0, 0] (B2 a b).size inb).toLoadRect (harg.unread x)) W :=
  (is2_load arg.view (harg.unread x) (A := W) (by rw [harg.read_unread]; exact h) 0 0 rfl inb).congr fun i j _ _ => by rw [Nat.zero_add, Nat.zero_add]

/-- The quantised rows of a block. -/
theorem out4 (hA : Is2 x0 A) (h1 : Is2 x1 fun d k => E k d) (h2 : Is2 x2 E) (h3 : Is2 x3 fun _ k => N k) :
    Is2 (out0_A_4 c i arg1 harg1 arg2 harg2 arg3 harg3 arg4 harg4 arg5 harg5 arg6 harg6 x0 x1 x2 x3) (fun r d => pick E N (A r) d) := by
  unfold out0_A_4 kernelRun0_A
  exact fun y => (loop_val Variants.none c none i arg1 harg1 arg2 harg2 arg3 harg3 arg4 harg4 arg5 harg5 arg6 harg6 _ _ _ x0 hA (whole_val harg3 h2 _) (whole_val harg2 h1 _) (whole_val harg4 h3 _) _ Ideal.ofBits_zero_f32
    4 le_rfl).2 y (lt_of_lt_of_eq (y 0).isLt rfl)

/-- The square errors of a block, in every lane. -/
theorem out5 (hA : Is2 x0 A) (h1 : Is2 x1 fun d k => E k d) (h2 : Is2 x2 E) (h3 : Is2 x3 fun _ k => N k) (y : S1x1x128.Idx) :
    out0_A_5 c i arg1 harg1 arg2 harg2 arg3 harg3 arg4 harg4 arg5 harg5 arg6 harg6 x0 x1 x2 x3 y = lossOf E N A 4 := by
  unfold out0_A_5 kernelRun0_A
  refine (View.read_writes_cons_hit_of_coords VO0_5 VO0_5.junk _ _ [] y y fun a => ?_).trans ?_
  · match a with
    | ⟨0, _⟩ => exact (Nat.zero_add _).symm.trans (congrArg (0 + ·) (Nat.one_mul _).symm)
    | ⟨1, _⟩ => exact (Nat.zero_add _).symm.trans (congrArg (0 + ·) (Nat.one_mul _).symm)
    | ⟨2, _⟩ => exact (Nat.zero_add _).symm.trans (congrArg (0 + ·) (Nat.one_mul _).symm)
  · exact (loop_val Variants.none c none i arg1 harg1 arg2 harg2 arg3 harg3 arg4 harg4 arg5 harg5 arg6 harg6 _ _ _ x0 hA (whole_val harg3 h2 _) (whole_val harg2 h1 _) (whole_val harg4 h3 _) _ Ideal.ofBits_zero_f32
      4 le_rfl).1

end Cert.VqIdeal.Hand

end
-- ==== Proof.VqHost.lean ====
/- What the quantiser's windows hold, block by block, and its output arrays after the run. -/
module

public import proofs.«01_k».proof.Proof.VqLeft
public import proofs.«01_k».proof.Proof.Weights
public import Idealize.ShloMosaic.Lib.StableHlo.RunRead
public import Idealize.ShloMosaic.Lib.Pipeline.ValueKit.Geometry

@[expose] public section

set_option maxRecDepth 16384
set_option maxHeartbeats 4000000

noncomputable section

namespace PhaseConv

open Idealize.ShloMosaic

/-- A list as the only row. -/
theorem is2_lay {n : ℕ} {x : (B1 n).Idx → EReal} {A : ℕ → EReal} (hx : Is1 x A) (h : (B1 n).BroadcastsInDim (B2 1 n) ![1]) :
    Is2 (broadcastInDim (B2 1 n) ![1] h x) (fun _ k => A k) := fun i => by
  have h1 : (i 1).val < n := (i 1).isLt
  refine (broadcastInDim_apply _ h x i (ValueIdx.ix1 ⟨(i 1).val, h1⟩) (fun d => ?_)).trans (hx _)
  match d with
  | ⟨0, _⟩ =>
    show (i 1).val = if n = 1 then 0 else (i 1).val
    split
    · omega
    · rfl

end PhaseConv

namespace Cert.VqIdeal.Hand

open Cert.VqIdeal Cert.VqIdeal.Gen
open Idealize.ShloMosaic Idealize.ShloMosaic.TcCoe Idealize.SL.Sem PhaseConv
open Idealize.ShloMosaic.Pipeline (Dat)

variable (m : (ℓ : Loc nD τ sig) → Buf (Elt Ideal) ℓ) (ρ : Dev nD → PrngReg)

/-- The rows to quantise. -/
def rows (c : Dev nD) : ℕ → ℕ → EReal :=
  of2 (shapeCast S16384x64 (m ((c.tc : Thread nD τ).loc main_arg0) : S8x64x2048.Idx → EReal) shapeCasts_S8x64x2048_S16384x64)
/-- The codebook. -/
def book (c : Dev nD) : ℕ → ℕ → EReal := of2 (m ((c.tc : Thread nD τ).loc main_arg1) : S512x64.Idx → EReal)
/-- The square sums of its rows, as arrays. -/
def normsArr (x : FVec Ideal S512x64 .f32) : S512.Idx → EReal :=
  Host.reduceAdd (F := Ideal) (φ := .f32) (mulf x x) (constant S_ .f32 0x00000000#32) reducesTo_S512x64_S512_d1 h_S_
/-- The square sums of its rows. -/
def norms (c : Dev nD) : ℕ → EReal := of1 (normsArr (m ((c.tc : Thread nD τ).loc main_arg1)))

theorem in_v0 (c : Dev nD) : Is2 (V m c main_v0 : S16384x64.Idx → EReal) (rows m c) := by
  after_reads_simp
  exact is2_of _

theorem in_v1 (c : Dev nD) : Is2 (V m c main_v1 : S64x512.Idx → EReal) fun d k => book m c k d := by
  after_reads_simp
  exact is2_tr (is2_of _) _

theorem in_arg1 (c : Dev nD) : Is2 (V m c main_arg1 : S512x64.Idx → EReal) (book m c) := by
  after_reads_simp
  exact is2_of _

theorem in_v4 (c : Dev nD) : Is2 (V m c main_v4 : S1x512.Idx → EReal) fun _ k => norms m c k := by
  after_reads_simp
  exact is2_lay (is1_of _) _

theorem index0 (t : Fin cfg0.N) : (cfg0.win 0).index t 0 = t.val :=
  (by decide +kernel : ∀ t : Fin cfg0.N, (cfg0.win 0).index t 0 = t.val) t

theorem index4 (t : Fin cfg0.N) : (cfg0.win 4).index t 0 = t.val :=
  (by decide +kernel : ∀ t : Fin cfg0.N, (cfg0.win 4).index t 0 = t.val) t

theorem index5 (t : Fin cfg0.N) : (cfg0.win 5).index t 0 = t.val :=
  (by decide +kernel : ∀ t : Fin cfg0.N, (cfg0.win 5).index t 0 = t.val) t

theorem blk0 (c : Dev nD) (t : Fin cfg0.N) : Is2 (iblk m c 0 t : S2048x64.Idx → EReal) fun r d => rows m c (2048 * t.val + r) d := fun i => by
  refine (in_v0 m c _).trans (congrArg₂ (rows m c) ?_ ?_)
  · show (cfg0.win 0).index t 0 * 2048 + 1 * (i 0).val = _
    rw [index0]; omega
  · show 0 * 64 + 1 * (i 1).val = _
    omega

theorem blk1 (c : Dev nD) (t : Fin cfg0.N) : Is2 (iblk m c 1 t : S64x512.Idx → EReal) fun d k => book m c k d := by
  exact is2_blk (in_v1 m c) _ fun i => ⟨rfl, rfl⟩

theorem blk2 (c : Dev nD) (t : Fin cfg0.N) : Is2 (iblk m c 2 t : S512x64.Idx → EReal) (book m c) := by
  exact is2_blk (in_arg1 m c) _ fun i => ⟨rfl, rfl⟩

theorem blk3 (c : Dev nD) (t : Fin cfg0.N) : Is2 (iblk m c 3 t : S1x512.Idx → EReal) fun _ k => norms m c k := by
  exact is2_blk (in_v4 m c) _ fun i => ⟨rfl, rfl⟩

/-- The quantised rows. -/
def quantOut (c : Dev nD) : S16384x64.Idx → EReal := fun i => pick (book m c) (norms m c) (rows m c (i 0).val) (i 1).val
/-- The square errors of each block of rows, in every lane. -/
def lossOut (c : Dev nD) : S8x1x128.Idx → EReal := fun i => lossOf (book m c) (norms m c) (fun r => rows m c (2048 * (i 0).val + r)) 4

theorem arr4 (c : Dev nD) : (dats m 0 c).arrAt 4 cfg0.N = quantOut m c := by
  refine (dats m 0 c).arrAt_eq_of_covers 4 (quantOut m c) (by decide +kernel) (fun t hf y => ?_)
  blk_simp
  rw [after0_4]
  refine (out4 c _ _ _ _ _ _ _ _ _ _ _ _ _ _ _ _ _ (blk0 m c t) (blk1 m c t) (blk2 m c t) (blk3 m c t) y).trans ?_
  show pick (book m c) (norms m c) (rows m c (2048 * t.val + (y 0).val)) (y 1).val
    = pick (book m c) (norms m c) (rows m c ((cfg0.win 4).index t 0 * 2048 + 1 * (y 0).val)) (0 * 64 + 1 * (y 1).val)
  rw [index4, show t.val * 2048 + 1 * (y 0).val = 2048 * t.val + (y 0).val by omega, show 0 * 64 + 1 * (y 1).val = (y 1).val by omega]

theorem arr5 (c : Dev nD) : (dats m 0 c).arrAt 5 cfg0.N = lossOut m c := by
  refine (dats m 0 c).arrAt_eq_of_covers 5 (lossOut m c) (by decide +kernel) (fun t hf y => ?_)
  blk_simp
  rw [after0_5]
  refine (out5 c _ _ _ _ _ _ _ _ _ _ _ _ _ _ _ _ _ (blk0 m c t) (blk1 m c t) (blk2 m c t) (blk3 m c t) y).trans ?_
  show lossOf (book m c) (norms m c) (fun r => rows m c (2048 * t.val + r)) 4
    = lossOf (book m c) (norms m c) (fun r => rows m c (2048 * ((cfg0.win 5).index t 0 * 1 + 1 * (y 0).val) + r)) 4
  have h0 : (y 0).val < 1 := (y 0).isLt
  rw [index5, show t.val * 1 + 1 * (y 0).val = t.val by omega]

/-- The quantiser's run. -/
theorem run_vq : θ_run defs (onTc (τ := τ) (main (F := Ideal))) ⟨m, fun _ => 0, ρ⟩ fun r => ∀ c : Dev nD,
      r.2.mem ((c.tc : Thread nD τ).loc main_v5_0) = quantOut m c
      ∧ r.2.mem ((c.tc : Thread nD τ).loc main_v5_1) = lossOut m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr4 m c), (h c).2.1.trans (arr5 m c), (h c).2.2⟩) (Value.run_blocks m ρ)

end Cert.VqIdeal.Hand

end
-- ==== Proof.RefVqRun.lean ====
/- The run of the quantiser's reference: its host operations in order, and what its results hold. -/
module

public import proofs.«01_k».proof.Proof.Gen.RefVqIdeal
public import proofs.«01_k».proof.Proof.Gen.RefEncIdeal.Run
public import Idealize.ShloMosaic.Lib.StableHlo.Run
public import Idealize.ShloMosaic.Lib.Pipeline.Frame

@[expose] public section

set_option maxRecDepth 16384
set_option maxHeartbeats 4000000

noncomputable section

namespace Cert.RefVqIdeal.Hand

open Cert.RefVqIdeal Cert.RefVqIdeal.Gen Idealize.ShloMosaic Idealize.ShloMosaic.TcCoe Idealize.SL.Sem Idealize.ShloMosaic.StableHlo

variable {F : FTy → Type} [FloatOps F]

/-- The operations up to the distances. -/
abbrev opsDist : List (HloOp τ sig (Elt F)) :=
  [ reshape main_arg0 main_v0 (rfl : (.f32 : EltTy) = .f32) shapeCasts_S8x64x2048_S16384x64,
    binary main_v0 main_v0 main_v1 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v1 main_cst main_v2 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    binary main_arg1 main_arg1 main_v4 (mulf : (⟨S512x64, .f32⟩ : BufTy).Contents (Elt F) → (⟨S512x64, .f32⟩ : BufTy).Contents (Elt F) → (⟨S512x64, .f32⟩ : BufTy).Contents (Elt F)),
    nullary main_cst_0 (constant S_ .f32 0x00000000#32),
    binary main_v4 main_cst_0 main_v5 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v5 main_v6 (broadcastInDim S1x512 ![1] bcast_S512_S1x512_1 : (⟨S512, .f32⟩ : BufTy).Contents (Elt F) → (⟨S1x512, .f32⟩ : BufTy).Contents (Elt F)),
    unary main_v3 main_v7 (broadcastInDim S16384x512 ![0, 1] bcast_S16384x1_S16384x512_0_1 : (⟨S16384x1, .f32⟩ : BufTy).Contents (Elt F) → (⟨S16384x512, .f32⟩ : BufTy).Contents (Elt F)),
    unary main_v6 main_v8 (broadcastInDim S16384x512 ![0, 1] bcast_S1x512_S16384x512_0_1 : (⟨S1x512, .f32⟩ : BufTy).Contents (Elt F) → (⟨S16384x512, .f32⟩ : BufTy).Contents (Elt F)),
    binary main_v7 main_v8 main_v9 (addf : (⟨S16384x512, .f32⟩ : BufTy).Contents (Elt F) → (⟨S16384x512, .f32⟩ : BufTy).Contents (Elt F) → (⟨S16384x512, .f32⟩ : BufTy).Contents (Elt F)),
    unary main_arg1 main_v10 ((transpose S64x512 [1, 0] · transposes_S512x64_S64x512_1_0) : (⟨S512x64, .f32⟩ : BufTy).Contents (Elt F) → (⟨S64x512, .f32⟩ : BufTy).Contents (Elt F)),
    binary main_v0 main_v10 main_v11 ((fun l r => Host.dotGeneral dot_S16384x64_S64x512_S16384x512_1_0_0_1_n_n none l r) : (⟨S16384x64, .f32⟩ : BufTy).Contents (Elt F) → (⟨S64x512, .f32⟩ : BufTy).Contents (Elt F) → (⟨S16384x512, .f32⟩ : BufTy).Contents (Elt F)),
    nullary main_cst_1 (constant S_ .f32 0x40000000#32),
    unary main_cst_1 main_v12 (broadcastInDim S16384x512 ![] bcast_S_S16384x512 : (⟨S_, .f32⟩ : BufTy).Contents (Elt F) → (⟨S16384x512, .f32⟩ : BufTy).Contents (Elt F)),
    binary main_v12 main_v11 main_v13 (mulf : (⟨S16384x512, .f32⟩ : BufTy).Contents (Elt F) → (⟨S16384x512, .f32⟩ : BufTy).Contents (Elt F) → (⟨S16384x512, .f32⟩ : BufTy).Contents (Elt F)),
    binary main_v9 main_v13 main_v14 (subf : (⟨S16384x512, .f32⟩ : BufTy).Contents (Elt F) → (⟨S16384x512, .f32⟩ : BufTy).Contents (Elt F) → (⟨S16384x512, .f32⟩ : BufTy).Contents (Elt F)) ]

/-- The operations of the nearest row and its one-hot rows. -/
abbrev opsArg : List (HloOp τ sig (Elt F)) :=
  [ TRef.nullary (TRef.of (T := ⟨S16384x512, .i32⟩) main_call0_v0) (iotaInDim S16384x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x512, .f32⟩) main_v14) (TRef.of (T := ⟨S16384x512, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x512_S16384_d1 h_S_ j).1),
    TRef.quaternary (TRef.of (T := ⟨S16384x512, .f32⟩) main_v14) (TRef.of (T := ⟨S16384x512, .i32⟩) main_call0_v0) (TRef.of (T := ⟨S_, .f32⟩) main_call0_cst) (TRef.of (T := ⟨S_, .i32⟩) main_call0_c) (TRef.of (T := ⟨S16384, .i32⟩) main_v15) (fun x y u v j => (Host.argReduce reducer_argmin_f32_i32 x y u v reducesTo_S16384x512_S16384_d1 h_S_ j).2),
    TRef.unary (TRef.of (T := ⟨S16384, .i32⟩) main_v15) (TRef.of (T := ⟨S16384x1, .i32⟩) main_call1_v0) (broadcastInDim S16384x1 ![0] bcast_S16384_S16384x1_0),
    TRef.nullary (TRef.of (T := ⟨S1x512, .i32⟩) main_call1_v1) (iotaInDim S1x512 32 1),
    TRef.unary (TRef.of (T := ⟨S16384x1, .i32⟩) main_call1_v0) (TRef.of (T := ⟨S16384x512, .i32⟩) main_call1_v2) (broadcastInDim S16384x512 ![0, 1] bcast_S16384x1_S16384x512_0_1),
    TRef.unary (TRef.of (T := ⟨S1x512, .i32⟩) main_call1_v1) (TRef.of (T := ⟨S16384x512, .i32⟩) main_call1_v3) (broadcastInDim S16384x512 ![0, 1] bcast_S1x512_S16384x512_0_1),
    TRef.binary (TRef.of (T := ⟨S16384x512, .i32⟩) main_call1_v2) (TRef.of (T := ⟨S16384x512, .i32⟩) main_call1_v3) (TRef.of (T := ⟨S16384x512, .i1⟩) main_call1_v4) (cmpi .eq),
    TRef.unary (TRef.of (T := ⟨S16384x512, .i1⟩) main_call1_v4) (TRef.of (T := ⟨S16384x512, .f32⟩) main_v16) (uitofp .f32) ]

/-- The operations after the one-hot rows. -/
abbrev opsOut : List (HloOp τ sig (Elt F)) :=
  [ binary main_v16 main_arg1 main_v17 ((fun l r => Host.dotGeneral dot_S16384x512_S512x64_S16384x64_1_0_0_1_n_n none l r) : (⟨S16384x512, .f32⟩ : BufTy).Contents (Elt F) → (⟨S512x64, .f32⟩ : BufTy).Contents (Elt F) → (⟨S16384x64, .f32⟩ : BufTy).Contents (Elt F)),
    binary main_v17 main_v0 main_v18 (subf : (⟨S16384x64, .f32⟩ : BufTy).Contents (Elt F) → (⟨S16384x64, .f32⟩ : BufTy).Contents (Elt F) → (⟨S16384x64, .f32⟩ : BufTy).Contents (Elt F)),
    binary main_v18 main_v18 main_v19 (mulf : (⟨S16384x64, .f32⟩ : BufTy).Contents (Elt F) → (⟨S16384x64, .f32⟩ : BufTy).Contents (Elt F) → (⟨S16384x64, .f32⟩ : BufTy).Contents (Elt F)),
    reshape main_v19 main_v20 (rfl : (.f32 : EltTy) = .f32) shapeCasts_S16384x64_S8x2048x64,
    nullary main_cst_2 (constant S_ .f32 0x00000000#32),
    binary main_v20 main_cst_2 main_v21 ((fun x v => Host.reduceAdd x v reducesTo_S8x2048x64_S8_d1_2 h_S_) : (⟨S8x2048x64, .f32⟩ : BufTy).Contents (Elt F) → (⟨S_, .f32⟩ : BufTy).Contents (Elt F) → (⟨S8, .f32⟩ : BufTy).Contents (Elt F)),
    binary main_v17 main_v0 main_v22 (subf : (⟨S16384x64, .f32⟩ : BufTy).Contents (Elt F) → (⟨S16384x64, .f32⟩ : BufTy).Contents (Elt F) → (⟨S16384x64, .f32⟩ : BufTy).Contents (Elt F)),
    binary main_v0 main_v22 main_v23 (addf : (⟨S16384x64, .f32⟩ : BufTy).Contents (Elt F) → (⟨S16384x64, .f32⟩ : BufTy).Contents (Elt F) → (⟨S16384x64, .f32⟩ : BufTy).Contents (Elt F)),
    unary main_v21 main_v24 (broadcastInDim S8x1x128 ![0] bcast_S8_S8x1x128_0 : (⟨S8, .f32⟩ : BufTy).Contents (Elt F) → (⟨S8x1x128, .f32⟩ : BufTy).Contents (Elt F)) ]

/-- The reference's operations, in order. -/
def ops : List (HloOp τ sig (Elt F)) := opsDist ++ (opsArg ++ opsOut)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsDist_sub : (opsDist : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub ..,
    binary_bufs_sub .., unary_bufs_sub .., unary_bufs_sub .., unary_bufs_sub .., binary_bufs_sub .., unary_bufs_sub .., binary_bufs_sub ..,
    nullary_bufs_sub .., unary_bufs_sub .., binary_bufs_sub .., binary_bufs_sub ..⟩
theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., unary_bufs_sub .., unary_bufs_sub .., binary_bufs_sub .., unary_bufs_sub ..⟩
theorem opsOut_sub : (opsOut : List (HloOp τ sig (Elt F))).Forall fun op => op.bufs ⊆ tcRefs τ sig :=
  ⟨binary_bufs_sub .., binary_bufs_sub .., binary_bufs_sub .., reshape_bufs_sub .., nullary_bufs_sub .., binary_bufs_sub .., binary_bufs_sub ..,
    binary_bufs_sub .., unary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsDist_sub op h, List.forall_iff_forall_mem.mp opsArg_sub op h, List.forall_iff_forall_mem.mp opsOut_sub op h]

theorem opsDist_fresh : (opsDist : List (HloOp τ sig (Elt F))).Forall fun op => op.fresh = ∅ :=
  ⟨rfl, rfl, rfl, rfl, rfl, rfl, rfl, rfl, rfl, rfl, rfl, rfl, rfl, rfl, rfl, rfl, rfl, rfl⟩
theorem opsArg_fresh : (opsArg : List (HloOp τ sig (Elt F))).Forall fun op => op.fresh = ∅ :=
  ⟨rfl, rfl, rfl, rfl, rfl, rfl, rfl, rfl, rfl, rfl, rfl⟩
theorem opsOut_fresh : (opsOut : List (HloOp τ sig (Elt F))).Forall fun op => op.fresh = ∅ :=
  ⟨rfl, rfl, rfl, rfl, rfl, rfl, rfl, rfl, rfl⟩
theorem ops_fresh : ∀ op ∈ (ops : List (HloOp τ sig (Elt F))), op.fresh = ∅ := fun op h => by
  simp only [ops, List.mem_append] at h
  rcases h with h | h | h
  exacts [List.forall_iff_forall_mem.mp opsDist_fresh op h, List.forall_iff_forall_mem.mp opsArg_fresh op h, List.forall_iff_forall_mem.mp opsOut_fresh op h]

variable (x0 : (⟨S8x64x2048, .f32⟩ : BufTy).Contents (Elt F)) (x1 : (⟨S512x64, .f32⟩ : BufTy).Contents (Elt F))

/-- The rows to quantise. -/
def flat : (⟨S16384x64, .f32⟩ : BufTy).Contents (Elt F) := shapeCast S16384x64 x0 shapeCasts_S8x64x2048_S16384x64
/-- The distances of rows `f` to the codebook's. -/
def dist (f : (⟨S16384x64, .f32⟩ : BufTy).Contents (Elt F)) : (⟨S16384x512, .f32⟩ : BufTy).Contents (Elt F) :=
  subf (addf (broadcastInDim S16384x512 ![0, 1] bcast_S16384x1_S16384x512_0_1 (broadcastInDim S16384x1 ![0] bcast_S16384_S16384x1_0
      (Host.reduceAdd (mulf f f) (constant S_ .f32 0x00000000#32) reducesTo_S16384x64_S16384_d1 h_S_)))
    (broadcastInDim S16384x512 ![0, 1] bcast_S1x512_S16384x512_0_1 (broadcastInDim S1x512 ![1] bcast_S512_S1x512_1
      (Host.reduceAdd (mulf x1 x1) (constant S_ .f32 0x00000000#32) reducesTo_S512x64_S512_d1 h_S_))))
    (mulf (broadcastInDim S16384x512 ![] bcast_S_S16384x512 (constant S_ .f32 0x40000000#32))
      (Host.dotGeneral dot_S16384x64_S64x512_S16384x512_1_0_0_1_n_n none f (transpose S64x512 [1, 0] x1 transposes_S512x64_S64x512_1_0)))
/-- The nearest row's number, by the distances. -/
def near (d : (⟨S16384x512, .f32⟩ : BufTy).Contents (Elt F)) : (⟨S16384, .i32⟩ : BufTy).Contents (Elt F) :=
  fun j => (Host.argReduce reducer_argmin_f32_i32 d (iotaInDim S16384x512 32 1) (constant S_ .f32 0x7F800000#32) (constantI S_ 32 0#32)
    reducesTo_S16384x512_S16384_d1 h_S_ j).2
/-- One at each row's number and zero elsewhere. -/
def hot (n : (⟨S16384, .i32⟩ : BufTy).Contents (Elt F)) : (⟨S16384x512, .f32⟩ : BufTy).Contents (Elt F) :=
  uitofp .f32 (cmpi .eq (broadcastInDim S16384x512 ![0, 1] bcast_S16384x1_S16384x512_0_1 (broadcastInDim S16384x1 ![0] bcast_S16384_S16384x1_0 n))
    (broadcastInDim S16384x512 ![0, 1] bcast_S1x512_S16384x512_0_1 (iotaInDim S1x512 32 1)))
/-- The nearest rows. -/
def quant (h : (⟨S16384x512, .f32⟩ : BufTy).Contents (Elt F)) : (⟨S16384x64, .f32⟩ : BufTy).Contents (Elt F) :=
  Host.dotGeneral dot_S16384x512_S512x64_S16384x64_1_0_0_1_n_n none h x1
/-- The sums of the square errors. -/
def loss (q f : (⟨S16384x64, .f32⟩ : BufTy).Contents (Elt F)) : (⟨S8x1x128, .f32⟩ : BufTy).Contents (Elt F) :=
  broadcastInDim S8x1x128 ![0] bcast_S8_S8x1x128_0 (Host.reduceAdd (shapeCast S8x2048x64 (mulf (subf q f) (subf q f)) shapeCasts_S16384x64_S8x2048x64)
    (constant S_ .f32 0x00000000#32) reducesTo_S8x2048x64_S8_d1_2 h_S_)

variable (V0 : Valuation τ sig (Elt F))

theorem dist_v14 : after opsDist V0 (no_index (Proc.devRef .tc main_v14)) = dist (V0 (Proc.devRef .tc main_arg1)) (flat (V0 (Proc.devRef .tc main_arg0))) := by
  simp only [opsDist]; after_results_simp; rfl
theorem dist_v0 : after opsDist V0 (no_index (Proc.devRef .tc main_v0)) = flat (V0 (Proc.devRef .tc main_arg0)) := by
  simp only [opsDist]; after_results_simp; rfl
theorem dist_arg0 : after opsDist V0 (no_index (Proc.devRef .tc main_arg0)) = V0 (Proc.devRef .tc main_arg0) := by
  simp only [opsDist]; after_results_simp
theorem dist_arg1 : after opsDist V0 (no_index (Proc.devRef .tc main_arg1)) = V0 (Proc.devRef .tc main_arg1) := by
  simp only [opsDist]; after_results_simp

theorem arg_v16 : after opsArg V0 (no_index (Proc.devRef .tc main_v16)) = hot (near (V0 (Proc.devRef .tc main_v14))) := by
  simp only [opsArg, TRef.nullary, TRef.quaternary, TRef.binary, TRef.unary, TRef.toBuf, TRef.ofBuf, cast_eq]
  after_results_simp; rfl
theorem arg_v0 : after opsArg V0 (no_index (Proc.devRef .tc main_v0)) = V0 (Proc.devRef .tc main_v0) := by
  simp only [opsArg, TRef.nullary, TRef.quaternary, TRef.binary, TRef.unary, TRef.toBuf, TRef.ofBuf, cast_eq]
  after_results_simp
theorem arg_arg0 : after opsArg V0 (no_index (Proc.devRef .tc main_arg0)) = V0 (Proc.devRef .tc main_arg0) := by
  simp only [opsArg, TRef.nullary, TRef.quaternary, TRef.binary, TRef.unary, TRef.toBuf, TRef.ofBuf, cast_eq]
  after_results_simp
theorem arg_arg1 : after opsArg V0 (no_index (Proc.devRef .tc main_arg1)) = V0 (Proc.devRef .tc main_arg1) := by
  simp only [opsArg, TRef.nullary, TRef.quaternary, TRef.binary, TRef.unary, TRef.toBuf, TRef.ofBuf, cast_eq]
  after_results_simp

theorem out_v23 : after opsOut V0 (no_index (Proc.devRef .tc main_v23))
    = addf (V0 (Proc.devRef .tc main_v0)) (subf (quant (V0 (Proc.devRef .tc main_arg1)) (V0 (Proc.devRef .tc main_v16))) (V0 (Proc.devRef .tc main_v0))) := by
  simp only [opsOut]; after_results_simp; rfl
theorem out_v24 : after opsOut V0 (no_index (Proc.devRef .tc main_v24))
    = loss (quant (V0 (Proc.devRef .tc main_arg1)) (V0 (Proc.devRef .tc main_v16))) (V0 (Proc.devRef .tc main_v0)) := by
  simp only [opsOut]; after_results_simp; rfl
theorem out_arg0 : after opsOut V0 (no_index (Proc.devRef .tc main_arg0)) = V0 (Proc.devRef .tc main_arg0) := by
  simp only [opsOut]; after_results_simp
theorem out_arg1 : after opsOut V0 (no_index (Proc.devRef .tc main_arg1)) = V0 (Proc.devRef .tc main_arg1) := by
  simp only [opsOut]; after_results_simp

/-- The operations run in three parts. -/
theorem after_ops : after ops V0 = after opsOut (after opsArg (after opsDist V0)) := by
  simp only [ops, after_append]

/-- The reference's rows. -/
def refQ : (⟨S16384x64, .f32⟩ : BufTy).Contents (Elt F) := quant x1 (hot (near (dist x1 (flat x0))))

/-- The reference's run, with its results. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = addf (flat (m ((c.tc : Thread nD τ).loc main_arg0)))
        (subf (refQ (m ((c.tc : Thread nD τ).loc main_arg0)) (m ((c.tc : Thread nD τ).loc main_arg1))) (flat (m ((c.tc : Thread nD τ).loc main_arg0))))
      ∧ r.2.mem ((c.tc : Thread nD τ).loc main_v24) = loss (refQ (m ((c.tc : Thread nD τ).loc main_arg0)) (m ((c.tc : Thread nD τ).loc main_arg1)))
        (flat (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (by
        rw [after_ops, out_v23, arg_arg1, arg_v16, arg_v0, dist_arg1, dist_v14, dist_v0]; rfl),
      (h c main_v24).trans (by rw [after_ops, out_v24, arg_arg1, arg_v16, arg_v0, dist_arg1, dist_v14, dist_v0]; rfl),
      (h c main_arg0).trans (by rw [after_ops, out_arg0, arg_arg0, dist_arg0]),
      (h c main_arg1).trans (by rw [after_ops, out_arg1, arg_arg1, dist_arg1])⟩)
    (run_seq scopedRefs_eq scopedSems_eq defs main (fun _ => ops) main_eq (fun _ => ops_sub) m ρ fun _ => ops_fresh)

end Cert.RefVqIdeal.Hand

end
-- ==== Proof.VqNear.lean ====
/- The reference's arg-min: over a row's values it is the first place where they are least. -/
module

public import proofs.«01_k».proof.Proof.RefVqRun
public import proofs.«01_k».proof.Proof.VqPick
public import Mathlib.Data.Prod.Lex

@[expose] public section

set_option maxRecDepth 16384

noncomputable section

namespace Cert.RefVqIdeal.Hand

open Cert.RefVqIdeal Cert.RefVqIdeal.Gen
open Idealize.ShloMosaic PhaseConv
open scoped BigOperators

/-- A value and its place, values compared first. -/
def key (p : EReal × BitVec 32) : EReal ×ₗ ℤ := toLex (p.1, p.2.toInt)

theorem key_inj : Function.Injective key := fun p q h => by
  have h' : (p.1, p.2.toInt) = (q.1, q.2.toInt) := toLex.injective h
  obtain ⟨h1, h2⟩ := Prod.mk.inj h'
  exact Prod.ext h1 (BitVec.eq_of_toInt_eq h2)

theorem key_le {p q : EReal × BitVec 32} : key p ≤ key q ↔ p.1 < q.1 ∨ p.1 = q.1 ∧ p.2.toInt ≤ q.2.toInt :=
  Prod.Lex.toLex_le_toLex

/-- The reducer as two choices. -/
theorem red_eq (a b : EReal × BitVec 32) :
    reducer_argmin_f32_i32 (F := Ideal) a b
      = (if a.1 < b.1 then a.1 else b.1, if a.1 < b.1 ∨ a.1 = b.1 ∧ a.2.toInt < b.2.toInt then a.2 else b.2) := by
  obtain ⟨a1, a2⟩ := a
  obtain ⟨b1, b2⟩ := b
  have hs : IntOp.cmpi .slt a2 b2 = if a2.toInt < b2.toInt then 1#1 else 0#1 := by
    show BitVec.ofBool (a2.slt b2) = _
    rw [BitVec.slt_eq_decide]
    by_cases h : a2.toInt < b2.toInt <;> simp [h]
  unfold reducer_argmin_f32_i32
  simp only [Ideal.cmpf_def, hs]
  by_cases h1 : a1 < b1
  · simp [h1, h1.ne, Ideal.cmp, Scalar.select, IntOp.ori, IntOp.andi]
  · by_cases h2 : a1 = b1
    · by_cases h3 : a2.toInt < b2.toInt <;> simp [h1, h2, h3, Ideal.cmp, Scalar.select, IntOp.ori, IntOp.andi]
    · simp [h1, h2, Ideal.cmp, Scalar.select, IntOp.ori, IntOp.andi]

/-- The reducer keeps the lesser. -/
theorem key_red (a b : EReal × BitVec 32) : key (reducer_argmin_f32_i32 (F := Ideal) a b) = min (key a) (key b) := by
  rw [red_eq]
  rcases lt_trichotomy a.1 b.1 with h | h | h
  · rw [if_pos h, if_pos (Or.inl h)]
    exact (min_eq_left (key_le.mpr (Or.inl h))).symm
  · rw [if_neg (h ▸ lt_irrefl _)]
    by_cases h3 : a.2.toInt < b.2.toInt
    · rw [if_pos (Or.inr ⟨h, h3⟩), min_eq_left (key_le.mpr (Or.inr ⟨h, h3.le⟩)), ← h]
    · rw [if_neg (by rintro (h' | h'); exacts [absurd h' (h ▸ lt_irrefl _), h3 h'.2]),
        min_eq_right (key_le.mpr (Or.inr ⟨h.symm, not_lt.mp h3⟩))]
  · rw [if_neg h.not_gt, if_neg (by rintro (h' | h'); exacts [h.not_gt h', h.ne' h'.1])]
    exact (min_eq_right (key_le.mpr (Or.inl h))).symm

instance red_comm : Std.Commutative (reducer_argmin_f32_i32 (F := Ideal)) :=
  ⟨fun a b => key_inj (by rw [key_red, key_red, min_comm])⟩

instance red_assoc : Std.Associative (reducer_argmin_f32_i32 (F := Ideal)) :=
  ⟨fun a b c => key_inj (by simp only [key_red, min_assoc])⟩

/-- The reducer's fold over a row's values and places. -/
theorem fold_red (s : ℕ → EReal) :
    ((Finset.univ : Finset (Fin 512)).fold (reducer_argmin_f32_i32 (F := Ideal)) ((⊤ : EReal), 0#32) fun k => (s k.val, BitVec.ofNat 32 k.val))
      = (s (first 512 s), BitVec.ofNat 32 (first 512 s)) := by
  have hs := first_is (n := 512) (by decide) s
  refine key_inj ?_
  rw [show key (Finset.fold _ _ _ _) = _ from (Finset.fold_hom (op := reducer_argmin_f32_i32 (F := Ideal)) (op' := (min : EReal ×ₗ ℤ → EReal ×ₗ ℤ → EReal ×ₗ ℤ)) (m := key) key_red).symm]
  refine le_antisymm (Finset.fold_min_le _ |>.mpr (Or.inr ⟨⟨first 512 s, hs.1⟩, Finset.mem_univ _, le_rfl⟩))
    (Finset.le_fold_min _ |>.mpr ⟨?_, fun k _ => ?_⟩)
  · refine key_le.mpr ?_
    rcases lt_or_eq_of_le (le_top : s (first 512 s) ≤ ⊤) with h | h
    · exact Or.inl h
    · refine Or.inr ⟨h, ?_⟩
      have h0 : first 512 s = 0 := by
        by_contra hne
        exact absurd (hs.2.2 0 (Nat.pos_of_ne_zero hne)) (by rw [h]; exact not_top_lt)
      show (BitVec.ofNat 32 (first 512 s)).toInt ≤ _
      rw [h0]
  · refine key_le.mpr ?_
    rcases lt_or_eq_of_le (hs.2.1 k.val k.isLt) with h | h
    · exact Or.inl h
    · refine Or.inr ⟨h, ?_⟩
      show (BitVec.ofNat 32 (first 512 s)).toInt ≤ (BitVec.ofNat 32 k.val).toInt
      rw [toInt_small hs.1.le, toInt_small k.isLt.le]
      by_contra hlt
      exact (hs.2.2 k.val (by omega)).ne h

/-- The arg-min along rows, for any number of rows. -/
theorem argmin_val {a : ℕ} {d : FVec Ideal (B2 a 512) .f32} {D : ℕ → ℕ → EReal} (hd : Is2 d D) (h : (B2 a 512).ReducesTo [1] (B1 a)) {u : Shape} (hu : 0 < u.numel) (j : (B1 a).Idx) :
    Host.argReduce (F := Ideal) (φ := .f32) reducer_argmin_f32_i32 d (iotaInDim (B2 a 512) 32 1) (constant u .f32 0x7F800000#32) (constantI u 32 0#32) h hu j
      = (D (j 0).val (first 512 (D (j 0).val)), BitVec.ofNat 32 (first 512 (D (j 0).val))) := by
  rw [Ideal.argReduce_eq_reduce2, Host.reduce2_eq_foldl_fiber, Host.argReduceFiber, List.foldl_map]
  refine (Shape.foldl_filter_rowMajor_eq_fold h.drop (reducer_argmin_f32_i32 (F := Ideal))
    ((Ideal.ofBits .f32 0x7F800000#32 : EReal), 0#32) (fun i => (d i, iotaInDim (B2 a 512) 32 1 i)) j).trans ?_
  rw [ofBits_inf, h.fold_fiber_r2_a1]
  refine Eq.trans (Finset.fold_congr fun k _ => ?_) (fold_red (D (j 0).val))
  exact Prod.ext (hd _) rfl

theorem near_eq (d : (⟨S16384x512, .f32⟩ : BufTy).Contents (Elt Ideal)) :
    near d = fun j => (Host.argReduce (F := Ideal) (φ := .f32) reducer_argmin_f32_i32 d (iotaInDim S16384x512 32 1) (constant S_ .f32 0x7F800000#32) (constantI S_ 32 0#32)
      reducesTo_S16384x512_S16384_d1 h_S_ j).2 := by
  delta near
  rfl

theorem argmin_snd {d : (⟨S16384x512, .f32⟩ : BufTy).Contents (Elt Ideal)} {D : ℕ → ℕ → EReal} (hd : Is2 (d : S16384x512.Idx → EReal) D) (j : S16384.Idx) :
    (Host.argReduce (F := Ideal) (φ := .f32) reducer_argmin_f32_i32 d (iotaInDim S16384x512 32 1) (constant S_ .f32 0x7F800000#32) (constantI S_ 32 0#32)
      reducesTo_S16384x512_S16384_d1 h_S_ j).2 = BitVec.ofNat 32 (first 512 (D (j 0).val)) := by
  have h := argmin_val hd reducesTo_S16384x512_S16384_d1 h_S_ j
  exact congrArg (fun p => p.2) h

/-- The reference's nearest row, from the values of its distances. -/
theorem near_val {d : (⟨S16384x512, .f32⟩ : BufTy).Contents (Elt Ideal)} {D : ℕ → ℕ → EReal} (hd : Is2 (d : S16384x512.Idx → EReal) D) (j : S16384.Idx) :
    near d j = BitVec.ofNat 32 (first 512 (D (j 0).val)) :=
  (congrFun (near_eq d) j).trans (argmin_snd hd j)

end Cert.RefVqIdeal.Hand

end
-- ==== Proof.RefVqVal.lean ====
/- The values of the quantiser's reference: the row of least score and the square errors of each block of rows. -/
module

public import proofs.«01_k».proof.Proof.VqNear
public import Idealize.ShloMosaic.Lib.StackMember

@[expose] public section

set_option maxRecDepth 16384

noncomputable section

namespace PhaseConv

open Idealize.ShloMosaic
open scoped BigOperators

/-- The place of a row's number in a column of numbers, by the host's operations. -/
theorem colD_apply {α : Type} {a b : ℕ} (x : (B1 a).Idx → α) (h : (B1 a).BroadcastsInDim (B2 a 1) ![0]) (h' : (B2 a 1).BroadcastsInDim (B2 a b) ![0, 1]) (i : (B2 a b).Idx) :
    broadcastInDim (B2 a b) ![0, 1] h' (broadcastInDim (B2 a 1) ![0] h x) i = x (ValueIdx.ix1 ⟨(i 0).val, (i 0).isLt⟩) := by
  have h0 : (i 0).val < a := (i 0).isLt
  refine (broadcastInDim_apply _ h' _ i (ValueIdx.ix2 ⟨(i 0).val, h0⟩ 0) (fun d => ?_)).trans (broadcastInDim_apply _ h x _ (ValueIdx.ix1 ⟨(i 0).val, h0⟩) (fun d => ?_))
  · match d with
    | ⟨0, _⟩ =>
      show (i 0).val = if a = 1 then 0 else (i 0).val
      split
      · omega
      · rfl
    | ⟨1, _⟩ => rfl
  · match d with
    | ⟨0, _⟩ =>
      show (i 0).val = if a = 1 then 0 else (i 0).val
      split
      · omega
      · rfl

/-- A row stretched down the rows, by the host's operation. -/
theorem rowD_apply {α : Type} {a b : ℕ} (x : (B2 1 b).Idx → α) (h : (B2 1 b).BroadcastsInDim (B2 a b) ![0, 1]) (i : (B2 a b).Idx) :
    broadcastInDim (B2 a b) ![0, 1] h x i = x (ValueIdx.ix2 0 ⟨(i 1).val, (i 1).isLt⟩) := by
  have h1 : (i 1).val < b := (i 1).isLt
  refine broadcastInDim_apply _ h x i (ValueIdx.ix2 0 ⟨(i 1).val, h1⟩) (fun d => ?_)
  match d with
  | ⟨0, _⟩ => rfl
  | ⟨1, _⟩ =>
    show (i 1).val = if b = 1 then 0 else (i 1).val
    split
    · omega
    · rfl

/-- A list as the only row, entry by entry. -/
theorem layD_apply {α : Type} {n : ℕ} (x : (B1 n).Idx → α) (h : (B1 n).BroadcastsInDim (B2 1 n) ![1]) (i : (B2 1 n).Idx) :
    broadcastInDim (B2 1 n) ![1] h x i = x (ValueIdx.ix1 ⟨(i 1).val, (i 1).isLt⟩) := by
  have h1 : (i 1).val < n := (i 1).isLt
  refine broadcastInDim_apply _ h x i (ValueIdx.ix1 ⟨(i 1).val, h1⟩) (fun d => ?_)
  match d with
  | ⟨0, _⟩ =>
    show (i 1).val = if n = 1 then 0 else (i 1).val
    split
    · omega
    · rfl

/-- A product of matrices by the host. -/
theorem is2_dotHost {M K N : ℕ} {d : DotDims (B2 M K) (B2 K N) (B2 M N)} (hd : d = DotDims.plain M K N) {x : FVec Ideal (B2 M K) .f32} {y : FVec Ideal (B2 K N) .f32}
    {X Y : ℕ → ℕ → EReal} (hx : Is2 x X) (hy : Is2 y Y) :
    Is2 (Host.dotGeneral (F := Ideal) d none x y) (fun i j => dotR K (X i) (fun k => Y k j)) := fun i => by
  subst hd
  rw [ValueIdx.eq_ix2 i]
  refine (StackMember.dotGeneral_plain_apply none x y (i 0) (i 1)).trans (Eq.trans (Finset.sum_congr rfl fun k _ => ?_) (sum_fin_dotR K _ _))
  exact congrArg₂ (· * ·) (hx _) (hy _)

/-- The rows' square sums by the host. -/
theorem sumSq_apply {a b : ℕ} {x : FVec Ideal (B2 a b) .f32} {X : ℕ → ℕ → EReal} (hx : Is2 x X) (h : (B2 a b).ReducesTo [1] (B1 a)) {u : Shape} (hu : 0 < u.numel) (j : (B1 a).Idx) :
    (Host.reduceAdd (F := Ideal) (φ := .f32) (mulf x x) (constant u .f32 0x00000000#32) h hu j : EReal) = dotR b (X (j 0).val) (X (j 0).val) := by
  refine (Ideal.hostReduceAdd_r2_a1 h (mulf x x) _ j).trans ?_
  refine (congrArg (· + _) Ideal.ofBits_zero_f32).trans ((zero_add _).trans ?_)
  refine Eq.trans (Finset.sum_congr rfl fun k _ => ?_) (sum_fin_dotR b _ _)
  exact congrArg₂ (· * ·) (hx _) (hx _)

/-- A sum of squares of reals is real. -/
theorem sumSq_real {n : ℕ} {f : ℕ → EReal} (h : ∀ k < n, ∃ c : ℝ, f k = (c : EReal)) : ∃ c : ℝ, dotR n f f = (c : EReal) :=
  Finset.sum_induction (fun k => f k * f k) (fun x => ∃ c : ℝ, x = (c : EReal)) (fun _ _ ⟨a, ha⟩ ⟨b, hb⟩ => ⟨a + b, by rw [ha, hb, EReal.coe_add]⟩)
    ⟨0, EReal.coe_zero.symm⟩ fun k hk => by
      obtain ⟨c, hc⟩ := h k (Finset.mem_range.mp hk)
      exact ⟨c * c, by rw [hc, EReal.coe_mul]⟩

/-- Rows dealt to blocks. -/
theorem is3_deal {a b c n : ℕ} {x : (B2 n c).Idx → EReal} {X : ℕ → ℕ → EReal} (hx : Is2 x X) (hn : n = a * b) (h : (B2 n c).ShapeCasts (B3 a b c)) :
    Is3 (shapeCast (B3 a b c) x h) (fun i j k => X (b * i + j) k) := fun i => by
  have h0 : (i 0).val < a := (i 0).isLt
  have h1 : (i 1).val < b := (i 1).isLt
  have h2 : (i 2).val < c := (i 2).isLt
  have hlt : b * (i 0).val + (i 1).val < n := by
    rw [hn]
    calc b * (i 0).val + (i 1).val < b * (i 0).val + b := by omega
      _ = ((i 0).val + 1) * b := by ring
      _ ≤ a * b := Nat.mul_le_mul_right b h0
  refine (shapeCast_apply x h i (ValueIdx.ix2 ⟨b * (i 0).val + (i 1).val, hlt⟩ ⟨(i 2).val, h2⟩) ?_).trans (hx _)
  rw [Shape.rowMajor_val_two, Shape.rowMajor_val_three]
  show (b * (i 0).val + (i 1).val) * c + (i 2).val = ((i 0).val * b + (i 1).val) * c + (i 2).val
  rw [Nat.mul_comm b]

/-- A sum over rows, by tiles of rows. -/
theorem sum_tiles (s n : ℕ) (g : ℕ → EReal) : ∑ r ∈ Finset.range (s * n), g r = ∑ k ∈ Finset.range n, ∑ r ∈ Finset.range s, g (s * k + r) := by
  induction n with
  | zero => rw [Nat.mul_zero, Finset.sum_range_zero, Finset.sum_range_zero]
  | succ n ih => rw [Nat.mul_succ, Finset.sum_range_add, ih, Finset.sum_range_succ]

/-- A real number added to the difference from it. -/
theorem real_add_sub (c : ℝ) (q : EReal) : (c : EReal) + (q - c) = q := by
  induction q with
  | bot => rfl
  | top => rfl
  | coe q => rw [← EReal.coe_sub, ← EReal.coe_add, add_sub_cancel]

end PhaseConv

namespace Cert.RefVqIdeal.Hand

open Cert.RefVqIdeal Cert.RefVqIdeal.Gen
open Idealize.ShloMosaic PhaseConv
open scoped BigOperators

variable {x0 : (⟨S8x64x2048, .f32⟩ : BufTy).Contents (Elt Ideal)} {x1 : (⟨S512x64, .f32⟩ : BufTy).Contents (Elt Ideal)} {f q : (⟨S16384x64, .f32⟩ : BufTy).Contents (Elt Ideal)}
  {A B E : ℕ → ℕ → EReal} {N : ℕ → EReal}

/-- The square sums of the codebook's rows. -/
def normsArr (x : FVec Ideal S512x64 .f32) : S512.Idx → EReal :=
  Host.reduceAdd (F := Ideal) (φ := .f32) (mulf x x) (constant S_ .f32 0x00000000#32) reducesTo_S512x64_S512_d1 h_S_

/-- The distances: the row's square sum, the codebook row's, less the doubled product. -/
theorem dist_val (hf : Is2 (f : S16384x64.Idx → EReal) A) (h1 : Is2 (x1 : S512x64.Idx → EReal) E) (hN : Is1 (normsArr x1) N) :
    Is2 (dist x1 f : S16384x512.Idx → EReal) (fun r k => dotR 64 (A r) (A r) + N k - Ideal.ofBits .f32 0x40000000#32 * dotR 64 (A r) (E k)) := fun i => by
  unfold dist
  refine congrArg₂ (fun u v : EReal => u - v) (congrArg₂ (fun u v : EReal => u + v) ?_ ?_) (congrArg (fun v : EReal => Ideal.ofBits .f32 0x40000000#32 * v) ?_)
  · exact (colD_apply _ _ _ i).trans (sumSq_apply hf _ _ _)
  · exact (rowD_apply _ _ i).trans ((layD_apply _ _ _).trans (hN _))
  · exact is2_dotHost rfl hf (is2_tr h1 _) i

/-- The number of the codebook row nearest to a row. -/
def place (A E : ℕ → ℕ → EReal) (N : ℕ → EReal) (r : ℕ) : ℕ :=
  first 512 fun k => dotR 64 (A r) (A r) + N k - Ideal.ofBits .f32 0x40000000#32 * dotR 64 (A r) (E k)

/-- The reference's rows, of real rows: those of least score. -/
theorem refQ_val (hf : Is2 (flat x0 : S16384x64.Idx → EReal) A) (h1 : Is2 (x1 : S512x64.Idx → EReal) E) (hN : Is1 (normsArr x1) N)
    (hr : ∀ r < 16384, ∀ d < 64, ∃ c : ℝ, A r d = (c : EReal)) :
    Is2 (refQ x0 x1 : S16384x64.Idx → EReal) (fun r d => pick E N (A r) d) := by
  have hn := near_val (dist_val hf h1 hN)
  have hh : Is2 (hot (near (dist x1 (flat x0))) : S16384x512.Idx → EReal) (fun r k => if k = place A E N r then 1 else 0) :=
    is2_hotHost (n := place A E N) (fun i => (first_is (n := 512) (by decide) _).1) (fun i => (colD_apply _ _ _ i).trans (hn _)) (fun i => rowD_apply _ _ i)
  refine (Is2.congr (is2_dotHost rfl hh h1) fun r d hr' hd => ?_)
  obtain ⟨c, hc⟩ := sumSq_real (hr r hr')
  refine (dotR_hot (first_is (n := 512) (by decide) _).1 _).trans ?_
  unfold pick
  refine congrArg (fun k => E k d) (first_shift (by decide) c fun k hk => ?_)
  unfold score
  rw [hc, sub_eq_add_neg, sub_eq_add_neg, add_assoc]

/-- The reference's first result: the rows of least score. -/
theorem fst_val (hf : Is2 (flat x0 : S16384x64.Idx → EReal) A) (hq : Is2 (q : S16384x64.Idx → EReal) B)
    (hr : ∀ r < 16384, ∀ d < 64, ∃ c : ℝ, A r d = (c : EReal)) :
    Is2 (addf (F := Ideal) (φ := .f32) (flat x0) (subf q (flat x0)) : S16384x64.Idx → EReal) B := fun i => by
  show ((flat x0 i : EReal) + ((q i : EReal) - (flat x0 i : EReal)) : EReal) = _
  obtain ⟨c, hc⟩ := hr _ (i 0).isLt _ (i 1).isLt
  rw [hf i, hc, hq i]
  exact real_add_sub c _

/-- The reference's second result: the square errors of each block of rows. -/
theorem snd_val (hf : Is2 (f : S16384x64.Idx → EReal) A) (hq : Is2 (q : S16384x64.Idx → EReal) B) (i : S8x1x128.Idx) :
    (loss q f i : EReal) = ∑ k ∈ Finset.range 4, ∑ r ∈ Finset.range 512, ∑ d ∈ Finset.range 64,
      (B (2048 * (i 0).val + (512 * k + r)) d - A (2048 * (i 0).val + (512 * k + r)) d) * (B (2048 * (i 0).val + (512 * k + r)) d - A (2048 * (i 0).val + (512 * k + r)) d) := by
  have h0 : (i 0).val < 8 := (i 0).isLt
  unfold loss
  refine (broadcastInDim_apply _ _ _ i (ValueIdx.ix1 ⟨(i 0).val, h0⟩) (fun d => ?_)).trans ?_
  · match d with
    | ⟨0, _⟩ => rfl
  refine (Ideal.hostReduceAdd_r3_a12 _ _ _ _).trans ?_
  refine (congrArg (· + _) Ideal.ofBits_zero_f32).trans ((zero_add _).trans ?_)
  refine (Finset.sum_congr rfl fun r _ => (Finset.sum_congr rfl fun d _ => is3_deal (a := 8) (b := 2048) (is2_sq hq hf) rfl shapeCasts_S16384x64_S8x2048x64 _).trans
    (Fin.sum_univ_eq_sum_range (fun d => (B (2048 * (i 0).val + r.val) d - A (2048 * (i 0).val + r.val) d) * (B (2048 * (i 0).val + r.val) d - A (2048 * (i 0).val + r.val) d)) 64)).trans ?_
  refine (Fin.sum_univ_eq_sum_range (fun r => ∑ d ∈ Finset.range 64, (B (2048 * (i 0).val + r) d - A (2048 * (i 0).val + r) d) * (B (2048 * (i 0).val + r) d - A (2048 * (i 0).val + r) d)) 2048).trans ?_
  exact sum_tiles 512 4 fun r => ∑ d ∈ Finset.range 64, (B (2048 * (i 0).val + r) d - A (2048 * (i 0).val + r) d) * (B (2048 * (i 0).val + r) d - A (2048 * (i 0).val + r) d)

end Cert.RefVqIdeal.Hand

end
-- ==== Proof.VqAlg.lean ====
/- The claims about the quantiser: its run is the reference's, for a finite array to quantise. -/
module

public import proofs.«01_k».proof.Defs
public import proofs.«01_k».proof.Proof.VqHost
public import proofs.«01_k».proof.Proof.RefVqVal
public import Idealize.ShloMosaic.Lib.IdealHost

@[expose] public section

set_option maxRecDepth 16384

noncomputable section

namespace Cert.VqIdeal.Hand

open Idealize.ShloMosaic Idealize.ShloMosaic.TcCoe Idealize.SL.Sem PhaseConv
open scoped BigOperators

/-- The facts of the precondition. -/
theorem facts_finite : Cert.Pre_finite.Facts := ⟨by decide⟩

/-- An entry whose absolute value is below infinity is real. -/
theorem real_of_abs {x : EReal} (h : max x (-x) < ⊤) : ∃ c : ℝ, x = (c : EReal) := by
  induction x with
  | bot => exact absurd h (by simp)
  | top => exact absurd h (by simp)
  | coe c => exact ⟨c, rfl⟩

/-- What the precondition says: every entry to quantise is real. -/
theorem finite_real [Cert.Pre_finite.Facts] {x0 : FVec Ideal Cert.Pre_finite.S8x64x2048 .f32} {x1 : FVec Ideal Cert.Pre_finite.S512x64 .f32}
    (h : Cert.Pre_finite.fn (F := Ideal) x0 x1 = fun _ => 1#1) (i : Cert.Pre_finite.S8x64x2048.Idx) : ∃ c : ℝ, (x0 i : EReal) = (c : EReal) := by
  refine real_of_abs ?_
  have hi : Ideal.cmp .olt (max (x0 i : EReal) (-(x0 i : EReal))) (broadcastInDim Cert.Pre_finite.S8x64x2048 ![] Cert.Pre_finite.Facts.bcast_S_S8x64x2048 (constant (F := Ideal) Cert.Pre_finite.S_ .f32 0x7F800000#32) i) = 1#1 :=
    congrFun h i
  rw [ValueIdx.broadcastInDim_scalar_apply] at hi
  have hc : (constant (F := Ideal) Cert.Pre_finite.S_ .f32 0x7F800000#32 ValueIdx.ix0 : EReal) = ⊤ := ofBits_inf
  rw [hc] at hi
  by_contra hn
  simp [Ideal.cmp, hn] at hi

section
open Cert.RefVqIdeal Cert.RefVqIdeal.Gen Cert.RefVqIdeal.Hand
variable (x0 : (⟨S8x64x2048, .f32⟩ : BufTy).Contents (Elt Ideal)) (x1 : (⟨S512x64, .f32⟩ : BufTy).Contents (Elt Ideal))

/-- The reference's first result, by its argument arrays. -/
def refFst : S16384x64.Idx → EReal := addf (F := Ideal) (φ := .f32) (flat (F := Ideal) x0) (subf (refQ (F := Ideal) x0 x1) (flat (F := Ideal) x0))
/-- The reference's second result, by its argument arrays. -/
def refSnd : S8x1x128.Idx → EReal := loss (F := Ideal) (refQ (F := Ideal) x0 x1) (flat (F := Ideal) x0)

/-- The rows of a real array are real. -/
theorem rows_real (h : ∀ i : S8x64x2048.Idx, ∃ c : ℝ, (x0 i : EReal) = (c : EReal)) :
    ∀ r < 16384, ∀ d < 64, ∃ c : ℝ, of2 (flat (F := Ideal) x0 : S16384x64.Idx → EReal) r d = (c : EReal) := fun r hr d hd => by
  unfold of2
  rw [dif_pos ⟨hr, hd⟩]
  exact h _

/-- The reference's first result. -/
theorem ref_fst (h : ∀ i : S8x64x2048.Idx, ∃ c : ℝ, (x0 i : EReal) = (c : EReal)) :
    refFst x0 x1
      = fun i => pick (of2 x1) (of1 (normsArr x1)) (of2 (flat (F := Ideal) x0 : S16384x64.Idx → EReal) (i 0).val) (i 1).val :=
  funext (fst_val (is2_of _) (refQ_val (is2_of _) (is2_of _) (is1_of _) (rows_real x0 h)) (rows_real x0 h))

/-- The reference's second result. -/
theorem ref_snd (h : ∀ i : S8x64x2048.Idx, ∃ c : ℝ, (x0 i : EReal) = (c : EReal)) :
    refSnd x0 x1
      = fun i => lossOf (of2 x1) (of1 (normsArr x1)) (fun r => of2 (flat (F := Ideal) x0 : S16384x64.Idx → EReal) (2048 * (i 0).val + r)) 4 :=
  funext fun i => by
    unfold lossOf sqErr refSnd
    exact snd_val (A := of2 (flat (F := Ideal) x0 : S16384x64.Idx → EReal)) (B := fun r d => pick (of2 x1) (of1 (normsArr x1)) (of2 (flat (F := Ideal) x0 : S16384x64.Idx → EReal) r) d)
      (is2_of _) (refQ_val (is2_of _) (is2_of _) (is1_of _) (rows_real x0 h)) i

end

/-- The quantiser leaves its arguments and semaphores as they were, for a finite array too. -/
theorem quiescent_finite : quiescent_VqIdeal_pre_finite (hVqIdeal := Cert.VqIdeal.Gen.facts) (hPre_finite := facts_finite) :=
  fun m g _ => Cert.VqIdeal.Gen.frame m g

/-- The reference leaves its arguments and semaphores as they were. -/
theorem quiescent_ref : quiescent_RefVqIdeal (hRefVqIdeal := Cert.RefVqIdeal.Gen.facts) := fun m g _ =>
  (θ_run _ _ _).mono (fun r h => ⟨fun c => (h c).2.2, sem_eq_zero_of_no_sems (by decide) r.2⟩) (Cert.RefVqIdeal.Hand.run m g)

/-- The same for a finite array. -/
theorem quiescent_ref_finite : quiescent_RefVqIdeal_pre_finite (hRefVqIdeal := Cert.RefVqIdeal.Gen.facts) (hPre_finite := facts_finite) := fun m g _ =>
  (θ_run _ _ _).mono (fun r h => ⟨fun c => (h c).2.2, sem_eq_zero_of_no_sems (by decide) r.2⟩) (Cert.RefVqIdeal.Hand.run m g)

/-- The quantiser's results are its reference's. -/
theorem algebraic : algebraic_VqIdeal_RefVqIdeal_pre_finite (hVqIdeal := Cert.VqIdeal.Gen.facts) (hRefVqIdeal := Cert.RefVqIdeal.Gen.facts) (hPre_finite := facts_finite) :=
  fun m g m' g' hpre hargs =>
  ⟨quantOut m, lossOut m, run_vq m g, (θ_run _ _ _).mono (fun r h c => by
    obtain ⟨e0, e1⟩ := hargs c
    have hx := @finite_real facts_finite _ _ (hpre c)
    refine ⟨(h c).1.trans ?_, (h c).2.1.trans ?_, (h c).2.2⟩
    · exact (congrArg₂ refFst e0 e1).trans (ref_fst _ _ hx)
    · exact (congrArg₂ refSnd e0 e1).trans (ref_snd _ _ hx))
    (Cert.RefVqIdeal.Hand.run m' g')⟩

end Cert.VqIdeal.Hand

end
-- ==== Proof.lean ====
module

public import proofs.«01_k».proof.Defs
public import Idealize.ShloMosaic.Init
public import proofs.«01_k».proof.Proof.EncAlg
public import proofs.«01_k».proof.Proof.DecAlg
public import proofs.«01_k».proof.Proof.DecFrame
public import proofs.«01_k».proof.Proof.Gen.RefDecIdeal.Run
public import proofs.«01_k».proof.Proof.EncFrame
public import proofs.«01_k».proof.Proof.Gen.RefEncIdeal.Run
public import proofs.«01_k».proof.Proof.Gen.Vq.Frame
public import proofs.«01_k».proof.Proof.Gen.VqIdeal.Frame
public import proofs.«01_k».proof.Proof.VqAlg

@[expose] public section

set_option maxRecDepth 16384

noncomputable section

namespace Cert.Proof

open Idealize.ShloMosaic Idealize.SL.Sem

/-- Every claim of the certificate. -/
theorem claim : Cert.Claim := ⟨Cert.Dec.Gen.facts, Cert.DecIdeal.Gen.facts, Cert.RefDecIdeal.Gen.facts,
  Cert.Enc.Gen.facts, Cert.EncIdeal.Gen.facts, Cert.RefEncIdeal.Gen.facts, Cert.Vq.Gen.facts, Cert.VqIdeal.Gen.facts,
  Cert.RefVqIdeal.Gen.facts, Cert.VqIdeal.Hand.facts_finite,
  fun m g _ => Cert.Dec.Hand.frame m g, Cert.DecIdeal.Hand.quiescent,
  fun m g _ => (θ_run _ _ _).mono (fun r h => ⟨fun c => (h c).2, sem_eq_zero_of_no_sems (by decide) r.2⟩) (Cert.RefDecIdeal.Value.run m g),
  fun m g _ => Cert.Enc.Hand.frame m g, Cert.EncIdeal.Hand.quiescent,
  fun m g _ => (θ_run _ _ _).mono (fun r h => ⟨fun c => (h c).2, sem_eq_zero_of_no_sems (by decide) r.2⟩) (Cert.RefEncIdeal.Value.run m g),
  fun m g _ => Cert.Vq.Gen.frame m g, fun m g _ => Cert.VqIdeal.Gen.frame m g,
  Cert.VqIdeal.Hand.quiescent_finite, Cert.VqIdeal.Hand.quiescent_ref, Cert.VqIdeal.Hand.quiescent_ref_finite,
  trivial, Cert.DecIdeal.Hand.algebraic, trivial, Cert.EncIdeal.Hand.algebraic, trivial, Cert.VqIdeal.Hand.algebraic⟩

end Cert.Proof

end
